-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate_inputs [hPre_finite_gate_inputs : Cert.Pre_finite_gate_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_gate_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate_inputs [hPre_finite_gate_inputs : Cert.Pre_finite_gate_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_gate_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def Pre_KernelDh1 [hPre_place_dh1 : Cert.Pre_place_dh1.Facts] (m : (ℓ : Loc Cert.KernelDh1.nD Cert.KernelDh1.τ Cert.KernelDh1.sig) → Buf (Elt Bits) ℓ) : Prop :=
  ∀ c : Dev Cert.KernelDh1.nD,
    (Cert.Pre_place_dh1.fn (F := Bits) (m ((c.tc : Thread Cert.KernelDh1.nD Cert.KernelDh1.τ).loc Cert.KernelDh1.main_arg0)) (m ((c.tc : Thread Cert.KernelDh1.nD Cert.KernelDh1.τ).loc Cert.KernelDh1.main_arg1)) (m ((c.tc : Thread Cert.KernelDh1.nD Cert.KernelDh1.τ).loc Cert.KernelDh1.main_arg2)) (m ((c.tc : Thread Cert.KernelDh1.nD Cert.KernelDh1.τ).loc Cert.KernelDh1.main_arg3)) (m ((c.tc : Thread Cert.KernelDh1.nD Cert.KernelDh1.τ).loc Cert.KernelDh1.main_arg4)) (m ((c.tc : Thread Cert.KernelDh1.nD Cert.KernelDh1.τ).loc Cert.KernelDh1.main_arg5)) (m ((c.tc : Thread Cert.KernelDh1.nD Cert.KernelDh1.τ).loc Cert.KernelDh1.main_arg6)) (m ((c.tc : Thread Cert.KernelDh1.nD Cert.KernelDh1.τ).loc Cert.KernelDh1.main_arg7)) (m ((c.tc : Thread Cert.KernelDh1.nD Cert.KernelDh1.τ).loc Cert.KernelDh1.main_arg8)) (m ((c.tc : Thread Cert.KernelDh1.nD Cert.KernelDh1.τ).loc Cert.KernelDh1.main_arg9)) (m ((c.tc : Thread Cert.KernelDh1.nD Cert.KernelDh1.τ).loc Cert.KernelDh1.main_arg10)) (m ((c.tc : Thread Cert.KernelDh1.nD Cert.KernelDh1.τ).loc Cert.KernelDh1.main_arg11)) (m ((c.tc : Thread Cert.KernelDh1.nD Cert.KernelDh1.τ).loc Cert.KernelDh1.main_arg12))) = (fun _ => 1#1)

def Pre_KernelDh1Ideal [hPre_place_dh1 : Cert.Pre_place_dh1.Facts] (m : (ℓ : Loc Cert.KernelDh1Ideal.nD Cert.KernelDh1Ideal.τ Cert.KernelDh1Ideal.sig) → Buf (Elt Ideal) ℓ) : Prop :=
  ∀ c : Dev Cert.KernelDh1Ideal.nD,
    (Cert.Pre_place_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))) = (fun _ => 1#1)

def Pre_KernelDh1Ideal_finite_dh1 [hPre_finite_dh1 : Cert.Pre_finite_dh1.Facts] (m : (ℓ : Loc Cert.KernelDh1Ideal.nD Cert.KernelDh1Ideal.τ Cert.KernelDh1Ideal.sig) → Buf (Elt Ideal) ℓ) : Prop :=
  ∀ c : Dev Cert.KernelDh1Ideal.nD,
    (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.2.2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.2.2.2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.2.2.2.2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.2.2.2.2.2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.2.2.2.2.2.2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.2.2.2.2.2.2.2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.2.2.2.2.2.2.2.2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.2.2.2.2.2.2.2.2.2.1 = (fun _ => 1#1)
    ∧ (Cert.Pre_finite_dh1.fn (F := Ideal) (m ((c.tc : Thread Cert.KernelDh1Ideal.nD Cert.KernelDh1Ideal.τ).loc Cert.KernelDh1Ideal.main_arg0)) (m ((c.tc : Thread Cert.KernelDh1Ideal.nD Cert.KernelDh1Ideal.τ).loc Cert.KernelDh1Ideal.main_arg1)) (m ((c.tc : Thread Cert.KernelDh1Ideal.nD Cert.KernelDh1Ideal.τ).loc Cert.KernelDh1Ideal.main_arg2)) (m ((c.tc : Thread Cert.KernelDh1Ideal.nD Cert.KernelDh1Ideal.τ).loc Cert.KernelDh1Ideal.main_arg3)) (m ((c.tc : Thread Cert.KernelDh1Ideal.nD Cert.KernelDh1Ideal.τ).loc Cert.KernelDh1Ideal.main_arg4)) (m ((c.tc : Thread Cert.KernelDh1Ideal.nD Cert.KernelDh1Ideal.τ).loc Cert.KernelDh1Ideal.main_arg5)) (m ((c.tc : Thread Cert.KernelDh1Ideal.nD Cert.KernelDh1Ideal.τ).loc Cert.KernelDh1Ideal.main_arg6)) (m ((c.tc : Thread Cert.KernelDh1Ideal.nD Cert.KernelDh1Ideal.τ).loc Cert.KernelDh1Ideal.main_arg7)) (m ((c.tc : Thread Cert.KernelDh1Ideal.nD Cert.KernelDh1Ideal.τ).loc Cert.KernelDh1Ideal.main_arg8)) (m ((c.tc : Thread Cert.KernelDh1Ideal.nD Cert.KernelDh1Ideal.τ).loc Cert.KernelDh1Ideal.main_arg9)) (m ((c.tc : Thread Cert.KernelDh1Ideal.nD Cert.KernelDh1Ideal.τ).loc Cert.KernelDh1Ideal.main_arg10)) (m ((c.tc : Thread Cert.KernelDh1Ideal.nD Cert.KernelDh1Ideal.τ).loc Cert.KernelDh1Ideal.main_arg11)) (m ((c.tc : Thread Cert.KernelDh1Ideal.nD Cert.KernelDh1Ideal.τ).loc Cert.KernelDh1Ideal.main_arg12))).2.2.2.2.2.2.2.2.2.2.2.2 = (fun _ => 1#1)

def Pre_ReferenceDh1Ideal (m : (ℓ : Loc Cert.ReferenceDh1Ideal.nD Cert.ReferenceDh1Ideal.τ Cert.ReferenceDh1Ideal.sig) → Buf (Elt Ideal) ℓ) : Prop :=
  True

def Pre_ReferenceDh1Ideal_finite_dh1 [hPre_finite_dh1 : Cert.Pre_finite_dh1.Facts] (m : (ℓ : Loc Cert.ReferenceDh1Ideal.nD Cert.ReferenceDh1Ideal.τ Cert.ReferenceDh1Ideal.sig) → Buf (Elt Ideal) ℓ) : Prop :=
  ∀ c : Dev Cert.ReferenceDh1Ideal.nD,
    (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.2.2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.2.2.2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.2.2.2.2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.2.2.2.2.2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.2.2.2.2.2.2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.2.2.2.2.2.2.2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.2.2.2.2.2.2.2.2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.2.2.2.2.2.2.2.2.2.1 = (fun _ => 1#1)
    ∧ (Cert.Pre_finite_dh1.fn (F := Ideal) (m ((c.tc : Thread Cert.ReferenceDh1Ideal.nD Cert.ReferenceDh1Ideal.τ).loc Cert.ReferenceDh1Ideal.main_arg0)) (m ((c.tc : Thread Cert.ReferenceDh1Ideal.nD Cert.ReferenceDh1Ideal.τ).loc Cert.ReferenceDh1Ideal.main_arg1)) (m ((c.tc : Thread Cert.ReferenceDh1Ideal.nD Cert.ReferenceDh1Ideal.τ).loc Cert.ReferenceDh1Ideal.main_arg2)) (m ((c.tc : Thread Cert.ReferenceDh1Ideal.nD Cert.ReferenceDh1Ideal.τ).loc Cert.ReferenceDh1Ideal.main_arg3)) (m ((c.tc : Thread Cert.ReferenceDh1Ideal.nD Cert.ReferenceDh1Ideal.τ).loc Cert.ReferenceDh1Ideal.main_arg4)) (m ((c.tc : Thread Cert.ReferenceDh1Ideal.nD Cert.ReferenceDh1Ideal.τ).loc Cert.ReferenceDh1Ideal.main_arg5)) (m ((c.tc : Thread Cert.ReferenceDh1Ideal.nD Cert.ReferenceDh1Ideal.τ).loc Cert.ReferenceDh1Ideal.main_arg6)) (m ((c.tc : Thread Cert.ReferenceDh1Ideal.nD Cert.ReferenceDh1Ideal.τ).loc Cert.ReferenceDh1Ideal.main_arg7)) (m ((c.tc : Thread Cert.ReferenceDh1Ideal.nD Cert.ReferenceDh1Ideal.τ).loc Cert.ReferenceDh1Ideal.main_arg8)) (m ((c.tc : Thread Cert.ReferenceDh1Ideal.nD Cert.ReferenceDh1Ideal.τ).loc Cert.ReferenceDh1Ideal.main_arg9)) (m ((c.tc : Thread Cert.ReferenceDh1Ideal.nD Cert.ReferenceDh1Ideal.τ).loc Cert.ReferenceDh1Ideal.main_arg10)) (m ((c.tc : Thread Cert.ReferenceDh1Ideal.nD Cert.ReferenceDh1Ideal.τ).loc Cert.ReferenceDh1Ideal.main_arg11)) (m ((c.tc : Thread Cert.ReferenceDh1Ideal.nD Cert.ReferenceDh1Ideal.τ).loc Cert.ReferenceDh1Ideal.main_arg12))).2.2.2.2.2.2.2.2.2.2.2.2 = (fun _ => 1#1)

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDwin [hPre_place_dwin : Cert.Pre_place_dwin.Facts] (m : (ℓ : Loc Cert.KernelDwin.nD Cert.KernelDwin.τ Cert.KernelDwin.sig) → Buf (Elt Bits) ℓ) : Prop :=
  ∀ c : Dev Cert.KernelDwin.nD,
    (Cert.Pre_place_dwin.fn (F := Bits) (m ((c.tc : Thread Cert.KernelDwin.nD Cert.KernelDwin.τ).loc Cert.KernelDwin.main_arg0)) (m ((c.tc : Thread Cert.KernelDwin.nD Cert.KernelDwin.τ).loc Cert.KernelDwin.main_arg1)) (m ((c.tc : Thread Cert.KernelDwin.nD Cert.KernelDwin.τ).loc Cert.KernelDwin.main_arg2)) (m ((c.tc : Thread Cert.KernelDwin.nD Cert.KernelDwin.τ).loc Cert.KernelDwin.main_arg3)) (m ((c.tc : Thread Cert.KernelDwin.nD Cert.KernelDwin.τ).loc Cert.KernelDwin.main_arg4)) (m ((c.tc : Thread Cert.KernelDwin.nD Cert.KernelDwin.τ).loc Cert.KernelDwin.main_arg5)) (m ((c.tc : Thread Cert.KernelDwin.nD Cert.KernelDwin.τ).loc Cert.KernelDwin.main_arg6)) (m ((c.tc : Thread Cert.KernelDwin.nD Cert.KernelDwin.τ).loc Cert.KernelDwin.main_arg7)) (m ((c.tc : Thread Cert.KernelDwin.nD Cert.KernelDwin.τ).loc Cert.KernelDwin.main_arg8))) = (fun _ => 1#1)

def Pre_KernelDwinIdeal [hPre_place_dwin : Cert.Pre_place_dwin.Facts] (m : (ℓ : Loc Cert.KernelDwinIdeal.nD Cert.KernelDwinIdeal.τ Cert.KernelDwinIdeal.sig) → Buf (Elt Ideal) ℓ) : Prop :=
  ∀ c : Dev Cert.KernelDwinIdeal.nD,
    (Cert.Pre_place_dwin.fn (F := Ideal) (m ((c.tc : Thread Cert.KernelDwinIdeal.nD Cert.KernelDwinIdeal.τ).loc Cert.KernelDwinIdeal.main_arg0)) (m ((c.tc : Thread Cert.KernelDwinIdeal.nD Cert.KernelDwinIdeal.τ).loc Cert.KernelDwinIdeal.main_arg1)) (m ((c.tc : Thread Cert.KernelDwinIdeal.nD Cert.KernelDwinIdeal.τ).loc Cert.KernelDwinIdeal.main_arg2)) (m ((c.tc : Thread Cert.KernelDwinIdeal.nD Cert.KernelDwinIdeal.τ).loc Cert.KernelDwinIdeal.main_arg3)) (m ((c.tc : Thread Cert.KernelDwinIdeal.nD Cert.KernelDwinIdeal.τ).loc Cert.KernelDwinIdeal.main_arg4)) (m ((c.tc : Thread Cert.KernelDwinIdeal.nD Cert.KernelDwinIdeal.τ).loc Cert.KernelDwinIdeal.main_arg5)) (m ((c.tc : Thread Cert.KernelDwinIdeal.nD Cert.KernelDwinIdeal.τ).loc Cert.KernelDwinIdeal.main_arg6)) (m ((c.tc : Thread Cert.KernelDwinIdeal.nD Cert.KernelDwinIdeal.τ).loc Cert.KernelDwinIdeal.main_arg7)) (m ((c.tc : Thread Cert.KernelDwinIdeal.nD Cert.KernelDwinIdeal.τ).loc Cert.KernelDwinIdeal.main_arg8))) = (fun _ => 1#1)

def Pre_ReferenceDwinIdeal (m : (ℓ : Loc Cert.ReferenceDwinIdeal.nD Cert.ReferenceDwinIdeal.τ Cert.ReferenceDwinIdeal.sig) → Buf (Elt Ideal) ℓ) : Prop :=
  True

def Pre_ReferenceDwinIdeal_place_dwin [hPre_place_dwin : Cert.Pre_place_dwin.Facts] (m : (ℓ : Loc Cert.ReferenceDwinIdeal.nD Cert.ReferenceDwinIdeal.τ Cert.ReferenceDwinIdeal.sig) → Buf (Elt Ideal) ℓ) : Prop :=
  ∀ c : Dev Cert.ReferenceDwinIdeal.nD,
    (Cert.Pre_place_dwin.fn (F := Ideal) (m ((c.tc : Thread Cert.ReferenceDwinIdeal.nD Cert.ReferenceDwinIdeal.τ).loc Cert.ReferenceDwinIdeal.main_arg0)) (m ((c.tc : Thread Cert.ReferenceDwinIdeal.nD Cert.ReferenceDwinIdeal.τ).loc Cert.ReferenceDwinIdeal.main_arg1)) (m ((c.tc : Thread Cert.ReferenceDwinIdeal.nD Cert.ReferenceDwinIdeal.τ).loc Cert.ReferenceDwinIdeal.main_arg2)) (m ((c.tc : Thread Cert.ReferenceDwinIdeal.nD Cert.ReferenceDwinIdeal.τ).loc Cert.ReferenceDwinIdeal.main_arg3)) (m ((c.tc : Thread Cert.ReferenceDwinIdeal.nD Cert.ReferenceDwinIdeal.τ).loc Cert.ReferenceDwinIdeal.main_arg4)) (m ((c.tc : Thread Cert.ReferenceDwinIdeal.nD Cert.ReferenceDwinIdeal.τ).loc Cert.ReferenceDwinIdeal.main_arg5)) (m ((c.tc : Thread Cert.ReferenceDwinIdeal.nD Cert.ReferenceDwinIdeal.τ).loc Cert.ReferenceDwinIdeal.main_arg6)) (m ((c.tc : Thread Cert.ReferenceDwinIdeal.nD Cert.ReferenceDwinIdeal.τ).loc Cert.ReferenceDwinIdeal.main_arg7)) (m ((c.tc : Thread Cert.ReferenceDwinIdeal.nD Cert.ReferenceDwinIdeal.τ).loc Cert.ReferenceDwinIdeal.main_arg8))) = (fun _ => 1#1)

def Pre_KernelLoss [hPre_place_loss : Cert.Pre_place_loss.Facts] (m : (ℓ : Loc Cert.KernelLoss.nD Cert.KernelLoss.τ Cert.KernelLoss.sig) → Buf (Elt Bits) ℓ) : Prop :=
  ∀ c : Dev Cert.KernelLoss.nD,
    (Cert.Pre_place_loss.fn (F := Bits) (m ((c.tc : Thread Cert.KernelLoss.nD Cert.KernelLoss.τ).loc Cert.KernelLoss.main_arg0)) (m ((c.tc : Thread Cert.KernelLoss.nD Cert.KernelLoss.τ).loc Cert.KernelLoss.main_arg1)) (m ((c.tc : Thread Cert.KernelLoss.nD Cert.KernelLoss.τ).loc Cert.KernelLoss.main_arg2)) (m ((c.tc : Thread Cert.KernelLoss.nD Cert.KernelLoss.τ).loc Cert.KernelLoss.main_arg3)) (m ((c.tc : Thread Cert.KernelLoss.nD Cert.KernelLoss.τ).loc Cert.KernelLoss.main_arg4)) (m ((c.tc : Thread Cert.KernelLoss.nD Cert.KernelLoss.τ).loc Cert.KernelLoss.main_arg5)) (m ((c.tc : Thread Cert.KernelLoss.nD Cert.KernelLoss.τ).loc Cert.KernelLoss.main_arg6)) (m ((c.tc : Thread Cert.KernelLoss.nD Cert.KernelLoss.τ).loc Cert.KernelLoss.main_arg7)) (m ((c.tc : Thread Cert.KernelLoss.nD Cert.KernelLoss.τ).loc Cert.KernelLoss.main_arg8)) (m ((c.tc : Thread Cert.KernelLoss.nD Cert.KernelLoss.τ).loc Cert.KernelLoss.main_arg9)) (m ((c.tc : Thread Cert.KernelLoss.nD Cert.KernelLoss.τ).loc Cert.KernelLoss.main_arg10)) (m ((c.tc : Thread Cert.KernelLoss.nD Cert.KernelLoss.τ).loc Cert.KernelLoss.main_arg11)) (m ((c.tc : Thread Cert.KernelLoss.nD Cert.KernelLoss.τ).loc Cert.KernelLoss.main_arg12)) (m ((c.tc : Thread Cert.KernelLoss.nD Cert.KernelLoss.τ).loc Cert.KernelLoss.main_arg13))) = (fun _ => 1#1)

def Pre_KernelLossIdeal [hPre_place_loss : Cert.Pre_place_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_place_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))) = (fun _ => 1#1)

def Pre_KernelLossIdeal_finite_loss [hPre_finite_loss : Cert.Pre_finite_loss.Facts] (m : (ℓ : Loc Cert.KernelLossIdeal.nD Cert.KernelLossIdeal.τ Cert.KernelLossIdeal.sig) → Buf (Elt Ideal) ℓ) : Prop :=
  ∀ c : Dev Cert.KernelLossIdeal.nD,
    (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.2.2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.2.2.2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.2.2.2.2.2.2.2.2.2.1 = (fun _ => 1#1)
    ∧ (Cert.Pre_finite_loss.fn (F := Ideal) (m ((c.tc : Thread Cert.KernelLossIdeal.nD Cert.KernelLossIdeal.τ).loc Cert.KernelLossIdeal.main_arg0)) (m ((c.tc : Thread Cert.KernelLossIdeal.nD Cert.KernelLossIdeal.τ).loc Cert.KernelLossIdeal.main_arg1)) (m ((c.tc : Thread Cert.KernelLossIdeal.nD Cert.KernelLossIdeal.τ).loc Cert.KernelLossIdeal.main_arg2)) (m ((c.tc : Thread Cert.KernelLossIdeal.nD Cert.KernelLossIdeal.τ).loc Cert.KernelLossIdeal.main_arg3)) (m ((c.tc : Thread Cert.KernelLossIdeal.nD Cert.KernelLossIdeal.τ).loc Cert.KernelLossIdeal.main_arg4)) (m ((c.tc : Thread Cert.KernelLossIdeal.nD Cert.KernelLossIdeal.τ).loc Cert.KernelLossIdeal.main_arg5)) (m ((c.tc : Thread Cert.KernelLossIdeal.nD Cert.KernelLossIdeal.τ).loc Cert.KernelLossIdeal.main_arg6)) (m ((c.tc : Thread Cert.KernelLossIdeal.nD Cert.KernelLossIdeal.τ).loc Cert.KernelLossIdeal.main_arg7)) (m ((c.tc : Thread Cert.KernelLossIdeal.nD Cert.KernelLossIdeal.τ).loc Cert.KernelLossIdeal.main_arg8)) (m ((c.tc : Thread Cert.KernelLossIdeal.nD Cert.KernelLossIdeal.τ).loc Cert.KernelLossIdeal.main_arg9)) (m ((c.tc : Thread Cert.KernelLossIdeal.nD Cert.KernelLossIdeal.τ).loc Cert.KernelLossIdeal.main_arg10)) (m ((c.tc : Thread Cert.KernelLossIdeal.nD Cert.KernelLossIdeal.τ).loc Cert.KernelLossIdeal.main_arg11)) (m ((c.tc : Thread Cert.KernelLossIdeal.nD Cert.KernelLossIdeal.τ).loc Cert.KernelLossIdeal.main_arg12)) (m ((c.tc : Thread Cert.KernelLossIdeal.nD Cert.KernelLossIdeal.τ).loc Cert.KernelLossIdeal.main_arg13))).2.2.2.2.2.2.2.2.2.2.2.2.2 = (fun _ => 1#1)

def Pre_ReferenceLossIdeal (m : (ℓ : Loc Cert.ReferenceLossIdeal.nD Cert.ReferenceLossIdeal.τ Cert.ReferenceLossIdeal.sig) → Buf (Elt Ideal) ℓ) : Prop :=
  True

def Pre_ReferenceLossIdeal_finite_loss [hPre_finite_loss : Cert.Pre_finite_loss.Facts] (m : (ℓ : Loc Cert.ReferenceLossIdeal.nD Cert.ReferenceLossIdeal.τ Cert.ReferenceLossIdeal.sig) → Buf (Elt Ideal) ℓ) : Prop :=
  ∀ c : Dev Cert.ReferenceLossIdeal.nD,
    (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.2.2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.2.2.2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.2.2.2.2.2.2.2.2.2.1 = (fun _ => 1#1)
    ∧ (Cert.Pre_finite_loss.fn (F := Ideal) (m ((c.tc : Thread Cert.ReferenceLossIdeal.nD Cert.ReferenceLossIdeal.τ).loc Cert.ReferenceLossIdeal.main_arg0)) (m ((c.tc : Thread Cert.ReferenceLossIdeal.nD Cert.ReferenceLossIdeal.τ).loc Cert.ReferenceLossIdeal.main_arg1)) (m ((c.tc : Thread Cert.ReferenceLossIdeal.nD Cert.ReferenceLossIdeal.τ).loc Cert.ReferenceLossIdeal.main_arg2)) (m ((c.tc : Thread Cert.ReferenceLossIdeal.nD Cert.ReferenceLossIdeal.τ).loc Cert.ReferenceLossIdeal.main_arg3)) (m ((c.tc : Thread Cert.ReferenceLossIdeal.nD Cert.ReferenceLossIdeal.τ).loc Cert.ReferenceLossIdeal.main_arg4)) (m ((c.tc : Thread Cert.ReferenceLossIdeal.nD Cert.ReferenceLossIdeal.τ).loc Cert.ReferenceLossIdeal.main_arg5)) (m ((c.tc : Thread Cert.ReferenceLossIdeal.nD Cert.ReferenceLossIdeal.τ).loc Cert.ReferenceLossIdeal.main_arg6)) (m ((c.tc : Thread Cert.ReferenceLossIdeal.nD Cert.ReferenceLossIdeal.τ).loc Cert.ReferenceLossIdeal.main_arg7)) (m ((c.tc : Thread Cert.ReferenceLossIdeal.nD Cert.ReferenceLossIdeal.τ).loc Cert.ReferenceLossIdeal.main_arg8)) (m ((c.tc : Thread Cert.ReferenceLossIdeal.nD Cert.ReferenceLossIdeal.τ).loc Cert.ReferenceLossIdeal.main_arg9)) (m ((c.tc : Thread Cert.ReferenceLossIdeal.nD Cert.ReferenceLossIdeal.τ).loc Cert.ReferenceLossIdeal.main_arg10)) (m ((c.tc : Thread Cert.ReferenceLossIdeal.nD Cert.ReferenceLossIdeal.τ).loc Cert.ReferenceLossIdeal.main_arg11)) (m ((c.tc : Thread Cert.ReferenceLossIdeal.nD Cert.ReferenceLossIdeal.τ).loc Cert.ReferenceLossIdeal.main_arg12)) (m ((c.tc : Thread Cert.ReferenceLossIdeal.nD Cert.ReferenceLossIdeal.τ).loc Cert.ReferenceLossIdeal.main_arg13))).2.2.2.2.2.2.2.2.2.2.2.2.2 = (fun _ => 1#1)

def Pre_KernelInproj (m : (ℓ : Loc Cert.KernelInproj.nD Cert.KernelInproj.τ Cert.KernelInproj.sig) → Buf (Elt Bits) ℓ) : Prop :=
  True

def Pre_KernelInprojIdeal (m : (ℓ : Loc Cert.KernelInprojIdeal.nD Cert.KernelInprojIdeal.τ Cert.KernelInprojIdeal.sig) → Buf (Elt Ideal) ℓ) : Prop :=
  True

def Pre_ReferenceInprojIdeal (m : (ℓ : Loc Cert.ReferenceInprojIdeal.nD Cert.ReferenceInprojIdeal.τ Cert.ReferenceInprojIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_KernelUpIdeal_finite_up [hPre_finite_up : Cert.Pre_finite_up.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).1 = (fun _ => 1#1)
    ∧ (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.1 = (fun _ => 1#1)
    ∧ (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.2.1 = (fun _ => 1#1)
    ∧ (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.2.2.1 = (fun _ => 1#1)
    ∧ (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.2.2.2.1 = (fun _ => 1#1)
    ∧ (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.2.2.2.2.1 = (fun _ => 1#1)
    ∧ (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.2.2.2.2.2.1 = (fun _ => 1#1)
    ∧ (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2)) (m ((c.tc : Thread Cert.KernelUpIdeal.nD Cert.KernelUpIdeal.τ).loc Cert.KernelUpIdeal.main_arg3)) (m ((c.tc : Thread Cert.KernelUpIdeal.nD Cert.KernelUpIdeal.τ).loc Cert.KernelUpIdeal.main_arg4)) (m ((c.tc : Thread Cert.KernelUpIdeal.nD Cert.KernelUpIdeal.τ).loc Cert.KernelUpIdeal.main_arg5)) (m ((c.tc : Thread Cert.KernelUpIdeal.nD Cert.KernelUpIdeal.τ).loc Cert.KernelUpIdeal.main_arg6)) (m ((c.tc : Thread Cert.KernelUpIdeal.nD Cert.KernelUpIdeal.τ).loc Cert.KernelUpIdeal.main_arg7))).2.2.2.2.2.2.2 = (fun _ => 1#1)

def Pre_ReferenceUpIdeal (m : (ℓ : Loc Cert.ReferenceUpIdeal.nD Cert.ReferenceUpIdeal.τ Cert.ReferenceUpIdeal.sig) → Buf (Elt Ideal) ℓ) : Prop :=
  True

def Pre_ReferenceUpIdeal_finite_up [hPre_finite_up : Cert.Pre_finite_up.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_finite_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).1 = (fun _ => 1#1)
    ∧ (Cert.Pre_finite_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.1 = (fun _ => 1#1)
    ∧ (Cert.Pre_finite_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.2.1 = (fun _ => 1#1)
    ∧ (Cert.Pre_finite_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.2.2.1 = (fun _ => 1#1)
    ∧ (Cert.Pre_finite_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.2.2.2.1 = (fun _ => 1#1)
    ∧ (Cert.Pre_finite_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.2.2.2.2.1 = (fun _ => 1#1)
    ∧ (Cert.Pre_finite_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.2.2.2.2.2.1 = (fun _ => 1#1)
    ∧ (Cert.Pre_finite_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2)) (m ((c.tc : Thread Cert.ReferenceUpIdeal.nD Cert.ReferenceUpIdeal.τ).loc Cert.ReferenceUpIdeal.main_arg3)) (m ((c.tc : Thread Cert.ReferenceUpIdeal.nD Cert.ReferenceUpIdeal.τ).loc Cert.ReferenceUpIdeal.main_arg4)) (m ((c.tc : Thread Cert.ReferenceUpIdeal.nD Cert.ReferenceUpIdeal.τ).loc Cert.ReferenceUpIdeal.main_arg5)) (m ((c.tc : Thread Cert.ReferenceUpIdeal.nD Cert.ReferenceUpIdeal.τ).loc Cert.ReferenceUpIdeal.main_arg6)) (m ((c.tc : Thread Cert.ReferenceUpIdeal.nD Cert.ReferenceUpIdeal.τ).loc Cert.ReferenceUpIdeal.main_arg7))).2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_gate_inputs [hKernelIdeal : Cert.KernelIdeal.Facts] [hPre_finite_gate_inputs : Cert.Pre_finite_gate_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_gate_inputs [hReferenceIdeal : Cert.ReferenceIdeal.Facts] [hPre_finite_gate_inputs : Cert.Pre_finite_gate_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelDh1 [hKernelDh1 : Cert.KernelDh1.Facts] [hPre_place_dh1 : Cert.Pre_place_dh1.Facts] : Prop :=
  ∀ (m : (ℓ : Loc Cert.KernelDh1.nD Cert.KernelDh1.τ Cert.KernelDh1.sig) → Buf (Elt Bits) ℓ) (g : Dev Cert.KernelDh1.nD → PrngReg), Pre_KernelDh1 m →
    θ_run (Cert.KernelDh1.defs (F := Bits)) (onTc (τ := Cert.KernelDh1.τ) (Cert.KernelDh1.main (F := Bits))) ⟨m, fun _ => 0, g⟩ (fun r => (∀ c : Dev Cert.KernelDh1.nD,
      r.2.mem ((c.tc : Thread Cert.KernelDh1.nD Cert.KernelDh1.τ).loc Cert.KernelDh1.main_arg0) = m ((c.tc : Thread Cert.KernelDh1.nD Cert.KernelDh1.τ).loc Cert.KernelDh1.main_arg0)
      ∧ r.2.mem ((c.tc : Thread Cert.KernelDh1.nD Cert.KernelDh1.τ).loc Cert.KernelDh1.main_arg1) = m ((c.tc : Thread Cert.KernelDh1.nD Cert.KernelDh1.τ).loc Cert.KernelDh1.main_arg1)
      ∧ r.2.mem ((c.tc : Thread Cert.KernelDh1.nD Cert.KernelDh1.τ).loc Cert.KernelDh1.main_arg2) = m ((c.tc : Thread Cert.KernelDh1.nD Cert.KernelDh1.τ).loc Cert.KernelDh1.main_arg2)
      ∧ r.2.mem ((c.tc : Thread Cert.KernelDh1.nD Cert.KernelDh1.τ).loc Cert.KernelDh1.main_arg3) = m ((c.tc : Thread Cert.KernelDh1.nD Cert.KernelDh1.τ).loc Cert.KernelDh1.main_arg3)
      ∧ r.2.mem ((c.tc : Thread Cert.KernelDh1.nD Cert.KernelDh1.τ).loc Cert.KernelDh1.main_arg4) = m ((c.tc : Thread Cert.KernelDh1.nD Cert.KernelDh1.τ).loc Cert.KernelDh1.main_arg4)
      ∧ r.2.mem ((c.tc : Thread Cert.KernelDh1.nD Cert.KernelDh1.τ).loc Cert.KernelDh1.main_arg5) = m ((c.tc : Thread Cert.KernelDh1.nD Cert.KernelDh1.τ).loc Cert.KernelDh1.main_arg5)
      ∧ r.2.mem ((c.tc : Thread Cert.KernelDh1.nD Cert.KernelDh1.τ).loc Cert.KernelDh1.main_arg6) = m ((c.tc : Thread Cert.KernelDh1.nD Cert.KernelDh1.τ).loc Cert.KernelDh1.main_arg6)
      ∧ r.2.mem ((c.tc : Thread Cert.KernelDh1.nD Cert.KernelDh1.τ).loc Cert.KernelDh1.main_arg7) = m ((c.tc : Thread Cert.KernelDh1.nD Cert.KernelDh1.τ).loc Cert.KernelDh1.main_arg7)
      ∧ r.2.mem ((c.tc : Thread Cert.KernelDh1.nD Cert.KernelDh1.τ).loc Cert.KernelDh1.main_arg8) = m ((c.tc : Thread Cert.KernelDh1.nD Cert.KernelDh1.τ).loc Cert.KernelDh1.main_arg8)
      ∧ r.2.mem ((c.tc : Thread Cert.KernelDh1.nD Cert.KernelDh1.τ).loc Cert.KernelDh1.main_arg9) = m ((c.tc : Thread Cert.KernelDh1.nD Cert.KernelDh1.τ).loc Cert.KernelDh1.main_arg9)
      ∧ r.2.mem ((c.tc : Thread Cert.KernelDh1.nD Cert.KernelDh1.τ).loc Cert.KernelDh1.main_arg10) = m ((c.tc : Thread Cert.KernelDh1.nD Cert.KernelDh1.τ).loc Cert.KernelDh1.main_arg10)
      ∧ r.2.mem ((c.tc : Thread Cert.KernelDh1.nD Cert.KernelDh1.τ).loc Cert.KernelDh1.main_arg11) = m ((c.tc : Thread Cert.KernelDh1.nD Cert.KernelDh1.τ).loc Cert.KernelDh1.main_arg11)
      ∧ r.2.mem ((c.tc : Thread Cert.KernelDh1.nD Cert.KernelDh1.τ).loc Cert.KernelDh1.main_arg12) = m ((c.tc : Thread Cert.KernelDh1.nD Cert.KernelDh1.τ).loc Cert.KernelDh1.main_arg12))
      ∧ r.2.sem = fun _ => 0)

def quiescent_KernelDh1Ideal [hKernelDh1Ideal : Cert.KernelDh1Ideal.Facts] [hPre_place_dh1 : Cert.Pre_place_dh1.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg), Pre_KernelDh1Ideal m →
    θ_run (Cert.KernelDh1Ideal.defs (F := Ideal)) (onTc (τ := Cert.KernelDh1Ideal.τ) (Cert.KernelDh1Ideal.main (F := Ideal))) ⟨m, fun _ => 0, g⟩ (fun r => (∀ c : Dev Cert.KernelDh1Ideal.nD,
      r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
      ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1)
      ∧ r.2.mem ((c.tc : Thread Cert.KernelDh1Ideal.nD Cert.KernelDh1Ideal.τ).loc Cert.KernelDh1Ideal.main_arg2) = m ((c.tc : Thread Cert.KernelDh1Ideal.nD Cert.KernelDh1Ideal.τ).loc Cert.KernelDh1Ideal.main_arg2)
      ∧ r.2.mem ((c.tc : Thread Cert.KernelDh1Ideal.nD Cert.KernelDh1Ideal.τ).loc Cert.KernelDh1Ideal.main_arg3) = m ((c.tc : Thread Cert.KernelDh1Ideal.nD Cert.KernelDh1Ideal.τ).loc Cert.KernelDh1Ideal.main_arg3)
      ∧ r.2.mem ((c.tc : Thread Cert.KernelDh1Ideal.nD Cert.KernelDh1Ideal.τ).loc Cert.KernelDh1Ideal.main_arg4) = m ((c.tc : Thread Cert.KernelDh1Ideal.nD Cert.KernelDh1Ideal.τ).loc Cert.KernelDh1Ideal.main_arg4)
      ∧ r.2.mem ((c.tc : Thread Cert.KernelDh1Ideal.nD Cert.KernelDh1Ideal.τ).loc Cert.KernelDh1Ideal.main_arg5) = m ((c.tc : Thread Cert.KernelDh1Ideal.nD Cert.KernelDh1Ideal.τ).loc Cert.KernelDh1Ideal.main_arg5)
      ∧ r.2.mem ((c.tc : Thread Cert.KernelDh1Ideal.nD Cert.KernelDh1Ideal.τ).loc Cert.KernelDh1Ideal.main_arg6) = m ((c.tc : Thread Cert.KernelDh1Ideal.nD Cert.KernelDh1Ideal.τ).loc Cert.KernelDh1Ideal.main_arg6)
      ∧ r.2.mem ((c.tc : Thread Cert.KernelDh1Ideal.nD Cert.KernelDh1Ideal.τ).loc Cert.KernelDh1Ideal.main_arg7) = m ((c.tc : Thread Cert.KernelDh1Ideal.nD Cert.KernelDh1Ideal.τ).loc Cert.KernelDh1Ideal.main_arg7)
      ∧ r.2.mem ((c.tc : Thread Cert.KernelDh1Ideal.nD Cert.KernelDh1Ideal.τ).loc Cert.KernelDh1Ideal.main_arg8) = m ((c.tc : Thread Cert.KernelDh1Ideal.nD Cert.KernelDh1Ideal.τ).loc Cert.KernelDh1Ideal.main_arg8)
      ∧ r.2.mem ((c.tc : Thread Cert.KernelDh1Ideal.nD Cert.KernelDh1Ideal.τ).loc Cert.KernelDh1Ideal.main_arg9) = m ((c.tc : Thread Cert.KernelDh1Ideal.nD Cert.KernelDh1Ideal.τ).loc Cert.KernelDh1Ideal.main_arg9)
      ∧ r.2.mem ((c.tc : Thread Cert.KernelDh1Ideal.nD Cert.KernelDh1Ideal.τ).loc Cert.KernelDh1Ideal.main_arg10) = m ((c.tc : Thread Cert.KernelDh1Ideal.nD Cert.KernelDh1Ideal.τ).loc Cert.KernelDh1Ideal.main_arg10)
      ∧ r.2.mem ((c.tc : Thread Cert.KernelDh1Ideal.nD Cert.KernelDh1Ideal.τ).loc Cert.KernelDh1Ideal.main_arg11) = m ((c.tc : Thread Cert.KernelDh1Ideal.nD Cert.KernelDh1Ideal.τ).loc Cert.KernelDh1Ideal.main_arg11)
      ∧ r.2.mem ((c.tc : Thread Cert.KernelDh1Ideal.nD Cert.KernelDh1Ideal.τ).loc Cert.KernelDh1Ideal.main_arg12) = m ((c.tc : Thread Cert.KernelDh1Ideal.nD Cert.KernelDh1Ideal.τ).loc Cert.KernelDh1Ideal.main_arg12))
      ∧ r.2.sem = fun _ => 0)

def quiescent_KernelDh1Ideal_pre_finite_dh1 [hKernelDh1Ideal : Cert.KernelDh1Ideal.Facts] [hPre_finite_dh1 : Cert.Pre_finite_dh1.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg), Pre_KernelDh1Ideal_finite_dh1 m →
    θ_run (Cert.KernelDh1Ideal.defs (F := Ideal)) (onTc (τ := Cert.KernelDh1Ideal.τ) (Cert.KernelDh1Ideal.main (F := Ideal))) ⟨m, fun _ => 0, g⟩ (fun r => (∀ c : Dev Cert.KernelDh1Ideal.nD,
      r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
      ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1)
      ∧ r.2.mem ((c.tc : Thread Cert.KernelDh1Ideal.nD Cert.KernelDh1Ideal.τ).loc Cert.KernelDh1Ideal.main_arg2) = m ((c.tc : Thread Cert.KernelDh1Ideal.nD Cert.KernelDh1Ideal.τ).loc Cert.KernelDh1Ideal.main_arg2)
      ∧ r.2.mem ((c.tc : Thread Cert.KernelDh1Ideal.nD Cert.KernelDh1Ideal.τ).loc Cert.KernelDh1Ideal.main_arg3) = m ((c.tc : Thread Cert.KernelDh1Ideal.nD Cert.KernelDh1Ideal.τ).loc Cert.KernelDh1Ideal.main_arg3)
      ∧ r.2.mem ((c.tc : Thread Cert.KernelDh1Ideal.nD Cert.KernelDh1Ideal.τ).loc Cert.KernelDh1Ideal.main_arg4) = m ((c.tc : Thread Cert.KernelDh1Ideal.nD Cert.KernelDh1Ideal.τ).loc Cert.KernelDh1Ideal.main_arg4)
      ∧ r.2.mem ((c.tc : Thread Cert.KernelDh1Ideal.nD Cert.KernelDh1Ideal.τ).loc Cert.KernelDh1Ideal.main_arg5) = m ((c.tc : Thread Cert.KernelDh1Ideal.nD Cert.KernelDh1Ideal.τ).loc Cert.KernelDh1Ideal.main_arg5)
      ∧ r.2.mem ((c.tc : Thread Cert.KernelDh1Ideal.nD Cert.KernelDh1Ideal.τ).loc Cert.KernelDh1Ideal.main_arg6) = m ((c.tc : Thread Cert.KernelDh1Ideal.nD Cert.KernelDh1Ideal.τ).loc Cert.KernelDh1Ideal.main_arg6)
      ∧ r.2.mem ((c.tc : Thread Cert.KernelDh1Ideal.nD Cert.KernelDh1Ideal.τ).loc Cert.KernelDh1Ideal.main_arg7) = m ((c.tc : Thread Cert.KernelDh1Ideal.nD Cert.KernelDh1Ideal.τ).loc Cert.KernelDh1Ideal.main_arg7)
      ∧ r.2.mem ((c.tc : Thread Cert.KernelDh1Ideal.nD Cert.KernelDh1Ideal.τ).loc Cert.KernelDh1Ideal.main_arg8) = m ((c.tc : Thread Cert.KernelDh1Ideal.nD Cert.KernelDh1Ideal.τ).loc Cert.KernelDh1Ideal.main_arg8)
      ∧ r.2.mem ((c.tc : Thread Cert.KernelDh1Ideal.nD Cert.KernelDh1Ideal.τ).loc Cert.KernelDh1Ideal.main_arg9) = m ((c.tc : Thread Cert.KernelDh1Ideal.nD Cert.KernelDh1Ideal.τ).loc Cert.KernelDh1Ideal.main_arg9)
      ∧ r.2.mem ((c.tc : Thread Cert.KernelDh1Ideal.nD Cert.KernelDh1Ideal.τ).loc Cert.KernelDh1Ideal.main_arg10) = m ((c.tc : Thread Cert.KernelDh1Ideal.nD Cert.KernelDh1Ideal.τ).loc Cert.KernelDh1Ideal.main_arg10)
      ∧ r.2.mem ((c.tc : Thread Cert.KernelDh1Ideal.nD Cert.KernelDh1Ideal.τ).loc Cert.KernelDh1Ideal.main_arg11) = m ((c.tc : Thread Cert.KernelDh1Ideal.nD Cert.KernelDh1Ideal.τ).loc Cert.KernelDh1Ideal.main_arg11)
      ∧ r.2.mem ((c.tc : Thread Cert.KernelDh1Ideal.nD Cert.KernelDh1Ideal.τ).loc Cert.KernelDh1Ideal.main_arg12) = m ((c.tc : Thread Cert.KernelDh1Ideal.nD Cert.KernelDh1Ideal.τ).loc Cert.KernelDh1Ideal.main_arg12))
      ∧ r.2.sem = fun _ => 0)

def quiescent_ReferenceDh1Ideal [hReferenceDh1Ideal : Cert.ReferenceDh1Ideal.Facts] : Prop :=
  ∀ (m : (ℓ : Loc Cert.ReferenceDh1Ideal.nD Cert.ReferenceDh1Ideal.τ Cert.ReferenceDh1Ideal.sig) → Buf (Elt Ideal) ℓ) (g : Dev Cert.ReferenceDh1Ideal.nD → PrngReg), Pre_ReferenceDh1Ideal m →
    θ_run (Cert.ReferenceDh1Ideal.defs (F := Ideal)) (onTc (τ := Cert.ReferenceDh1Ideal.τ) (Cert.ReferenceDh1Ideal.main (F := Ideal))) ⟨m, fun _ => 0, g⟩ (fun r => (∀ c : Dev Cert.ReferenceDh1Ideal.nD,
      r.2.mem ((c.tc : Thread Cert.ReferenceDh1Ideal.nD Cert.ReferenceDh1Ideal.τ).loc Cert.ReferenceDh1Ideal.main_arg0) = m ((c.tc : Thread Cert.ReferenceDh1Ideal.nD Cert.ReferenceDh1Ideal.τ).loc Cert.ReferenceDh1Ideal.main_arg0)
      ∧ r.2.mem ((c.tc : Thread Cert.ReferenceDh1Ideal.nD Cert.ReferenceDh1Ideal.τ).loc Cert.ReferenceDh1Ideal.main_arg1) = m ((c.tc : Thread Cert.ReferenceDh1Ideal.nD Cert.ReferenceDh1Ideal.τ).loc Cert.ReferenceDh1Ideal.main_arg1)
      ∧ r.2.mem ((c.tc : Thread Cert.ReferenceDh1Ideal.nD Cert.ReferenceDh1Ideal.τ).loc Cert.ReferenceDh1Ideal.main_arg2) = m ((c.tc : Thread Cert.ReferenceDh1Ideal.nD Cert.ReferenceDh1Ideal.τ).loc Cert.ReferenceDh1Ideal.main_arg2)
      ∧ r.2.mem ((c.tc : Thread Cert.ReferenceDh1Ideal.nD Cert.ReferenceDh1Ideal.τ).loc Cert.ReferenceDh1Ideal.main_arg3) = m ((c.tc : Thread Cert.ReferenceDh1Ideal.nD Cert.ReferenceDh1Ideal.τ).loc Cert.ReferenceDh1Ideal.main_arg3)
      ∧ r.2.mem ((c.tc : Thread Cert.ReferenceDh1Ideal.nD Cert.ReferenceDh1Ideal.τ).loc Cert.ReferenceDh1Ideal.main_arg4) = m ((c.tc : Thread Cert.ReferenceDh1Ideal.nD Cert.ReferenceDh1Ideal.τ).loc Cert.ReferenceDh1Ideal.main_arg4)
      ∧ r.2.mem ((c.tc : Thread Cert.ReferenceDh1Ideal.nD Cert.ReferenceDh1Ideal.τ).loc Cert.ReferenceDh1Ideal.main_arg5) = m ((c.tc : Thread Cert.ReferenceDh1Ideal.nD Cert.ReferenceDh1Ideal.τ).loc Cert.ReferenceDh1Ideal.main_arg5)
      ∧ r.2.mem ((c.tc : Thread Cert.ReferenceDh1Ideal.nD Cert.ReferenceDh1Ideal.τ).loc Cert.ReferenceDh1Ideal.main_arg6) = m ((c.tc : Thread Cert.ReferenceDh1Ideal.nD Cert.ReferenceDh1Ideal.τ).loc Cert.ReferenceDh1Ideal.main_arg6)
      ∧ r.2.mem ((c.tc : Thread Cert.ReferenceDh1Ideal.nD Cert.ReferenceDh1Ideal.τ).loc Cert.ReferenceDh1Ideal.main_arg7) = m ((c.tc : Thread Cert.ReferenceDh1Ideal.nD Cert.ReferenceDh1Ideal.τ).loc Cert.ReferenceDh1Ideal.main_arg7)
      ∧ r.2.mem ((c.tc : Thread Cert.ReferenceDh1Ideal.nD Cert.ReferenceDh1Ideal.τ).loc Cert.ReferenceDh1Ideal.main_arg8) = m ((c.tc : Thread Cert.ReferenceDh1Ideal.nD Cert.ReferenceDh1Ideal.τ).loc Cert.ReferenceDh1Ideal.main_arg8)
      ∧ r.2.mem ((c.tc : Thread Cert.ReferenceDh1Ideal.nD Cert.ReferenceDh1Ideal.τ).loc Cert.ReferenceDh1Ideal.main_arg9) = m ((c.tc : Thread Cert.ReferenceDh1Ideal.nD Cert.ReferenceDh1Ideal.τ).loc Cert.ReferenceDh1Ideal.main_arg9)
      ∧ r.2.mem ((c.tc : Thread Cert.ReferenceDh1Ideal.nD Cert.ReferenceDh1Ideal.τ).loc Cert.ReferenceDh1Ideal.main_arg10) = m ((c.tc : Thread Cert.ReferenceDh1Ideal.nD Cert.ReferenceDh1Ideal.τ).loc Cert.ReferenceDh1Ideal.main_arg10)
      ∧ r.2.mem ((c.tc : Thread Cert.ReferenceDh1Ideal.nD Cert.ReferenceDh1Ideal.τ).loc Cert.ReferenceDh1Ideal.main_arg11) = m ((c.tc : Thread Cert.ReferenceDh1Ideal.nD Cert.ReferenceDh1Ideal.τ).loc Cert.ReferenceDh1Ideal.main_arg11)
      ∧ r.2.mem ((c.tc : Thread Cert.ReferenceDh1Ideal.nD Cert.ReferenceDh1Ideal.τ).loc Cert.ReferenceDh1Ideal.main_arg12) = m ((c.tc : Thread Cert.ReferenceDh1Ideal.nD Cert.ReferenceDh1Ideal.τ).loc Cert.ReferenceDh1Ideal.main_arg12))
      ∧ r.2.sem = fun _ => 0)

def quiescent_ReferenceDh1Ideal_pre_finite_dh1 [hReferenceDh1Ideal : Cert.ReferenceDh1Ideal.Facts] [hPre_finite_dh1 : Cert.Pre_finite_dh1.Facts] : Prop :=
  ∀ (m : (ℓ : Loc Cert.ReferenceDh1Ideal.nD Cert.ReferenceDh1Ideal.τ Cert.ReferenceDh1Ideal.sig) → Buf (Elt Ideal) ℓ) (g : Dev Cert.ReferenceDh1Ideal.nD → PrngReg), Pre_ReferenceDh1Ideal_finite_dh1 m →
    θ_run (Cert.ReferenceDh1Ideal.defs (F := Ideal)) (onTc (τ := Cert.ReferenceDh1Ideal.τ) (Cert.ReferenceDh1Ideal.main (F := Ideal))) ⟨m, fun _ => 0, g⟩ (fun r => (∀ c : Dev Cert.ReferenceDh1Ideal.nD,
      r.2.mem ((c.tc : Thread Cert.ReferenceDh1Ideal.nD Cert.ReferenceDh1Ideal.τ).loc Cert.ReferenceDh1Ideal.main_arg0) = m ((c.tc : Thread Cert.ReferenceDh1Ideal.nD Cert.ReferenceDh1Ideal.τ).loc Cert.ReferenceDh1Ideal.main_arg0)
      ∧ r.2.mem ((c.tc : Thread Cert.ReferenceDh1Ideal.nD Cert.ReferenceDh1Ideal.τ).loc Cert.ReferenceDh1Ideal.main_arg1) = m ((c.tc : Thread Cert.ReferenceDh1Ideal.nD Cert.ReferenceDh1Ideal.τ).loc Cert.ReferenceDh1Ideal.main_arg1)
      ∧ r.2.mem ((c.tc : Thread Cert.ReferenceDh1Ideal.nD Cert.ReferenceDh1Ideal.τ).loc Cert.ReferenceDh1Ideal.main_arg2) = m ((c.tc : Thread Cert.ReferenceDh1Ideal.nD Cert.ReferenceDh1Ideal.τ).loc Cert.ReferenceDh1Ideal.main_arg2)
      ∧ r.2.mem ((c.tc : Thread Cert.ReferenceDh1Ideal.nD Cert.ReferenceDh1Ideal.τ).loc Cert.ReferenceDh1Ideal.main_arg3) = m ((c.tc : Thread Cert.ReferenceDh1Ideal.nD Cert.ReferenceDh1Ideal.τ).loc Cert.ReferenceDh1Ideal.main_arg3)
      ∧ r.2.mem ((c.tc : Thread Cert.ReferenceDh1Ideal.nD Cert.ReferenceDh1Ideal.τ).loc Cert.ReferenceDh1Ideal.main_arg4) = m ((c.tc : Thread Cert.ReferenceDh1Ideal.nD Cert.ReferenceDh1Ideal.τ).loc Cert.ReferenceDh1Ideal.main_arg4)
      ∧ r.2.mem ((c.tc : Thread Cert.ReferenceDh1Ideal.nD Cert.ReferenceDh1Ideal.τ).loc Cert.ReferenceDh1Ideal.main_arg5) = m ((c.tc : Thread Cert.ReferenceDh1Ideal.nD Cert.ReferenceDh1Ideal.τ).loc Cert.ReferenceDh1Ideal.main_arg5)
      ∧ r.2.mem ((c.tc : Thread Cert.ReferenceDh1Ideal.nD Cert.ReferenceDh1Ideal.τ).loc Cert.ReferenceDh1Ideal.main_arg6) = m ((c.tc : Thread Cert.ReferenceDh1Ideal.nD Cert.ReferenceDh1Ideal.τ).loc Cert.ReferenceDh1Ideal.main_arg6)
      ∧ r.2.mem ((c.tc : Thread Cert.ReferenceDh1Ideal.nD Cert.ReferenceDh1Ideal.τ).loc Cert.ReferenceDh1Ideal.main_arg7) = m ((c.tc : Thread Cert.ReferenceDh1Ideal.nD Cert.ReferenceDh1Ideal.τ).loc Cert.ReferenceDh1Ideal.main_arg7)
      ∧ r.2.mem ((c.tc : Thread Cert.ReferenceDh1Ideal.nD Cert.ReferenceDh1Ideal.τ).loc Cert.ReferenceDh1Ideal.main_arg8) = m ((c.tc : Thread Cert.ReferenceDh1Ideal.nD Cert.ReferenceDh1Ideal.τ).loc Cert.ReferenceDh1Ideal.main_arg8)
      ∧ r.2.mem ((c.tc : Thread Cert.ReferenceDh1Ideal.nD Cert.ReferenceDh1Ideal.τ).loc Cert.ReferenceDh1Ideal.main_arg9) = m ((c.tc : Thread Cert.ReferenceDh1Ideal.nD Cert.ReferenceDh1Ideal.τ).loc Cert.ReferenceDh1Ideal.main_arg9)
      ∧ r.2.mem ((c.tc : Thread Cert.ReferenceDh1Ideal.nD Cert.ReferenceDh1Ideal.τ).loc Cert.ReferenceDh1Ideal.main_arg10) = m ((c.tc : Thread Cert.ReferenceDh1Ideal.nD Cert.ReferenceDh1Ideal.τ).loc Cert.ReferenceDh1Ideal.main_arg10)
      ∧ r.2.mem ((c.tc : Thread Cert.ReferenceDh1Ideal.nD Cert.ReferenceDh1Ideal.τ).loc Cert.ReferenceDh1Ideal.main_arg11) = m ((c.tc : Thread Cert.ReferenceDh1Ideal.nD Cert.ReferenceDh1Ideal.τ).loc Cert.ReferenceDh1Ideal.main_arg11)
      ∧ r.2.mem ((c.tc : Thread Cert.ReferenceDh1Ideal.nD Cert.ReferenceDh1Ideal.τ).loc Cert.ReferenceDh1Ideal.main_arg12) = m ((c.tc : Thread Cert.ReferenceDh1Ideal.nD Cert.ReferenceDh1Ideal.τ).loc Cert.ReferenceDh1Ideal.main_arg12))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4)
      ∧ r.2.mem ((c.tc : Thread Cert.KernelDx.nD Cert.KernelDx.τ).loc Cert.KernelDx.main_arg5) = m ((c.tc : Thread Cert.KernelDx.nD Cert.KernelDx.τ).loc Cert.KernelDx.main_arg5)
      ∧ r.2.mem ((c.tc : Thread Cert.KernelDx.nD Cert.KernelDx.τ).loc Cert.KernelDx.main_arg6) = m ((c.tc : Thread Cert.KernelDx.nD Cert.KernelDx.τ).loc Cert.KernelDx.main_arg6)
      ∧ r.2.mem ((c.tc : Thread Cert.KernelDx.nD Cert.KernelDx.τ).loc Cert.KernelDx.main_arg7) = m ((c.tc : Thread Cert.KernelDx.nD Cert.KernelDx.τ).loc Cert.KernelDx.main_arg7)
      ∧ r.2.mem ((c.tc : Thread Cert.KernelDx.nD Cert.KernelDx.τ).loc Cert.KernelDx.main_arg8) = m ((c.tc : Thread Cert.KernelDx.nD Cert.KernelDx.τ).loc Cert.KernelDx.main_arg8))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
      ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6)
      ∧ r.2.mem ((c.tc : Thread Cert.KernelDxIdeal.nD Cert.KernelDxIdeal.τ).loc Cert.KernelDxIdeal.main_arg7) = m ((c.tc : Thread Cert.KernelDxIdeal.nD Cert.KernelDxIdeal.τ).loc Cert.KernelDxIdeal.main_arg7)
      ∧ r.2.mem ((c.tc : Thread Cert.KernelDxIdeal.nD Cert.KernelDxIdeal.τ).loc Cert.KernelDxIdeal.main_arg8) = m ((c.tc : Thread Cert.KernelDxIdeal.nD Cert.KernelDxIdeal.τ).loc Cert.KernelDxIdeal.main_arg8))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5)
      ∧ r.2.mem ((c.tc : Thread Cert.ReferenceDxIdeal.nD Cert.ReferenceDxIdeal.τ).loc Cert.ReferenceDxIdeal.main_arg6) = m ((c.tc : Thread Cert.ReferenceDxIdeal.nD Cert.ReferenceDxIdeal.τ).loc Cert.ReferenceDxIdeal.main_arg6)
      ∧ r.2.mem ((c.tc : Thread Cert.ReferenceDxIdeal.nD Cert.ReferenceDxIdeal.τ).loc Cert.ReferenceDxIdeal.main_arg7) = m ((c.tc : Thread Cert.ReferenceDxIdeal.nD Cert.ReferenceDxIdeal.τ).loc Cert.ReferenceDxIdeal.main_arg7)
      ∧ r.2.mem ((c.tc : Thread Cert.ReferenceDxIdeal.nD Cert.ReferenceDxIdeal.τ).loc Cert.ReferenceDxIdeal.main_arg8) = m ((c.tc : Thread Cert.ReferenceDxIdeal.nD Cert.ReferenceDxIdeal.τ).loc Cert.ReferenceDxIdeal.main_arg8))
      ∧ r.2.sem = fun _ => 0)

def quiescent_KernelDwin [hKernelDwin : Cert.KernelDwin.Facts] [hPre_place_dwin : Cert.Pre_place_dwin.Facts] : Prop :=
  ∀ (m : (ℓ : Loc Cert.KernelDwin.nD Cert.KernelDwin.τ Cert.KernelDwin.sig) → Buf (Elt Bits) ℓ) (g : Dev Cert.KernelDwin.nD → PrngReg), Pre_KernelDwin m →
    θ_run (Cert.KernelDwin.defs (F := Bits)) (onTc (τ := Cert.KernelDwin.τ) (Cert.KernelDwin.main (F := Bits))) ⟨m, fun _ => 0, g⟩ (fun r => (∀ c : Dev Cert.KernelDwin.nD,
      r.2.mem ((c.tc : Thread Cert.KernelDwin.nD Cert.KernelDwin.τ).loc Cert.KernelDwin.main_arg0) = m ((c.tc : Thread Cert.KernelDwin.nD Cert.KernelDwin.τ).loc Cert.KernelDwin.main_arg0)
      ∧ r.2.mem ((c.tc : Thread Cert.KernelDwin.nD Cert.KernelDwin.τ).loc Cert.KernelDwin.main_arg1) = m ((c.tc : Thread Cert.KernelDwin.nD Cert.KernelDwin.τ).loc Cert.KernelDwin.main_arg1)
      ∧ r.2.mem ((c.tc : Thread Cert.KernelDwin.nD Cert.KernelDwin.τ).loc Cert.KernelDwin.main_arg2) = m ((c.tc : Thread Cert.KernelDwin.nD Cert.KernelDwin.τ).loc Cert.KernelDwin.main_arg2)
      ∧ r.2.mem ((c.tc : Thread Cert.KernelDwin.nD Cert.KernelDwin.τ).loc Cert.KernelDwin.main_arg3) = m ((c.tc : Thread Cert.KernelDwin.nD Cert.KernelDwin.τ).loc Cert.KernelDwin.main_arg3)
      ∧ r.2.mem ((c.tc : Thread Cert.KernelDwin.nD Cert.KernelDwin.τ).loc Cert.KernelDwin.main_arg4) = m ((c.tc : Thread Cert.KernelDwin.nD Cert.KernelDwin.τ).loc Cert.KernelDwin.main_arg4)
      ∧ r.2.mem ((c.tc : Thread Cert.KernelDwin.nD Cert.KernelDwin.τ).loc Cert.KernelDwin.main_arg5) = m ((c.tc : Thread Cert.KernelDwin.nD Cert.KernelDwin.τ).loc Cert.KernelDwin.main_arg5)
      ∧ r.2.mem ((c.tc : Thread Cert.KernelDwin.nD Cert.KernelDwin.τ).loc Cert.KernelDwin.main_arg6) = m ((c.tc : Thread Cert.KernelDwin.nD Cert.KernelDwin.τ).loc Cert.KernelDwin.main_arg6)
      ∧ r.2.mem ((c.tc : Thread Cert.KernelDwin.nD Cert.KernelDwin.τ).loc Cert.KernelDwin.main_arg7) = m ((c.tc : Thread Cert.KernelDwin.nD Cert.KernelDwin.τ).loc Cert.KernelDwin.main_arg7)
      ∧ r.2.mem ((c.tc : Thread Cert.KernelDwin.nD Cert.KernelDwin.τ).loc Cert.KernelDwin.main_arg8) = m ((c.tc : Thread Cert.KernelDwin.nD Cert.KernelDwin.τ).loc Cert.KernelDwin.main_arg8))
      ∧ r.2.sem = fun _ => 0)

def quiescent_KernelDwinIdeal [hKernelDwinIdeal : Cert.KernelDwinIdeal.Facts] [hPre_place_dwin : Cert.Pre_place_dwin.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg), Pre_KernelDwinIdeal m →
    θ_run (Cert.KernelDwinIdeal.defs (F := Ideal)) (onTc (τ := Cert.KernelDwinIdeal.τ) (Cert.KernelDwinIdeal.main (F := Ideal))) ⟨m, fun _ => 0, g⟩ (fun r => (∀ c : Dev Cert.KernelDwinIdeal.nD,
      r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
      ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1)
      ∧ r.2.mem ((c.tc : Thread Cert.KernelDwinIdeal.nD Cert.KernelDwinIdeal.τ).loc Cert.KernelDwinIdeal.main_arg2) = m ((c.tc : Thread Cert.KernelDwinIdeal.nD Cert.KernelDwinIdeal.τ).loc Cert.KernelDwinIdeal.main_arg2)
      ∧ r.2.mem ((c.tc : Thread Cert.KernelDwinIdeal.nD Cert.KernelDwinIdeal.τ).loc Cert.KernelDwinIdeal.main_arg3) = m ((c.tc : Thread Cert.KernelDwinIdeal.nD Cert.KernelDwinIdeal.τ).loc Cert.KernelDwinIdeal.main_arg3)
      ∧ r.2.mem ((c.tc : Thread Cert.KernelDwinIdeal.nD Cert.KernelDwinIdeal.τ).loc Cert.KernelDwinIdeal.main_arg4) = m ((c.tc : Thread Cert.KernelDwinIdeal.nD Cert.KernelDwinIdeal.τ).loc Cert.KernelDwinIdeal.main_arg4)
      ∧ r.2.mem ((c.tc : Thread Cert.KernelDwinIdeal.nD Cert.KernelDwinIdeal.τ).loc Cert.KernelDwinIdeal.main_arg5) = m ((c.tc : Thread Cert.KernelDwinIdeal.nD Cert.KernelDwinIdeal.τ).loc Cert.KernelDwinIdeal.main_arg5)
      ∧ r.2.mem ((c.tc : Thread Cert.KernelDwinIdeal.nD Cert.KernelDwinIdeal.τ).loc Cert.KernelDwinIdeal.main_arg6) = m ((c.tc : Thread Cert.KernelDwinIdeal.nD Cert.KernelDwinIdeal.τ).loc Cert.KernelDwinIdeal.main_arg6)
      ∧ r.2.mem ((c.tc : Thread Cert.KernelDwinIdeal.nD Cert.KernelDwinIdeal.τ).loc Cert.KernelDwinIdeal.main_arg7) = m ((c.tc : Thread Cert.KernelDwinIdeal.nD Cert.KernelDwinIdeal.τ).loc Cert.KernelDwinIdeal.main_arg7)
      ∧ r.2.mem ((c.tc : Thread Cert.KernelDwinIdeal.nD Cert.KernelDwinIdeal.τ).loc Cert.KernelDwinIdeal.main_arg8) = m ((c.tc : Thread Cert.KernelDwinIdeal.nD Cert.KernelDwinIdeal.τ).loc Cert.KernelDwinIdeal.main_arg8))
      ∧ r.2.sem = fun _ => 0)

def quiescent_ReferenceDwinIdeal [hReferenceDwinIdeal : Cert.ReferenceDwinIdeal.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1)
      ∧ r.2.mem ((c.tc : Thread Cert.ReferenceDwinIdeal.nD Cert.ReferenceDwinIdeal.τ).loc Cert.ReferenceDwinIdeal.main_arg2) = m ((c.tc : Thread Cert.ReferenceDwinIdeal.nD Cert.ReferenceDwinIdeal.τ).loc Cert.ReferenceDwinIdeal.main_arg2)
      ∧ r.2.mem ((c.tc : Thread Cert.ReferenceDwinIdeal.nD Cert.ReferenceDwinIdeal.τ).loc Cert.ReferenceDwinIdeal.main_arg3) = m ((c.tc : Thread Cert.ReferenceDwinIdeal.nD Cert.ReferenceDwinIdeal.τ).loc Cert.ReferenceDwinIdeal.main_arg3)
      ∧ r.2.mem ((c.tc : Thread Cert.ReferenceDwinIdeal.nD Cert.ReferenceDwinIdeal.τ).loc Cert.ReferenceDwinIdeal.main_arg4) = m ((c.tc : Thread Cert.ReferenceDwinIdeal.nD Cert.ReferenceDwinIdeal.τ).loc Cert.ReferenceDwinIdeal.main_arg4)
      ∧ r.2.mem ((c.tc : Thread Cert.ReferenceDwinIdeal.nD Cert.ReferenceDwinIdeal.τ).loc Cert.ReferenceDwinIdeal.main_arg5) = m ((c.tc : Thread Cert.ReferenceDwinIdeal.nD Cert.ReferenceDwinIdeal.τ).loc Cert.ReferenceDwinIdeal.main_arg5)
      ∧ r.2.mem ((c.tc : Thread Cert.ReferenceDwinIdeal.nD Cert.ReferenceDwinIdeal.τ).loc Cert.ReferenceDwinIdeal.main_arg6) = m ((c.tc : Thread Cert.ReferenceDwinIdeal.nD Cert.ReferenceDwinIdeal.τ).loc Cert.ReferenceDwinIdeal.main_arg6)
      ∧ r.2.mem ((c.tc : Thread Cert.ReferenceDwinIdeal.nD Cert.ReferenceDwinIdeal.τ).loc Cert.ReferenceDwinIdeal.main_arg7) = m ((c.tc : Thread Cert.ReferenceDwinIdeal.nD Cert.ReferenceDwinIdeal.τ).loc Cert.ReferenceDwinIdeal.main_arg7)
      ∧ r.2.mem ((c.tc : Thread Cert.ReferenceDwinIdeal.nD Cert.ReferenceDwinIdeal.τ).loc Cert.ReferenceDwinIdeal.main_arg8) = m ((c.tc : Thread Cert.ReferenceDwinIdeal.nD Cert.ReferenceDwinIdeal.τ).loc Cert.ReferenceDwinIdeal.main_arg8))
      ∧ r.2.sem = fun _ => 0)

def quiescent_ReferenceDwinIdeal_pre_place_dwin [hReferenceDwinIdeal : Cert.ReferenceDwinIdeal.Facts] [hPre_place_dwin : Cert.Pre_place_dwin.Facts] : Prop :=
  ∀ (m : (ℓ : Loc Cert.ReferenceDwinIdeal.nD Cert.ReferenceDwinIdeal.τ Cert.ReferenceDwinIdeal.sig) → Buf (Elt Ideal) ℓ) (g : Dev Cert.ReferenceDwinIdeal.nD → PrngReg), Pre_ReferenceDwinIdeal_place_dwin m →
    θ_run (Cert.ReferenceDwinIdeal.defs (F := Ideal)) (onTc (τ := Cert.ReferenceDwinIdeal.τ) (Cert.ReferenceDwinIdeal.main (F := Ideal))) ⟨m, fun _ => 0, g⟩ (fun r => (∀ c : Dev Cert.ReferenceDwinIdeal.nD,
      r.2.mem ((c.tc : Thread Cert.ReferenceDwinIdeal.nD Cert.ReferenceDwinIdeal.τ).loc Cert.ReferenceDwinIdeal.main_arg0) = m ((c.tc : Thread Cert.ReferenceDwinIdeal.nD Cert.ReferenceDwinIdeal.τ).loc Cert.ReferenceDwinIdeal.main_arg0)
      ∧ r.2.mem ((c.tc : Thread Cert.ReferenceDwinIdeal.nD Cert.ReferenceDwinIdeal.τ).loc Cert.ReferenceDwinIdeal.main_arg1) = m ((c.tc : Thread Cert.ReferenceDwinIdeal.nD Cert.ReferenceDwinIdeal.τ).loc Cert.ReferenceDwinIdeal.main_arg1)
      ∧ r.2.mem ((c.tc : Thread Cert.ReferenceDwinIdeal.nD Cert.ReferenceDwinIdeal.τ).loc Cert.ReferenceDwinIdeal.main_arg2) = m ((c.tc : Thread Cert.ReferenceDwinIdeal.nD Cert.ReferenceDwinIdeal.τ).loc Cert.ReferenceDwinIdeal.main_arg2)
      ∧ r.2.mem ((c.tc : Thread Cert.ReferenceDwinIdeal.nD Cert.ReferenceDwinIdeal.τ).loc Cert.ReferenceDwinIdeal.main_arg3) = m ((c.tc : Thread Cert.ReferenceDwinIdeal.nD Cert.ReferenceDwinIdeal.τ).loc Cert.ReferenceDwinIdeal.main_arg3)
      ∧ r.2.mem ((c.tc : Thread Cert.ReferenceDwinIdeal.nD Cert.ReferenceDwinIdeal.τ).loc Cert.ReferenceDwinIdeal.main_arg4) = m ((c.tc : Thread Cert.ReferenceDwinIdeal.nD Cert.ReferenceDwinIdeal.τ).loc Cert.ReferenceDwinIdeal.main_arg4)
      ∧ r.2.mem ((c.tc : Thread Cert.ReferenceDwinIdeal.nD Cert.ReferenceDwinIdeal.τ).loc Cert.ReferenceDwinIdeal.main_arg5) = m ((c.tc : Thread Cert.ReferenceDwinIdeal.nD Cert.ReferenceDwinIdeal.τ).loc Cert.ReferenceDwinIdeal.main_arg5)
      ∧ r.2.mem ((c.tc : Thread Cert.ReferenceDwinIdeal.nD Cert.ReferenceDwinIdeal.τ).loc Cert.ReferenceDwinIdeal.main_arg6) = m ((c.tc : Thread Cert.ReferenceDwinIdeal.nD Cert.ReferenceDwinIdeal.τ).loc Cert.ReferenceDwinIdeal.main_arg6)
      ∧ r.2.mem ((c.tc : Thread Cert.ReferenceDwinIdeal.nD Cert.ReferenceDwinIdeal.τ).loc Cert.ReferenceDwinIdeal.main_arg7) = m ((c.tc : Thread Cert.ReferenceDwinIdeal.nD Cert.ReferenceDwinIdeal.τ).loc Cert.ReferenceDwinIdeal.main_arg7)
      ∧ r.2.mem ((c.tc : Thread Cert.ReferenceDwinIdeal.nD Cert.ReferenceDwinIdeal.τ).loc Cert.ReferenceDwinIdeal.main_arg8) = m ((c.tc : Thread Cert.ReferenceDwinIdeal.nD Cert.ReferenceDwinIdeal.τ).loc Cert.ReferenceDwinIdeal.main_arg8))
      ∧ r.2.sem = fun _ => 0)

def quiescent_KernelLoss [hKernelLoss : Cert.KernelLoss.Facts] [hPre_place_loss : Cert.Pre_place_loss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4)
      ∧ r.2.mem ((c.tc : Thread Cert.KernelLoss.nD Cert.KernelLoss.τ).loc Cert.KernelLoss.main_arg5) = m ((c.tc : Thread Cert.KernelLoss.nD Cert.KernelLoss.τ).loc Cert.KernelLoss.main_arg5)
      ∧ r.2.mem ((c.tc : Thread Cert.KernelLoss.nD Cert.KernelLoss.τ).loc Cert.KernelLoss.main_arg6) = m ((c.tc : Thread Cert.KernelLoss.nD Cert.KernelLoss.τ).loc Cert.KernelLoss.main_arg6)
      ∧ r.2.mem ((c.tc : Thread Cert.KernelLoss.nD Cert.KernelLoss.τ).loc Cert.KernelLoss.main_arg7) = m ((c.tc : Thread Cert.KernelLoss.nD Cert.KernelLoss.τ).loc Cert.KernelLoss.main_arg7)
      ∧ r.2.mem ((c.tc : Thread Cert.KernelLoss.nD Cert.KernelLoss.τ).loc Cert.KernelLoss.main_arg8) = m ((c.tc : Thread Cert.KernelLoss.nD Cert.KernelLoss.τ).loc Cert.KernelLoss.main_arg8)
      ∧ r.2.mem ((c.tc : Thread Cert.KernelLoss.nD Cert.KernelLoss.τ).loc Cert.KernelLoss.main_arg9) = m ((c.tc : Thread Cert.KernelLoss.nD Cert.KernelLoss.τ).loc Cert.KernelLoss.main_arg9)
      ∧ r.2.mem ((c.tc : Thread Cert.KernelLoss.nD Cert.KernelLoss.τ).loc Cert.KernelLoss.main_arg10) = m ((c.tc : Thread Cert.KernelLoss.nD Cert.KernelLoss.τ).loc Cert.KernelLoss.main_arg10)
      ∧ r.2.mem ((c.tc : Thread Cert.KernelLoss.nD Cert.KernelLoss.τ).loc Cert.KernelLoss.main_arg11) = m ((c.tc : Thread Cert.KernelLoss.nD Cert.KernelLoss.τ).loc Cert.KernelLoss.main_arg11)
      ∧ r.2.mem ((c.tc : Thread Cert.KernelLoss.nD Cert.KernelLoss.τ).loc Cert.KernelLoss.main_arg12) = m ((c.tc : Thread Cert.KernelLoss.nD Cert.KernelLoss.τ).loc Cert.KernelLoss.main_arg12)
      ∧ r.2.mem ((c.tc : Thread Cert.KernelLoss.nD Cert.KernelLoss.τ).loc Cert.KernelLoss.main_arg13) = m ((c.tc : Thread Cert.KernelLoss.nD Cert.KernelLoss.τ).loc Cert.KernelLoss.main_arg13))
      ∧ r.2.sem = fun _ => 0)

def quiescent_KernelLossIdeal [hKernelLossIdeal : Cert.KernelLossIdeal.Facts] [hPre_place_loss : Cert.Pre_place_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6)
      ∧ r.2.mem ((c.tc : Thread Cert.KernelLossIdeal.nD Cert.KernelLossIdeal.τ).loc Cert.KernelLossIdeal.main_arg7) = m ((c.tc : Thread Cert.KernelLossIdeal.nD Cert.KernelLossIdeal.τ).loc Cert.KernelLossIdeal.main_arg7)
      ∧ r.2.mem ((c.tc : Thread Cert.KernelLossIdeal.nD Cert.KernelLossIdeal.τ).loc Cert.KernelLossIdeal.main_arg8) = m ((c.tc : Thread Cert.KernelLossIdeal.nD Cert.KernelLossIdeal.τ).loc Cert.KernelLossIdeal.main_arg8)
      ∧ r.2.mem ((c.tc : Thread Cert.KernelLossIdeal.nD Cert.KernelLossIdeal.τ).loc Cert.KernelLossIdeal.main_arg9) = m ((c.tc : Thread Cert.KernelLossIdeal.nD Cert.KernelLossIdeal.τ).loc Cert.KernelLossIdeal.main_arg9)
      ∧ r.2.mem ((c.tc : Thread Cert.KernelLossIdeal.nD Cert.KernelLossIdeal.τ).loc Cert.KernelLossIdeal.main_arg10) = m ((c.tc : Thread Cert.KernelLossIdeal.nD Cert.KernelLossIdeal.τ).loc Cert.KernelLossIdeal.main_arg10)
      ∧ r.2.mem ((c.tc : Thread Cert.KernelLossIdeal.nD Cert.KernelLossIdeal.τ).loc Cert.KernelLossIdeal.main_arg11) = m ((c.tc : Thread Cert.KernelLossIdeal.nD Cert.KernelLossIdeal.τ).loc Cert.KernelLossIdeal.main_arg11)
      ∧ r.2.mem ((c.tc : Thread Cert.KernelLossIdeal.nD Cert.KernelLossIdeal.τ).loc Cert.KernelLossIdeal.main_arg12) = m ((c.tc : Thread Cert.KernelLossIdeal.nD Cert.KernelLossIdeal.τ).loc Cert.KernelLossIdeal.main_arg12)
      ∧ r.2.mem ((c.tc : Thread Cert.KernelLossIdeal.nD Cert.KernelLossIdeal.τ).loc Cert.KernelLossIdeal.main_arg13) = m ((c.tc : Thread Cert.KernelLossIdeal.nD Cert.KernelLossIdeal.τ).loc Cert.KernelLossIdeal.main_arg13))
      ∧ r.2.sem = fun _ => 0)

def quiescent_KernelLossIdeal_pre_finite_loss [hKernelLossIdeal : Cert.KernelLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal_finite_loss m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
      ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
      ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6)
      ∧ r.2.mem ((c.tc : Thread Cert.KernelLossIdeal.nD Cert.KernelLossIdeal.τ).loc Cert.KernelLossIdeal.main_arg7) = m ((c.tc : Thread Cert.KernelLossIdeal.nD Cert.KernelLossIdeal.τ).loc Cert.KernelLossIdeal.main_arg7)
      ∧ r.2.mem ((c.tc : Thread Cert.KernelLossIdeal.nD Cert.KernelLossIdeal.τ).loc Cert.KernelLossIdeal.main_arg8) = m ((c.tc : Thread Cert.KernelLossIdeal.nD Cert.KernelLossIdeal.τ).loc Cert.KernelLossIdeal.main_arg8)
      ∧ r.2.mem ((c.tc : Thread Cert.KernelLossIdeal.nD Cert.KernelLossIdeal.τ).loc Cert.KernelLossIdeal.main_arg9) = m ((c.tc : Thread Cert.KernelLossIdeal.nD Cert.KernelLossIdeal.τ).loc Cert.KernelLossIdeal.main_arg9)
      ∧ r.2.mem ((c.tc : Thread Cert.KernelLossIdeal.nD Cert.KernelLossIdeal.τ).loc Cert.KernelLossIdeal.main_arg10) = m ((c.tc : Thread Cert.KernelLossIdeal.nD Cert.KernelLossIdeal.τ).loc Cert.KernelLossIdeal.main_arg10)
      ∧ r.2.mem ((c.tc : Thread Cert.KernelLossIdeal.nD Cert.KernelLossIdeal.τ).loc Cert.KernelLossIdeal.main_arg11) = m ((c.tc : Thread Cert.KernelLossIdeal.nD Cert.KernelLossIdeal.τ).loc Cert.KernelLossIdeal.main_arg11)
      ∧ r.2.mem ((c.tc : Thread Cert.KernelLossIdeal.nD Cert.KernelLossIdeal.τ).loc Cert.KernelLossIdeal.main_arg12) = m ((c.tc : Thread Cert.KernelLossIdeal.nD Cert.KernelLossIdeal.τ).loc Cert.KernelLossIdeal.main_arg12)
      ∧ r.2.mem ((c.tc : Thread Cert.KernelLossIdeal.nD Cert.KernelLossIdeal.τ).loc Cert.KernelLossIdeal.main_arg13) = m ((c.tc : Thread Cert.KernelLossIdeal.nD Cert.KernelLossIdeal.τ).loc Cert.KernelLossIdeal.main_arg13))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6)
      ∧ r.2.mem ((c.tc : Thread Cert.ReferenceLossIdeal.nD Cert.ReferenceLossIdeal.τ).loc Cert.ReferenceLossIdeal.main_arg7) = m ((c.tc : Thread Cert.ReferenceLossIdeal.nD Cert.ReferenceLossIdeal.τ).loc Cert.ReferenceLossIdeal.main_arg7)
      ∧ r.2.mem ((c.tc : Thread Cert.ReferenceLossIdeal.nD Cert.ReferenceLossIdeal.τ).loc Cert.ReferenceLossIdeal.main_arg8) = m ((c.tc : Thread Cert.ReferenceLossIdeal.nD Cert.ReferenceLossIdeal.τ).loc Cert.ReferenceLossIdeal.main_arg8)
      ∧ r.2.mem ((c.tc : Thread Cert.ReferenceLossIdeal.nD Cert.ReferenceLossIdeal.τ).loc Cert.ReferenceLossIdeal.main_arg9) = m ((c.tc : Thread Cert.ReferenceLossIdeal.nD Cert.ReferenceLossIdeal.τ).loc Cert.ReferenceLossIdeal.main_arg9)
      ∧ r.2.mem ((c.tc : Thread Cert.ReferenceLossIdeal.nD Cert.ReferenceLossIdeal.τ).loc Cert.ReferenceLossIdeal.main_arg10) = m ((c.tc : Thread Cert.ReferenceLossIdeal.nD Cert.ReferenceLossIdeal.τ).loc Cert.ReferenceLossIdeal.main_arg10)
      ∧ r.2.mem ((c.tc : Thread Cert.ReferenceLossIdeal.nD Cert.ReferenceLossIdeal.τ).loc Cert.ReferenceLossIdeal.main_arg11) = m ((c.tc : Thread Cert.ReferenceLossIdeal.nD Cert.ReferenceLossIdeal.τ).loc Cert.ReferenceLossIdeal.main_arg11)
      ∧ r.2.mem ((c.tc : Thread Cert.ReferenceLossIdeal.nD Cert.ReferenceLossIdeal.τ).loc Cert.ReferenceLossIdeal.main_arg12) = m ((c.tc : Thread Cert.ReferenceLossIdeal.nD Cert.ReferenceLossIdeal.τ).loc Cert.ReferenceLossIdeal.main_arg12)
      ∧ r.2.mem ((c.tc : Thread Cert.ReferenceLossIdeal.nD Cert.ReferenceLossIdeal.τ).loc Cert.ReferenceLossIdeal.main_arg13) = m ((c.tc : Thread Cert.ReferenceLossIdeal.nD Cert.ReferenceLossIdeal.τ).loc Cert.ReferenceLossIdeal.main_arg13))
      ∧ r.2.sem = fun _ => 0)

def quiescent_ReferenceLossIdeal_pre_finite_loss [hReferenceLossIdeal : Cert.ReferenceLossIdeal.Facts] [hPre_finite_loss : Cert.Pre_finite_loss.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal_finite_loss m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4)
      ∧ r.2.mem ((c.tc : Thread Cert.ReferenceLossIdeal.nD Cert.ReferenceLossIdeal.τ).loc Cert.ReferenceLossIdeal.main_arg5) = m ((c.tc : Thread Cert.ReferenceLossIdeal.nD Cert.ReferenceLossIdeal.τ).loc Cert.ReferenceLossIdeal.main_arg5)
      ∧ r.2.mem ((c.tc : Thread Cert.ReferenceLossIdeal.nD Cert.ReferenceLossIdeal.τ).loc Cert.ReferenceLossIdeal.main_arg6) = m ((c.tc : Thread Cert.ReferenceLossIdeal.nD Cert.ReferenceLossIdeal.τ).loc Cert.ReferenceLossIdeal.main_arg6)
      ∧ r.2.mem ((c.tc : Thread Cert.ReferenceLossIdeal.nD Cert.ReferenceLossIdeal.τ).loc Cert.ReferenceLossIdeal.main_arg7) = m ((c.tc : Thread Cert.ReferenceLossIdeal.nD Cert.ReferenceLossIdeal.τ).loc Cert.ReferenceLossIdeal.main_arg7)
      ∧ r.2.mem ((c.tc : Thread Cert.ReferenceLossIdeal.nD Cert.ReferenceLossIdeal.τ).loc Cert.ReferenceLossIdeal.main_arg8) = m ((c.tc : Thread Cert.ReferenceLossIdeal.nD Cert.ReferenceLossIdeal.τ).loc Cert.ReferenceLossIdeal.main_arg8)
      ∧ r.2.mem ((c.tc : Thread Cert.ReferenceLossIdeal.nD Cert.ReferenceLossIdeal.τ).loc Cert.ReferenceLossIdeal.main_arg9) = m ((c.tc : Thread Cert.ReferenceLossIdeal.nD Cert.ReferenceLossIdeal.τ).loc Cert.ReferenceLossIdeal.main_arg9)
      ∧ r.2.mem ((c.tc : Thread Cert.ReferenceLossIdeal.nD Cert.ReferenceLossIdeal.τ).loc Cert.ReferenceLossIdeal.main_arg10) = m ((c.tc : Thread Cert.ReferenceLossIdeal.nD Cert.ReferenceLossIdeal.τ).loc Cert.ReferenceLossIdeal.main_arg10)
      ∧ r.2.mem ((c.tc : Thread Cert.ReferenceLossIdeal.nD Cert.ReferenceLossIdeal.τ).loc Cert.ReferenceLossIdeal.main_arg11) = m ((c.tc : Thread Cert.ReferenceLossIdeal.nD Cert.ReferenceLossIdeal.τ).loc Cert.ReferenceLossIdeal.main_arg11)
      ∧ r.2.mem ((c.tc : Thread Cert.ReferenceLossIdeal.nD Cert.ReferenceLossIdeal.τ).loc Cert.ReferenceLossIdeal.main_arg12) = m ((c.tc : Thread Cert.ReferenceLossIdeal.nD Cert.ReferenceLossIdeal.τ).loc Cert.ReferenceLossIdeal.main_arg12)
      ∧ r.2.mem ((c.tc : Thread Cert.ReferenceLossIdeal.nD Cert.ReferenceLossIdeal.τ).loc Cert.ReferenceLossIdeal.main_arg13) = m ((c.tc : Thread Cert.ReferenceLossIdeal.nD Cert.ReferenceLossIdeal.τ).loc Cert.ReferenceLossIdeal.main_arg13))
      ∧ r.2.sem = fun _ => 0)

def quiescent_KernelInproj [hKernelInproj : Cert.KernelInproj.Facts] : Prop :=
  ∀ (m : (ℓ : Loc Cert.KernelInproj.nD Cert.KernelInproj.τ Cert.KernelInproj.sig) → Buf (Elt Bits) ℓ) (g : Dev Cert.KernelInproj.nD → PrngReg), Pre_KernelInproj m →
    θ_run (Cert.KernelInproj.defs (F := Bits)) (onTc (τ := Cert.KernelInproj.τ) (Cert.KernelInproj.main (F := Bits))) ⟨m, fun _ => 0, g⟩ (fun r => (∀ c : Dev Cert.KernelInproj.nD,
      r.2.mem ((c.tc : Thread Cert.KernelInproj.nD Cert.KernelInproj.τ).loc Cert.KernelInproj.main_arg0) = m ((c.tc : Thread Cert.KernelInproj.nD Cert.KernelInproj.τ).loc Cert.KernelInproj.main_arg0)
      ∧ r.2.mem ((c.tc : Thread Cert.KernelInproj.nD Cert.KernelInproj.τ).loc Cert.KernelInproj.main_arg1) = m ((c.tc : Thread Cert.KernelInproj.nD Cert.KernelInproj.τ).loc Cert.KernelInproj.main_arg1))
      ∧ r.2.sem = fun _ => 0)

def quiescent_KernelInprojIdeal [hKernelInprojIdeal : Cert.KernelInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg), Pre_KernelInprojIdeal m →
    θ_run (Cert.KernelInprojIdeal.defs (F := Ideal)) (onTc (τ := Cert.KernelInprojIdeal.τ) (Cert.KernelInprojIdeal.main (F := Ideal))) ⟨m, fun _ => 0, g⟩ (fun r => (∀ c : Dev Cert.KernelInprojIdeal.nD,
      r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
      ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1))
      ∧ r.2.sem = fun _ => 0)

def quiescent_ReferenceInprojIdeal [hReferenceInprojIdeal : Cert.ReferenceInprojIdeal.Facts] : Prop :=
  ∀ (m : (ℓ : Loc Cert.ReferenceInprojIdeal.nD Cert.ReferenceInprojIdeal.τ Cert.ReferenceInprojIdeal.sig) → Buf (Elt Ideal) ℓ) (g : Dev Cert.ReferenceInprojIdeal.nD → PrngReg), Pre_ReferenceInprojIdeal m →
    θ_run (Cert.ReferenceInprojIdeal.defs (F := Ideal)) (onTc (τ := Cert.ReferenceInprojIdeal.τ) (Cert.ReferenceInprojIdeal.main (F := Ideal))) ⟨m, fun _ => 0, g⟩ (fun r => (∀ c : Dev Cert.ReferenceInprojIdeal.nD,
      r.2.mem ((c.tc : Thread Cert.ReferenceInprojIdeal.nD Cert.ReferenceInprojIdeal.τ).loc Cert.ReferenceInprojIdeal.main_arg0) = m ((c.tc : Thread Cert.ReferenceInprojIdeal.nD Cert.ReferenceInprojIdeal.τ).loc Cert.ReferenceInprojIdeal.main_arg0)
      ∧ r.2.mem ((c.tc : Thread Cert.ReferenceInprojIdeal.nD Cert.ReferenceInprojIdeal.τ).loc Cert.ReferenceInprojIdeal.main_arg1) = m ((c.tc : Thread Cert.ReferenceInprojIdeal.nD Cert.ReferenceInprojIdeal.τ).loc Cert.ReferenceInprojIdeal.main_arg1))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2)
      ∧ r.2.mem ((c.tc : Thread Cert.KernelUp.nD Cert.KernelUp.τ).loc Cert.KernelUp.main_arg3) = m ((c.tc : Thread Cert.KernelUp.nD Cert.KernelUp.τ).loc Cert.KernelUp.main_arg3)
      ∧ r.2.mem ((c.tc : Thread Cert.KernelUp.nD Cert.KernelUp.τ).loc Cert.KernelUp.main_arg4) = m ((c.tc : Thread Cert.KernelUp.nD Cert.KernelUp.τ).loc Cert.KernelUp.main_arg4)
      ∧ r.2.mem ((c.tc : Thread Cert.KernelUp.nD Cert.KernelUp.τ).loc Cert.KernelUp.main_arg5) = m ((c.tc : Thread Cert.KernelUp.nD Cert.KernelUp.τ).loc Cert.KernelUp.main_arg5)
      ∧ r.2.mem ((c.tc : Thread Cert.KernelUp.nD Cert.KernelUp.τ).loc Cert.KernelUp.main_arg6) = m ((c.tc : Thread Cert.KernelUp.nD Cert.KernelUp.τ).loc Cert.KernelUp.main_arg6)
      ∧ r.2.mem ((c.tc : Thread Cert.KernelUp.nD Cert.KernelUp.τ).loc Cert.KernelUp.main_arg7) = m ((c.tc : Thread Cert.KernelUp.nD Cert.KernelUp.τ).loc Cert.KernelUp.main_arg7))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6)
      ∧ r.2.mem ((c.tc : Thread Cert.KernelUpIdeal.nD Cert.KernelUpIdeal.τ).loc Cert.KernelUpIdeal.main_arg7) = m ((c.tc : Thread Cert.KernelUpIdeal.nD Cert.KernelUpIdeal.τ).loc Cert.KernelUpIdeal.main_arg7))
      ∧ r.2.sem = fun _ => 0)

def quiescent_KernelUpIdeal_pre_finite_up [hKernelUpIdeal : Cert.KernelUpIdeal.Facts] [hPre_finite_up : Cert.Pre_finite_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal_finite_up m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
      ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
      ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
      ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
      ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6)
      ∧ r.2.mem ((c.tc : Thread Cert.KernelUpIdeal.nD Cert.KernelUpIdeal.τ).loc Cert.KernelUpIdeal.main_arg7) = m ((c.tc : Thread Cert.KernelUpIdeal.nD Cert.KernelUpIdeal.τ).loc Cert.KernelUpIdeal.main_arg7))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6)
      ∧ r.2.mem ((c.tc : Thread Cert.ReferenceUpIdeal.nD Cert.ReferenceUpIdeal.τ).loc Cert.ReferenceUpIdeal.main_arg7) = m ((c.tc : Thread Cert.ReferenceUpIdeal.nD Cert.ReferenceUpIdeal.τ).loc Cert.ReferenceUpIdeal.main_arg7))
      ∧ r.2.sem = fun _ => 0)

def quiescent_ReferenceUpIdeal_pre_finite_up [hReferenceUpIdeal : Cert.ReferenceUpIdeal.Facts] [hPre_finite_up : Cert.Pre_finite_up.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal_finite_up m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2)
      ∧ r.2.mem ((c.tc : Thread Cert.ReferenceUpIdeal.nD Cert.ReferenceUpIdeal.τ).loc Cert.ReferenceUpIdeal.main_arg3) = m ((c.tc : Thread Cert.ReferenceUpIdeal.nD Cert.ReferenceUpIdeal.τ).loc Cert.ReferenceUpIdeal.main_arg3)
      ∧ r.2.mem ((c.tc : Thread Cert.ReferenceUpIdeal.nD Cert.ReferenceUpIdeal.τ).loc Cert.ReferenceUpIdeal.main_arg4) = m ((c.tc : Thread Cert.ReferenceUpIdeal.nD Cert.ReferenceUpIdeal.τ).loc Cert.ReferenceUpIdeal.main_arg4)
      ∧ r.2.mem ((c.tc : Thread Cert.ReferenceUpIdeal.nD Cert.ReferenceUpIdeal.τ).loc Cert.ReferenceUpIdeal.main_arg5) = m ((c.tc : Thread Cert.ReferenceUpIdeal.nD Cert.ReferenceUpIdeal.τ).loc Cert.ReferenceUpIdeal.main_arg5)
      ∧ r.2.mem ((c.tc : Thread Cert.ReferenceUpIdeal.nD Cert.ReferenceUpIdeal.τ).loc Cert.ReferenceUpIdeal.main_arg6) = m ((c.tc : Thread Cert.ReferenceUpIdeal.nD Cert.ReferenceUpIdeal.τ).loc Cert.ReferenceUpIdeal.main_arg6)
      ∧ r.2.mem ((c.tc : Thread Cert.ReferenceUpIdeal.nD Cert.ReferenceUpIdeal.τ).loc Cert.ReferenceUpIdeal.main_arg7) = m ((c.tc : Thread Cert.ReferenceUpIdeal.nD Cert.ReferenceUpIdeal.τ).loc Cert.ReferenceUpIdeal.main_arg7))
      ∧ r.2.sem = fun _ => 0)

def preserves_Kernel_KernelIdeal : Prop :=
  True

def algebraic_KernelIdeal_ReferenceIdeal_pre_finite_gate_inputs [hKernelIdeal : Cert.KernelIdeal.Facts] [hReferenceIdeal : Cert.ReferenceIdeal.Facts] [hPre_finite_gate_inputs : Cert.Pre_finite_gate_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelDh1_KernelDh1Ideal : Prop :=
  True

def algebraic_KernelDh1Ideal_ReferenceDh1Ideal_pre_finite_dh1 [hKernelDh1Ideal : Cert.KernelDh1Ideal.Facts] [hReferenceDh1Ideal : Cert.ReferenceDh1Ideal.Facts] [hPre_finite_dh1 : Cert.Pre_finite_dh1.Facts] : Prop :=
  ∀ (m : (ℓ : Loc Cert.KernelDh1Ideal.nD Cert.KernelDh1Ideal.τ Cert.KernelDh1Ideal.sig) → Buf (Elt Ideal) ℓ) (g : Dev Cert.KernelDh1Ideal.nD → PrngReg)
    (m' : (ℓ : Loc Cert.ReferenceDh1Ideal.nD Cert.ReferenceDh1Ideal.τ Cert.ReferenceDh1Ideal.sig) → Buf (Elt Ideal) ℓ) (g' : Dev Cert.ReferenceDh1Ideal.nD → PrngReg), Pre_KernelDh1Ideal_finite_dh1 m →
    (∀ c : Dev Cert.KernelDh1Ideal.nD,
      m' ((c.tc : Thread Cert.ReferenceDh1Ideal.nD Cert.ReferenceDh1Ideal.τ).loc Cert.ReferenceDh1Ideal.main_arg0) = m ((c.tc : Thread Cert.KernelDh1Ideal.nD Cert.KernelDh1Ideal.τ).loc Cert.KernelDh1Ideal.main_arg0)
      ∧ m' ((c.tc : Thread Cert.ReferenceDh1Ideal.nD Cert.ReferenceDh1Ideal.τ).loc Cert.ReferenceDh1Ideal.main_arg1) = m ((c.tc : Thread Cert.KernelDh1Ideal.nD Cert.KernelDh1Ideal.τ).loc Cert.KernelDh1Ideal.main_arg1)
      ∧ m' ((c.tc : Thread Cert.ReferenceDh1Ideal.nD Cert.ReferenceDh1Ideal.τ).loc Cert.ReferenceDh1Ideal.main_arg2) = m ((c.tc : Thread Cert.KernelDh1Ideal.nD Cert.KernelDh1Ideal.τ).loc Cert.KernelDh1Ideal.main_arg2)
      ∧ m' ((c.tc : Thread Cert.ReferenceDh1Ideal.nD Cert.ReferenceDh1Ideal.τ).loc Cert.ReferenceDh1Ideal.main_arg3) = m ((c.tc : Thread Cert.KernelDh1Ideal.nD Cert.KernelDh1Ideal.τ).loc Cert.KernelDh1Ideal.main_arg3)
      ∧ m' ((c.tc : Thread Cert.ReferenceDh1Ideal.nD Cert.ReferenceDh1Ideal.τ).loc Cert.ReferenceDh1Ideal.main_arg4) = m ((c.tc : Thread Cert.KernelDh1Ideal.nD Cert.KernelDh1Ideal.τ).loc Cert.KernelDh1Ideal.main_arg4)
      ∧ m' ((c.tc : Thread Cert.ReferenceDh1Ideal.nD Cert.ReferenceDh1Ideal.τ).loc Cert.ReferenceDh1Ideal.main_arg5) = m ((c.tc : Thread Cert.KernelDh1Ideal.nD Cert.KernelDh1Ideal.τ).loc Cert.KernelDh1Ideal.main_arg5)
      ∧ m' ((c.tc : Thread Cert.ReferenceDh1Ideal.nD Cert.ReferenceDh1Ideal.τ).loc Cert.ReferenceDh1Ideal.main_arg6) = m ((c.tc : Thread Cert.KernelDh1Ideal.nD Cert.KernelDh1Ideal.τ).loc Cert.KernelDh1Ideal.main_arg6)
      ∧ m' ((c.tc : Thread Cert.ReferenceDh1Ideal.nD Cert.ReferenceDh1Ideal.τ).loc Cert.ReferenceDh1Ideal.main_arg7) = m ((c.tc : Thread Cert.KernelDh1Ideal.nD Cert.KernelDh1Ideal.τ).loc Cert.KernelDh1Ideal.main_arg7)
      ∧ m' ((c.tc : Thread Cert.ReferenceDh1Ideal.nD Cert.ReferenceDh1Ideal.τ).loc Cert.ReferenceDh1Ideal.main_arg8) = m ((c.tc : Thread Cert.KernelDh1Ideal.nD Cert.KernelDh1Ideal.τ).loc Cert.KernelDh1Ideal.main_arg8)
      ∧ m' ((c.tc : Thread Cert.ReferenceDh1Ideal.nD Cert.ReferenceDh1Ideal.τ).loc Cert.ReferenceDh1Ideal.main_arg9) = m ((c.tc : Thread Cert.KernelDh1Ideal.nD Cert.KernelDh1Ideal.τ).loc Cert.KernelDh1Ideal.main_arg9)
      ∧ m' ((c.tc : Thread Cert.ReferenceDh1Ideal.nD Cert.ReferenceDh1Ideal.τ).loc Cert.ReferenceDh1Ideal.main_arg10) = m ((c.tc : Thread Cert.KernelDh1Ideal.nD Cert.KernelDh1Ideal.τ).loc Cert.KernelDh1Ideal.main_arg10)
      ∧ m' ((c.tc : Thread Cert.ReferenceDh1Ideal.nD Cert.ReferenceDh1Ideal.τ).loc Cert.ReferenceDh1Ideal.main_arg11) = m ((c.tc : Thread Cert.KernelDh1Ideal.nD Cert.KernelDh1Ideal.τ).loc Cert.KernelDh1Ideal.main_arg11)
      ∧ m' ((c.tc : Thread Cert.ReferenceDh1Ideal.nD Cert.ReferenceDh1Ideal.τ).loc Cert.ReferenceDh1Ideal.main_arg12) = m ((c.tc : Thread Cert.KernelDh1Ideal.nD Cert.KernelDh1Ideal.τ).loc Cert.KernelDh1Ideal.main_arg12)) →
    ∃ (v0 : (c : Dev Cert.KernelDh1Ideal.nD) → Buf (Elt Ideal) ((c.tc : Thread Cert.KernelDh1Ideal.nD Cert.KernelDh1Ideal.τ).loc Cert.KernelDh1Ideal.main_v31_0)) (v1 : (c : Dev Cert.KernelDh1Ideal.nD) → Buf (Elt Ideal) ((c.tc : Thread Cert.KernelDh1Ideal.nD Cert.KernelDh1Ideal.τ).loc Cert.KernelDh1Ideal.main_v31_1)) (v2 : (c : Dev Cert.KernelDh1Ideal.nD) → Buf (Elt Ideal) ((c.tc : Thread Cert.KernelDh1Ideal.nD Cert.KernelDh1Ideal.τ).loc Cert.KernelDh1Ideal.main_v31_2)) (v3 : (c : Dev Cert.KernelDh1Ideal.nD) → Buf (Elt Ideal) ((c.tc : Thread Cert.KernelDh1Ideal.nD Cert.KernelDh1Ideal.τ).loc Cert.KernelDh1Ideal.main_v31_3)) (v4 : (c : Dev Cert.KernelDh1Ideal.nD) → Buf (Elt Ideal) ((c.tc : Thread Cert.KernelDh1Ideal.nD Cert.KernelDh1Ideal.τ).loc Cert.KernelDh1Ideal.main_v31_4)) (v5 : (c : Dev Cert.KernelDh1Ideal.nD) → Buf (Elt Ideal) ((c.tc : Thread Cert.KernelDh1Ideal.nD Cert.KernelDh1Ideal.τ).loc Cert.KernelDh1Ideal.main_v31_5)) (v6 : (c : Dev Cert.KernelDh1Ideal.nD) → Buf (Elt Ideal) ((c.tc : Thread Cert.KernelDh1Ideal.nD Cert.KernelDh1Ideal.τ).loc Cert.KernelDh1Ideal.main_v31_6)),
      θ_run (Cert.KernelDh1Ideal.defs (F := Ideal)) (onTc (τ := Cert.KernelDh1Ideal.τ) (Cert.KernelDh1Ideal.main (F := Ideal))) ⟨m, fun _ => 0, g⟩ (fun r => ∀ c : Dev Cert.KernelDh1Ideal.nD,
          r.2.mem ((c.tc : Thread Cert.KernelDh1Ideal.nD Cert.KernelDh1Ideal.τ).loc Cert.KernelDh1Ideal.main_v31_0) = v0 c
          ∧ r.2.mem ((c.tc : Thread Cert.KernelDh1Ideal.nD Cert.KernelDh1Ideal.τ).loc Cert.KernelDh1Ideal.main_v31_1) = v1 c
          ∧ r.2.mem ((c.tc : Thread Cert.KernelDh1Ideal.nD Cert.KernelDh1Ideal.τ).loc Cert.KernelDh1Ideal.main_v31_2) = v2 c
          ∧ r.2.mem ((c.tc : Thread Cert.KernelDh1Ideal.nD Cert.KernelDh1Ideal.τ).loc Cert.KernelDh1Ideal.main_v31_3) = v3 c
          ∧ r.2.mem ((c.tc : Thread Cert.KernelDh1Ideal.nD Cert.KernelDh1Ideal.τ).loc Cert.KernelDh1Ideal.main_v31_4) = v4 c
          ∧ r.2.mem ((c.tc : Thread Cert.KernelDh1Ideal.nD Cert.KernelDh1Ideal.τ).loc Cert.KernelDh1Ideal.main_v31_5) = v5 c
          ∧ r.2.mem ((c.tc : Thread Cert.KernelDh1Ideal.nD Cert.KernelDh1Ideal.τ).loc Cert.KernelDh1Ideal.main_v31_6) = v6 c
          ∧ r.2.mem ((c.tc : Thread Cert.KernelDh1Ideal.nD Cert.KernelDh1Ideal.τ).loc Cert.KernelDh1Ideal.main_arg0) = m ((c.tc : Thread Cert.KernelDh1Ideal.nD Cert.KernelDh1Ideal.τ).loc Cert.KernelDh1Ideal.main_arg0)
          ∧ r.2.mem ((c.tc : Thread Cert.KernelDh1Ideal.nD Cert.KernelDh1Ideal.τ).loc Cert.KernelDh1Ideal.main_arg1) = m ((c.tc : Thread Cert.KernelDh1Ideal.nD Cert.KernelDh1Ideal.τ).loc Cert.KernelDh1Ideal.main_arg1)
          ∧ r.2.mem ((c.tc : Thread Cert.KernelDh1Ideal.nD Cert.KernelDh1Ideal.τ).loc Cert.KernelDh1Ideal.main_arg2) = m ((c.tc : Thread Cert.KernelDh1Ideal.nD Cert.KernelDh1Ideal.τ).loc Cert.KernelDh1Ideal.main_arg2)
          ∧ r.2.mem ((c.tc : Thread Cert.KernelDh1Ideal.nD Cert.KernelDh1Ideal.τ).loc Cert.KernelDh1Ideal.main_arg3) = m ((c.tc : Thread Cert.KernelDh1Ideal.nD Cert.KernelDh1Ideal.τ).loc Cert.KernelDh1Ideal.main_arg3)
          ∧ r.2.mem ((c.tc : Thread Cert.KernelDh1Ideal.nD Cert.KernelDh1Ideal.τ).loc Cert.KernelDh1Ideal.main_arg4) = m ((c.tc : Thread Cert.KernelDh1Ideal.nD Cert.KernelDh1Ideal.τ).loc Cert.KernelDh1Ideal.main_arg4)
          ∧ r.2.mem ((c.tc : Thread Cert.KernelDh1Ideal.nD Cert.KernelDh1Ideal.τ).loc Cert.KernelDh1Ideal.main_arg5) = m ((c.tc : Thread Cert.KernelDh1Ideal.nD Cert.KernelDh1Ideal.τ).loc Cert.KernelDh1Ideal.main_arg5)
          ∧ r.2.mem ((c.tc : Thread Cert.KernelDh1Ideal.nD Cert.KernelDh1Ideal.τ).loc Cert.KernelDh1Ideal.main_arg6) = m ((c.tc : Thread Cert.KernelDh1Ideal.nD Cert.KernelDh1Ideal.τ).loc Cert.KernelDh1Ideal.main_arg6)
          ∧ r.2.mem ((c.tc : Thread Cert.KernelDh1Ideal.nD Cert.KernelDh1Ideal.τ).loc Cert.KernelDh1Ideal.main_arg7) = m ((c.tc : Thread Cert.KernelDh1Ideal.nD Cert.KernelDh1Ideal.τ).loc Cert.KernelDh1Ideal.main_arg7)
          ∧ r.2.mem ((c.tc : Thread Cert.KernelDh1Ideal.nD Cert.KernelDh1Ideal.τ).loc Cert.KernelDh1Ideal.main_arg8) = m ((c.tc : Thread Cert.KernelDh1Ideal.nD Cert.KernelDh1Ideal.τ).loc Cert.KernelDh1Ideal.main_arg8)
          ∧ r.2.mem ((c.tc : Thread Cert.KernelDh1Ideal.nD Cert.KernelDh1Ideal.τ).loc Cert.KernelDh1Ideal.main_arg9) = m ((c.tc : Thread Cert.KernelDh1Ideal.nD Cert.KernelDh1Ideal.τ).loc Cert.KernelDh1Ideal.main_arg9)
          ∧ r.2.mem ((c.tc : Thread Cert.KernelDh1Ideal.nD Cert.KernelDh1Ideal.τ).loc Cert.KernelDh1Ideal.main_arg10) = m ((c.tc : Thread Cert.KernelDh1Ideal.nD Cert.KernelDh1Ideal.τ).loc Cert.KernelDh1Ideal.main_arg10)
          ∧ r.2.mem ((c.tc : Thread Cert.KernelDh1Ideal.nD Cert.KernelDh1Ideal.τ).loc Cert.KernelDh1Ideal.main_arg11) = m ((c.tc : Thread Cert.KernelDh1Ideal.nD Cert.KernelDh1Ideal.τ).loc Cert.KernelDh1Ideal.main_arg11)
          ∧ r.2.mem ((c.tc : Thread Cert.KernelDh1Ideal.nD Cert.KernelDh1Ideal.τ).loc Cert.KernelDh1Ideal.main_arg12) = m ((c.tc : Thread Cert.KernelDh1Ideal.nD Cert.KernelDh1Ideal.τ).loc Cert.KernelDh1Ideal.main_arg12))
      ∧ θ_run (Cert.ReferenceDh1Ideal.defs (F := Ideal)) (onTc (τ := Cert.ReferenceDh1Ideal.τ) (Cert.ReferenceDh1Ideal.main (F := Ideal))) ⟨m', fun _ => 0, g'⟩ (fun r => ∀ c : Dev Cert.ReferenceDh1Ideal.nD,
          r.2.mem ((c.tc : Thread Cert.ReferenceDh1Ideal.nD Cert.ReferenceDh1Ideal.τ).loc Cert.ReferenceDh1Ideal.main_v81) = v0 c
          ∧ r.2.mem ((c.tc : Thread Cert.ReferenceDh1Ideal.nD Cert.ReferenceDh1Ideal.τ).loc Cert.ReferenceDh1Ideal.main_v98) = v1 c
          ∧ r.2.mem ((c.tc : Thread Cert.ReferenceDh1Ideal.nD Cert.ReferenceDh1Ideal.τ).loc Cert.ReferenceDh1Ideal.main_v99) = v2 c
          ∧ r.2.mem ((c.tc : Thread Cert.ReferenceDh1Ideal.nD Cert.ReferenceDh1Ideal.τ).loc Cert.ReferenceDh1Ideal.main_v100) = v3 c
          ∧ r.2.mem ((c.tc : Thread Cert.ReferenceDh1Ideal.nD Cert.ReferenceDh1Ideal.τ).loc Cert.ReferenceDh1Ideal.main_v88) = v4 c
          ∧ r.2.mem ((c.tc : Thread Cert.ReferenceDh1Ideal.nD Cert.ReferenceDh1Ideal.τ).loc Cert.ReferenceDh1Ideal.main_v101) = v5 c
          ∧ r.2.mem ((c.tc : Thread Cert.ReferenceDh1Ideal.nD Cert.ReferenceDh1Ideal.τ).loc Cert.ReferenceDh1Ideal.main_v97) = v6 c
          ∧ r.2.mem ((c.tc : Thread Cert.ReferenceDh1Ideal.nD Cert.ReferenceDh1Ideal.τ).loc Cert.ReferenceDh1Ideal.main_arg0) = m' ((c.tc : Thread Cert.ReferenceDh1Ideal.nD Cert.ReferenceDh1Ideal.τ).loc Cert.ReferenceDh1Ideal.main_arg0)
          ∧ r.2.mem ((c.tc : Thread Cert.ReferenceDh1Ideal.nD Cert.ReferenceDh1Ideal.τ).loc Cert.ReferenceDh1Ideal.main_arg1) = m' ((c.tc : Thread Cert.ReferenceDh1Ideal.nD Cert.ReferenceDh1Ideal.τ).loc Cert.ReferenceDh1Ideal.main_arg1)
          ∧ r.2.mem ((c.tc : Thread Cert.ReferenceDh1Ideal.nD Cert.ReferenceDh1Ideal.τ).loc Cert.ReferenceDh1Ideal.main_arg2) = m' ((c.tc : Thread Cert.ReferenceDh1Ideal.nD Cert.ReferenceDh1Ideal.τ).loc Cert.ReferenceDh1Ideal.main_arg2)
          ∧ r.2.mem ((c.tc : Thread Cert.ReferenceDh1Ideal.nD Cert.ReferenceDh1Ideal.τ).loc Cert.ReferenceDh1Ideal.main_arg3) = m' ((c.tc : Thread Cert.ReferenceDh1Ideal.nD Cert.ReferenceDh1Ideal.τ).loc Cert.ReferenceDh1Ideal.main_arg3)
          ∧ r.2.mem ((c.tc : Thread Cert.ReferenceDh1Ideal.nD Cert.ReferenceDh1Ideal.τ).loc Cert.ReferenceDh1Ideal.main_arg4) = m' ((c.tc : Thread Cert.ReferenceDh1Ideal.nD Cert.ReferenceDh1Ideal.τ).loc Cert.ReferenceDh1Ideal.main_arg4)
          ∧ r.2.mem ((c.tc : Thread Cert.ReferenceDh1Ideal.nD Cert.ReferenceDh1Ideal.τ).loc Cert.ReferenceDh1Ideal.main_arg5) = m' ((c.tc : Thread Cert.ReferenceDh1Ideal.nD Cert.ReferenceDh1Ideal.τ).loc Cert.ReferenceDh1Ideal.main_arg5)
          ∧ r.2.mem ((c.tc : Thread Cert.ReferenceDh1Ideal.nD Cert.ReferenceDh1Ideal.τ).loc Cert.ReferenceDh1Ideal.main_arg6) = m' ((c.tc : Thread Cert.ReferenceDh1Ideal.nD Cert.ReferenceDh1Ideal.τ).loc Cert.ReferenceDh1Ideal.main_arg6)
          ∧ r.2.mem ((c.tc : Thread Cert.ReferenceDh1Ideal.nD Cert.ReferenceDh1Ideal.τ).loc Cert.ReferenceDh1Ideal.main_arg7) = m' ((c.tc : Thread Cert.ReferenceDh1Ideal.nD Cert.ReferenceDh1Ideal.τ).loc Cert.ReferenceDh1Ideal.main_arg7)
          ∧ r.2.mem ((c.tc : Thread Cert.ReferenceDh1Ideal.nD Cert.ReferenceDh1Ideal.τ).loc Cert.ReferenceDh1Ideal.main_arg8) = m' ((c.tc : Thread Cert.ReferenceDh1Ideal.nD Cert.ReferenceDh1Ideal.τ).loc Cert.ReferenceDh1Ideal.main_arg8)
          ∧ r.2.mem ((c.tc : Thread Cert.ReferenceDh1Ideal.nD Cert.ReferenceDh1Ideal.τ).loc Cert.ReferenceDh1Ideal.main_arg9) = m' ((c.tc : Thread Cert.ReferenceDh1Ideal.nD Cert.ReferenceDh1Ideal.τ).loc Cert.ReferenceDh1Ideal.main_arg9)
          ∧ r.2.mem ((c.tc : Thread Cert.ReferenceDh1Ideal.nD Cert.ReferenceDh1Ideal.τ).loc Cert.ReferenceDh1Ideal.main_arg10) = m' ((c.tc : Thread Cert.ReferenceDh1Ideal.nD Cert.ReferenceDh1Ideal.τ).loc Cert.ReferenceDh1Ideal.main_arg10)
          ∧ r.2.mem ((c.tc : Thread Cert.ReferenceDh1Ideal.nD Cert.ReferenceDh1Ideal.τ).loc Cert.ReferenceDh1Ideal.main_arg11) = m' ((c.tc : Thread Cert.ReferenceDh1Ideal.nD Cert.ReferenceDh1Ideal.τ).loc Cert.ReferenceDh1Ideal.main_arg11)
          ∧ r.2.mem ((c.tc : Thread Cert.ReferenceDh1Ideal.nD Cert.ReferenceDh1Ideal.τ).loc Cert.ReferenceDh1Ideal.main_arg12) = m' ((c.tc : Thread Cert.ReferenceDh1Ideal.nD Cert.ReferenceDh1Ideal.τ).loc Cert.ReferenceDh1Ideal.main_arg12))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)
      ∧ m' ((c.tc : Thread Cert.ReferenceDxIdeal.nD Cert.ReferenceDxIdeal.τ).loc Cert.ReferenceDxIdeal.main_arg5) = m ((c.tc : Thread Cert.KernelDxIdeal.nD Cert.KernelDxIdeal.τ).loc Cert.KernelDxIdeal.main_arg5)
      ∧ m' ((c.tc : Thread Cert.ReferenceDxIdeal.nD Cert.ReferenceDxIdeal.τ).loc Cert.ReferenceDxIdeal.main_arg6) = m ((c.tc : Thread Cert.KernelDxIdeal.nD Cert.KernelDxIdeal.τ).loc Cert.KernelDxIdeal.main_arg6)
      ∧ m' ((c.tc : Thread Cert.ReferenceDxIdeal.nD Cert.ReferenceDxIdeal.τ).loc Cert.ReferenceDxIdeal.main_arg7) = m ((c.tc : Thread Cert.KernelDxIdeal.nD Cert.KernelDxIdeal.τ).loc Cert.KernelDxIdeal.main_arg7)
      ∧ m' ((c.tc : Thread Cert.ReferenceDxIdeal.nD Cert.ReferenceDxIdeal.τ).loc Cert.ReferenceDxIdeal.main_arg8) = m ((c.tc : Thread Cert.KernelDxIdeal.nD Cert.KernelDxIdeal.τ).loc Cert.KernelDxIdeal.main_arg8)) →
    ∃ (v0 : (c : Dev Cert.KernelDxIdeal.nD) → Buf (Elt Ideal) ((c.tc : Thread Cert.KernelDxIdeal.nD Cert.KernelDxIdeal.τ).loc Cert.KernelDxIdeal.main_v2)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v2) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
          ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
          ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6)
          ∧ r.2.mem ((c.tc : Thread Cert.KernelDxIdeal.nD Cert.KernelDxIdeal.τ).loc Cert.KernelDxIdeal.main_arg7) = m ((c.tc : Thread Cert.KernelDxIdeal.nD Cert.KernelDxIdeal.τ).loc Cert.KernelDxIdeal.main_arg7)
          ∧ r.2.mem ((c.tc : Thread Cert.KernelDxIdeal.nD Cert.KernelDxIdeal.τ).loc Cert.KernelDxIdeal.main_arg8) = m ((c.tc : Thread Cert.KernelDxIdeal.nD Cert.KernelDxIdeal.τ).loc Cert.KernelDxIdeal.main_arg8))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v9) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4)
          ∧ r.2.mem ((c.tc : Thread Cert.ReferenceDxIdeal.nD Cert.ReferenceDxIdeal.τ).loc Cert.ReferenceDxIdeal.main_arg5) = m' ((c.tc : Thread Cert.ReferenceDxIdeal.nD Cert.ReferenceDxIdeal.τ).loc Cert.ReferenceDxIdeal.main_arg5)
          ∧ r.2.mem ((c.tc : Thread Cert.ReferenceDxIdeal.nD Cert.ReferenceDxIdeal.τ).loc Cert.ReferenceDxIdeal.main_arg6) = m' ((c.tc : Thread Cert.ReferenceDxIdeal.nD Cert.ReferenceDxIdeal.τ).loc Cert.ReferenceDxIdeal.main_arg6)
          ∧ r.2.mem ((c.tc : Thread Cert.ReferenceDxIdeal.nD Cert.ReferenceDxIdeal.τ).loc Cert.ReferenceDxIdeal.main_arg7) = m' ((c.tc : Thread Cert.ReferenceDxIdeal.nD Cert.ReferenceDxIdeal.τ).loc Cert.ReferenceDxIdeal.main_arg7)
          ∧ r.2.mem ((c.tc : Thread Cert.ReferenceDxIdeal.nD Cert.ReferenceDxIdeal.τ).loc Cert.ReferenceDxIdeal.main_arg8) = m' ((c.tc : Thread Cert.ReferenceDxIdeal.nD Cert.ReferenceDxIdeal.τ).loc Cert.ReferenceDxIdeal.main_arg8))

def preserves_KernelDwin_KernelDwinIdeal : Prop :=
  True

def algebraic_KernelDwinIdeal_ReferenceDwinIdeal [hKernelDwinIdeal : Cert.KernelDwinIdeal.Facts] [hReferenceDwinIdeal : Cert.ReferenceDwinIdeal.Facts] [hPre_place_dwin : Cert.Pre_place_dwin.Facts] : Prop :=
  ∀ (m : (ℓ : Loc Cert.KernelDwinIdeal.nD Cert.KernelDwinIdeal.τ Cert.KernelDwinIdeal.sig) → Buf (Elt Ideal) ℓ) (g : Dev Cert.KernelDwinIdeal.nD → PrngReg)
    (m' : (ℓ : Loc Cert.ReferenceDwinIdeal.nD Cert.ReferenceDwinIdeal.τ Cert.ReferenceDwinIdeal.sig) → Buf (Elt Ideal) ℓ) (g' : Dev Cert.ReferenceDwinIdeal.nD → PrngReg), Pre_KernelDwinIdeal m →
    (∀ c : Dev Cert.KernelDwinIdeal.nD,
      m' ((c.tc : Thread Cert.ReferenceDwinIdeal.nD Cert.ReferenceDwinIdeal.τ).loc Cert.ReferenceDwinIdeal.main_arg0) = m ((c.tc : Thread Cert.KernelDwinIdeal.nD Cert.KernelDwinIdeal.τ).loc Cert.KernelDwinIdeal.main_arg0)
      ∧ m' ((c.tc : Thread Cert.ReferenceDwinIdeal.nD Cert.ReferenceDwinIdeal.τ).loc Cert.ReferenceDwinIdeal.main_arg1) = m ((c.tc : Thread Cert.KernelDwinIdeal.nD Cert.KernelDwinIdeal.τ).loc Cert.KernelDwinIdeal.main_arg1)
      ∧ m' ((c.tc : Thread Cert.ReferenceDwinIdeal.nD Cert.ReferenceDwinIdeal.τ).loc Cert.ReferenceDwinIdeal.main_arg2) = m ((c.tc : Thread Cert.KernelDwinIdeal.nD Cert.KernelDwinIdeal.τ).loc Cert.KernelDwinIdeal.main_arg2)
      ∧ m' ((c.tc : Thread Cert.ReferenceDwinIdeal.nD Cert.ReferenceDwinIdeal.τ).loc Cert.ReferenceDwinIdeal.main_arg3) = m ((c.tc : Thread Cert.KernelDwinIdeal.nD Cert.KernelDwinIdeal.τ).loc Cert.KernelDwinIdeal.main_arg3)
      ∧ m' ((c.tc : Thread Cert.ReferenceDwinIdeal.nD Cert.ReferenceDwinIdeal.τ).loc Cert.ReferenceDwinIdeal.main_arg4) = m ((c.tc : Thread Cert.KernelDwinIdeal.nD Cert.KernelDwinIdeal.τ).loc Cert.KernelDwinIdeal.main_arg4)
      ∧ m' ((c.tc : Thread Cert.ReferenceDwinIdeal.nD Cert.ReferenceDwinIdeal.τ).loc Cert.ReferenceDwinIdeal.main_arg5) = m ((c.tc : Thread Cert.KernelDwinIdeal.nD Cert.KernelDwinIdeal.τ).loc Cert.KernelDwinIdeal.main_arg5)
      ∧ m' ((c.tc : Thread Cert.ReferenceDwinIdeal.nD Cert.ReferenceDwinIdeal.τ).loc Cert.ReferenceDwinIdeal.main_arg6) = m ((c.tc : Thread Cert.KernelDwinIdeal.nD Cert.KernelDwinIdeal.τ).loc Cert.KernelDwinIdeal.main_arg6)
      ∧ m' ((c.tc : Thread Cert.ReferenceDwinIdeal.nD Cert.ReferenceDwinIdeal.τ).loc Cert.ReferenceDwinIdeal.main_arg7) = m ((c.tc : Thread Cert.KernelDwinIdeal.nD Cert.KernelDwinIdeal.τ).loc Cert.KernelDwinIdeal.main_arg7)
      ∧ m' ((c.tc : Thread Cert.ReferenceDwinIdeal.nD Cert.ReferenceDwinIdeal.τ).loc Cert.ReferenceDwinIdeal.main_arg8) = m ((c.tc : Thread Cert.KernelDwinIdeal.nD Cert.KernelDwinIdeal.τ).loc Cert.KernelDwinIdeal.main_arg8)) →
    ∃ (v0 : (c : Dev Cert.KernelDwinIdeal.nD) → Buf (Elt Ideal) ((c.tc : Thread Cert.KernelDwinIdeal.nD Cert.KernelDwinIdeal.τ).loc Cert.KernelDwinIdeal.main_v1_0)) (v1 : (c : Dev Cert.KernelDwinIdeal.nD) → Buf (Elt Ideal) ((c.tc : Thread Cert.KernelDwinIdeal.nD Cert.KernelDwinIdeal.τ).loc Cert.KernelDwinIdeal.main_v1_1)),
      θ_run (Cert.KernelDwinIdeal.defs (F := Ideal)) (onTc (τ := Cert.KernelDwinIdeal.τ) (Cert.KernelDwinIdeal.main (F := Ideal))) ⟨m, fun _ => 0, g⟩ (fun r => ∀ c : Dev Cert.KernelDwinIdeal.nD,
          r.2.mem ((c.tc : Thread Cert.KernelDwinIdeal.nD Cert.KernelDwinIdeal.τ).loc Cert.KernelDwinIdeal.main_v1_0) = v0 c
          ∧ r.2.mem ((c.tc : Thread Cert.KernelDwinIdeal.nD Cert.KernelDwinIdeal.τ).loc Cert.KernelDwinIdeal.main_v1_1) = v1 c
          ∧ r.2.mem ((c.tc : Thread Cert.KernelDwinIdeal.nD Cert.KernelDwinIdeal.τ).loc Cert.KernelDwinIdeal.main_arg0) = m ((c.tc : Thread Cert.KernelDwinIdeal.nD Cert.KernelDwinIdeal.τ).loc Cert.KernelDwinIdeal.main_arg0)
          ∧ r.2.mem ((c.tc : Thread Cert.KernelDwinIdeal.nD Cert.KernelDwinIdeal.τ).loc Cert.KernelDwinIdeal.main_arg1) = m ((c.tc : Thread Cert.KernelDwinIdeal.nD Cert.KernelDwinIdeal.τ).loc Cert.KernelDwinIdeal.main_arg1)
          ∧ r.2.mem ((c.tc : Thread Cert.KernelDwinIdeal.nD Cert.KernelDwinIdeal.τ).loc Cert.KernelDwinIdeal.main_arg2) = m ((c.tc : Thread Cert.KernelDwinIdeal.nD Cert.KernelDwinIdeal.τ).loc Cert.KernelDwinIdeal.main_arg2)
          ∧ r.2.mem ((c.tc : Thread Cert.KernelDwinIdeal.nD Cert.KernelDwinIdeal.τ).loc Cert.KernelDwinIdeal.main_arg3) = m ((c.tc : Thread Cert.KernelDwinIdeal.nD Cert.KernelDwinIdeal.τ).loc Cert.KernelDwinIdeal.main_arg3)
          ∧ r.2.mem ((c.tc : Thread Cert.KernelDwinIdeal.nD Cert.KernelDwinIdeal.τ).loc Cert.KernelDwinIdeal.main_arg4) = m ((c.tc : Thread Cert.KernelDwinIdeal.nD Cert.KernelDwinIdeal.τ).loc Cert.KernelDwinIdeal.main_arg4)
          ∧ r.2.mem ((c.tc : Thread Cert.KernelDwinIdeal.nD Cert.KernelDwinIdeal.τ).loc Cert.KernelDwinIdeal.main_arg5) = m ((c.tc : Thread Cert.KernelDwinIdeal.nD Cert.KernelDwinIdeal.τ).loc Cert.KernelDwinIdeal.main_arg5)
          ∧ r.2.mem ((c.tc : Thread Cert.KernelDwinIdeal.nD Cert.KernelDwinIdeal.τ).loc Cert.KernelDwinIdeal.main_arg6) = m ((c.tc : Thread Cert.KernelDwinIdeal.nD Cert.KernelDwinIdeal.τ).loc Cert.KernelDwinIdeal.main_arg6)
          ∧ r.2.mem ((c.tc : Thread Cert.KernelDwinIdeal.nD Cert.KernelDwinIdeal.τ).loc Cert.KernelDwinIdeal.main_arg7) = m ((c.tc : Thread Cert.KernelDwinIdeal.nD Cert.KernelDwinIdeal.τ).loc Cert.KernelDwinIdeal.main_arg7)
          ∧ r.2.mem ((c.tc : Thread Cert.KernelDwinIdeal.nD Cert.KernelDwinIdeal.τ).loc Cert.KernelDwinIdeal.main_arg8) = m ((c.tc : Thread Cert.KernelDwinIdeal.nD Cert.KernelDwinIdeal.τ).loc Cert.KernelDwinIdeal.main_arg8))
      ∧ θ_run (Cert.ReferenceDwinIdeal.defs (F := Ideal)) (onTc (τ := Cert.ReferenceDwinIdeal.τ) (Cert.ReferenceDwinIdeal.main (F := Ideal))) ⟨m', fun _ => 0, g'⟩ (fun r => ∀ c : Dev Cert.ReferenceDwinIdeal.nD,
          r.2.mem ((c.tc : Thread Cert.ReferenceDwinIdeal.nD Cert.ReferenceDwinIdeal.τ).loc Cert.ReferenceDwinIdeal.main_v7) = v0 c
          ∧ r.2.mem ((c.tc : Thread Cert.ReferenceDwinIdeal.nD Cert.ReferenceDwinIdeal.τ).loc Cert.ReferenceDwinIdeal.main_v16) = v1 c
          ∧ r.2.mem ((c.tc : Thread Cert.ReferenceDwinIdeal.nD Cert.ReferenceDwinIdeal.τ).loc Cert.ReferenceDwinIdeal.main_arg0) = m' ((c.tc : Thread Cert.ReferenceDwinIdeal.nD Cert.ReferenceDwinIdeal.τ).loc Cert.ReferenceDwinIdeal.main_arg0)
          ∧ r.2.mem ((c.tc : Thread Cert.ReferenceDwinIdeal.nD Cert.ReferenceDwinIdeal.τ).loc Cert.ReferenceDwinIdeal.main_arg1) = m' ((c.tc : Thread Cert.ReferenceDwinIdeal.nD Cert.ReferenceDwinIdeal.τ).loc Cert.ReferenceDwinIdeal.main_arg1)
          ∧ r.2.mem ((c.tc : Thread Cert.ReferenceDwinIdeal.nD Cert.ReferenceDwinIdeal.τ).loc Cert.ReferenceDwinIdeal.main_arg2) = m' ((c.tc : Thread Cert.ReferenceDwinIdeal.nD Cert.ReferenceDwinIdeal.τ).loc Cert.ReferenceDwinIdeal.main_arg2)
          ∧ r.2.mem ((c.tc : Thread Cert.ReferenceDwinIdeal.nD Cert.ReferenceDwinIdeal.τ).loc Cert.ReferenceDwinIdeal.main_arg3) = m' ((c.tc : Thread Cert.ReferenceDwinIdeal.nD Cert.ReferenceDwinIdeal.τ).loc Cert.ReferenceDwinIdeal.main_arg3)
          ∧ r.2.mem ((c.tc : Thread Cert.ReferenceDwinIdeal.nD Cert.ReferenceDwinIdeal.τ).loc Cert.ReferenceDwinIdeal.main_arg4) = m' ((c.tc : Thread Cert.ReferenceDwinIdeal.nD Cert.ReferenceDwinIdeal.τ).loc Cert.ReferenceDwinIdeal.main_arg4)
          ∧ r.2.mem ((c.tc : Thread Cert.ReferenceDwinIdeal.nD Cert.ReferenceDwinIdeal.τ).loc Cert.ReferenceDwinIdeal.main_arg5) = m' ((c.tc : Thread Cert.ReferenceDwinIdeal.nD Cert.ReferenceDwinIdeal.τ).loc Cert.ReferenceDwinIdeal.main_arg5)
          ∧ r.2.mem ((c.tc : Thread Cert.ReferenceDwinIdeal.nD Cert.ReferenceDwinIdeal.τ).loc Cert.ReferenceDwinIdeal.main_arg6) = m' ((c.tc : Thread Cert.ReferenceDwinIdeal.nD Cert.ReferenceDwinIdeal.τ).loc Cert.ReferenceDwinIdeal.main_arg6)
          ∧ r.2.mem ((c.tc : Thread Cert.ReferenceDwinIdeal.nD Cert.ReferenceDwinIdeal.τ).loc Cert.ReferenceDwinIdeal.main_arg7) = m' ((c.tc : Thread Cert.ReferenceDwinIdeal.nD Cert.ReferenceDwinIdeal.τ).loc Cert.ReferenceDwinIdeal.main_arg7)
          ∧ r.2.mem ((c.tc : Thread Cert.ReferenceDwinIdeal.nD Cert.ReferenceDwinIdeal.τ).loc Cert.ReferenceDwinIdeal.main_arg8) = m' ((c.tc : Thread Cert.ReferenceDwinIdeal.nD Cert.ReferenceDwinIdeal.τ).loc Cert.ReferenceDwinIdeal.main_arg8))

def preserves_KernelLoss_KernelLossIdeal : Prop :=
  True

def algebraic_KernelLossIdeal_ReferenceLossIdeal_pre_finite_loss [hKernelLossIdeal : Cert.KernelLossIdeal.Facts] [hReferenceLossIdeal : Cert.ReferenceLossIdeal.Facts] [hPre_finite_loss : Cert.Pre_finite_loss.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal_finite_loss m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)
      ∧ m' ((c.tc : Thread Cert.ReferenceLossIdeal.nD Cert.ReferenceLossIdeal.τ).loc Cert.ReferenceLossIdeal.main_arg5) = m ((c.tc : Thread Cert.KernelLossIdeal.nD Cert.KernelLossIdeal.τ).loc Cert.KernelLossIdeal.main_arg5)
      ∧ m' ((c.tc : Thread Cert.ReferenceLossIdeal.nD Cert.ReferenceLossIdeal.τ).loc Cert.ReferenceLossIdeal.main_arg6) = m ((c.tc : Thread Cert.KernelLossIdeal.nD Cert.KernelLossIdeal.τ).loc Cert.KernelLossIdeal.main_arg6)
      ∧ m' ((c.tc : Thread Cert.ReferenceLossIdeal.nD Cert.ReferenceLossIdeal.τ).loc Cert.ReferenceLossIdeal.main_arg7) = m ((c.tc : Thread Cert.KernelLossIdeal.nD Cert.KernelLossIdeal.τ).loc Cert.KernelLossIdeal.main_arg7)
      ∧ m' ((c.tc : Thread Cert.ReferenceLossIdeal.nD Cert.ReferenceLossIdeal.τ).loc Cert.ReferenceLossIdeal.main_arg8) = m ((c.tc : Thread Cert.KernelLossIdeal.nD Cert.KernelLossIdeal.τ).loc Cert.KernelLossIdeal.main_arg8)
      ∧ m' ((c.tc : Thread Cert.ReferenceLossIdeal.nD Cert.ReferenceLossIdeal.τ).loc Cert.ReferenceLossIdeal.main_arg9) = m ((c.tc : Thread Cert.KernelLossIdeal.nD Cert.KernelLossIdeal.τ).loc Cert.KernelLossIdeal.main_arg9)
      ∧ m' ((c.tc : Thread Cert.ReferenceLossIdeal.nD Cert.ReferenceLossIdeal.τ).loc Cert.ReferenceLossIdeal.main_arg10) = m ((c.tc : Thread Cert.KernelLossIdeal.nD Cert.KernelLossIdeal.τ).loc Cert.KernelLossIdeal.main_arg10)
      ∧ m' ((c.tc : Thread Cert.ReferenceLossIdeal.nD Cert.ReferenceLossIdeal.τ).loc Cert.ReferenceLossIdeal.main_arg11) = m ((c.tc : Thread Cert.KernelLossIdeal.nD Cert.KernelLossIdeal.τ).loc Cert.KernelLossIdeal.main_arg11)
      ∧ m' ((c.tc : Thread Cert.ReferenceLossIdeal.nD Cert.ReferenceLossIdeal.τ).loc Cert.ReferenceLossIdeal.main_arg12) = m ((c.tc : Thread Cert.KernelLossIdeal.nD Cert.KernelLossIdeal.τ).loc Cert.KernelLossIdeal.main_arg12)
      ∧ m' ((c.tc : Thread Cert.ReferenceLossIdeal.nD Cert.ReferenceLossIdeal.τ).loc Cert.ReferenceLossIdeal.main_arg13) = m ((c.tc : Thread Cert.KernelLossIdeal.nD Cert.KernelLossIdeal.τ).loc Cert.KernelLossIdeal.main_arg13)) →
    ∃ (v0 : (c : Dev Cert.KernelLossIdeal.nD) → Buf (Elt Ideal) ((c.tc : Thread Cert.KernelLossIdeal.nD Cert.KernelLossIdeal.τ).loc Cert.KernelLossIdeal.main_v9_0)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v9_0) = v0 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4)
          ∧ r.2.mem ((c.tc : Thread Cert.KernelLossIdeal.nD Cert.KernelLossIdeal.τ).loc Cert.KernelLossIdeal.main_arg5) = m ((c.tc : Thread Cert.KernelLossIdeal.nD Cert.KernelLossIdeal.τ).loc Cert.KernelLossIdeal.main_arg5)
          ∧ r.2.mem ((c.tc : Thread Cert.KernelLossIdeal.nD Cert.KernelLossIdeal.τ).loc Cert.KernelLossIdeal.main_arg6) = m ((c.tc : Thread Cert.KernelLossIdeal.nD Cert.KernelLossIdeal.τ).loc Cert.KernelLossIdeal.main_arg6)
          ∧ r.2.mem ((c.tc : Thread Cert.KernelLossIdeal.nD Cert.KernelLossIdeal.τ).loc Cert.KernelLossIdeal.main_arg7) = m ((c.tc : Thread Cert.KernelLossIdeal.nD Cert.KernelLossIdeal.τ).loc Cert.KernelLossIdeal.main_arg7)
          ∧ r.2.mem ((c.tc : Thread Cert.KernelLossIdeal.nD Cert.KernelLossIdeal.τ).loc Cert.KernelLossIdeal.main_arg8) = m ((c.tc : Thread Cert.KernelLossIdeal.nD Cert.KernelLossIdeal.τ).loc Cert.KernelLossIdeal.main_arg8)
          ∧ r.2.mem ((c.tc : Thread Cert.KernelLossIdeal.nD Cert.KernelLossIdeal.τ).loc Cert.KernelLossIdeal.main_arg9) = m ((c.tc : Thread Cert.KernelLossIdeal.nD Cert.KernelLossIdeal.τ).loc Cert.KernelLossIdeal.main_arg9)
          ∧ r.2.mem ((c.tc : Thread Cert.KernelLossIdeal.nD Cert.KernelLossIdeal.τ).loc Cert.KernelLossIdeal.main_arg10) = m ((c.tc : Thread Cert.KernelLossIdeal.nD Cert.KernelLossIdeal.τ).loc Cert.KernelLossIdeal.main_arg10)
          ∧ r.2.mem ((c.tc : Thread Cert.KernelLossIdeal.nD Cert.KernelLossIdeal.τ).loc Cert.KernelLossIdeal.main_arg11) = m ((c.tc : Thread Cert.KernelLossIdeal.nD Cert.KernelLossIdeal.τ).loc Cert.KernelLossIdeal.main_arg11)
          ∧ r.2.mem ((c.tc : Thread Cert.KernelLossIdeal.nD Cert.KernelLossIdeal.τ).loc Cert.KernelLossIdeal.main_arg12) = m ((c.tc : Thread Cert.KernelLossIdeal.nD Cert.KernelLossIdeal.τ).loc Cert.KernelLossIdeal.main_arg12)
          ∧ r.2.mem ((c.tc : Thread Cert.KernelLossIdeal.nD Cert.KernelLossIdeal.τ).loc Cert.KernelLossIdeal.main_arg13) = m ((c.tc : Thread Cert.KernelLossIdeal.nD Cert.KernelLossIdeal.τ).loc Cert.KernelLossIdeal.main_arg13))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v77) = v0 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4)
          ∧ r.2.mem ((c.tc : Thread Cert.ReferenceLossIdeal.nD Cert.ReferenceLossIdeal.τ).loc Cert.ReferenceLossIdeal.main_arg5) = m' ((c.tc : Thread Cert.ReferenceLossIdeal.nD Cert.ReferenceLossIdeal.τ).loc Cert.ReferenceLossIdeal.main_arg5)
          ∧ r.2.mem ((c.tc : Thread Cert.ReferenceLossIdeal.nD Cert.ReferenceLossIdeal.τ).loc Cert.ReferenceLossIdeal.main_arg6) = m' ((c.tc : Thread Cert.ReferenceLossIdeal.nD Cert.ReferenceLossIdeal.τ).loc Cert.ReferenceLossIdeal.main_arg6)
          ∧ r.2.mem ((c.tc : Thread Cert.ReferenceLossIdeal.nD Cert.ReferenceLossIdeal.τ).loc Cert.ReferenceLossIdeal.main_arg7) = m' ((c.tc : Thread Cert.ReferenceLossIdeal.nD Cert.ReferenceLossIdeal.τ).loc Cert.ReferenceLossIdeal.main_arg7)
          ∧ r.2.mem ((c.tc : Thread Cert.ReferenceLossIdeal.nD Cert.ReferenceLossIdeal.τ).loc Cert.ReferenceLossIdeal.main_arg8) = m' ((c.tc : Thread Cert.ReferenceLossIdeal.nD Cert.ReferenceLossIdeal.τ).loc Cert.ReferenceLossIdeal.main_arg8)
          ∧ r.2.mem ((c.tc : Thread Cert.ReferenceLossIdeal.nD Cert.ReferenceLossIdeal.τ).loc Cert.ReferenceLossIdeal.main_arg9) = m' ((c.tc : Thread Cert.ReferenceLossIdeal.nD Cert.ReferenceLossIdeal.τ).loc Cert.ReferenceLossIdeal.main_arg9)
          ∧ r.2.mem ((c.tc : Thread Cert.ReferenceLossIdeal.nD Cert.ReferenceLossIdeal.τ).loc Cert.ReferenceLossIdeal.main_arg10) = m' ((c.tc : Thread Cert.ReferenceLossIdeal.nD Cert.ReferenceLossIdeal.τ).loc Cert.ReferenceLossIdeal.main_arg10)
          ∧ r.2.mem ((c.tc : Thread Cert.ReferenceLossIdeal.nD Cert.ReferenceLossIdeal.τ).loc Cert.ReferenceLossIdeal.main_arg11) = m' ((c.tc : Thread Cert.ReferenceLossIdeal.nD Cert.ReferenceLossIdeal.τ).loc Cert.ReferenceLossIdeal.main_arg11)
          ∧ r.2.mem ((c.tc : Thread Cert.ReferenceLossIdeal.nD Cert.ReferenceLossIdeal.τ).loc Cert.ReferenceLossIdeal.main_arg12) = m' ((c.tc : Thread Cert.ReferenceLossIdeal.nD Cert.ReferenceLossIdeal.τ).loc Cert.ReferenceLossIdeal.main_arg12)
          ∧ r.2.mem ((c.tc : Thread Cert.ReferenceLossIdeal.nD Cert.ReferenceLossIdeal.τ).loc Cert.ReferenceLossIdeal.main_arg13) = m' ((c.tc : Thread Cert.ReferenceLossIdeal.nD Cert.ReferenceLossIdeal.τ).loc Cert.ReferenceLossIdeal.main_arg13))

def preserves_KernelInproj_KernelInprojIdeal : Prop :=
  True

def algebraic_KernelInprojIdeal_ReferenceInprojIdeal [hKernelInprojIdeal : Cert.KernelInprojIdeal.Facts] [hReferenceInprojIdeal : Cert.ReferenceInprojIdeal.Facts] : Prop :=
  ∀ (m : (ℓ : Loc Cert.KernelInprojIdeal.nD Cert.KernelInprojIdeal.τ Cert.KernelInprojIdeal.sig) → Buf (Elt Ideal) ℓ) (g : Dev Cert.KernelInprojIdeal.nD → PrngReg)
    (m' : (ℓ : Loc Cert.ReferenceInprojIdeal.nD Cert.ReferenceInprojIdeal.τ Cert.ReferenceInprojIdeal.sig) → Buf (Elt Ideal) ℓ) (g' : Dev Cert.ReferenceInprojIdeal.nD → PrngReg), Pre_KernelInprojIdeal m →
    (∀ c : Dev Cert.KernelInprojIdeal.nD,
      m' ((c.tc : Thread Cert.ReferenceInprojIdeal.nD Cert.ReferenceInprojIdeal.τ).loc Cert.ReferenceInprojIdeal.main_arg0) = m ((c.tc : Thread Cert.KernelInprojIdeal.nD Cert.KernelInprojIdeal.τ).loc Cert.KernelInprojIdeal.main_arg0)
      ∧ m' ((c.tc : Thread Cert.ReferenceInprojIdeal.nD Cert.ReferenceInprojIdeal.τ).loc Cert.ReferenceInprojIdeal.main_arg1) = m ((c.tc : Thread Cert.KernelInprojIdeal.nD Cert.KernelInprojIdeal.τ).loc Cert.KernelInprojIdeal.main_arg1)) →
    ∃ (v0 : (c : Dev Cert.KernelInprojIdeal.nD) → Buf (Elt Ideal) ((c.tc : Thread Cert.KernelInprojIdeal.nD Cert.KernelInprojIdeal.τ).loc Cert.KernelInprojIdeal.main_v2_0)) (v1 : (c : Dev Cert.KernelInprojIdeal.nD) → Buf (Elt Ideal) ((c.tc : Thread Cert.KernelInprojIdeal.nD Cert.KernelInprojIdeal.τ).loc Cert.KernelInprojIdeal.main_v2_1)),
      θ_run (Cert.KernelInprojIdeal.defs (F := Ideal)) (onTc (τ := Cert.KernelInprojIdeal.τ) (Cert.KernelInprojIdeal.main (F := Ideal))) ⟨m, fun _ => 0, g⟩ (fun r => ∀ c : Dev Cert.KernelInprojIdeal.nD,
          r.2.mem ((c.tc : Thread Cert.KernelInprojIdeal.nD Cert.KernelInprojIdeal.τ).loc Cert.KernelInprojIdeal.main_v2_0) = v0 c
          ∧ r.2.mem ((c.tc : Thread Cert.KernelInprojIdeal.nD Cert.KernelInprojIdeal.τ).loc Cert.KernelInprojIdeal.main_v2_1) = v1 c
          ∧ r.2.mem ((c.tc : Thread Cert.KernelInprojIdeal.nD Cert.KernelInprojIdeal.τ).loc Cert.KernelInprojIdeal.main_arg0) = m ((c.tc : Thread Cert.KernelInprojIdeal.nD Cert.KernelInprojIdeal.τ).loc Cert.KernelInprojIdeal.main_arg0)
          ∧ r.2.mem ((c.tc : Thread Cert.KernelInprojIdeal.nD Cert.KernelInprojIdeal.τ).loc Cert.KernelInprojIdeal.main_arg1) = m ((c.tc : Thread Cert.KernelInprojIdeal.nD Cert.KernelInprojIdeal.τ).loc Cert.KernelInprojIdeal.main_arg1))
      ∧ θ_run (Cert.ReferenceInprojIdeal.defs (F := Ideal)) (onTc (τ := Cert.ReferenceInprojIdeal.τ) (Cert.ReferenceInprojIdeal.main (F := Ideal))) ⟨m', fun _ => 0, g'⟩ (fun r => ∀ c : Dev Cert.ReferenceInprojIdeal.nD,
          r.2.mem ((c.tc : Thread Cert.ReferenceInprojIdeal.nD Cert.ReferenceInprojIdeal.τ).loc Cert.ReferenceInprojIdeal.main_v1) = v0 c
          ∧ r.2.mem ((c.tc : Thread Cert.ReferenceInprojIdeal.nD Cert.ReferenceInprojIdeal.τ).loc Cert.ReferenceInprojIdeal.main_v2) = v1 c
          ∧ r.2.mem ((c.tc : Thread Cert.ReferenceInprojIdeal.nD Cert.ReferenceInprojIdeal.τ).loc Cert.ReferenceInprojIdeal.main_arg0) = m' ((c.tc : Thread Cert.ReferenceInprojIdeal.nD Cert.ReferenceInprojIdeal.τ).loc Cert.ReferenceInprojIdeal.main_arg0)
          ∧ r.2.mem ((c.tc : Thread Cert.ReferenceInprojIdeal.nD Cert.ReferenceInprojIdeal.τ).loc Cert.ReferenceInprojIdeal.main_arg1) = m' ((c.tc : Thread Cert.ReferenceInprojIdeal.nD Cert.ReferenceInprojIdeal.τ).loc Cert.ReferenceInprojIdeal.main_arg1))

def preserves_KernelUp_KernelUpIdeal : Prop :=
  True

def algebraic_KernelUpIdeal_ReferenceUpIdeal_pre_finite_up [hKernelUpIdeal : Cert.KernelUpIdeal.Facts] [hReferenceUpIdeal : Cert.ReferenceUpIdeal.Facts] [hPre_finite_up : Cert.Pre_finite_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal_finite_up m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)
      ∧ m' ((c.tc : Thread Cert.ReferenceUpIdeal.nD Cert.ReferenceUpIdeal.τ).loc Cert.ReferenceUpIdeal.main_arg3) = m ((c.tc : Thread Cert.KernelUpIdeal.nD Cert.KernelUpIdeal.τ).loc Cert.KernelUpIdeal.main_arg3)
      ∧ m' ((c.tc : Thread Cert.ReferenceUpIdeal.nD Cert.ReferenceUpIdeal.τ).loc Cert.ReferenceUpIdeal.main_arg4) = m ((c.tc : Thread Cert.KernelUpIdeal.nD Cert.KernelUpIdeal.τ).loc Cert.KernelUpIdeal.main_arg4)
      ∧ m' ((c.tc : Thread Cert.ReferenceUpIdeal.nD Cert.ReferenceUpIdeal.τ).loc Cert.ReferenceUpIdeal.main_arg5) = m ((c.tc : Thread Cert.KernelUpIdeal.nD Cert.KernelUpIdeal.τ).loc Cert.KernelUpIdeal.main_arg5)
      ∧ m' ((c.tc : Thread Cert.ReferenceUpIdeal.nD Cert.ReferenceUpIdeal.τ).loc Cert.ReferenceUpIdeal.main_arg6) = m ((c.tc : Thread Cert.KernelUpIdeal.nD Cert.KernelUpIdeal.τ).loc Cert.KernelUpIdeal.main_arg6)
      ∧ m' ((c.tc : Thread Cert.ReferenceUpIdeal.nD Cert.ReferenceUpIdeal.τ).loc Cert.ReferenceUpIdeal.main_arg7) = m ((c.tc : Thread Cert.KernelUpIdeal.nD Cert.KernelUpIdeal.τ).loc Cert.KernelUpIdeal.main_arg7)) →
    ∃ (v0 : (c : Dev Cert.KernelUpIdeal.nD) → Buf (Elt Ideal) ((c.tc : Thread Cert.KernelUpIdeal.nD Cert.KernelUpIdeal.τ).loc Cert.KernelUpIdeal.main_v5_0)) (v1 : (c : Dev Cert.KernelUpIdeal.nD) → Buf (Elt Ideal) ((c.tc : Thread Cert.KernelUpIdeal.nD Cert.KernelUpIdeal.τ).loc Cert.KernelUpIdeal.main_v5_1)) (v2 : (c : Dev Cert.KernelUpIdeal.nD) → Buf (Elt Ideal) ((c.tc : Thread Cert.KernelUpIdeal.nD Cert.KernelUpIdeal.τ).loc Cert.KernelUpIdeal.main_v5_2)) (v3 : (c : Dev Cert.KernelUpIdeal.nD) → Buf (Elt Ideal) ((c.tc : Thread Cert.KernelUpIdeal.nD Cert.KernelUpIdeal.τ).loc Cert.KernelUpIdeal.main_v5_3)) (v4 : (c : Dev Cert.KernelUpIdeal.nD) → Buf (Elt Ideal) ((c.tc : Thread Cert.KernelUpIdeal.nD Cert.KernelUpIdeal.τ).loc Cert.KernelUpIdeal.main_v5_4)) (v5 : (c : Dev Cert.KernelUpIdeal.nD) → Buf (Elt Ideal) ((c.tc : Thread Cert.KernelUpIdeal.nD Cert.KernelUpIdeal.τ).loc Cert.KernelUpIdeal.main_v5_5)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v5_0) = v0 c
          ∧ r.2.mem ((c.tc : Thread Cert.KernelUpIdeal.nD Cert.KernelUpIdeal.τ).loc Cert.KernelUpIdeal.main_v5_1) = v1 c
          ∧ r.2.mem ((c.tc : Thread Cert.KernelUpIdeal.nD Cert.KernelUpIdeal.τ).loc Cert.KernelUpIdeal.main_v5_2) = v2 c
          ∧ r.2.mem ((c.tc : Thread Cert.KernelUpIdeal.nD Cert.KernelUpIdeal.τ).loc Cert.KernelUpIdeal.main_v5_3) = v3 c
          ∧ r.2.mem ((c.tc : Thread Cert.KernelUpIdeal.nD Cert.KernelUpIdeal.τ).loc Cert.KernelUpIdeal.main_v5_4) = v4 c
          ∧ r.2.mem ((c.tc : Thread Cert.KernelUpIdeal.nD Cert.KernelUpIdeal.τ).loc Cert.KernelUpIdeal.main_v5_5) = v5 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2)
          ∧ r.2.mem ((c.tc : Thread Cert.KernelUpIdeal.nD Cert.KernelUpIdeal.τ).loc Cert.KernelUpIdeal.main_arg3) = m ((c.tc : Thread Cert.KernelUpIdeal.nD Cert.KernelUpIdeal.τ).loc Cert.KernelUpIdeal.main_arg3)
          ∧ r.2.mem ((c.tc : Thread Cert.KernelUpIdeal.nD Cert.KernelUpIdeal.τ).loc Cert.KernelUpIdeal.main_arg4) = m ((c.tc : Thread Cert.KernelUpIdeal.nD Cert.KernelUpIdeal.τ).loc Cert.KernelUpIdeal.main_arg4)
          ∧ r.2.mem ((c.tc : Thread Cert.KernelUpIdeal.nD Cert.KernelUpIdeal.τ).loc Cert.KernelUpIdeal.main_arg5) = m ((c.tc : Thread Cert.KernelUpIdeal.nD Cert.KernelUpIdeal.τ).loc Cert.KernelUpIdeal.main_arg5)
          ∧ r.2.mem ((c.tc : Thread Cert.KernelUpIdeal.nD Cert.KernelUpIdeal.τ).loc Cert.KernelUpIdeal.main_arg6) = m ((c.tc : Thread Cert.KernelUpIdeal.nD Cert.KernelUpIdeal.τ).loc Cert.KernelUpIdeal.main_arg6)
          ∧ r.2.mem ((c.tc : Thread Cert.KernelUpIdeal.nD Cert.KernelUpIdeal.τ).loc Cert.KernelUpIdeal.main_arg7) = m ((c.tc : Thread Cert.KernelUpIdeal.nD Cert.KernelUpIdeal.τ).loc Cert.KernelUpIdeal.main_arg7))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v23) = v0 c
          ∧ r.2.mem ((c.tc : Thread Cert.ReferenceUpIdeal.nD Cert.ReferenceUpIdeal.τ).loc Cert.ReferenceUpIdeal.main_v36) = v1 c
          ∧ r.2.mem ((c.tc : Thread Cert.ReferenceUpIdeal.nD Cert.ReferenceUpIdeal.τ).loc Cert.ReferenceUpIdeal.main_v37) = v2 c
          ∧ r.2.mem ((c.tc : Thread Cert.ReferenceUpIdeal.nD Cert.ReferenceUpIdeal.τ).loc Cert.ReferenceUpIdeal.main_v38) = v3 c
          ∧ r.2.mem ((c.tc : Thread Cert.ReferenceUpIdeal.nD Cert.ReferenceUpIdeal.τ).loc Cert.ReferenceUpIdeal.main_v39) = v4 c
          ∧ r.2.mem ((c.tc : Thread Cert.ReferenceUpIdeal.nD Cert.ReferenceUpIdeal.τ).loc Cert.ReferenceUpIdeal.main_v40) = v5 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2)
          ∧ r.2.mem ((c.tc : Thread Cert.ReferenceUpIdeal.nD Cert.ReferenceUpIdeal.τ).loc Cert.ReferenceUpIdeal.main_arg3) = m' ((c.tc : Thread Cert.ReferenceUpIdeal.nD Cert.ReferenceUpIdeal.τ).loc Cert.ReferenceUpIdeal.main_arg3)
          ∧ r.2.mem ((c.tc : Thread Cert.ReferenceUpIdeal.nD Cert.ReferenceUpIdeal.τ).loc Cert.ReferenceUpIdeal.main_arg4) = m' ((c.tc : Thread Cert.ReferenceUpIdeal.nD Cert.ReferenceUpIdeal.τ).loc Cert.ReferenceUpIdeal.main_arg4)
          ∧ r.2.mem ((c.tc : Thread Cert.ReferenceUpIdeal.nD Cert.ReferenceUpIdeal.τ).loc Cert.ReferenceUpIdeal.main_arg5) = m' ((c.tc : Thread Cert.ReferenceUpIdeal.nD Cert.ReferenceUpIdeal.τ).loc Cert.ReferenceUpIdeal.main_arg5)
          ∧ r.2.mem ((c.tc : Thread Cert.ReferenceUpIdeal.nD Cert.ReferenceUpIdeal.τ).loc Cert.ReferenceUpIdeal.main_arg6) = m' ((c.tc : Thread Cert.ReferenceUpIdeal.nD Cert.ReferenceUpIdeal.τ).loc Cert.ReferenceUpIdeal.main_arg6)
          ∧ r.2.mem ((c.tc : Thread Cert.ReferenceUpIdeal.nD Cert.ReferenceUpIdeal.τ).loc Cert.ReferenceUpIdeal.main_arg7) = m' ((c.tc : Thread Cert.ReferenceUpIdeal.nD Cert.ReferenceUpIdeal.τ).loc Cert.ReferenceUpIdeal.main_arg7))

def Claim : Prop :=
  ∃ (hKernel : Cert.Kernel.Facts) (hKernelIdeal : Cert.KernelIdeal.Facts) (hReferenceIdeal : Cert.ReferenceIdeal.Facts) (hKernelDh1 : Cert.KernelDh1.Facts) (hKernelDh1Ideal : Cert.KernelDh1Ideal.Facts) (hReferenceDh1Ideal : Cert.ReferenceDh1Ideal.Facts) (hKernelDx : Cert.KernelDx.Facts) (hKernelDxIdeal : Cert.KernelDxIdeal.Facts) (hReferenceDxIdeal : Cert.ReferenceDxIdeal.Facts) (hKernelDwin : Cert.KernelDwin.Facts) (hKernelDwinIdeal : Cert.KernelDwinIdeal.Facts) (hReferenceDwinIdeal : Cert.ReferenceDwinIdeal.Facts) (hKernelLoss : Cert.KernelLoss.Facts) (hKernelLossIdeal : Cert.KernelLossIdeal.Facts) (hReferenceLossIdeal : Cert.ReferenceLossIdeal.Facts) (hKernelInproj : Cert.KernelInproj.Facts) (hKernelInprojIdeal : Cert.KernelInprojIdeal.Facts) (hReferenceInprojIdeal : Cert.ReferenceInprojIdeal.Facts) (hKernelUp : Cert.KernelUp.Facts) (hKernelUpIdeal : Cert.KernelUpIdeal.Facts) (hReferenceUpIdeal : Cert.ReferenceUpIdeal.Facts) (hPre_finite_gate_inputs : Cert.Pre_finite_gate_inputs.Facts) (hPre_place_dh1 : Cert.Pre_place_dh1.Facts) (hPre_finite_dh1 : Cert.Pre_finite_dh1.Facts) (hPre_place_dwin : Cert.Pre_place_dwin.Facts) (hPre_place_loss : Cert.Pre_place_loss.Facts) (hPre_finite_loss : Cert.Pre_finite_loss.Facts) (hPre_finite_up : Cert.Pre_finite_up.Facts),
    quiescent_Kernel (hKernel := hKernel)
    ∧ quiescent_KernelIdeal (hKernelIdeal := hKernelIdeal)
    ∧ quiescent_KernelIdeal_pre_finite_gate_inputs (hKernelIdeal := hKernelIdeal) (hPre_finite_gate_inputs := hPre_finite_gate_inputs)
    ∧ quiescent_ReferenceIdeal (hReferenceIdeal := hReferenceIdeal)
    ∧ quiescent_ReferenceIdeal_pre_finite_gate_inputs (hReferenceIdeal := hReferenceIdeal) (hPre_finite_gate_inputs := hPre_finite_gate_inputs)
    ∧ quiescent_KernelDh1 (hKernelDh1 := hKernelDh1) (hPre_place_dh1 := hPre_place_dh1)
    ∧ quiescent_KernelDh1Ideal (hKernelDh1Ideal := hKernelDh1Ideal) (hPre_place_dh1 := hPre_place_dh1)
    ∧ quiescent_KernelDh1Ideal_pre_finite_dh1 (hKernelDh1Ideal := hKernelDh1Ideal) (hPre_finite_dh1 := hPre_finite_dh1)
    ∧ quiescent_ReferenceDh1Ideal (hReferenceDh1Ideal := hReferenceDh1Ideal)
    ∧ quiescent_ReferenceDh1Ideal_pre_finite_dh1 (hReferenceDh1Ideal := hReferenceDh1Ideal) (hPre_finite_dh1 := hPre_finite_dh1)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDwin (hKernelDwin := hKernelDwin) (hPre_place_dwin := hPre_place_dwin)
    ∧ quiescent_KernelDwinIdeal (hKernelDwinIdeal := hKernelDwinIdeal) (hPre_place_dwin := hPre_place_dwin)
    ∧ quiescent_ReferenceDwinIdeal (hReferenceDwinIdeal := hReferenceDwinIdeal)
    ∧ quiescent_ReferenceDwinIdeal_pre_place_dwin (hReferenceDwinIdeal := hReferenceDwinIdeal) (hPre_place_dwin := hPre_place_dwin)
    ∧ quiescent_KernelLoss (hKernelLoss := hKernelLoss) (hPre_place_loss := hPre_place_loss)
    ∧ quiescent_KernelLossIdeal (hKernelLossIdeal := hKernelLossIdeal) (hPre_place_loss := hPre_place_loss)
    ∧ quiescent_KernelLossIdeal_pre_finite_loss (hKernelLossIdeal := hKernelLossIdeal) (hPre_finite_loss := hPre_finite_loss)
    ∧ quiescent_ReferenceLossIdeal (hReferenceLossIdeal := hReferenceLossIdeal)
    ∧ quiescent_ReferenceLossIdeal_pre_finite_loss (hReferenceLossIdeal := hReferenceLossIdeal) (hPre_finite_loss := hPre_finite_loss)
    ∧ quiescent_KernelInproj (hKernelInproj := hKernelInproj)
    ∧ quiescent_KernelInprojIdeal (hKernelInprojIdeal := hKernelInprojIdeal)
    ∧ quiescent_ReferenceInprojIdeal (hReferenceInprojIdeal := hReferenceInprojIdeal)
    ∧ quiescent_KernelUp (hKernelUp := hKernelUp)
    ∧ quiescent_KernelUpIdeal (hKernelUpIdeal := hKernelUpIdeal)
    ∧ quiescent_KernelUpIdeal_pre_finite_up (hKernelUpIdeal := hKernelUpIdeal) (hPre_finite_up := hPre_finite_up)
    ∧ quiescent_ReferenceUpIdeal (hReferenceUpIdeal := hReferenceUpIdeal)
    ∧ quiescent_ReferenceUpIdeal_pre_finite_up (hReferenceUpIdeal := hReferenceUpIdeal) (hPre_finite_up := hPre_finite_up)
    ∧ preserves_Kernel_KernelIdeal
    ∧ algebraic_KernelIdeal_ReferenceIdeal_pre_finite_gate_inputs (hKernelIdeal := hKernelIdeal) (hReferenceIdeal := hReferenceIdeal) (hPre_finite_gate_inputs := hPre_finite_gate_inputs)
    ∧ preserves_KernelDh1_KernelDh1Ideal
    ∧ algebraic_KernelDh1Ideal_ReferenceDh1Ideal_pre_finite_dh1 (hKernelDh1Ideal := hKernelDh1Ideal) (hReferenceDh1Ideal := hReferenceDh1Ideal) (hPre_finite_dh1 := hPre_finite_dh1)
    ∧ preserves_KernelDx_KernelDxIdeal
    ∧ algebraic_KernelDxIdeal_ReferenceDxIdeal (hKernelDxIdeal := hKernelDxIdeal) (hReferenceDxIdeal := hReferenceDxIdeal)
    ∧ preserves_KernelDwin_KernelDwinIdeal
    ∧ algebraic_KernelDwinIdeal_ReferenceDwinIdeal (hKernelDwinIdeal := hKernelDwinIdeal) (hReferenceDwinIdeal := hReferenceDwinIdeal) (hPre_place_dwin := hPre_place_dwin)
    ∧ preserves_KernelLoss_KernelLossIdeal
    ∧ algebraic_KernelLossIdeal_ReferenceLossIdeal_pre_finite_loss (hKernelLossIdeal := hKernelLossIdeal) (hReferenceLossIdeal := hReferenceLossIdeal) (hPre_finite_loss := hPre_finite_loss)
    ∧ preserves_KernelInproj_KernelInprojIdeal
    ∧ algebraic_KernelInprojIdeal_ReferenceInprojIdeal (hKernelInprojIdeal := hKernelInprojIdeal) (hReferenceInprojIdeal := hReferenceInprojIdeal)
    ∧ preserves_KernelUp_KernelUpIdeal
    ∧ algebraic_KernelUpIdeal_ReferenceUpIdeal_pre_finite_up (hKernelUpIdeal := hKernelUpIdeal) (hReferenceUpIdeal := hReferenceUpIdeal) (hPre_finite_up := hPre_finite_up)
-- ==== Pre_finite_dh1.lean ====
abbrev S1 : Shape := ⟨1, ![1]⟩
abbrev S4096x1024 : Shape := ⟨2, ![4096, 1024]⟩
abbrev S4096x512 : Shape := ⟨2, ![4096, 512]⟩
abbrev S4096x2816 : Shape := ⟨2, ![4096, 2816]⟩
abbrev S1024x1024 : Shape := ⟨2, ![1024, 1024]⟩
abbrev S1024x2816 : Shape := ⟨2, ![1024, 2816]⟩
abbrev S1x1024 : Shape := ⟨2, ![1, 1024]⟩
abbrev S_ : Shape := ⟨0, ![]⟩

class Facts : Prop where
  bcast_S_S1 : S_.BroadcastsInDim S1 (![] : Fin 0 → Fin S1.rank)
  bcast_S_S4096x1024 : S_.BroadcastsInDim S4096x1024 (![] : Fin 0 → Fin S4096x1024.rank)
  bitsLt_bf16_f32 : FTy.bits .bf16 < FTy.bits .f32
  bcast_S_S4096x512 : S_.BroadcastsInDim S4096x512 (![] : Fin 0 → Fin S4096x512.rank)
  bcast_S_S4096x2816 : S_.BroadcastsInDim S4096x2816 (![] : Fin 0 → Fin S4096x2816.rank)
  bcast_S_S1024x1024 : S_.BroadcastsInDim S1024x1024 (![] : Fin 0 → Fin S1024x1024.rank)
  bcast_S_S1024x2816 : S_.BroadcastsInDim S1024x2816 (![] : Fin 0 → Fin S1024x2816.rank)
  bcast_S_S1x1024 : S_.BroadcastsInDim S1x1024 (![] : Fin 0 → Fin S1x1024.rank)

variable [Facts]

def fn_part2 {F : FTy → Type} [FloatOps F] (main_arg10 : FVec F S1024x2816 .f32) (main_arg11 : FVec F S1024x1024 .f32) (main_arg12 : FVec F S1x1024 .f32) (main_v4 : IVec S1 1) (main_v7 : IVec S4096x1024 1) (main_v11 : IVec S4096x512 1) (main_v15 : IVec S4096x512 1) (main_v18 : IVec S4096x1024 1) (main_v22 : IVec S4096x2816 1) (main_v26 : IVec S4096x2816 1) (main_v30 : IVec S4096x1024 1) (main_v33 : IVec S1024x1024 1) (main_v36 : IVec S1024x2816 1) : IVec S1 1 × IVec S4096x1024 1 × IVec S4096x512 1 × IVec S4096x512 1 × IVec S4096x1024 1 × IVec S4096x2816 1 × IVec S4096x2816 1 × IVec S4096x1024 1 × IVec S1024x1024 1 × IVec S1024x2816 1 × IVec S1024x2816 1 × IVec S1024x1024 1 × IVec S1x1024 1 :=
  let main_v37 : FVec F S1024x2816 .f32 := Host.absf main_arg10
  let main_cst_9 : FVec F S_ .f32 := constant S_ .f32 0x7F800000#32
  let main_v38 : FVec F S1024x2816 .f32 := broadcastInDim S1024x2816 ![] bcast_S_S1024x2816 main_cst_9
  let main_v39 : IVec S1024x2816 1 := cmpf .olt main_v37 main_v38
  let main_v40 : FVec F S1024x1024 .f32 := Host.absf main_arg11
  let main_cst_10 : FVec F S_ .f32 := constant S_ .f32 0x7F800000#32
  let main_v41 : FVec F S1024x1024 .f32 := broadcastInDim S1024x1024 ![] bcast_S_S1024x1024 main_cst_10
  let main_v42 : IVec S1024x1024 1 := cmpf .olt main_v40 main_v41
  let main_v43 : FVec F S1x1024 .f32 := Host.absf main_arg12
  let main_cst_11 : FVec F S_ .f32 := constant S_ .f32 0x7F800000#32
  let main_v44 : FVec F S1x1024 .f32 := broadcastInDim S1x1024 ![] bcast_S_S1x1024 main_cst_11
  let main_v45 : IVec S1x1024 1 := cmpf .olt main_v43 main_v44
  (main_v4, main_v7, main_v11, main_v15, main_v18, main_v22, main_v26, main_v30, main_v33, main_v36, main_v39, main_v42, main_v45)

def fn_part1 {F : FTy → Type} [FloatOps F] (main_arg5 : FVec F S4096x2816 .bf16) (main_arg6 : FVec F S4096x2816 .bf16) (main_arg7 : FVec F S4096x1024 .bf16) (main_arg8 : FVec F S1024x1024 .f32) (main_arg9 : FVec F S1024x2816 .f32) (main_arg10 : FVec F S1024x2816 .f32) (main_arg11 : FVec F S1024x1024 .f32) (main_arg12 : FVec F S1x1024 .f32) (main_v4 : IVec S1 1) (main_v7 : IVec S4096x1024 1) (main_v11 : IVec S4096x512 1) (main_v15 : IVec S4096x512 1) (main_v16 : FVec F S4096x1024 .f32) (main_v17 : FVec F S4096x1024 .f32) : IVec S1 1 × IVec S4096x1024 1 × IVec S4096x512 1 × IVec S4096x512 1 × IVec S4096x1024 1 × IVec S4096x2816 1 × IVec S4096x2816 1 × IVec S4096x1024 1 × IVec S1024x1024 1 × IVec S1024x2816 1 × IVec S1024x2816 1 × IVec S1024x1024 1 × IVec S1x1024 1 :=
  let main_v18 : IVec S4096x1024 1 := cmpf .olt main_v16 main_v17
  let main_v19 : FVec F S4096x2816 .f32 := (extf .f32 · bitsLt_bf16_f32) main_arg5
  let main_v20 : FVec F S4096x2816 .f32 := Host.absf main_v19
  let main_cst_4 : FVec F S_ .f32 := constant S_ .f32 0x7F800000#32
  let main_v21 : FVec F S4096x2816 .f32 := broadcastInDim S4096x2816 ![] bcast_S_S4096x2816 main_cst_4
  let main_v22 : IVec S4096x2816 1 := cmpf .olt main_v20 main_v21
  let main_v23 : FVec F S4096x2816 .f32 := (extf .f32 · bitsLt_bf16_f32) main_arg6
  let main_v24 : FVec F S4096x2816 .f32 := Host.absf main_v23
  let main_cst_5 : FVec F S_ .f32 := constant S_ .f32 0x7F800000#32
  let main_v25 : FVec F S4096x2816 .f32 := broadcastInDim S4096x2816 ![] bcast_S_S4096x2816 main_cst_5
  let main_v26 : IVec S4096x2816 1 := cmpf .olt main_v24 main_v25
  let main_v27 : FVec F S4096x1024 .f32 := (extf .f32 · bitsLt_bf16_f32) main_arg7
  let main_v28 : FVec F S4096x1024 .f32 := Host.absf main_v27
  let main_cst_6 : FVec F S_ .f32 := constant S_ .f32 0x7F800000#32
  let main_v29 : FVec F S4096x1024 .f32 := broadcastInDim S4096x1024 ![] bcast_S_S4096x1024 main_cst_6
  let main_v30 : IVec S4096x1024 1 := cmpf .olt main_v28 main_v29
  let main_v31 : FVec F S1024x1024 .f32 := Host.absf main_arg8
  let main_cst_7 : FVec F S_ .f32 := constant S_ .f32 0x7F800000#32
  let main_v32 : FVec F S1024x1024 .f32 := broadcastInDim S1024x1024 ![] bcast_S_S1024x1024 main_cst_7
  let main_v33 : IVec S1024x1024 1 := cmpf .olt main_v31 main_v32
  let main_v34 : FVec F S1024x2816 .f32 := Host.absf main_arg9
  let main_cst_8 : FVec F S_ .f32 := constant S_ .f32 0x7F800000#32
  let main_v35 : FVec F S1024x2816 .f32 := broadcastInDim S1024x2816 ![] bcast_S_S1024x2816 main_cst_8
  let main_v36 : IVec S1024x2816 1 := cmpf .olt main_v34 main_v35
  fn_part2 (F := F) main_arg10 main_arg11 main_arg12 main_v4 main_v7 main_v11 main_v15 main_v18 main_v22 main_v26 main_v30 main_v33 main_v36

def fn {F : FTy → Type} [FloatOps F] (main_arg0 : IVec S1 32) (main_arg1 : FVec F S4096x1024 .f32) (main_arg2 : FVec F S4096x512 .bf16) (main_arg3 : FVec F S4096x512 .bf16) (main_arg4 : FVec F S4096x1024 .f32) (main_arg5 : FVec F S4096x2816 .bf16) (main_arg6 : FVec F S4096x2816 .bf16) (main_arg7 : FVec F S4096x1024 .bf16) (main_arg8 : FVec F S1024x1024 .f32) (main_arg9 : FVec F S1024x2816 .f32) (main_arg10 : FVec F S1024x2816 .f32) (main_arg11 : FVec F S1024x1024 .f32) (main_arg12 : FVec F S1x1024 .f32) : IVec S1 1 × IVec S4096x1024 1 × IVec S4096x512 1 × IVec S4096x512 1 × IVec S4096x1024 1 × IVec S4096x2816 1 × IVec S4096x2816 1 × IVec S4096x1024 1 × IVec S1024x1024 1 × IVec S1024x2816 1 × IVec S1024x2816 1 × IVec S1024x1024 1 × IVec S1x1024 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  let main_v5 : FVec F S4096x1024 .f32 := Host.absf main_arg1
  let main_cst : FVec F S_ .f32 := constant S_ .f32 0x7F800000#32
  let main_v6 : FVec F S4096x1024 .f32 := broadcastInDim S4096x1024 ![] bcast_S_S4096x1024 main_cst
  let main_v7 : IVec S4096x1024 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x512 .f32 := (extf .f32 · bitsLt_bf16_f32) main_arg3
  let main_v13 : FVec F S4096x512 .f32 := Host.absf main_v12
  let main_cst_2 : FVec F S_ .f32 := constant S_ .f32 0x7F800000#32
  let main_v14 : FVec F S4096x512 .f32 := broadcastInDim S4096x512 ![] bcast_S_S4096x512 main_cst_2
  let main_v15 : IVec S4096x512 1 := cmpf .olt main_v13 main_v14
  let main_v16 : FVec F S4096x1024 .f32 := Host.absf main_arg4
  let main_cst_3 : FVec F S_ .f32 := constant S_ .f32 0x7F800000#32
  let main_v17 : FVec F S4096x1024 .f32 := broadcastInDim S4096x1024 ![] bcast_S_S4096x1024 main_cst_3
  fn_part1 (F := F) main_arg5 main_arg6 main_arg7 main_arg8 main_arg9 main_arg10 main_arg11 main_arg12 main_v4 main_v7 main_v11 main_v15 main_v16 main_v17
-- ==== Pre_finite_gate_inputs.lean ====
abbrev S4096x2816 : Shape := ⟨2, ![4096, 2816]⟩
abbrev S4096x512 : Shape := ⟨2, ![4096, 512]⟩
abbrev S128x256x128 : Shape := ⟨3, ![128, 256, 128]⟩
abbrev S8 : Shape := ⟨1, ![8]⟩
abbrev S1x512 : Shape := ⟨2, ![1, 512]⟩
abbrev S_ : Shape := ⟨0, ![]⟩

class Facts : Prop where
  bcast_S_S4096x512 : S_.BroadcastsInDim S4096x512 (![] : Fin 0 → Fin S4096x512.rank)
  bitsLt_bf16_f32 : FTy.bits .bf16 < FTy.bits .f32
  bcast_S_S1x512 : S_.BroadcastsInDim S1x512 (![] : Fin 0 → Fin S1x512.rank)

variable [Facts]

def fn {F : FTy → Type} [FloatOps F] (main_arg0 : FVec F S4096x2816 .bf16) (main_arg1 : FVec F S4096x512 .f32) (main_arg2 : FVec F S4096x512 .f32) (main_arg3 : FVec F S128x256x128 .f32) (main_arg4 : FVec F S4096x512 .bf16) (main_arg5 : FVec F S4096x512 .bf16) (main_arg6 : FVec F S8 .f32) (main_arg7 : FVec F S8 .f32) (main_arg8 : FVec F S1x512 .f32) (main_arg9 : FVec F S8 .f32) : IVec S4096x512 1 × IVec S4096x512 1 × IVec S1x512 1 :=
  let main_v0 : FVec F S4096x512 .f32 := Host.absf main_arg1
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := (extf .f32 · bitsLt_bf16_f32) main_arg4
  let main_v4 : FVec F S4096x512 .f32 := Host.absf main_v3
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_v7 : FVec F S1x512 .f32 := Host.absf main_arg8
  let main_cst_1 : FVec F S_ .f32 := constant S_ .f32 0x7F800000#32
  let main_v8 : FVec F S1x512 .f32 := broadcastInDim S1x512 ![] bcast_S_S1x512 main_cst_1
  let main_v9 : IVec S1x512 1 := cmpf .olt main_v7 main_v8
  (main_v2, main_v6, main_v9)
-- ==== Pre_finite_loss.lean ====
abbrev S1 : Shape := ⟨1, ![1]⟩
abbrev S4096x2816 : Shape := ⟨2, ![4096, 2816]⟩
abbrev S4096x1024 : Shape := ⟨2, ![4096, 1024]⟩
abbrev S4096x256 : Shape := ⟨2, ![4096, 256]⟩
abbrev S2816x1024 : Shape := ⟨2, ![2816, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

class Facts : Prop where
  bcast_S_S1 : S_.BroadcastsInDim S1 (![] : Fin 0 → Fin S1.rank)
  bitsLt_bf16_f32 : FTy.bits .bf16 < FTy.bits .f32
  bcast_S_S4096x2816 : S_.BroadcastsInDim S4096x2816 (![] : Fin 0 → Fin S4096x2816.rank)
  bcast_S_S4096x1024 : S_.BroadcastsInDim S4096x1024 (![] : Fin 0 → Fin S4096x1024.rank)
  bcast_S_S4096x256 : S_.BroadcastsInDim S4096x256 (![] : Fin 0 → Fin S4096x256.rank)
  bcast_S_S2816x1024 : S_.BroadcastsInDim S2816x1024 (![] : Fin 0 → Fin S2816x1024.rank)
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn_part2 {F : FTy → Type} [FloatOps F] (main_arg11 : FVec F S1x1024 .f32) (main_arg12 : FVec F S1x1024 .f32) (main_arg13 : FVec F S1x1024 .f32) (main_v4 : IVec S1 1) (main_v8 : IVec S4096x2816 1) (main_v12 : IVec S4096x2816 1) (main_v16 : IVec S4096x2816 1) (main_v19 : IVec S4096x1024 1) (main_v22 : IVec S4096x256 1) (main_v25 : IVec S4096x1024 1) (main_v28 : IVec S2816x1024 1) (main_v31 : IVec S256x1024 1) (main_v34 : IVec S1024x1024 1) (main_v35 : FVec F S1x1024 .f32) (main_cst_9 : FVec F S_ .f32) : IVec S1 1 × IVec S4096x2816 1 × IVec S4096x2816 1 × IVec S4096x2816 1 × IVec S4096x1024 1 × IVec S4096x256 1 × IVec S4096x1024 1 × IVec S2816x1024 1 × IVec S256x1024 1 × IVec S1024x1024 1 × IVec S1x1024 1 × IVec S1x1024 1 × IVec S1x1024 1 × IVec S1x1024 1 :=
  let main_v36 : FVec F S1x1024 .f32 := broadcastInDim S1x1024 ![] bcast_S_S1x1024 main_cst_9
  let main_v37 : IVec S1x1024 1 := cmpf .olt main_v35 main_v36
  let main_v38 : FVec F S1x1024 .f32 := Host.absf main_arg11
  let main_cst_10 : FVec F S_ .f32 := constant S_ .f32 0x7F800000#32
  let main_v39 : FVec F S1x1024 .f32 := broadcastInDim S1x1024 ![] bcast_S_S1x1024 main_cst_10
  let main_v40 : IVec S1x1024 1 := cmpf .olt main_v38 main_v39
  let main_v41 : FVec F S1x1024 .f32 := Host.absf main_arg12
  let main_cst_11 : FVec F S_ .f32 := constant S_ .f32 0x7F800000#32
  let main_v42 : FVec F S1x1024 .f32 := broadcastInDim S1x1024 ![] bcast_S_S1x1024 main_cst_11
  let main_v43 : IVec S1x1024 1 := cmpf .olt main_v41 main_v42
  let main_v44 : FVec F S1x1024 .f32 := Host.absf main_arg13
  let main_cst_12 : FVec F S_ .f32 := constant S_ .f32 0x7F800000#32
  let main_v45 : FVec F S1x1024 .f32 := broadcastInDim S1x1024 ![] bcast_S_S1x1024 main_cst_12
  let main_v46 : IVec S1x1024 1 := cmpf .olt main_v44 main_v45
  (main_v4, main_v8, main_v12, main_v16, main_v19, main_v22, main_v25, main_v28, main_v31, main_v34, main_v37, main_v40, main_v43, main_v46)

def fn_part1 {F : FTy → Type} [FloatOps F] (main_arg5 : FVec F S4096x256 .f32) (main_arg6 : FVec F S4096x1024 .f32) (main_arg7 : FVec F S2816x1024 .f32) (main_arg8 : FVec F S256x1024 .f32) (main_arg9 : FVec F S1024x1024 .f32) (main_arg10 : FVec F S1x1024 .f32) (main_arg11 : FVec F S1x1024 .f32) (main_arg12 : FVec F S1x1024 .f32) (main_arg13 : FVec F S1x1024 .f32) (main_v4 : IVec S1 1) (main_v8 : IVec S4096x2816 1) (main_v12 : IVec S4096x2816 1) (main_v16 : IVec S4096x2816 1) (main_v17 : FVec F S4096x1024 .f32) (main_cst_3 : FVec F S_ .f32) : IVec S1 1 × IVec S4096x2816 1 × IVec S4096x2816 1 × IVec S4096x2816 1 × IVec S4096x1024 1 × IVec S4096x256 1 × IVec S4096x1024 1 × IVec S2816x1024 1 × IVec S256x1024 1 × IVec S1024x1024 1 × IVec S1x1024 1 × IVec S1x1024 1 × IVec S1x1024 1 × IVec S1x1024 1 :=
  let main_v18 : FVec F S4096x1024 .f32 := broadcastInDim S4096x1024 ![] bcast_S_S4096x1024 main_cst_3
  let main_v19 : IVec S4096x1024 1 := cmpf .olt main_v17 main_v18
  let main_v20 : FVec F S4096x256 .f32 := Host.absf main_arg5
  let main_cst_4 : FVec F S_ .f32 := constant S_ .f32 0x7F800000#32
  let main_v21 : FVec F S4096x256 .f32 := broadcastInDim S4096x256 ![] bcast_S_S4096x256 main_cst_4
  let main_v22 : IVec S4096x256 1 := cmpf .olt main_v20 main_v21
  let main_v23 : FVec F S4096x1024 .f32 := Host.absf main_arg6
  let main_cst_5 : FVec F S_ .f32 := constant S_ .f32 0x7F800000#32
  let main_v24 : FVec F S4096x1024 .f32 := broadcastInDim S4096x1024 ![] bcast_S_S4096x1024 main_cst_5
  let main_v25 : IVec S4096x1024 1 := cmpf .olt main_v23 main_v24
  let main_v26 : FVec F S2816x1024 .f32 := Host.absf main_arg7
  let main_cst_6 : FVec F S_ .f32 := constant S_ .f32 0x7F800000#32
  let main_v27 : FVec F S2816x1024 .f32 := broadcastInDim S2816x1024 ![] bcast_S_S2816x1024 main_cst_6
  let main_v28 : IVec S2816x1024 1 := cmpf .olt main_v26 main_v27
  let main_v29 : FVec F S256x1024 .f32 := Host.absf main_arg8
  let main_cst_7 : FVec F S_ .f32 := constant S_ .f32 0x7F800000#32
  let main_v30 : FVec F S256x1024 .f32 := broadcastInDim S256x1024 ![] bcast_S_S256x1024 main_cst_7
  let main_v31 : IVec S256x1024 1 := cmpf .olt main_v29 main_v30
  let main_v32 : FVec F S1024x1024 .f32 := Host.absf main_arg9
  let main_cst_8 : FVec F S_ .f32 := constant S_ .f32 0x7F800000#32
  let main_v33 : FVec F S1024x1024 .f32 := broadcastInDim S1024x1024 ![] bcast_S_S1024x1024 main_cst_8
  let main_v34 : IVec S1024x1024 1 := cmpf .olt main_v32 main_v33
  let main_v35 : FVec F S1x1024 .f32 := Host.absf main_arg10
  let main_cst_9 : FVec F S_ .f32 := constant S_ .f32 0x7F800000#32
  fn_part2 (F := F) main_arg11 main_arg12 main_arg13 main_v4 main_v8 main_v12 main_v16 main_v19 main_v22 main_v25 main_v28 main_v31 main_v34 main_v35 main_cst_9

def fn {F : FTy → Type} [FloatOps F] (main_arg0 : IVec S1 32) (main_arg1 : FVec F S4096x2816 .bf16) (main_arg2 : FVec F S4096x2816 .bf16) (main_arg3 : FVec F S4096x2816 .bf16) (main_arg4 : FVec F S4096x1024 .f32) (main_arg5 : FVec F S4096x256 .f32) (main_arg6 : FVec F S4096x1024 .f32) (main_arg7 : FVec F S2816x1024 .f32) (main_arg8 : FVec F S256x1024 .f32) (main_arg9 : FVec F S1024x1024 .f32) (main_arg10 : FVec F S1x1024 .f32) (main_arg11 : FVec F S1x1024 .f32) (main_arg12 : FVec F S1x1024 .f32) (main_arg13 : FVec F S1x1024 .f32) : IVec S1 1 × IVec S4096x2816 1 × IVec S4096x2816 1 × IVec S4096x2816 1 × IVec S4096x1024 1 × IVec S4096x256 1 × IVec S4096x1024 1 × IVec S2816x1024 1 × IVec S256x1024 1 × IVec S1024x1024 1 × IVec S1x1024 1 × IVec S1x1024 1 × IVec S1x1024 1 × IVec S1x1024 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  let main_v5 : FVec F S4096x2816 .f32 := (extf .f32 · bitsLt_bf16_f32) main_arg1
  let main_v6 : FVec F S4096x2816 .f32 := Host.absf main_v5
  let main_cst : FVec F S_ .f32 := constant S_ .f32 0x7F800000#32
  let main_v7 : FVec F S4096x2816 .f32 := broadcastInDim S4096x2816 ![] bcast_S_S4096x2816 main_cst
  let main_v8 : IVec S4096x2816 1 := cmpf .olt main_v6 main_v7
  let main_v9 : FVec F S4096x2816 .f32 := (extf .f32 · bitsLt_bf16_f32) main_arg2
  let main_v10 : FVec F S4096x2816 .f32 := Host.absf main_v9
  let main_cst_1 : FVec F S_ .f32 := constant S_ .f32 0x7F800000#32
  let main_v11 : FVec F S4096x2816 .f32 := broadcastInDim S4096x2816 ![] bcast_S_S4096x2816 main_cst_1
  let main_v12 : IVec S4096x2816 1 := cmpf .olt main_v10 main_v11
  let main_v13 : FVec F S4096x2816 .f32 := (extf .f32 · bitsLt_bf16_f32) main_arg3
  let main_v14 : FVec F S4096x2816 .f32 := Host.absf main_v13
  let main_cst_2 : FVec F S_ .f32 := constant S_ .f32 0x7F800000#32
  let main_v15 : FVec F S4096x2816 .f32 := broadcastInDim S4096x2816 ![] bcast_S_S4096x2816 main_cst_2
  let main_v16 : IVec S4096x2816 1 := cmpf .olt main_v14 main_v15
  let main_v17 : FVec F S4096x1024 .f32 := Host.absf main_arg4
  let main_cst_3 : FVec F S_ .f32 := constant S_ .f32 0x7F800000#32
  fn_part1 (F := F) main_arg5 main_arg6 main_arg7 main_arg8 main_arg9 main_arg10 main_arg11 main_arg12 main_arg13 main_v4 main_v8 main_v12 main_v16 main_v17 main_cst_3
-- ==== Pre_finite_up.lean ====
abbrev S4096x512 : Shape := ⟨2, ![4096, 512]⟩
abbrev S4096x1024 : Shape := ⟨2, ![4096, 1024]⟩
abbrev S1024x1024 : Shape := ⟨2, ![1024, 1024]⟩
abbrev S1024x2816 : Shape := ⟨2, ![1024, 2816]⟩
abbrev S1x1024 : Shape := ⟨2, ![1, 1024]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024x2816 : S_.BroadcastsInDim S1024x2816 (![] : Fin 0 → Fin S1024x2816.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S1x1024 .f32) (main_v3 : IVec S4096x512 1) (main_v7 : IVec S4096x512 1) (main_v10 : IVec S4096x1024 1) (main_v13 : IVec S1024x1024 1) (main_v16 : IVec S1024x2816 1) (main_v17 : FVec F S1024x2816 .f32) (main_cst_4 : FVec F S_ .f32) : IVec S4096x512 1 × IVec S4096x512 1 × IVec S4096x1024 1 × IVec S1024x1024 1 × IVec S1024x2816 1 × IVec S1024x2816 1 × IVec S1x1024 1 × IVec S1x1024 1 :=
  let main_v18 : FVec F S1024x2816 .f32 := broadcastInDim S1024x2816 ![] bcast_S_S1024x2816 main_cst_4
  let main_v19 : IVec S1024x2816 1 := cmpf .olt main_v17 main_v18
  let main_v20 : FVec F S1x1024 .f32 := Host.absf main_arg6
  let main_cst_5 : FVec F S_ .f32 := constant S_ .f32 0x7F800000#32
  let main_v21 : FVec F S1x1024 .f32 := broadcastInDim S1x1024 ![] bcast_S_S1x1024 main_cst_5
  let main_v22 : IVec S1x1024 1 := cmpf .olt main_v20 main_v21
  let main_v23 : FVec F S1x1024 .f32 := Host.absf main_arg7
  let main_cst_6 : FVec F S_ .f32 := constant S_ .f32 0x7F800000#32
  let main_v24 : FVec F S1x1024 .f32 := broadcastInDim S1x1024 ![] bcast_S_S1x1024 main_cst_6
  let main_v25 : IVec S1x1024 1 := cmpf .olt main_v23 main_v24
  (main_v3, main_v7, main_v10, main_v13, main_v16, main_v19, main_v22, main_v25)

def fn {F : FTy → Type} [FloatOps F] (main_arg0 : FVec F S4096x512 .bf16) (main_arg1 : FVec F S4096x512 .bf16) (main_arg2 : FVec F S4096x1024 .f32) (main_arg3 : FVec F S1024x1024 .f32) (main_arg4 : FVec F S1024x2816 .f32) (main_arg5 : FVec F S1024x2816 .f32) (main_arg6 : FVec F S1x1024 .f32) (main_arg7 : FVec F S1x1024 .f32) : IVec S4096x512 1 × IVec S4096x512 1 × IVec S4096x1024 1 × IVec S1024x1024 1 × IVec S1024x2816 1 × IVec S1024x2816 1 × IVec S1x1024 1 × IVec S1x1024 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x1024 .f32 := Host.absf main_arg2
  let main_cst_1 : FVec F S_ .f32 := constant S_ .f32 0x7F800000#32
  let main_v9 : FVec F S4096x1024 .f32 := broadcastInDim S4096x1024 ![] bcast_S_S4096x1024 main_cst_1
  let main_v10 : IVec S4096x1024 1 := cmpf .olt main_v8 main_v9
  let main_v11 : FVec F S1024x1024 .f32 := Host.absf main_arg3
  let main_cst_2 : FVec F S_ .f32 := constant S_ .f32 0x7F800000#32
  let main_v12 : FVec F S1024x1024 .f32 := broadcastInDim S1024x1024 ![] bcast_S_S1024x1024 main_cst_2
  let main_v13 : IVec S1024x1024 1 := cmpf .olt main_v11 main_v12
  let main_v14 : FVec F S1024x2816 .f32 := Host.absf main_arg4
  let main_cst_3 : FVec F S_ .f32 := constant S_ .f32 0x7F800000#32
  let main_v15 : FVec F S1024x2816 .f32 := broadcastInDim S1024x2816 ![] bcast_S_S1024x2816 main_cst_3
  let main_v16 : IVec S1024x2816 1 := cmpf .olt main_v14 main_v15
  let main_v17 : FVec F S1024x2816 .f32 := Host.absf main_arg5
  let main_cst_4 : FVec F S_ .f32 := constant S_ .f32 0x7F800000#32
  fn_part1 (F := F) main_arg6 main_arg7 main_v3 main_v7 main_v10 main_v13 main_v16 main_v17 main_cst_4
-- ==== Pre_place_dh1.lean ====
abbrev S1 : Shape := ⟨1, ![1]⟩
abbrev S4096x1024 : Shape := ⟨2, ![4096, 1024]⟩
abbrev S4096x512 : Shape := ⟨2, ![4096, 512]⟩
abbrev S4096x2816 : Shape := ⟨2, ![4096, 2816]⟩
abbrev S1024x1024 : Shape := ⟨2, ![1024, 1024]⟩
abbrev S1024x2816 : Shape := ⟨2, ![1024, 2816]⟩
abbrev S1x1024 : Shape := ⟨2, ![1, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4096x1024 .f32) (main_arg2 : FVec F S4096x512 .bf16) (main_arg3 : FVec F S4096x512 .bf16) (main_arg4 : FVec F S4096x1024 .f32) (main_arg5 : FVec F S4096x2816 .bf16) (main_arg6 : FVec F S4096x2816 .bf16) (main_arg7 : FVec F S4096x1024 .bf16) (main_arg8 : FVec F S1024x1024 .f32) (main_arg9 : FVec F S1024x2816 .f32) (main_arg10 : FVec F S1024x2816 .f32) (main_arg11 : FVec F S1024x1024 .f32) (main_arg12 : FVec F S1x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_place_dwin.lean ====
abbrev S1 : Shape := ⟨1, ![1]⟩
abbrev S4096x1024 : Shape := ⟨2, ![4096, 1024]⟩
abbrev S4096x512 : Shape := ⟨2, ![4096, 512]⟩
abbrev S4096x128 : Shape := ⟨2, ![4096, 128]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4096x1024 .f32) (main_arg2 : FVec F S4096x512 .bf16) (main_arg3 : FVec F S4096x512 .bf16) (main_arg4 : FVec F S4096x512 .bf16) (main_arg5 : FVec F S4096x512 .bf16) (main_arg6 : FVec F S4096x512 .bf16) (main_arg7 : FVec F S4096x128 .bf16) (main_arg8 : FVec F S4096x128 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_place_loss.lean ====
abbrev S1 : Shape := ⟨1, ![1]⟩
abbrev S4096x2816 : Shape := ⟨2, ![4096, 2816]⟩
abbrev S4096x1024 : Shape := ⟨2, ![4096, 1024]⟩
abbrev S4096x256 : Shape := ⟨2, ![4096, 256]⟩
abbrev S2816x1024 : Shape := ⟨2, ![2816, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4096x2816 .bf16) (main_arg2 : FVec F S4096x2816 .bf16) (main_arg3 : FVec F S4096x2816 .bf16) (main_arg4 : FVec F S4096x1024 .f32) (main_arg5 : FVec F S4096x256 .f32) (main_arg6 : FVec F S4096x1024 .f32) (main_arg7 : FVec F S2816x1024 .f32) (main_arg8 : FVec F S256x1024 .f32) (main_arg9 : FVec F S1024x1024 .f32) (main_arg10 : FVec F S1x1024 .f32) (main_arg11 : FVec F S1x1024 .f32) (main_arg12 : FVec F S1x1024 .f32) (main_arg13 : FVec F S1x1024 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 8#32
  let main_v2 : IVec S1 32 := broadcastInDim S1 ![] bcast_S_S1 main_c_0
  let main_v3 : IVec S1 1 := cmpi .slt main_arg0 main_v2
  let main_v4 : IVec S1 1 := andi main_v1 main_v3
  main_v4
-- ==== Kernel.lean ====
abbrev S4096x2816 : Shape := ⟨2, ![4096, 2816]⟩
abbrev S4096x512 : Shape := ⟨2, ![4096, 512]⟩
abbrev S128x256x128 : Shape := ⟨3, ![128, 256, 128]⟩
abbrev S8 : Shape := ⟨1, ![8]⟩
abbrev S1x512 : Shape := ⟨2, ![1, 512]⟩
abbrev S32x512 : Shape := ⟨2, ![32, 512]⟩
abbrev S4096x128 : Shape := ⟨2, ![4096, 128]⟩
abbrev S32x128 : Shape := ⟨2, ![32, 128]⟩
abbrev S2048x128 : Shape := ⟨2, ![2048, 128]⟩
abbrev S1x128 : Shape := ⟨2, ![1, 128]⟩
abbrev S1024x256 : Shape := ⟨2, ![1024, 256]⟩
abbrev S16x256x128 : Shape := ⟨3, ![16, 256, 128]⟩
abbrev S16x128 : Shape := ⟨2, ![16, 128]⟩
abbrev S8x128 : Shape := ⟨2, ![8, 128]⟩
abbrev S2304x128 : Shape := ⟨2, ![2304, 128]⟩
abbrev S3x512x384 : Shape := ⟨3, ![3, 512, 384]⟩
abbrev S1 : Shape := ⟨1, ![1]⟩
abbrev S128x1 : Shape := ⟨2, ![128, 1]⟩
abbrev S128x128 : Shape := ⟨2, ![128, 128]⟩
abbrev S128x256 : Shape := ⟨2, ![128, 256]⟩
abbrev S256x128 : Shape := ⟨2, ![256, 128]⟩
abbrev S512x384 : Shape := ⟨2, ![512, 384]⟩
abbrev S1x512x384 : Shape := ⟨3, ![1, 512, 384]⟩
abbrev S512x1 : Shape := ⟨2, ![512, 1]⟩
abbrev S128 : Shape := ⟨1, ![128]⟩
abbrev S1x256x128 : Shape := ⟨3, ![1, 256, 128]⟩
abbrev S1x128x128 : Shape := ⟨3, ![1, 128, 128]⟩
abbrev S1x256 : Shape := ⟨2, ![1, 256]⟩
abbrev S256 : Shape := ⟨1, ![256]⟩
abbrev S512x128 : Shape := ⟨2, ![512, 128]⟩
abbrev S384x128 : Shape := ⟨2, ![384, 128]⟩
abbrev S512 : Shape := ⟨1, ![512]⟩
abbrev S1x128x1 : Shape := ⟨3, ![1, 128, 1]⟩
abbrev S1x1x1 : Shape := ⟨3, ![1, 1, 1]⟩

abbrev nBuf : Space → Nat
  | .hbm => 19
  | .vmem => 51
  | .smem => 3
  | _ => 0

abbrev bufTy : (tb : Table) → Fin (tcTables nBuf tb) → BufTy
  | .hbm, ⟨0, _⟩ => ⟨S4096x2816, .bf16⟩
  | .hbm, ⟨1, _⟩ => ⟨S4096x512, .f32⟩
  | .hbm, ⟨2, _⟩ => ⟨S4096x512, .f32⟩
  | .hbm, ⟨3, _⟩ => ⟨S128x256x128, .f32⟩
  | .hbm, ⟨4, _⟩ => ⟨S4096x512, .bf16⟩
  | .hbm, ⟨5, _⟩ => ⟨S4096x512, .bf16⟩
  | .hbm, ⟨6, _⟩ => ⟨S8, .f32⟩
  | .hbm, ⟨7, _⟩ => ⟨S8, .f32⟩
  | .hbm, ⟨8, _⟩ => ⟨S1x512, .f32⟩
  | .hbm, ⟨9, _⟩ => ⟨S8, .f32⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S32x512, .f32⟩
  | .hbm, ⟨15, _⟩ => ⟨S4096x512, .bf16⟩
  | .hbm, ⟨16, _⟩ => ⟨S4096x128, .bf16⟩
  | .hbm, ⟨17, _⟩ => ⟨S4096x128, .bf16⟩
  | .hbm, ⟨18, _⟩ => ⟨S32x128, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .bf16⟩
  | .local _ .vmem, ⟨13, _⟩ => ⟨S2048x128, .bf16⟩
  | .local _ .vmem, ⟨14, _⟩ => ⟨S1x128, .f32⟩
  | .local _ .vmem, ⟨15, _⟩ => ⟨S1x128, .f32⟩
  | .local _ .vmem, ⟨16, _⟩ => ⟨S1024x256, .bf16⟩
  | .local _ .vmem, ⟨17, _⟩ => ⟨S1024x256, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1024x256, .bf16⟩
  | .local _ .vmem, ⟨23, _⟩ => ⟨S1024x256, .bf16⟩
  | .local _ .vmem, ⟨24, _⟩ => ⟨S16x256x128, .f32⟩
  | .local _ .vmem, ⟨25, _⟩ => ⟨S16x256x128, .f32⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .bf16⟩
  | .local _ .vmem, ⟨30, _⟩ => ⟨S2048x128, .bf16⟩
  | .local _ .vmem, ⟨31, _⟩ => ⟨S2048x128, .bf16⟩
  | .local _ .vmem, ⟨32, _⟩ => ⟨S2048x128, .bf16⟩
  | .local _ .vmem, ⟨33, _⟩ => ⟨S2048x128, .bf16⟩
  | .local _ .vmem, ⟨34, _⟩ => ⟨S16x128, .f32⟩
  | .local _ .vmem, ⟨35, _⟩ => ⟨S16x128, .f32⟩
  | .local _ .vmem, ⟨36, _⟩ => ⟨S1024x256, .bf16⟩
  | .local _ .vmem, ⟨37, _⟩ => ⟨S1024x256, .bf16⟩
  | .local _ .vmem, ⟨38, _⟩ => ⟨S2048x128, .bf16⟩
  | .local _ .vmem, ⟨39, _⟩ => ⟨S2048x128, .bf16⟩
  | .local _ .vmem, ⟨40, _⟩ => ⟨S2048x128, .bf16⟩
  | .local _ .vmem, ⟨41, _⟩ => ⟨S2048x128, .bf16⟩
  | .local _ .vmem, ⟨42, _⟩ => ⟨S8x128, .f32⟩
  | .local _ .vmem, ⟨43, _⟩ => ⟨S8x128, .f32⟩
  | .local _ .vmem, ⟨44, _⟩ => ⟨S16x256x128, .f32⟩
  | .local _ .vmem, ⟨45, _⟩ => ⟨S2048x128, .bf16⟩
  | .local _ .vmem, ⟨46, _⟩ => ⟨S2304x128, .bf16⟩
  | .local _ .vmem, ⟨47, _⟩ => ⟨S2304x128, .bf16⟩
  | .local _ .vmem, ⟨48, _⟩ => ⟨S3x512x384, .f32⟩
  | .local _ .vmem, ⟨49, _⟩ => ⟨S2304x128, .f32⟩
  | .local _ .vmem, ⟨50, _⟩ => ⟨S2304x128, .f32⟩
  | .local _ .smem, ⟨0, _⟩ => ⟨S8, .f32⟩
  | .local _ .smem, ⟨1, _⟩ => ⟨S8, .f32⟩
  | .local _ .smem, ⟨2, _⟩ => ⟨S8, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_stg21_0 : Ref sig .tc := ⟨.vmem, 36, rfl⟩
abbrev cc0_stg21_1 : Ref sig .tc := ⟨.vmem, 37, rfl⟩
abbrev cc0_stg22_0 : Ref sig .tc := ⟨.vmem, 38, rfl⟩
abbrev cc0_stg22_1 : Ref sig .tc := ⟨.vmem, 39, rfl⟩
abbrev cc0_stg23_0 : Ref sig .tc := ⟨.vmem, 40, rfl⟩
abbrev cc0_stg23_1 : Ref sig .tc := ⟨.vmem, 41, rfl⟩
abbrev cc0_stg24_0 : Ref sig .tc := ⟨.vmem, 42, rfl⟩
abbrev cc0_stg24_1 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_scratch3 : Ref sig .tc := ⟨.vmem, 47, rfl⟩
abbrev cc0_scratch4 : Ref sig .tc := ⟨.vmem, 48, rfl⟩
abbrev cc0_scratch5 : Ref sig .tc := ⟨.vmem, 49, rfl⟩
abbrev cc0_scratch6 : Ref sig .tc := ⟨.vmem, 50, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42
abbrev cc0_sem23_0 : DmaSem sig := 43
abbrev cc0_sem23_1 : DmaSem sig := 44
abbrev cc0_sem24_0 : DmaSem sig := 45
abbrev cc0_sem24_1 : DmaSem sig := 46

abbrev nD : Nat := 1
abbrev τ : Topo := Topo.v7x

variable {F : FTy → Type} [FloatOps F]

abbrev grid0 : Pipeline.Grid := ⟨2, ![2, 4], ![false, false]⟩

def k0_off1 (i : grid0.Coords) : Fin 1 → Nat :=
  let c2_i32 : BitVec 32 := 2#32
  let arg1 : BitVec 32 := BitVec.ofNat 32 (i 1).val
  let v5 : BitVec 32 := Scalar.muli c2_i32 arg1
  let v6 : Index := Scalar.indexCast v5
  ![v6.toNat]
def k0_off2 (i : grid0.Coords) : Fin 1 → Nat :=
  let c2_i32_1 : BitVec 32 := 2#32
  let arg1 : BitVec 32 := BitVec.ofNat 32 (i 1).val
  let v8 : BitVec 32 := Scalar.muli c2_i32_1 arg1
  let c1_i32_2 : BitVec 32 := 1#32
  let v9 : BitVec 32 := Scalar.addi v8 c1_i32_2
  let v10 : Index := Scalar.indexCast v9
  ![v10.toNat]
def k0_off3 (i : grid0.Coords) (c0_i32_36 : BitVec 32) : Fin 1 → Nat :=
  let c4_i32 : BitVec 32 := 4#32
  let arg1 : BitVec 32 := BitVec.ofNat 32 (i 1).val
  let c1_i32 : BitVec 32 := 1#32
  let v0 : BitVec 32 := Scalar.shrui arg1 c1_i32
  let v145 : BitVec 32 := Scalar.muli c4_i32 v0
  let v146 : BitVec 32 := Scalar.addi v145 c0_i32_36
  let v147 : Index := Scalar.indexCast v146
  ![v147.toNat]
@[reducible] def k0_t1_loop : Scf.Loop 32 :=
  let c0_i32_46 : BitVec 32 := 0#32
  let c2_i32_47 : BitVec 32 := 2#32
  let v177 : BitVec 32 := Scalar.addi c0_i32_46 c2_i32_47
  let c1_i32_48 : BitVec 32 := 1#32
  ⟨c0_i32_46, v177, c1_i32_48⟩
def k0_mult1 (k0_t1 : Fin k0_t1_loop.trips) : BitVec 32 :=
  let c0_i32_46 : BitVec 32 := 0#32
  let c1_i32_48 : BitVec 32 := 1#32
  let arg34 : BitVec 32 := Scf.iv c0_i32_46 c1_i32_48 k0_t1
  let c8_i32 : BitVec 32 := 8#32
  let v210 : BitVec 32 := Scalar.muli arg34 c8_i32
  let c0_i32_81 : BitVec 32 := 0#32
  let v211 : BitVec 32 := Scalar.addi v210 c0_i32_81
  let c128_i32_82 : BitVec 32 := 128#32
  let v212 : BitVec 32 := Scalar.muli v211 c128_i32_82
  v212
def k0_off4 (k0_t1 : Fin k0_t1_loop.trips) (c0_i32_81 : BitVec 32) : Fin 2 → Nat :=
  let c0_i32_46 : BitVec 32 := 0#32
  let c1_i32_48 : BitVec 32 := 1#32
  let arg34 : BitVec 32 := Scf.iv c0_i32_46 c1_i32_48 k0_t1
  let c8_i32 : BitVec 32 := 8#32
  let v210 : BitVec 32 := Scalar.muli arg34 c8_i32
  let v211 : BitVec 32 := Scalar.addi v210 c0_i32_81
  let c128_i32_82 : BitVec 32 := 128#32
  let v212 : BitVec 32 := Scalar.muli v211 c128_i32_82
  let v213 : BitVec 32 := v212
  let v214 : Index := Scalar.indexCast v213
  let c0_83 : Index := 0#32
  ![v214.toNat, 0]
def k0_off5 (k0_t1 : Fin k0_t1_loop.trips) (c0_i32_81 : BitVec 32) : Fin 3 → Nat :=
  let c0_i32_46 : BitVec 32 := 0#32
  let c1_i32_48 : BitVec 32 := 1#32
  let arg34 : BitVec 32 := Scf.iv c0_i32_46 c1_i32_48 k0_t1
  let c8_i32 : BitVec 32 := 8#32
  let v210 : BitVec 32 := Scalar.muli arg34 c8_i32
  let v211 : BitVec 32 := Scalar.addi v210 c0_i32_81
  let v303 : Index := Scalar.indexCast v211
  let c0_104 : Index := 0#32
  let c0_105 : Index := 0#32
  ![v303.toNat, 0, 0]
def k0_mult2 (k0_t1 : Fin k0_t1_loop.trips) : BitVec 32 :=
  let c0_i32_46 : BitVec 32 := 0#32
  let c1_i32_48 : BitVec 32 := 1#32
  let arg34 : BitVec 32 := Scf.iv c0_i32_46 c1_i32_48 k0_t1
  let c8_i32_107 : BitVec 32 := 8#32
  let v312 : BitVec 32 := Scalar.muli arg34 c8_i32_107
  let c1_i32_108 : BitVec 32 := 1#32
  let v313 : BitVec 32 := Scalar.addi v312 c1_i32_108
  let c128_i32_109 : BitVec 32 := 128#32
  let v314 : BitVec 32 := Scalar.muli v313 c128_i32_109
  v314
def k0_mult3 (k0_t1 : Fin k0_t1_loop.trips) : BitVec 32 :=
  let c0_i32_46 : BitVec 32 := 0#32
  let c1_i32_48 : BitVec 32 := 1#32
  let arg34 : BitVec 32 := Scf.iv c0_i32_46 c1_i32_48 k0_t1
  let c8_i32_134 : BitVec 32 := 8#32
  let v414 : BitVec 32 := Scalar.muli arg34 c8_i32_134
  let c2_i32_135 : BitVec 32 := 2#32
  let v415 : BitVec 32 := Scalar.addi v414 c2_i32_135
  let c128_i32_136 : BitVec 32 := 128#32
  let v416 : BitVec 32 := Scalar.muli v415 c128_i32_136
  v416
def k0_mult4 (k0_t1 : Fin k0_t1_loop.trips) : BitVec 32 :=
  let c0_i32_46 : BitVec 32 := 0#32
  let c1_i32_48 : BitVec 32 := 1#32
  let arg34 : BitVec 32 := Scf.iv c0_i32_46 c1_i32_48 k0_t1
  let c8_i32_161 : BitVec 32 := 8#32
  let v516 : BitVec 32 := Scalar.muli arg34 c8_i32_161
  let c3_i32_162 : BitVec 32 := 3#32
  let v517 : BitVec 32 := Scalar.addi v516 c3_i32_162
  let c128_i32_163 : BitVec 32 := 128#32
  let v518 : BitVec 32 := Scalar.muli v517 c128_i32_163
  v518
def k0_mult5 (k0_t1 : Fin k0_t1_loop.trips) : BitVec 32 :=
  let c0_i32_46 : BitVec 32 := 0#32
  let c1_i32_48 : BitVec 32 := 1#32
  let arg34 : BitVec 32 := Scf.iv c0_i32_46 c1_i32_48 k0_t1
  let c8_i32_188 : BitVec 32 := 8#32
  let v618 : BitVec 32 := Scalar.muli arg34 c8_i32_188
  let c4_i32_189 : BitVec 32 := 4#32
  let v619 : BitVec 32 := Scalar.addi v618 c4_i32_189
  let c128_i32_190 : BitVec 32 := 128#32
  let v620 : BitVec 32 := Scalar.muli v619 c128_i32_190
  v620
def k0_mult6 (k0_t1 : Fin k0_t1_loop.trips) : BitVec 32 :=
  let c0_i32_46 : BitVec 32 := 0#32
  let c1_i32_48 : BitVec 32 := 1#32
  let arg34 : BitVec 32 := Scf.iv c0_i32_46 c1_i32_48 k0_t1
  let c8_i32_215 : BitVec 32 := 8#32
  let v720 : BitVec 32 := Scalar.muli arg34 c8_i32_215
  let c5_i32 : BitVec 32 := 5#32
  let v721 : BitVec 32 := Scalar.addi v720 c5_i32
  let c128_i32_216 : BitVec 32 := 128#32
  let v722 : BitVec 32 := Scalar.muli v721 c128_i32_216
  v722
def k0_mult7 (k0_t1 : Fin k0_t1_loop.trips) : BitVec 32 :=
  let c0_i32_46 : BitVec 32 := 0#32
  let c1_i32_48 : BitVec 32 := 1#32
  let arg34 : BitVec 32 := Scf.iv c0_i32_46 c1_i32_48 k0_t1
  let c8_i32_241 : BitVec 32 := 8#32
  let v822 : BitVec 32 := Scalar.muli arg34 c8_i32_241
  let c6_i32 : BitVec 32 := 6#32
  let v823 : BitVec 32 := Scalar.addi v822 c6_i32
  let c128_i32_242 : BitVec 32 := 128#32
  let v824 : BitVec 32 := Scalar.muli v823 c128_i32_242
  v824
def k0_mult8 (k0_t1 : Fin k0_t1_loop.trips) : BitVec 32 :=
  let c0_i32_46 : BitVec 32 := 0#32
  let c1_i32_48 : BitVec 32 := 1#32
  let arg34 : BitVec 32 := Scf.iv c0_i32_46 c1_i32_48 k0_t1
  let c8_i32_267 : BitVec 32 := 8#32
  let v924 : BitVec 32 := Scalar.muli arg34 c8_i32_267
  let c7_i32_268 : BitVec 32 := 7#32
  let v925 : BitVec 32 := Scalar.addi v924 c7_i32_268
  let c128_i32_269 : BitVec 32 := 128#32
  let v926 : BitVec 32 := Scalar.muli v925 c128_i32_269
  v926
@[reducible] def k0_t2_loop : Scf.Loop 32 :=
  let c0_i32_51 : BitVec 32 := 0#32
  let c16_i32 : BitVec 32 := 16#32
  let v180 : BitVec 32 := Scalar.addi c0_i32_51 c16_i32
  let c1_i32_52 : BitVec 32 := 1#32
  ⟨c0_i32_51, v180, c1_i32_52⟩
def k0_off6 (k0_t2 : Fin k0_t2_loop.trips) : Fin 3 → Nat :=
  let c0_i32_51 : BitVec 32 := 0#32
  let c1_i32_52 : BitVec 32 := 1#32
  let arg34 : BitVec 32 := Scf.iv c0_i32_51 c1_i32_52 k0_t2
  let v210 : Index := Scalar.indexCast arg34
  let c128 : Index := 128#32
  let c0_81 : Index := 0#32
  ![v210.toNat, 128, 0]
@[reducible] def k0_t3_loop : Scf.Loop 32 :=
  let c0_i32_54 : BitVec 32 := 0#32
  let c16_i32_55 : BitVec 32 := 16#32
  let v182 : BitVec 32 := Scalar.addi c0_i32_54 c16_i32_55
  let c1_i32_56 : BitVec 32 := 1#32
  ⟨c0_i32_54, v182, c1_i32_56⟩
def k0_off7 (k0_t3 : Fin k0_t3_loop.trips) : Fin 3 → Nat :=
  let c15_i32 : BitVec 32 := 15#32
  let c0_i32_54 : BitVec 32 := 0#32
  let c1_i32_56 : BitVec 32 := 1#32
  let arg34 : BitVec 32 := Scf.iv c0_i32_54 c1_i32_56 k0_t3
  let v210 : BitVec 32 := Scalar.subi c15_i32 arg34
  let v211 : Index := Scalar.indexCast v210
  let c0_81 : Index := 0#32
  let c0_82 : Index := 0#32
  ![v211.toNat, 0, 0]
@[reducible] def k0_t4_loop : Scf.Loop 32 :=
  let c0_i32_60 : BitVec 32 := 0#32
  let c2_i32_61 : BitVec 32 := 2#32
  let v186 : BitVec 32 := Scalar.addi c0_i32_60 c2_i32_61
  let c1_i32_62 : BitVec 32 := 1#32
  ⟨c0_i32_60, v186, c1_i32_62⟩
def k0_mult9 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c8_i32 : BitVec 32 := 8#32
  let v210 : BitVec 32 := Scalar.muli arg34 c8_i32
  let c0_i32_81 : BitVec 32 := 0#32
  let v211 : BitVec 32 := Scalar.addi v210 c0_i32_81
  let c128_i32_82 : BitVec 32 := 128#32
  let v212 : BitVec 32 := Scalar.muli v211 c128_i32_82
  v212
def k0_off8 (k0_t4 : Fin k0_t4_loop.trips) (c0_i32_81 : BitVec 32) : Fin 2 → Nat :=
  let c0_i32_60 : BitVec 32 := 0#32
  let c1_i32_62 : BitVec 32 := 1#32
  let arg34 : BitVec 32 := Scf.iv c0_i32_60 c1_i32_62 k0_t4
  let c8_i32 : BitVec 32 := 8#32
  let v210 : BitVec 32 := Scalar.muli arg34 c8_i32
  let v211 : BitVec 32 := Scalar.addi v210 c0_i32_81
  let c128_i32_82 : BitVec 32 := 128#32
  let v212 : BitVec 32 := Scalar.muli v211 c128_i32_82
  let v213 : BitVec 32 := v212
  let v214 : Index := Scalar.indexCast v213
  let c0_83 : Index := 0#32
  ![v214.toNat, 0]
def k0_off9 (k0_t4 : Fin k0_t4_loop.trips) (c0_i32_81 : BitVec 32) : Fin 3 → Nat :=
  let c0_i32_60 : BitVec 32 := 0#32
  let c1_i32_62 : BitVec 32 := 1#32
  let arg34 : BitVec 32 := Scf.iv c0_i32_60 c1_i32_62 k0_t4
  let c8_i32 : BitVec 32 := 8#32
  let v210 : BitVec 32 := Scalar.muli arg34 c8_i32
  let v211 : BitVec 32 := Scalar.addi v210 c0_i32_81
  let v276 : Index := Scalar.indexCast v211
  let c0_99 : Index := 0#32
  let c0_100 : Index := 0#32
  ![v276.toNat, 0, 0]
def k0_mult10 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c8_i32_113 : BitVec 32 := 8#32
  let v331 : BitVec 32 := Scalar.muli arg34 c8_i32_113
  let c1_i32_114 : BitVec 32 := 1#32
  let v332 : BitVec 32 := Scalar.addi v331 c1_i32_114
  let c128_i32_115 : BitVec 32 := 128#32
  let v333 : BitVec 32 := Scalar.muli v332 c128_i32_115
  v333
def k0_mult11 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c4_i32_146 : BitVec 32 := 4#32
  let v452 : BitVec 32 := Scalar.muli arg34 c4_i32_146
  let c0_i32_147 : BitVec 32 := 0#32
  let v453 : BitVec 32 := Scalar.addi v452 c0_i32_147
  let c128_i32_149 : BitVec 32 := 128#32
  let v456 : BitVec 32 := Scalar.muli v453 c128_i32_149
  v456
def k0_mult12 (i : grid0.Coords) (k0_t4 : Fin k0_t4_loop.trips) : BitVec 32 :=
  let arg1 : BitVec 32 := BitVec.ofNat 32 (i 1).val
  let c1_i32_0 : BitVec 32 := 1#32
  let v1 : BitVec 32 := Scalar.andi arg1 c1_i32_0
  let c8_i32_148 : BitVec 32 := 8#32
  let v454 : BitVec 32 := Scalar.muli v1 c8_i32_148
  let c0_i32_60 : BitVec 32 := 0#32
  let c1_i32_62 : BitVec 32 := 1#32
  let arg34 : BitVec 32 := Scf.iv c0_i32_60 c1_i32_62 k0_t4
  let c4_i32_146 : BitVec 32 := 4#32
  let v452 : BitVec 32 := Scalar.muli arg34 c4_i32_146
  let c0_i32_147 : BitVec 32 := 0#32
  let v453 : BitVec 32 := Scalar.addi v452 c0_i32_147
  let v455 : BitVec 32 := Scalar.addi v454 v453
  let c128_i32_150 : BitVec 32 := 128#32
  let v458 : BitVec 32 := Scalar.muli v455 c128_i32_150
  v458
def k0_off10 (k0_t4 : Fin k0_t4_loop.trips) (c0_i32_147 : BitVec 32) : Fin 2 → Nat :=
  let c0_i32_60 : BitVec 32 := 0#32
  let c1_i32_62 : BitVec 32 := 1#32
  let arg34 : BitVec 32 := Scf.iv c0_i32_60 c1_i32_62 k0_t4
  let c4_i32_146 : BitVec 32 := 4#32
  let v452 : BitVec 32 := Scalar.muli arg34 c4_i32_146
  let v453 : BitVec 32 := Scalar.addi v452 c0_i32_147
  let c128_i32_149 : BitVec 32 := 128#32
  let v456 : BitVec 32 := Scalar.muli v453 c128_i32_149
  let v457 : BitVec 32 := v456
  let v460 : Index := Scalar.indexCast v457
  let c0_151 : Index := 0#32
  ![v460.toNat, 0]
def k0_off11 (i : grid0.Coords) (k0_t4 : Fin k0_t4_loop.trips) (c0_i32_147 : BitVec 32) : Fin 2 → Nat :=
  let arg1 : BitVec 32 := BitVec.ofNat 32 (i 1).val
  let c1_i32_0 : BitVec 32 := 1#32
  let v1 : BitVec 32 := Scalar.andi arg1 c1_i32_0
  let c8_i32_148 : BitVec 32 := 8#32
  let v454 : BitVec 32 := Scalar.muli v1 c8_i32_148
  let c0_i32_60 : BitVec 32 := 0#32
  let c1_i32_62 : BitVec 32 := 1#32
  let arg34 : BitVec 32 := Scf.iv c0_i32_60 c1_i32_62 k0_t4
  let c4_i32_146 : BitVec 32 := 4#32
  let v452 : BitVec 32 := Scalar.muli arg34 c4_i32_146
  let v453 : BitVec 32 := Scalar.addi v452 c0_i32_147
  let v455 : BitVec 32 := Scalar.addi v454 v453
  let c128_i32_150 : BitVec 32 := 128#32
  let v458 : BitVec 32 := Scalar.muli v455 c128_i32_150
  let v459 : BitVec 32 := v458
  let v498 : Index := Scalar.indexCast v459
  let c0_158 : Index := 0#32
  ![v498.toNat, 0]
def k0_off12 (i : grid0.Coords) (k0_t4 : Fin k0_t4_loop.trips) (c0_i32_147 : BitVec 32) : Fin 3 → Nat :=
  let arg1 : BitVec 32 := BitVec.ofNat 32 (i 1).val
  let c1_i32_0 : BitVec 32 := 1#32
  let v1 : BitVec 32 := Scalar.andi arg1 c1_i32_0
  let c8_i32_148 : BitVec 32 := 8#32
  let v454 : BitVec 32 := Scalar.muli v1 c8_i32_148
  let c0_i32_60 : BitVec 32 := 0#32
  let c1_i32_62 : BitVec 32 := 1#32
  let arg34 : BitVec 32 := Scf.iv c0_i32_60 c1_i32_62 k0_t4
  let c4_i32_146 : BitVec 32 := 4#32
  let v452 : BitVec 32 := Scalar.muli arg34 c4_i32_146
  let v453 : BitVec 32 := Scalar.addi v452 c0_i32_147
  let v455 : BitVec 32 := Scalar.addi v454 v453
  let c0_i32_160 : BitVec 32 := 0#32
  let v502 : BitVec 1 := Scalar.cmpi .eq v455 c0_i32_160
  let c1_i32_163 : BitVec 32 := 1#32
  let c15_i32 : BitVec 32 := 15#32
  let v503 : BitVec 1 := Scalar.cmpi .eq v455 c15_i32
  let c2_i32_161 : BitVec 32 := 2#32
  let c0_i32_162 : BitVec 32 := 0#32
  let v504 : BitVec 32 := Scalar.select v503 c2_i32_161 c0_i32_162
  let v505 : BitVec 32 := Scalar.select v502 c1_i32_163 v504
  let v507 : Index := Scalar.indexCast v505
  let c0_165 : Index := 0#32
  let c0_166 : Index := 0#32
  ![v507.toNat, 0, 0]
def k0_mult13 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c8_i32_213 : BitVec 32 := 8#32
  let v664 : BitVec 32 := Scalar.muli arg34 c8_i32_213
  let c2_i32_214 : BitVec 32 := 2#32
  let v665 : BitVec 32 := Scalar.addi v664 c2_i32_214
  let c128_i32_215 : BitVec 32 := 128#32
  let v666 : BitVec 32 := Scalar.muli v665 c128_i32_215
  v666
def k0_mult14 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c4_i32_246 : BitVec 32 := 4#32
  let v785 : BitVec 32 := Scalar.muli arg34 c4_i32_246
  let c1_i32_247 : BitVec 32 := 1#32
  let v786 : BitVec 32 := Scalar.addi v785 c1_i32_247
  let c128_i32_249 : BitVec 32 := 128#32
  let v789 : BitVec 32 := Scalar.muli v786 c128_i32_249
  v789
def k0_mult15 (i : grid0.Coords) (k0_t4 : Fin k0_t4_loop.trips) : BitVec 32 :=
  let arg1 : BitVec 32 := BitVec.ofNat 32 (i 1).val
  let c1_i32_0 : BitVec 32 := 1#32
  let v1 : BitVec 32 := Scalar.andi arg1 c1_i32_0
  let c8_i32_248 : BitVec 32 := 8#32
  let v787 : BitVec 32 := Scalar.muli v1 c8_i32_248
  let c0_i32_60 : BitVec 32 := 0#32
  let c1_i32_62 : BitVec 32 := 1#32
  let arg34 : BitVec 32 := Scf.iv c0_i32_60 c1_i32_62 k0_t4
  let c4_i32_246 : BitVec 32 := 4#32
  let v785 : BitVec 32 := Scalar.muli arg34 c4_i32_246
  let c1_i32_247 : BitVec 32 := 1#32
  let v786 : BitVec 32 := Scalar.addi v785 c1_i32_247
  let v788 : BitVec 32 := Scalar.addi v787 v786
  let c128_i32_250 : BitVec 32 := 128#32
  let v791 : BitVec 32 := Scalar.muli v788 c128_i32_250
  v791
def k0_mult16 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c8_i32_315 : BitVec 32 := 8#32
  let v997 : BitVec 32 := Scalar.muli arg34 c8_i32_315
  let c3_i32_316 : BitVec 32 := 3#32
  let v998 : BitVec 32 := Scalar.addi v997 c3_i32_316
  let c128_i32_317 : BitVec 32 := 128#32
  let v999 : BitVec 32 := Scalar.muli v998 c128_i32_317
  v999
def k0_mult17 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c8_i32_348 : BitVec 32 := 8#32
  let v1118 : BitVec 32 := Scalar.muli arg34 c8_i32_348
  let c4_i32_349 : BitVec 32 := 4#32
  let v1119 : BitVec 32 := Scalar.addi v1118 c4_i32_349
  let c128_i32_350 : BitVec 32 := 128#32
  let v1120 : BitVec 32 := Scalar.muli v1119 c128_i32_350
  v1120
def k0_mult18 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c8_i32_381 : BitVec 32 := 8#32
  let v1239 : BitVec 32 := Scalar.muli arg34 c8_i32_381
  let c5_i32 : BitVec 32 := 5#32
  let v1240 : BitVec 32 := Scalar.addi v1239 c5_i32
  let c128_i32_382 : BitVec 32 := 128#32
  let v1241 : BitVec 32 := Scalar.muli v1240 c128_i32_382
  v1241
def k0_mult19 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c4_i32_413 : BitVec 32 := 4#32
  let v1360 : BitVec 32 := Scalar.muli arg34 c4_i32_413
  let c2_i32_414 : BitVec 32 := 2#32
  let v1361 : BitVec 32 := Scalar.addi v1360 c2_i32_414
  let c128_i32_416 : BitVec 32 := 128#32
  let v1364 : BitVec 32 := Scalar.muli v1361 c128_i32_416
  v1364
def k0_mult20 (i : grid0.Coords) (k0_t4 : Fin k0_t4_loop.trips) : BitVec 32 :=
  let arg1 : BitVec 32 := BitVec.ofNat 32 (i 1).val
  let c1_i32_0 : BitVec 32 := 1#32
  let v1 : BitVec 32 := Scalar.andi arg1 c1_i32_0
  let c8_i32_415 : BitVec 32 := 8#32
  let v1362 : BitVec 32 := Scalar.muli v1 c8_i32_415
  let c0_i32_60 : BitVec 32 := 0#32
  let c1_i32_62 : BitVec 32 := 1#32
  let arg34 : BitVec 32 := Scf.iv c0_i32_60 c1_i32_62 k0_t4
  let c4_i32_413 : BitVec 32 := 4#32
  let v1360 : BitVec 32 := Scalar.muli arg34 c4_i32_413
  let c2_i32_414 : BitVec 32 := 2#32
  let v1361 : BitVec 32 := Scalar.addi v1360 c2_i32_414
  let v1363 : BitVec 32 := Scalar.addi v1362 v1361
  let c128_i32_417 : BitVec 32 := 128#32
  let v1366 : BitVec 32 := Scalar.muli v1363 c128_i32_417
  v1366
def k0_mult21 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c8_i32_482 : BitVec 32 := 8#32
  let v1572 : BitVec 32 := Scalar.muli arg34 c8_i32_482
  let c6_i32_483 : BitVec 32 := 6#32
  let v1573 : BitVec 32 := Scalar.addi v1572 c6_i32_483
  let c128_i32_484 : BitVec 32 := 128#32
  let v1574 : BitVec 32 := Scalar.muli v1573 c128_i32_484
  v1574
def k0_mult22 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c4_i32_515 : BitVec 32 := 4#32
  let v1693 : BitVec 32 := Scalar.muli arg34 c4_i32_515
  let c3_i32_516 : BitVec 32 := 3#32
  let v1694 : BitVec 32 := Scalar.addi v1693 c3_i32_516
  let c128_i32_518 : BitVec 32 := 128#32
  let v1697 : BitVec 32 := Scalar.muli v1694 c128_i32_518
  v1697
def k0_mult23 (i : grid0.Coords) (k0_t4 : Fin k0_t4_loop.trips) : BitVec 32 :=
  let arg1 : BitVec 32 := BitVec.ofNat 32 (i 1).val
  let c1_i32_0 : BitVec 32 := 1#32
  let v1 : BitVec 32 := Scalar.andi arg1 c1_i32_0
  let c8_i32_517 : BitVec 32 := 8#32
  let v1695 : BitVec 32 := Scalar.muli v1 c8_i32_517
  let c0_i32_60 : BitVec 32 := 0#32
  let c1_i32_62 : BitVec 32 := 1#32
  let arg34 : BitVec 32 := Scf.iv c0_i32_60 c1_i32_62 k0_t4
  let c4_i32_515 : BitVec 32 := 4#32
  let v1693 : BitVec 32 := Scalar.muli arg34 c4_i32_515
  let c3_i32_516 : BitVec 32 := 3#32
  let v1694 : BitVec 32 := Scalar.addi v1693 c3_i32_516
  let v1696 : BitVec 32 := Scalar.addi v1695 v1694
  let c128_i32_519 : BitVec 32 := 128#32
  let v1699 : BitVec 32 := Scalar.muli v1696 c128_i32_519
  v1699
def k0_mult24 (k0_t4 : Fin k0_t4_loop.trips) : BitVec 32 :=
  let c0_i32_60 : BitVec 32 := 0#32
  let c1_i32_62 : BitVec 32 := 1#32
  let arg34 : BitVec 32 := Scf.iv c0_i32_60 c1_i32_62 k0_t4
  let c8_i32_584 : BitVec 32 := 8#32
  let v1905 : BitVec 32 := Scalar.muli arg34 c8_i32_584
  let c7_i32_585 : BitVec 32 := 7#32
  let v1906 : BitVec 32 := Scalar.addi v1905 c7_i32_585
  let c128_i32_586 : BitVec 32 := 128#32
  let v1907 : BitVec 32 := Scalar.muli v1906 c128_i32_586
  v1907
def k0_cond3 (i : grid0.Coords) : BitVec 1 :=
  let arg1 : BitVec 32 := BitVec.ofNat 32 (i 1).val
  let c3_i32_79 : BitVec 32 := 3#32
  let v207 : BitVec 1 := Scalar.cmpi .eq arg1 c3_i32_79
  let v208 : BitVec 32 := Scalar.extui v207
  let c0_i32_80 : BitVec 32 := 0#32
  let v209 : BitVec 1 := Scalar.cmpi .ne v208 c0_i32_80
  v209

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.andi arg1 c1_i32
  let v2 : BitVec 32 := Scalar.addi v0 v1
  let c2_i32_0 : BitVec 32 := 2#32
  let v3 : BitVec 32 := Scalar.divsi arg1 c2_i32_0
  let c0_i32 : BitVec 32 := 0#32
  let v4 : BitVec 1 := Scalar.cmpi .sgt arg1 c0_i32
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32_0 c0_i32_2
  let v10 : BitVec 32 := Scalar.extui v9
  let c0_i32_3 : BitVec 32 := 0#32
  let v11 : BitVec 1 := Scalar.cmpi .slt c2_i32_0 c0_i32_3
  let v12 : BitVec 32 := Scalar.extui v11
  let v13 : BitVec 32 := Scalar.subi v10 v12
  let v14 : BitVec 1 := Scalar.cmpi .ne v8 v13
  let v15 : BitVec 32 := Scalar.remsi arg1 c2_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c8_i32 : BitVec 32 := 8#32
  let v20 : BitVec 32 := Scalar.addi c8_i32 v19
  let c0_i32_6 : BitVec 32 := 0#32
  ![v2.toNat, v20.toNat]

def cc0_transform_12 (i : grid0.Coords) : Fin 2 → Nat :=
  let arg0 : BitVec 32 := BitVec.ofNat 32 (i 0).val
  let arg1 : BitVec 32 := BitVec.ofNat 32 (i 1).val
  let c20_i32 : BitVec 32 := 20#32
  let c0_i32 : BitVec 32 := 0#32
  ![arg0.toNat, c20_i32.toNat]

def cc0_transform_13 (i : grid0.Coords) : Fin 2 → Nat :=
  let arg0 : BitVec 32 := BitVec.ofNat 32 (i 0).val
  let arg1 : BitVec 32 := BitVec.ofNat 32 (i 1).val
  let c21_i32 : BitVec 32 := 21#32
  let c0_i32 : BitVec 32 := 0#32
  ![arg0.toNat, c21_i32.toNat]

def cc0_transform_14 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.andi arg1 c1_i32
  let v2 : BitVec 32 := Scalar.addi v0 v1
  let c2_i32_0 : BitVec 32 := 2#32
  let v3 : BitVec 32 := Scalar.divsi arg1 c2_i32_0
  let c0_i32 : BitVec 32 := 0#32
  let v4 : BitVec 1 := Scalar.cmpi .sgt arg1 c0_i32
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32_0 c0_i32_2
  let v10 : BitVec 32 := Scalar.extui v9
  let c0_i32_3 : BitVec 32 := 0#32
  let v11 : BitVec 1 := Scalar.cmpi .slt c2_i32_0 c0_i32_3
  let v12 : BitVec 32 := Scalar.extui v11
  let v13 : BitVec 32 := Scalar.subi v10 v12
  let v14 : BitVec 1 := Scalar.cmpi .ne v8 v13
  let v15 : BitVec 32 := Scalar.remsi arg1 c2_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  ![v2.toNat, v19.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_21 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c1_i32 : BitVec 32 := 1#32
  let v1 : BitVec 32 := Scalar.andi arg1 c1_i32
  let v2 : BitVec 32 := Scalar.addi v0 v1
  let c2_i32_0 : BitVec 32 := 2#32
  let v3 : BitVec 32 := Scalar.divsi arg1 c2_i32_0
  let c0_i32 : BitVec 32 := 0#32
  let v4 : BitVec 1 := Scalar.cmpi .sgt arg1 c0_i32
  let v5 : BitVec 32 := Scalar.extui v4
  let c0_i32_1 : BitVec 32 := 0#32
  let v6 : BitVec 1 := Scalar.cmpi .slt arg1 c0_i32_1
  let v7 : BitVec 32 := Scalar.extui v6
  let v8 : BitVec 32 := Scalar.subi v5 v7
  let c0_i32_2 : BitVec 32 := 0#32
  let v9 : BitVec 1 := Scalar.cmpi .sgt c2_i32_0 c0_i32_2
  let v10 : BitVec 32 := Scalar.extui v9
  let c0_i32_3 : BitVec 32 := 0#32
  let v11 : BitVec 1 := Scalar.cmpi .slt c2_i32_0 c0_i32_3
  let v12 : BitVec 32 := Scalar.extui v11
  let v13 : BitVec 32 := Scalar.subi v10 v12
  let v14 : BitVec 1 := Scalar.cmpi .ne v8 v13
  let v15 : BitVec 32 := Scalar.remsi arg1 c2_i32_0
  let c0_i32_4 : BitVec 32 := 0#32
  let v16 : BitVec 1 := Scalar.cmpi .ne v15 c0_i32_4
  let v17 : BitVec 1 := Scalar.andi v14 v16
  let c1_i32_5 : BitVec 32 := 1#32
  let v18 : BitVec 32 := Scalar.subi v3 c1_i32_5
  let v19 : BitVec 32 := Scalar.select v17 v18 v3
  let c0_i32_6 : BitVec 32 := 0#32
  ![v2.toNat, v19.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let c2_i32_0 : BitVec 32 := 2#32
  let v1 : BitVec 32 := Scalar.divsi arg1 c2_i32_0
  let c0_i32 : BitVec 32 := 0#32
  let v2 : BitVec 1 := Scalar.cmpi .sgt arg1 c0_i32
  let v3 : BitVec 32 := Scalar.extui v2
  let c0_i32_1 : BitVec 32 := 0#32
  let v4 : BitVec 1 := Scalar.cmpi .slt arg1 c0_i32_1
  let v5 : BitVec 32 := Scalar.extui v4
  let v6 : BitVec 32 := Scalar.subi v3 v5
  let c0_i32_2 : BitVec 32 := 0#32
  let v7 : BitVec 1 := Scalar.cmpi .sgt c2_i32_0 c0_i32_2
  let v8 : BitVec 32 := Scalar.extui v7
  let c0_i32_3 : BitVec 32 := 0#32
  let v9 : BitVec 1 := Scalar.cmpi .slt c2_i32_0 c0_i32_3
  let v10 : BitVec 32 := Scalar.extui v9
  let v11 : BitVec 32 := Scalar.subi v8 v10
  let v12 : BitVec 1 := Scalar.cmpi .ne v6 v11
  let v13 : BitVec 32 := Scalar.remsi arg1 c2_i32_0
  let c0_i32_4 : BitVec 32 := 0#32
  let v14 : BitVec 1 := Scalar.cmpi .ne v13 c0_i32_4
  let v15 : BitVec 1 := Scalar.andi v12 v14
  let c1_i32 : BitVec 32 := 1#32
  let v16 : BitVec 32 := Scalar.subi v1 c1_i32
  let v17 : BitVec 32 := Scalar.select v15 v16 v1
  let v18 : BitVec 32 := Scalar.addi v0 v17
  let c0_i32_5 : BitVec 32 := 0#32
  let c0_i32_6 : BitVec 32 := 0#32
  ![v18.toNat, c0_i32_5.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2048x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2048x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1024x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S16x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S2048x128 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S2048x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S2048x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S2048x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S16x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1024x256 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S2048x128 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, false]

abbrev stage0_23 : Fin 2 → Memref sig .tc .vmem S2048x128 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, false]

abbrev stage0_24 : Fin 2 → Memref sig .tc .vmem S8x128 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]
-- ==== ReferenceIdeal.lean ====
abbrev S4096x2816 : Shape := ⟨2, ![4096, 2816]⟩
abbrev S4096x512 : Shape := ⟨2, ![4096, 512]⟩
abbrev S128x256x128 : Shape := ⟨3, ![128, 256, 128]⟩
abbrev S8 : Shape := ⟨1, ![8]⟩
abbrev S1x512 : Shape := ⟨2, ![1, 512]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x512, .f32⟩
  | .hbm, ⟨2, _⟩ => ⟨S4096x512, .f32⟩
  | .hbm, ⟨3, _⟩ => ⟨S128x256x128, .f32⟩
  | .hbm, ⟨4, _⟩ => ⟨S4096x512, .bf16⟩
  | .hbm, ⟨5, _⟩ => ⟨S4096x512, .bf16⟩
  | .hbm, ⟨6, _⟩ => ⟨S8, .f32⟩
  | .hbm, ⟨7, _⟩ => ⟨S8, .f32⟩
  | .hbm, ⟨8, _⟩ => ⟨S1x512, .f32⟩
  | .hbm, ⟨9, _⟩ => ⟨S8, .f32⟩
  | .hbm, ⟨10, _⟩ => ⟨S4096x512, .bf16⟩
  | .hbm, ⟨11, _⟩ => ⟨S4096x512, .f32⟩
  | .hbm, ⟨12, _⟩ => ⟨S4096x512, .f32⟩
  | .hbm, ⟨13, _⟩ => ⟨S4096x512, .f32⟩
  | .hbm, ⟨14, _⟩ => ⟨S4096x512, .f32⟩
  | .hbm, ⟨15, _⟩ => ⟨S4096x512, .f32⟩
  | .hbm, ⟨16, _⟩ => ⟨S_, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S4096x512, .f32⟩
  | .hbm, ⟨21, _⟩ => ⟨S4096x512, .f32⟩
  | .hbm, ⟨22, _⟩ => ⟨S_, .f32⟩
  | .hbm, ⟨23, _⟩ => ⟨S4096x512, .f32⟩
  | .hbm, ⟨24, _⟩ => ⟨S4096x512, .f32⟩
  | .hbm, ⟨25, _⟩ => ⟨S4096x512, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S4096x512, .f32⟩
  | .hbm, ⟨34, _⟩ => ⟨S4096x512, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_v4_2 : Ref sig .tc := ⟨.hbm, 21, rfl⟩
abbrev main_call0_cst_1 : Ref sig .tc := ⟨.hbm, 22, rfl⟩
abbrev main_call0_v6 : Ref sig .tc := ⟨.hbm, 23, rfl⟩
abbrev main_call0_v7 : Ref sig .tc := ⟨.hbm, 24, rfl⟩
abbrev main_v4_1 : Ref sig .tc := ⟨.hbm, 25, rfl⟩
abbrev main_v4_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v8 : Ref sig .tc := ⟨.hbm, 33, rfl⟩
abbrev main_v9 : Ref sig .tc := ⟨.hbm, 34, rfl⟩

abbrev nD : Nat := 1
abbrev τ : Topo := Topo.v7x

variable {F : FTy → Type} [FloatOps F]
-- ==== KernelDh1.lean ====
abbrev S1 : Shape := ⟨1, ![1]⟩
abbrev S4096x1024 : Shape := ⟨2, ![4096, 1024]⟩
abbrev S4096x512 : Shape := ⟨2, ![4096, 512]⟩
abbrev S4096x2816 : Shape := ⟨2, ![4096, 2816]⟩
abbrev S1024x1024 : Shape := ⟨2, ![1024, 1024]⟩
abbrev S1024x2816 : Shape := ⟨2, ![1024, 2816]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x128 : Shape := ⟨2, ![4096, 128]⟩
abbrev S2816x1024 : Shape := ⟨2, ![2816, 1024]⟩
abbrev S8x1024 : Shape := ⟨2, ![8, 1024]⟩
abbrev S128x1024 : Shape := ⟨2, ![128, 1024]⟩
abbrev S512x1024 : Shape := ⟨2, ![512, 1024]⟩
abbrev S512x2816 : Shape := ⟨2, ![512, 2816]⟩
abbrev S512x128 : Shape := ⟨2, ![512, 128]⟩
abbrev S512x512 : Shape := ⟨2, ![512, 512]⟩
abbrev S512x1 : Shape := ⟨2, ![512, 1]⟩
abbrev S512 : Shape := ⟨1, ![512]⟩
abbrev S1024 : Shape := ⟨1, ![1024]⟩

abbrev nBuf : Space → Nat
  | .hbm => 57
  | .vmem => 33
  | .smem => 1
  | _ => 0

abbrev bufTy : (tb : Table) → Fin (tcTables nBuf tb) → BufTy
  | .hbm, ⟨0, _⟩ => ⟨S1, .i32⟩
  | .hbm, ⟨1, _⟩ => ⟨S4096x1024, .f32⟩
  | .hbm, ⟨2, _⟩ => ⟨S4096x512, .bf16⟩
  | .hbm, ⟨3, _⟩ => ⟨S4096x512, .bf16⟩
  | .hbm, ⟨4, _⟩ => ⟨S4096x1024, .f32⟩
  | .hbm, ⟨5, _⟩ => ⟨S4096x2816, .bf16⟩
  | .hbm, ⟨6, _⟩ => ⟨S4096x2816, .bf16⟩
  | .hbm, ⟨7, _⟩ => ⟨S4096x1024, .bf16⟩
  | .hbm, ⟨8, _⟩ => ⟨S1024x1024, .f32⟩
  | .hbm, ⟨9, _⟩ => ⟨S1024x2816, .f32⟩
  | .hbm, ⟨10, _⟩ => ⟨S1024x2816, .f32⟩
  | .hbm, ⟨11, _⟩ => ⟨S1024x1024, .f32⟩
  | .hbm, ⟨12, _⟩ => ⟨S1x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .bf16⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x128, .f32⟩
  | .hbm, ⟨44, _⟩ => ⟨S2816x1024, .f32⟩
  | .hbm, ⟨45, _⟩ => ⟨S2816x1024, .bf16⟩
  | .hbm, ⟨46, _⟩ => ⟨S2816x1024, .f32⟩
  | .hbm, ⟨47, _⟩ => ⟨S2816x1024, .bf16⟩
  | .hbm, ⟨48, _⟩ => ⟨S1024x1024, .bf16⟩
  | .hbm, ⟨49, _⟩ => ⟨S1024x1024, .bf16⟩
  | .hbm, ⟨50, _⟩ => ⟨S4096x1024, .f32⟩
  | .hbm, ⟨51, _⟩ => ⟨S4096x1024, .bf16⟩
  | .hbm, ⟨52, _⟩ => ⟨S4096x512, .bf16⟩
  | .hbm, ⟨53, _⟩ => ⟨S4096x512, .bf16⟩
  | .hbm, ⟨54, _⟩ => ⟨S8x1024, .f32⟩
  | .hbm, ⟨55, _⟩ => ⟨S1024x1024, .bf16⟩
  | .hbm, ⟨56, _⟩ => ⟨S128x1024, .f32⟩
  | .local _ .vmem, ⟨0, _⟩ => ⟨S512x1024, .f32⟩
  | .local _ .vmem, ⟨1, _⟩ => ⟨S512x1024, .f32⟩
  | .local _ .vmem, ⟨2, _⟩ => ⟨S512x2816, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x128, .f32⟩
  | .local _ .vmem, ⟨11, _⟩ => ⟨S512x128, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S2816x1024, .bf16⟩
  | .local _ .vmem, ⟨17, _⟩ => ⟨S2816x1024, .bf16⟩
  | .local _ .vmem, ⟨18, _⟩ => ⟨S1024x1024, .bf16⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .bf16⟩
  | .local _ .vmem, ⟨24, _⟩ => ⟨S512x1024, .bf16⟩
  | .local _ .vmem, ⟨25, _⟩ => ⟨S512x512, .bf16⟩
  | .local _ .vmem, ⟨26, _⟩ => ⟨S512x512, .bf16⟩
  | .local _ .vmem, ⟨27, _⟩ => ⟨S512x512, .bf16⟩
  | .local _ .vmem, ⟨28, _⟩ => ⟨S512x512, .bf16⟩
  | .local _ .vmem, ⟨29, _⟩ => ⟨S8x1024, .f32⟩
  | .local _ .vmem, ⟨30, _⟩ => ⟨S1024x1024, .bf16⟩
  | .local _ .vmem, ⟨31, _⟩ => ⟨S128x1024, .f32⟩
  | .local _ .vmem, ⟨32, _⟩ => ⟨S1024x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31_0 : Ref sig .tc := ⟨.hbm, 50, rfl⟩
abbrev main_v31_1 : Ref sig .tc := ⟨.hbm, 51, rfl⟩
abbrev main_v31_2 : Ref sig .tc := ⟨.hbm, 52, rfl⟩
abbrev main_v31_3 : Ref sig .tc := ⟨.hbm, 53, rfl⟩
abbrev main_v31_4 : Ref sig .tc := ⟨.hbm, 54, rfl⟩
abbrev main_v31_5 : Ref sig .tc := ⟨.hbm, 55, rfl⟩
abbrev main_v31_6 : Ref sig .tc := ⟨.hbm, 56, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg19_0 : Ref sig .tc := ⟨.vmem, 30, rfl⟩
abbrev cc0_stg20_0 : Ref sig .tc := ⟨.vmem, 31, rfl⟩
abbrev cc0_scratch0 : Ref sig .tc := ⟨.vmem, 32, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem19_0 : DmaSem sig := 31
abbrev cc0_sem20_0 : DmaSem sig := 32

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v84 : BitVec 1 := Scalar.cmpi .eq arg0 c7_i32
  let v85 : BitVec 32 := Scalar.extui v84
  let c0_i32_63 : BitVec 32 := 0#32
  let v86 : BitVec 1 := Scalar.cmpi .ne v85 c0_i32_63
  v86

def k0_mult1 (v90 : BitVec 32) : BitVec 32 :=
  let c128_i32 : BitVec 32 := 128#32
  let v91 : BitVec 32 := Scalar.muli v90 c128_i32
  v91

def k0_off1 (v90 : BitVec 32) : Fin 2 → Nat :=
  let c128_i32 : BitVec 32 := 128#32
  let v91 : BitVec 32 := Scalar.muli v90 c128_i32
  let v92 : BitVec 32 := v91
  let v93 : Index := Scalar.indexCast v92
  let c0_69 : Index := 0#32
  ![v93.toNat, 0]

def k0_chk1 (i : grid0.Coords) (v90 : BitVec 32) : Prop :=
  (∀ (k0_h2 : k0_cond2 i = 1#1), 8 ∣ (k0_mult1 v90).toNat) ∧
  (∀ (k0_h2 : k0_cond2 i = 1#1), ∀ a, (k0_off1 v90) a + S128x1024.size a ≤ S1024x1024.size a)
theorem k0_mult1_dvd : ∀ (i : grid0.Coords) (v90 : BitVec 32) (k0_hw1 : k0_chk1 i v90), ∀ (k0_h2 : k0_cond2 i = 1#1), 8 ∣ (k0_mult1 v90).toNat := fun i v90 k0_hw1 k0_h2 => k0_hw1.1 k0_h2
theorem k0_off1_inb : ∀ (i : grid0.Coords) (v90 : BitVec 32) (k0_hw1 : k0_chk1 i v90), ∀ (k0_h2 : k0_cond2 i = 1#1), ∀ a, (k0_off1 v90) a + S128x1024.size a ≤ S1024x1024.size a := fun i v90 k0_hw1 k0_h2 => k0_hw1.2 k0_h2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S2816x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1024x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceDh1Ideal.lean ====
abbrev S1 : Shape := ⟨1, ![1]⟩
abbrev S4096x1024 : Shape := ⟨2, ![4096, 1024]⟩
abbrev S4096x512 : Shape := ⟨2, ![4096, 512]⟩
abbrev S4096x2816 : Shape := ⟨2, ![4096, 2816]⟩
abbrev S1024x1024 : Shape := ⟨2, ![1024, 1024]⟩
abbrev S1024x2816 : Shape := ⟨2, ![1024, 2816]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S6x1024 : Shape := ⟨2, ![6, 1024]⟩
abbrev S8x1024 : Shape := ⟨2, ![8, 1024]⟩
abbrev S128x1024 : Shape := ⟨2, ![128, 1024]⟩

abbrev nBuf : Space → Nat
  | .hbm => 144
  | .vmem => 0
  | .smem => 0
  | _ => 0

abbrev hbmTy0_0 (i : Nat) : BufTy := match i % 128 with
  | 0 => ⟨S1, .i32⟩
  | 1 => ⟨S4096x1024, .f32⟩
  | 2 => ⟨S4096x512, .bf16⟩
  | 3 => ⟨S4096x512, .bf16⟩
  | 4 => ⟨S4096x1024, .f32⟩
  | 5 => ⟨S4096x2816, .bf16⟩
  | 6 => ⟨S4096x2816, .bf16⟩
  | 7 => ⟨S4096x1024, .bf16⟩
  | 8 => ⟨S1024x1024, .f32⟩
  | 9 => ⟨S1024x2816, .f32⟩
  | 10 => ⟨S1024x2816, .f32⟩
  | 11 => ⟨S1024x1024, .f32⟩
  | 12 => ⟨S1x1024, .f32⟩
  | 13 => ⟨S4096x512, .f32⟩
  | 14 => ⟨S4096x512, .f32⟩
  | 15 => ⟨S_, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S_, .f32⟩
  | 22 => ⟨S1x1024, .f32⟩
  | 23 => ⟨S_, .f32⟩
  | 24 => ⟨S4096, .f32⟩
  | 25 => ⟨S4096x1, .f32⟩
  | 26 => ⟨S_, .f32⟩
  | 27 => ⟨S4096x1, .f32⟩
  | 28 => ⟨S4096x1, .f32⟩
  | 29 => ⟨S4096x1024, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096, .f32⟩
  | 37 => ⟨S4096x1, .f32⟩
  | 38 => ⟨S_, .f32⟩
  | 39 => ⟨S4096x1, .f32⟩
  | 40 => ⟨S4096x1, .f32⟩
  | 41 => ⟨S4096x1024, .f32⟩
  | 42 => ⟨S4096x1024, .f32⟩
  | 43 => ⟨S_, .f32⟩
  | 44 => ⟨S4096x1, .f32⟩
  | 45 => ⟨S4096x1, .f32⟩
  | 46 => ⟨S4096x1, .f32⟩
  | 47 => ⟨S4096x1, .f32⟩
  | 48 => ⟨S_, .f32⟩
  | 49 => ⟨S4096x1, .f32⟩
  | 50 => ⟨S4096x1, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S4096x2816, .f32⟩
  | 61 => ⟨S4096x2816, .f32⟩
  | 62 => ⟨S4096x1024, .f32⟩
  | 63 => ⟨S4096x2816, .f32⟩
  | 64 => ⟨S4096x2816, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S4096x1024, .f32⟩
  | 75 => ⟨S_, .f32⟩
  | 76 => ⟨S1024, .f32⟩
  | 77 => ⟨S1x1024, .f32⟩
  | 78 => ⟨S4096x1024, .f32⟩
  | 79 => ⟨S_, .f32⟩
  | 80 => ⟨S1024, .f32⟩
  | 81 => ⟨S1x1024, .f32⟩
  | 82 => ⟨S4096x1024, .f32⟩
  | 83 => ⟨S4096x1024, .f32⟩
  | 84 => ⟨S4096x1024, .f32⟩
  | 85 => ⟨S_, .f32⟩
  | 86 => ⟨S4096, .f32⟩
  | 87 => ⟨S4096x1, .f32⟩
  | 88 => ⟨S4096x1024, .f32⟩
  | 89 => ⟨S4096x1024, .f32⟩
  | 90 => ⟨S4096x1, .f32⟩
  | 91 => ⟨S4096x1024, .f32⟩
  | 92 => ⟨S_, .f32⟩
  | 93 => ⟨S4096, .f32⟩
  | 94 => ⟨S4096x1, .f32⟩
  | 95 => ⟨S_, .f32⟩
  | 96 => ⟨S4096x1, .f32⟩
  | 97 => ⟨S4096x1, .f32⟩
  | 98 => ⟨S_, .f32⟩
  | 99 => ⟨S4096, .f32⟩
  | 100 => ⟨S4096x1024, .f32⟩
  | 101 => ⟨S4096x1024, .f32⟩
  | 102 => ⟨S4096x1024, .f32⟩
  | 103 => ⟨S_, .f32⟩
  | 104 => ⟨S4096, .f32⟩
  | 105 => ⟨S4096x1, .f32⟩
  | 106 => ⟨S4096x1024, .f32⟩
  | 107 => ⟨S4096x1, .f32⟩
  | 108 => ⟨S_, .f32⟩
  | 109 => ⟨S4096x1, .f32⟩
  | 110 => ⟨S4096x1, .f32⟩
  | 111 => ⟨S_, .f32⟩
  | 112 => ⟨S4096, .f32⟩
  | 113 => ⟨S4096x1024, .f32⟩
  | 114 => ⟨S4096x1024, .f32⟩
  | 115 => ⟨S1024x1024, .f32⟩
  | 116 => ⟨S1024x1024, .f32⟩
  | 117 => ⟨S4096x1024, .f32⟩
  | 118 => ⟨S4096x512, .f32⟩
  | 119 => ⟨S4096x512, .f32⟩
  | 120 => ⟨S_, .f32⟩
  | 121 => ⟨S6x1024, .f32⟩
  | 122 => ⟨S8x1024, .f32⟩
  | 123 => ⟨S_, .i32⟩
  | 124 => ⟨S_, .i32⟩
  | 125 => ⟨S_, .i32⟩
  | 126 => ⟨S_, .i32⟩
  | 127 => ⟨S_, .i1⟩
  | _ => ⟨S1, .i32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S128x1024, .f32⟩
  | 12 => ⟨S4096x1024, .bf16⟩
  | 13 => ⟨S4096x512, .bf16⟩
  | 14 => ⟨S4096x512, .bf16⟩
  | 15 => ⟨S1024x1024, .bf16⟩
  | _ => ⟨S1, .i32⟩

abbrev hbmTy (i : Nat) : BufTy := match i / 128 with
  | 0 => hbmTy0_0 i
  | 1 => hbmTy0_1 i
  | _ => ⟨S1, .i32⟩

abbrev bufTy : (tb : Table) → Fin (tcTables nBuf tb) → BufTy
  | .hbm, ⟨i, _⟩ => hbmTy i
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_cst_5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_7 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_8 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_12 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩
abbrev main_cst_14 : Ref sig .tc := ⟨.hbm, 95, rfl⟩
abbrev main_v67 : Ref sig .tc := ⟨.hbm, 96, rfl⟩
abbrev main_v68 : Ref sig .tc := ⟨.hbm, 97, rfl⟩
abbrev main_cst_15 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_17 : Ref sig .tc := ⟨.hbm, 108, rfl⟩
abbrev main_v77 : Ref sig .tc := ⟨.hbm, 109, rfl⟩
abbrev main_v78 : Ref sig .tc := ⟨.hbm, 110, rfl⟩
abbrev main_cst_18 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_19 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_c : Ref sig .tc := ⟨.hbm, 124, rfl⟩
abbrev main_v90 : Ref sig .tc := ⟨.hbm, 125, rfl⟩
abbrev main_c_20 : Ref sig .tc := ⟨.hbm, 126, rfl⟩
abbrev main_v91 : Ref sig .tc := ⟨.hbm, 127, rfl⟩
abbrev main_c_21 : Ref sig .tc := ⟨.hbm, 128, rfl⟩
abbrev main_v92 : Ref sig .tc := ⟨.hbm, 129, rfl⟩
abbrev main_v93 : Ref sig .tc := ⟨.hbm, 130, rfl⟩
abbrev main_c_22 : Ref sig .tc := ⟨.hbm, 131, rfl⟩
abbrev main_c_23 : Ref sig .tc := ⟨.hbm, 132, rfl⟩
abbrev main_v94 : Ref sig .tc := ⟨.hbm, 133, rfl⟩
abbrev main_c_24 : Ref sig .tc := ⟨.hbm, 134, rfl⟩
abbrev main_c_25 : Ref sig .tc := ⟨.hbm, 135, rfl⟩
abbrev main_v95 : Ref sig .tc := ⟨.hbm, 136, rfl⟩
abbrev main_c_26 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩

abbrev nD : Nat := 1
abbrev τ : Topo := Topo.v7x

variable {F : FTy → Type} [FloatOps F]
-- ==== KernelDx.lean ====
abbrev S4096x1024 : Shape := ⟨2, ![4096, 1024]⟩
abbrev S4096x512 : Shape := ⟨2, ![4096, 512]⟩
abbrev S4096x128 : Shape := ⟨2, ![4096, 128]⟩
abbrev S1024x2816 : Shape := ⟨2, ![1024, 2816]⟩
abbrev S2816x1024 : Shape := ⟨2, ![2816, 1024]⟩
abbrev S512x1024 : Shape := ⟨2, ![512, 1024]⟩
abbrev S512x512 : Shape := ⟨2, ![512, 512]⟩
abbrev S512x128 : Shape := ⟨2, ![512, 128]⟩
abbrev S128x1024 : Shape := ⟨2, ![128, 1024]⟩

abbrev nBuf : Space → Nat
  | .hbm => 12
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x128, .bf16⟩
  | .hbm, ⟨7, _⟩ => ⟨S4096x128, .bf16⟩
  | .hbm, ⟨8, _⟩ => ⟨S1024x2816, .f32⟩
  | .hbm, ⟨9, _⟩ => ⟨S2816x1024, .f32⟩
  | .hbm, ⟨10, _⟩ => ⟨S2816x1024, .bf16⟩
  | .hbm, ⟨11, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x128, .bf16⟩
  | .local _ .vmem, ⟨13, _⟩ => ⟨S512x128, .bf16⟩
  | .local _ .vmem, ⟨14, _⟩ => ⟨S512x128, .bf16⟩
  | .local _ .vmem, ⟨15, _⟩ => ⟨S512x128, .bf16⟩
  | .local _ .vmem, ⟨16, _⟩ => ⟨S2816x1024, .bf16⟩
  | .local _ .vmem, ⟨17, _⟩ => ⟨S512x1024, .f32⟩
  | .local _ .vmem, ⟨18, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceDxIdeal.lean ====
abbrev S4096x1024 : Shape := ⟨2, ![4096, 1024]⟩
abbrev S4096x512 : Shape := ⟨2, ![4096, 512]⟩
abbrev S4096x128 : Shape := ⟨2, ![4096, 128]⟩
abbrev S1024x2816 : Shape := ⟨2, ![1024, 2816]⟩
abbrev S4096x2816 : Shape := ⟨2, ![4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x128, .bf16⟩
  | .hbm, ⟨7, _⟩ => ⟨S4096x128, .bf16⟩
  | .hbm, ⟨8, _⟩ => ⟨S1024x2816, .f32⟩
  | .hbm, ⟨9, _⟩ => ⟨S4096x2816, .bf16⟩
  | .hbm, ⟨10, _⟩ => ⟨S4096x2816, .f32⟩
  | .hbm, ⟨11, _⟩ => ⟨S_, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x2816, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== KernelDwin.lean ====
abbrev S1 : Shape := ⟨1, ![1]⟩
abbrev S4096x1024 : Shape := ⟨2, ![4096, 1024]⟩
abbrev S4096x512 : Shape := ⟨2, ![4096, 512]⟩
abbrev S4096x128 : Shape := ⟨2, ![4096, 128]⟩
abbrev S2816x1024 : Shape := ⟨2, ![2816, 1024]⟩
abbrev S352x1024 : Shape := ⟨2, ![352, 1024]⟩
abbrev S512x512 : Shape := ⟨2, ![512, 512]⟩
abbrev S512x128 : Shape := ⟨2, ![512, 128]⟩
abbrev S512x1024 : Shape := ⟨2, ![512, 1024]⟩
abbrev S512x256 : Shape := ⟨2, ![512, 256]⟩
abbrev S256x1024 : Shape := ⟨2, ![256, 1024]⟩
abbrev S128x1024 : Shape := ⟨2, ![128, 1024]⟩

abbrev nBuf : Space → Nat
  | .hbm => 12
  | .vmem => 19
  | .smem => 1
  | _ => 0

abbrev bufTy : (tb : Table) → Fin (tcTables nBuf tb) → BufTy
  | .hbm, ⟨0, _⟩ => ⟨S1, .i32⟩
  | .hbm, ⟨1, _⟩ => ⟨S4096x1024, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x128, .bf16⟩
  | .hbm, ⟨8, _⟩ => ⟨S4096x128, .bf16⟩
  | .hbm, ⟨9, _⟩ => ⟨S4096x1024, .bf16⟩
  | .hbm, ⟨10, _⟩ => ⟨S2816x1024, .bf16⟩
  | .hbm, ⟨11, _⟩ => ⟨S352x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | .local _ .vmem, ⟨14, _⟩ => ⟨S512x1024, .bf16⟩
  | .local _ .vmem, ⟨15, _⟩ => ⟨S512x1024, .bf16⟩
  | .local _ .vmem, ⟨16, _⟩ => ⟨S2816x1024, .bf16⟩
  | .local _ .vmem, ⟨17, _⟩ => ⟨S352x1024, .f32⟩
  | .local _ .vmem, ⟨18, _⟩ => ⟨S2816x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_scratch0 : Ref sig .tc := ⟨.vmem, 18, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v6 : BitVec 1 := Scalar.cmpi .eq arg0 c7_i32
  let v7 : BitVec 32 := Scalar.extui v6
  let c0_i32_3 : BitVec 32 := 0#32
  let v8 : BitVec 1 := Scalar.cmpi .ne v7 c0_i32_3
  v8

def k0_mult1 (v12 : BitVec 32) : BitVec 32 :=
  let c352_i32 : BitVec 32 := 352#32
  let v13 : BitVec 32 := Scalar.muli v12 c352_i32
  v13

def k0_off1 (v12 : BitVec 32) : Fin 2 → Nat :=
  let c352_i32 : BitVec 32 := 352#32
  let v13 : BitVec 32 := Scalar.muli v12 c352_i32
  let v14 : BitVec 32 := v13
  let v15 : Index := Scalar.indexCast v14
  let c0_8 : Index := 0#32
  ![v15.toNat, 0]

def k0_chk1 (i : grid0.Coords) (v12 : BitVec 32) : Prop :=
  (∀ (k0_h3 : k0_cond3 i = 1#1), 8 ∣ (k0_mult1 v12).toNat) ∧
  (∀ (k0_h3 : k0_cond3 i = 1#1), ∀ a, (k0_off1 v12) a + S352x1024.size a ≤ S2816x1024.size a)
theorem k0_mult1_dvd : ∀ (i : grid0.Coords) (v12 : BitVec 32) (k0_hw1 : k0_chk1 i v12), ∀ (k0_h3 : k0_cond3 i = 1#1), 8 ∣ (k0_mult1 v12).toNat := fun i v12 k0_hw1 k0_h3 => k0_hw1.1 k0_h3
theorem k0_off1_inb : ∀ (i : grid0.Coords) (v12 : BitVec 32) (k0_hw1 : k0_chk1 i v12), ∀ (k0_h3 : k0_cond3 i = 1#1), ∀ a, (k0_off1 v12) a + S352x1024.size a ≤ S2816x1024.size a := fun i v12 k0_hw1 k0_h3 => k0_hw1.2 k0_h3

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S352x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceDwinIdeal.lean ====
abbrev S1 : Shape := ⟨1, ![1]⟩
abbrev S4096x1024 : Shape := ⟨2, ![4096, 1024]⟩
abbrev S4096x512 : Shape := ⟨2, ![4096, 512]⟩
abbrev S4096x128 : Shape := ⟨2, ![4096, 128]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S352x1024 : Shape := ⟨2, ![352, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1, .i32⟩
  | .hbm, ⟨1, _⟩ => ⟨S4096x1024, .f32⟩
  | .hbm, ⟨2, _⟩ => ⟨S4096x512, .bf16⟩
  | .hbm, ⟨3, _⟩ => ⟨S4096x512, .bf16⟩
  | .hbm, ⟨4, _⟩ => ⟨S4096x512, .bf16⟩
  | .hbm, ⟨5, _⟩ => ⟨S4096x512, .bf16⟩
  | .hbm, ⟨6, _⟩ => ⟨S4096x512, .bf16⟩
  | .hbm, ⟨7, _⟩ => ⟨S4096x128, .bf16⟩
  | .hbm, ⟨8, _⟩ => ⟨S4096x128, .bf16⟩
  | .hbm, ⟨9, _⟩ => ⟨S4096x2816, .bf16⟩
  | .hbm, ⟨10, _⟩ => ⟨S4096x2816, .f32⟩
  | .hbm, ⟨11, _⟩ => ⟨S_, .f32⟩
  | .hbm, ⟨12, _⟩ => ⟨S1024x2816, .f32⟩
  | .hbm, ⟨13, _⟩ => ⟨S4096x2816, .f32⟩
  | .hbm, ⟨14, _⟩ => ⟨S2816x1024, .f32⟩
  | .hbm, ⟨15, _⟩ => ⟨S1024x2816, .f32⟩
  | .hbm, ⟨16, _⟩ => ⟨S2816x1024, .f32⟩
  | .hbm, ⟨17, _⟩ => ⟨S2816x1024, .bf16⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_c_3 : Ref sig .tc := ⟨.hbm, 27, rfl⟩
abbrev main_v13 : Ref sig .tc := ⟨.hbm, 28, rfl⟩
abbrev main_c_4 : Ref sig .tc := ⟨.hbm, 29, rfl⟩
abbrev main_c_5 : Ref sig .tc := ⟨.hbm, 30, rfl⟩
abbrev main_v14 : Ref sig .tc := ⟨.hbm, 31, rfl⟩
abbrev main_c_6 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== KernelLoss.lean ====
abbrev S1 : Shape := ⟨1, ![1]⟩
abbrev S4096x2816 : Shape := ⟨2, ![4096, 2816]⟩
abbrev S4096x1024 : Shape := ⟨2, ![4096, 1024]⟩
abbrev S4096x256 : Shape := ⟨2, ![4096, 256]⟩
abbrev S2816x1024 : Shape := ⟨2, ![2816, 1024]⟩
abbrev S256x1024 : Shape := ⟨2, ![256, 1024]⟩
abbrev S1024x1024 : Shape := ⟨2, ![1024, 1024]⟩
abbrev S1x1024 : Shape := ⟨2, ![1, 1024]⟩
abbrev S1024x256 : Shape := ⟨2, ![1024, 256]⟩
abbrev S8x1024 : Shape := ⟨2, ![8, 1024]⟩
abbrev S128x256 : Shape := ⟨2, ![128, 256]⟩
abbrev S128x1024 : Shape := ⟨2, ![128, 1024]⟩
abbrev S256x2816 : Shape := ⟨2, ![256, 2816]⟩
abbrev S256x256 : Shape := ⟨2, ![256, 256]⟩
abbrev S256 : Shape := ⟨1, ![256]⟩
abbrev S256x1 : Shape := ⟨2, ![256, 1]⟩
abbrev S1024 : Shape := ⟨1, ![1024]⟩
abbrev S1408x1024 : Shape := ⟨2, ![1408, 1024]⟩
abbrev S256x1408 : Shape := ⟨2, ![256, 1408]⟩

abbrev nBuf : Space → Nat
  | .hbm => 33
  | .vmem => 38
  | .smem => 1
  | _ => 0

abbrev bufTy : (tb : Table) → Fin (tcTables nBuf tb) → BufTy
  | .hbm, ⟨0, _⟩ => ⟨S1, .i32⟩
  | .hbm, ⟨1, _⟩ => ⟨S4096x2816, .bf16⟩
  | .hbm, ⟨2, _⟩ => ⟨S4096x2816, .bf16⟩
  | .hbm, ⟨3, _⟩ => ⟨S4096x2816, .bf16⟩
  | .hbm, ⟨4, _⟩ => ⟨S4096x1024, .f32⟩
  | .hbm, ⟨5, _⟩ => ⟨S4096x256, .f32⟩
  | .hbm, ⟨6, _⟩ => ⟨S4096x1024, .f32⟩
  | .hbm, ⟨7, _⟩ => ⟨S2816x1024, .f32⟩
  | .hbm, ⟨8, _⟩ => ⟨S256x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | .hbm, ⟨19, _⟩ => ⟨S2816x1024, .bf16⟩
  | .hbm, ⟨20, _⟩ => ⟨S1024x1024, .bf16⟩
  | .hbm, ⟨21, _⟩ => ⟨S1024x256, .f32⟩
  | .hbm, ⟨22, _⟩ => ⟨S1024x256, .bf16⟩
  | .hbm, ⟨23, _⟩ => ⟨S4096x1024, .f32⟩
  | .hbm, ⟨24, _⟩ => ⟨S4096x1024, .bf16⟩
  | .hbm, ⟨25, _⟩ => ⟨S4096x1024, .bf16⟩
  | .hbm, ⟨26, _⟩ => ⟨S4096x2816, .bf16⟩
  | .hbm, ⟨27, _⟩ => ⟨S4096x2816, .bf16⟩
  | .hbm, ⟨28, _⟩ => ⟨S8x1024, .f32⟩
  | .hbm, ⟨29, _⟩ => ⟨S1024x256, .bf16⟩
  | .hbm, ⟨30, _⟩ => ⟨S128x256, .f32⟩
  | .hbm, ⟨31, _⟩ => ⟨S1024x1024, .bf16⟩
  | .hbm, ⟨32, _⟩ => ⟨S128x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x1024, .bf16⟩
  | .local _ .vmem, ⟨7, _⟩ => ⟨S256x1024, .bf16⟩
  | .local _ .vmem, ⟨8, _⟩ => ⟨S256x256, .f32⟩
  | .local _ .vmem, ⟨9, _⟩ => ⟨S256x256, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S2816x1024, .bf16⟩
  | .local _ .vmem, ⟨15, _⟩ => ⟨S1024x1024, .bf16⟩
  | .local _ .vmem, ⟨16, _⟩ => ⟨S1024x256, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x2816, .bf16⟩
  | .local _ .vmem, ⟨28, _⟩ => ⟨S256x2816, .bf16⟩
  | .local _ .vmem, ⟨29, _⟩ => ⟨S256x2816, .bf16⟩
  | .local _ .vmem, ⟨30, _⟩ => ⟨S256x2816, .bf16⟩
  | .local _ .vmem, ⟨31, _⟩ => ⟨S8x1024, .f32⟩
  | .local _ .vmem, ⟨32, _⟩ => ⟨S1024x256, .bf16⟩
  | .local _ .vmem, ⟨33, _⟩ => ⟨S128x256, .f32⟩
  | .local _ .vmem, ⟨34, _⟩ => ⟨S1024x1024, .bf16⟩
  | .local _ .vmem, ⟨35, _⟩ => ⟨S128x1024, .f32⟩
  | .local _ .vmem, ⟨36, _⟩ => ⟨S1024x256, .f32⟩
  | .local _ .vmem, ⟨37, _⟩ => ⟨S1024x1024, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev main_v9_4 : Ref sig .tc := ⟨.hbm, 27, rfl⟩
abbrev main_v9_5 : Ref sig .tc := ⟨.hbm, 28, rfl⟩
abbrev main_v9_6 : Ref sig .tc := ⟨.hbm, 29, rfl⟩
abbrev main_v9_7 : Ref sig .tc := ⟨.hbm, 30, rfl⟩
abbrev main_v9_8 : Ref sig .tc := ⟨.hbm, 31, rfl⟩
abbrev main_v9_9 : Ref sig .tc := ⟨.hbm, 32, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_stg19_0 : Ref sig .tc := ⟨.vmem, 29, rfl⟩
abbrev cc0_stg19_1 : Ref sig .tc := ⟨.vmem, 30, rfl⟩
abbrev cc0_stg20_0 : Ref sig .tc := ⟨.vmem, 31, rfl⟩
abbrev cc0_stg21_0 : Ref sig .tc := ⟨.vmem, 32, rfl⟩
abbrev cc0_stg22_0 : Ref sig .tc := ⟨.vmem, 33, rfl⟩
abbrev cc0_stg23_0 : Ref sig .tc := ⟨.vmem, 34, rfl⟩
abbrev cc0_stg24_0 : Ref sig .tc := ⟨.vmem, 35, rfl⟩
abbrev cc0_scratch0 : Ref sig .tc := ⟨.vmem, 36, rfl⟩
abbrev cc0_scratch1 : Ref sig .tc := ⟨.vmem, 37, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem21_0 : DmaSem sig := 33
abbrev cc0_sem22_0 : DmaSem sig := 34
abbrev cc0_sem23_0 : DmaSem sig := 35
abbrev cc0_sem24_0 : DmaSem sig := 36

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v146 : BitVec 1 := Scalar.cmpi .eq arg0 c15_i32
  let v147 : BitVec 32 := Scalar.extui v146
  let c0_i32_92 : BitVec 32 := 0#32
  let v148 : BitVec 1 := Scalar.cmpi .ne v147 c0_i32_92
  v148

def k0_mult1 (v149 : BitVec 32) : BitVec 32 :=
  let c128_i32 : BitVec 32 := 128#32
  let v150 : BitVec 32 := Scalar.muli v149 c128_i32
  v150

def k0_off1 (v149 : BitVec 32) : Fin 2 → Nat :=
  let c128_i32 : BitVec 32 := 128#32
  let v150 : BitVec 32 := Scalar.muli v149 c128_i32
  let v151 : BitVec 32 := v150
  let v155 : Index := Scalar.indexCast v151
  let c0_98 : Index := 0#32
  ![v155.toNat, 0]
def k0_off2 (v149 : BitVec 32) : Fin 2 → Nat :=
  let c128_i32 : BitVec 32 := 128#32
  let v150 : BitVec 32 := Scalar.muli v149 c128_i32
  let v151 : BitVec 32 := v150
  let v161 : Index := Scalar.indexCast v151
  let c0_105 : Index := 0#32
  ![v161.toNat, 0]

def k0_chk1 (i : grid0.Coords) (v149 : BitVec 32) : Prop :=
  (∀ (k0_h2 : k0_cond2 i = 1#1), 8 ∣ (k0_mult1 v149).toNat) ∧
  (∀ (k0_h2 : k0_cond2 i = 1#1), ∀ a, (k0_off1 v149) a + S128x256.size a ≤ S1024x256.size a) ∧
  (∀ (k0_h2 : k0_cond2 i = 1#1), ∀ a, (k0_off2 v149) a + S128x1024.size a ≤ S1024x1024.size a)
theorem k0_mult1_dvd : ∀ (i : grid0.Coords) (v149 : BitVec 32) (k0_hw1 : k0_chk1 i v149), ∀ (k0_h2 : k0_cond2 i = 1#1), 8 ∣ (k0_mult1 v149).toNat := fun i v149 k0_hw1 k0_h2 => k0_hw1.1 k0_h2
theorem k0_off1_inb : ∀ (i : grid0.Coords) (v149 : BitVec 32) (k0_hw1 : k0_chk1 i v149), ∀ (k0_h2 : k0_cond2 i = 1#1), ∀ a, (k0_off1 v149) a + S128x256.size a ≤ S1024x256.size a := fun i v149 k0_hw1 k0_h2 => k0_hw1.2.1 k0_h2
theorem k0_off2_inb : ∀ (i : grid0.Coords) (v149 : BitVec 32) (k0_hw1 : k0_chk1 i v149), ∀ (k0_h2 : k0_cond2 i = 1#1), ∀ a, (k0_off2 v149) a + S128x1024.size a ≤ S1024x1024.size a := fun i v149 k0_hw1 k0_h2 => k0_hw1.2.2 k0_h2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x2816 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x2816 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S8x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1024x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1024x1024 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]
-- ==== ReferenceLossIdeal.lean ====
abbrev S1 : Shape := ⟨1, ![1]⟩
abbrev S4096x2816 : Shape := ⟨2, ![4096, 2816]⟩
abbrev S4096x1024 : Shape := ⟨2, ![4096, 1024]⟩
abbrev S4096x256 : Shape := ⟨2, ![4096, 256]⟩
abbrev S2816x1024 : Shape := ⟨2, ![2816, 1024]⟩
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 111
  | .vmem => 0
  | .smem => 0
  | _ => 0

abbrev bufTy : (tb : Table) → Fin (tcTables nBuf tb) → BufTy
  | .hbm, ⟨0, _⟩ => ⟨S1, .i32⟩
  | .hbm, ⟨1, _⟩ => ⟨S4096x2816, .bf16⟩
  | .hbm, ⟨2, _⟩ => ⟨S4096x2816, .bf16⟩
  | .hbm, ⟨3, _⟩ => ⟨S4096x2816, .bf16⟩
  | .hbm, ⟨4, _⟩ => ⟨S4096x1024, .f32⟩
  | .hbm, ⟨5, _⟩ => ⟨S4096x256, .f32⟩
  | .hbm, ⟨6, _⟩ => ⟨S4096x1024, .f32⟩
  | .hbm, ⟨7, _⟩ => ⟨S2816x1024, .f32⟩
  | .hbm, ⟨8, _⟩ => ⟨S256x1024, .f32⟩
  | .hbm, ⟨9, _⟩ => ⟨S1024x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x2816, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x1024, .f32⟩
  | .hbm, ⟨85, _⟩ => ⟨S4096x1024, .f32⟩
  | .hbm, ⟨86, _⟩ => ⟨S4096x1, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S_, .f32⟩
  | .hbm, ⟨100, _⟩ => ⟨S4096, .f32⟩
  | .hbm, ⟨101, _⟩ => ⟨S4096x1, .f32⟩
  | .hbm, ⟨102, _⟩ => ⟨S4096x1024, .f32⟩
  | .hbm, ⟨103, _⟩ => ⟨S4096x1, .f32⟩
  | .hbm, ⟨104, _⟩ => ⟨S_, .f32⟩
  | .hbm, ⟨105, _⟩ => ⟨S4096x1, .f32⟩
  | .hbm, ⟨106, _⟩ => ⟨S4096x1, .f32⟩
  | .hbm, ⟨107, _⟩ => ⟨S_, .f32⟩
  | .hbm, ⟨108, _⟩ => ⟨S4096, .f32⟩
  | .hbm, ⟨109, _⟩ => ⟨S4096x1024, .f32⟩
  | .hbm, ⟨110, _⟩ => ⟨S4096x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_cst_5 : Ref sig .tc := ⟨.hbm, 48, rfl⟩
abbrev main_v28 : Ref sig .tc := ⟨.hbm, 49, rfl⟩
abbrev main_v29 : Ref sig .tc := ⟨.hbm, 50, rfl⟩
abbrev main_cst_6 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_7 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_cst_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_15 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_16 : Ref sig .tc := ⟨.hbm, 104, rfl⟩
abbrev main_v73 : Ref sig .tc := ⟨.hbm, 105, rfl⟩
abbrev main_v74 : Ref sig .tc := ⟨.hbm, 106, rfl⟩
abbrev main_cst_17 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩

abbrev nD : Nat := 1
abbrev τ : Topo := Topo.v7x

variable {F : FTy → Type} [FloatOps F]
-- ==== KernelInproj.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S2816x1024, .f32⟩
  | .hbm, ⟨3, _⟩ => ⟨S2816x1024, .bf16⟩
  | .hbm, ⟨4, _⟩ => ⟨S4096x2816, .bf16⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x1024, .bf16⟩
  | .local _ .vmem, ⟨6, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceInprojIdeal.lean ====
abbrev S4096x1024 : Shape := ⟨2, ![4096, 1024]⟩
abbrev S1024x2816 : Shape := ⟨2, ![1024, 2816]⟩
abbrev S4096x2816 : Shape := ⟨2, ![4096, 2816]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .f32⟩
  | .hbm, ⟨3, _⟩ => ⟨S4096x2816, .bf16⟩
  | .hbm, ⟨4, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KernelUp.lean ====
abbrev S4096x512 : Shape := ⟨2, ![4096, 512]⟩
abbrev S4096x1024 : Shape := ⟨2, ![4096, 1024]⟩
abbrev S1024x1024 : Shape := ⟨2, ![1024, 1024]⟩
abbrev S1024x2816 : Shape := ⟨2, ![1024, 2816]⟩
abbrev S1x1024 : Shape := ⟨2, ![1, 1024]⟩
abbrev S2816x1024 : Shape := ⟨2, ![2816, 1024]⟩
abbrev S4096x128 : Shape := ⟨2, ![4096, 128]⟩
abbrev S4096x2816 : Shape := ⟨2, ![4096, 2816]⟩
abbrev S256x512 : Shape := ⟨2, ![256, 512]⟩
abbrev S256x1024 : Shape := ⟨2, ![256, 1024]⟩
abbrev S256x128 : Shape := ⟨2, ![256, 128]⟩
abbrev S256x2816 : Shape := ⟨2, ![256, 2816]⟩
abbrev S512x1024 : Shape := ⟨2, ![512, 1024]⟩
abbrev S256 : Shape := ⟨1, ![256]⟩
abbrev S256x1 : Shape := ⟨2, ![256, 1]⟩

abbrev nBuf : Space → Nat
  | .hbm => 19
  | .vmem => 23
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S1x1024, .f32⟩
  | .hbm, ⟨7, _⟩ => ⟨S1x1024, .f32⟩
  | .hbm, ⟨8, _⟩ => ⟨S1024x1024, .bf16⟩
  | .hbm, ⟨9, _⟩ => ⟨S2816x1024, .f32⟩
  | .hbm, ⟨10, _⟩ => ⟨S2816x1024, .bf16⟩
  | .hbm, ⟨11, _⟩ => ⟨S2816x1024, .f32⟩
  | .hbm, ⟨12, _⟩ => ⟨S2816x1024, .bf16⟩
  | .hbm, ⟨13, _⟩ => ⟨S4096x1024, .f32⟩
  | .hbm, ⟨14, _⟩ => ⟨S4096x128, .f32⟩
  | .hbm, ⟨15, _⟩ => ⟨S4096x1024, .bf16⟩
  | .hbm, ⟨16, _⟩ => ⟨S4096x2816, .bf16⟩
  | .hbm, ⟨17, _⟩ => ⟨S4096x2816, .bf16⟩
  | .hbm, ⟨18, _⟩ => ⟨S4096x2816, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S1024x1024, .bf16⟩
  | .local _ .vmem, ⟨7, _⟩ => ⟨S2816x1024, .bf16⟩
  | .local _ .vmem, ⟨8, _⟩ => ⟨S2816x1024, .bf16⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x128, .f32⟩
  | .local _ .vmem, ⟨14, _⟩ => ⟨S256x128, .f32⟩
  | .local _ .vmem, ⟨15, _⟩ => ⟨S256x1024, .bf16⟩
  | .local _ .vmem, ⟨16, _⟩ => ⟨S256x1024, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceUpIdeal.lean ====
abbrev S4096x512 : Shape := ⟨2, ![4096, 512]⟩
abbrev S4096x1024 : Shape := ⟨2, ![4096, 1024]⟩
abbrev S1024x1024 : Shape := ⟨2, ![1024, 1024]⟩
abbrev S1024x2816 : Shape := ⟨2, ![1024, 2816]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x128 : Shape := ⟨2, ![4096, 128]⟩

abbrev nBuf : Space → Nat
  | .hbm => 71
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x1024, .f32⟩
  | .hbm, ⟨3, _⟩ => ⟨S1024x1024, .f32⟩
  | .hbm, ⟨4, _⟩ => ⟨S1024x2816, .f32⟩
  | .hbm, ⟨5, _⟩ => ⟨S1024x2816, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .bf16⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S_, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S_, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x128, .f32⟩
  | .hbm, ⟨67, _⟩ => ⟨S4096x1024, .bf16⟩
  | .hbm, ⟨68, _⟩ => ⟨S4096x2816, .bf16⟩
  | .hbm, ⟨69, _⟩ => ⟨S4096x2816, .bf16⟩
  | .hbm, ⟨70, _⟩ => ⟨S4096x2816, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v30_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v30_1 : Ref sig .tc := ⟨.hbm, 55, rfl⟩
abbrev main_v30_0 : Ref sig .tc := ⟨.hbm, 56, rfl⟩
abbrev main_v31 : Ref sig .tc := ⟨.hbm, 57, rfl⟩
abbrev main_cst_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]
-- ==== Proof.MixLoop.lean ====
/-
  Hand-written. The backward mixers call's main counted loop (`k0_t4_loop`): one trip runs eight retention chunks and
  four attention blocks. What the loop leaves in the buffers it stores into is not named here: its invariant says that
  each of them is held whole at some contents.
-/
module

public import proofs.«01_k».proof.Proof.Gen.KernelIdeal.Loops
public import proofs.«01_k».proof.Proof.Gen.KernelIdeal.Frame

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The key rows an attention block reads: of the half the grid point works on, the trip and the block's place. -/
theorem k0_off11_eq : ∀ (i : grid0.Coords) (k : Fin k0_t4_loop.trips) (r : Fin 4),
    k0_off11 i k (BitVec.ofNat 32 r.val) = ![1024 * ((i 1).val % 2) + 512 * k.val + 128 * r.val, 0] := by decide +kernel
instance closedOff_k0_off11_0 (i : grid0.Coords) (k : Fin k0_t4_loop.trips) : ClosedOff (k0_off11 i k (BitVec.ofNat 32 0)) :=
  ⟨![1024 * ((i 1).val % 2) + 512 * k.val + 128 * 0, 0], k0_off11_eq i k ⟨0, by decide⟩⟩
instance closedOff_k0_off11_1 (i : grid0.Coords) (k : Fin k0_t4_loop.trips) : ClosedOff (k0_off11 i k (BitVec.ofNat 32 1)) :=
  ⟨![1024 * ((i 1).val % 2) + 512 * k.val + 128 * 1, 0], k0_off11_eq i k ⟨1, by decide⟩⟩
instance closedOff_k0_off11_2 (i : grid0.Coords) (k : Fin k0_t4_loop.trips) : ClosedOff (k0_off11 i k (BitVec.ofNat 32 2)) :=
  ⟨![1024 * ((i 1).val % 2) + 512 * k.val + 128 * 2, 0], k0_off11_eq i k ⟨2, by decide⟩⟩
instance closedOff_k0_off11_3 (i : grid0.Coords) (k : Fin k0_t4_loop.trips) : ClosedOff (k0_off11 i k (BitVec.ofNat 32 3)) :=
  ⟨![1024 * ((i 1).val % 2) + 512 * k.val + 128 * 3, 0], k0_off11_eq i k ⟨3, by decide⟩⟩

/-- What one trip holds: what it reads at its contents, what it stores into at some contents. -/
abbrev TripAny (c : Dev nD) (arg5 : Memref sig .tc .vmem S2048x128 .bf16) (arg6 : Memref sig .tc .vmem S2048x128 .bf16) (arg7 : Memref sig .tc .vmem S2048x128 .bf16) (arg13 : Memref sig .tc .vmem S1024x256 .bf16) (arg16 : Memref sig .tc .vmem S1024x256 .bf16) (arg17 : Memref sig .tc .vmem S16x256x128 .f32) (arg27 : Memref sig .tc .vmem S16x256x128 .f32) (arg28 : Memref sig .tc .vmem S2048x128 .bf16) (arg29 : Memref sig .tc .vmem S2304x128 .bf16) (arg30 : Memref sig .tc .vmem S2304x128 .bf16) (arg31 : Memref sig .tc .vmem S3x512x384 .f32) (arg18 : Memref sig .tc .vmem S2048x128 .bf16) (arg19 : Memref sig .tc .vmem S2048x128 .bf16) (arg20 : Memref sig .tc .vmem S2048x128 .bf16) (arg23 : Memref sig .tc .vmem S1024x256 .bf16) (arg26 : Memref sig .tc .vmem S8x128 .f32) (arg32 : Memref sig .tc .vmem S2304x128 .f32) (arg33 : Memref sig .tc .vmem S2304x128 .f32) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (X_arg17 : BufTy.Contents (Elt F) arg17.view.ty) (X_arg27 : BufTy.Contents (Elt F) arg27.view.ty) (X_arg28 : BufTy.Contents (Elt F) arg28.view.ty) (X_arg29 : BufTy.Contents (Elt F) arg29.view.ty) (X_arg30 : BufTy.Contents (Elt F) arg30.view.ty) (X_arg31 : BufTy.Contents (Elt F) arg31.view.ty) : sProp 𝕄 :=
  iprop((arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg13.view.loc (c : Thread nD τ) ↦[arg13.view.set]{fullShare} X_arg13) ∗ (arg16.view.loc (c : Thread nD τ) ↦[arg16.view.set]{fullShare} X_arg16) ∗ (arg17.view.loc (c : Thread nD τ) ↦[arg17.view.set]{fullShare} X_arg17) ∗ (arg27.view.loc (c : Thread nD τ) ↦[arg27.view.set]{fullShare} X_arg27) ∗ (arg28.view.loc (c : Thread nD τ) ↦[arg28.view.set]{fullShare} X_arg28) ∗ (arg29.view.loc (c : Thread nD τ) ↦[arg29.view.set]{fullShare} X_arg29) ∗ (arg30.view.loc (c : Thread nD τ) ↦[arg30.view.set]{fullShare} X_arg30) ∗ (arg31.view.loc (c : Thread nD τ) ↦[arg31.view.set]{fullShare} X_arg31) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg23.view.ty, (arg23.view.loc (c : Thread nD τ) ↦[arg23.view.set]{fullShare} f)) ∗ (∃ f : BufTy.Contents (Elt F) arg26.view.ty, (arg26.view.loc (c : Thread nD τ) ↦[arg26.view.set]{fullShare} f)) ∗ (∃ f : BufTy.Contents (Elt F) arg32.view.ty, (arg32.view.loc (c : Thread nD τ) ↦[arg32.view.set]{fullShare} f)) ∗ (∃ f : BufTy.Contents (Elt F) arg33.view.ty, (arg33.view.loc (c : Thread nD τ) ↦[arg33.view.set]{fullShare} f)))

set_option maxHeartbeats 40000000 in
/-- One trip, from and to some contents of what it stores into. -/
theorem trip_any (c : Dev nD) (i : grid0.Coords) (arg2 : Memref sig .tc .smem S8 .f32) (harg2 : arg2.IsWhole) (arg3 : Memref sig .tc .smem S8 .f32) (harg3 : arg3.IsWhole) (arg4 : Memref sig .tc .smem S8 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1024x256 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S1024x256 .bf16) (harg16 : arg16.IsWhole) (arg17 : Memref sig .tc .vmem S16x256x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S16x128 .f32) (harg22 : arg22.IsWhole) (arg23 : Memref sig .tc .vmem S1024x256 .bf16) (harg23 : arg23.IsWhole) (arg24 : Memref sig .tc .vmem S2048x128 .bf16) (harg24 : arg24.IsWhole) (arg25 : Memref sig .tc .vmem S2048x128 .bf16) (harg25 : arg25.IsWhole) (arg26 : Memref sig .tc .vmem S8x128 .f32) (harg26 : arg26.IsWhole) (arg27 : Memref sig .tc .vmem S16x256x128 .f32) (harg27 : arg27.IsWhole) (arg28 : Memref sig .tc .vmem S2048x128 .bf16) (harg28 : arg28.IsWhole) (arg29 : Memref sig .tc .vmem S2304x128 .bf16) (harg29 : arg29.IsWhole) (arg30 : Memref sig .tc .vmem S2304x128 .bf16) (harg30 : arg30.IsWhole) (arg31 : Memref sig .tc .vmem S3x512x384 .f32) (harg31 : arg31.IsWhole) (arg32 : Memref sig .tc .vmem S2304x128 .f32) (harg32 : arg32.IsWhole) (arg33 : Memref sig .tc .vmem S2304x128 .f32) (harg33 : arg33.IsWhole) (v0 : BitVec 32) (v1 : BitVec 32) (v4 : IVec S1x128 1) (v51 : FVec F S1x128 .f32) (v54 : FVec F S1x128 .f32) (v55 : FVec F S128x256 .f32) (v56 : FVec F S128x256 .f32) (v65 : FVec F S128x256 .f32) (v72 : FVec F S128x256 .f32) (v82 : IVec S256x128 1) (v129 : FVec F S256x128 .f32) (v130 : FVec F S256x128 .f32) (v131 : FVec F S256x128 .f32) (v132 : Vec F S1x128 .f32) (v174 : FVec F S512x1 .f32) (v175 : IVec S8x128 32) (v176 : FVec F S1x128 .f32) (c0_i32_46 : BitVec 32) (c2_i32_47 : BitVec 32) (k : Fin k0_t4_loop.trips)
    (acc : FVec F S1x256 .f32 × FVec F S1x128 .f32 × FVec F S1x128 .f32 × FVec F S1x128 .f32 × FVec F S1x128 .f32 × FVec F S1x128 .f32 × FVec F S1x128 .f32) (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (X_arg17 : BufTy.Contents (Elt F) arg17.view.ty) (X_arg27 : BufTy.Contents (Elt F) arg27.view.ty) (X_arg28 : BufTy.Contents (Elt F) arg28.view.ty) (X_arg29 : BufTy.Contents (Elt F) arg29.view.ty) (X_arg30 : BufTy.Contents (Elt F) arg30.view.ty) (X_arg31 : BufTy.Contents (Elt F) arg31.view.ty) :
    TripAny (F := F) c arg5 arg6 arg7 arg13 arg16 arg17 arg27 arg28 arg29 arg30 arg31 arg18 arg19 arg20 arg23 arg26 arg32 arg33 X_arg5 X_arg6 X_arg7 X_arg13 X_arg16 X_arg17 X_arg27 X_arg28 X_arg29 X_arg30 X_arg31
      ⊢ wp frame (wpE (defs₀ (F := F)) Variants.none (c : Thread nD τ) none) Set.univ (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v0 v1 v4 v51 v54 v55 v56 v65 v72 v82 v129 v130 v131 v132 v174 v175 v176 c0_i32_46 c2_i32_47 k acc)
          (fun _ => TripAny (F := F) c arg5 arg6 arg7 arg13 arg16 arg17 arg27 arg28 arg29 arg30 arg31 arg18 arg19 arg20 arg23 arg26 arg32 arg33 X_arg5 X_arg6 X_arg7 X_arg13 X_arg16 X_arg17 X_arg27 X_arg28 X_arg29 X_arg30 X_arg31) := by
  have hk : k.val < 2 := Nat.lt_of_lt_of_le k.isLt k0_t4_abs.2.1
  unfold k0_t4_body
  iintro ⟨HR_arg5, HR_arg6, HR_arg7, HR_arg13, HR_arg16, HR_arg17, HR_arg27, HR_arg28, HR_arg29, HR_arg30, HR_arg31, ⟨%f_arg18, HW_arg18⟩, ⟨%f_arg19, HW_arg19⟩, ⟨%f_arg20, HW_arg20⟩, ⟨%f_arg23, HW_arg23⟩, ⟨%f_arg26, HW_arg26⟩, ⟨%f_arg32, HW_arg32⟩, ⟨%f_arg33, HW_arg33⟩⟩
  sl_exec
  sl_step
  isplitl [HR_arg5]; · iexact HR_arg5
  isplitl [HR_arg6]; · iexact HR_arg6
  isplitl [HR_arg7]; · iexact HR_arg7
  isplitl [HR_arg13]; · iexact HR_arg13
  isplitl [HR_arg16]; · iexact HR_arg16
  isplitl [HR_arg17]; · iexact HR_arg17
  isplitl [HR_arg27]; · iexact HR_arg27
  isplitl [HR_arg28]; · iexact HR_arg28
  isplitl [HR_arg29]; · iexact HR_arg29
  isplitl [HR_arg30]; · iexact HR_arg30
  isplitl [HR_arg31]; · iexact HR_arg31
  isplitl [HW_arg18]; · iexists _; iexact HW_arg18
  isplitl [HW_arg19]; · iexists _; iexact HW_arg19
  isplitl [HW_arg20]; · iexists _; iexact HW_arg20
  isplitl [HW_arg23]; · iexists _; iexact HW_arg23
  isplitl [HW_arg26]; · iexists _; iexact HW_arg26
  isplitl [HW_arg32]; · iexists _; iexact HW_arg32
  iexists _; iexact HW_arg33

/-- The loop's invariant: what it reads is kept, what it stores into is held at some contents. -/
@[sl_loop] def loopInv_t4 (c : Dev nD) (i : grid0.Coords) (arg2 : Memref sig .tc .smem S8 .f32) (harg2 : arg2.IsWhole) (arg3 : Memref sig .tc .smem S8 .f32) (harg3 : arg3.IsWhole) (arg4 : Memref sig .tc .smem S8 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1024x256 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S1024x256 .bf16) (harg16 : arg16.IsWhole) (arg17 : Memref sig .tc .vmem S16x256x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S16x128 .f32) (harg22 : arg22.IsWhole) (arg23 : Memref sig .tc .vmem S1024x256 .bf16) (harg23 : arg23.IsWhole) (arg24 : Memref sig .tc .vmem S2048x128 .bf16) (harg24 : arg24.IsWhole) (arg25 : Memref sig .tc .vmem S2048x128 .bf16) (harg25 : arg25.IsWhole) (arg26 : Memref sig .tc .vmem S8x128 .f32) (harg26 : arg26.IsWhole) (arg27 : Memref sig .tc .vmem S16x256x128 .f32) (harg27 : arg27.IsWhole) (arg28 : Memref sig .tc .vmem S2048x128 .bf16) (harg28 : arg28.IsWhole) (arg29 : Memref sig .tc .vmem S2304x128 .bf16) (harg29 : arg29.IsWhole) (arg30 : Memref sig .tc .vmem S2304x128 .bf16) (harg30 : arg30.IsWhole) (arg31 : Memref sig .tc .vmem S3x512x384 .f32) (harg31 : arg31.IsWhole) (arg32 : Memref sig .tc .vmem S2304x128 .f32) (harg32 : arg32.IsWhole) (arg33 : Memref sig .tc .vmem S2304x128 .f32) (harg33 : arg33.IsWhole) (v0 : BitVec 32) (v1 : BitVec 32) (v4 : IVec S1x128 1) (v51 : FVec F S1x128 .f32) (v54 : FVec F S1x128 .f32) (v55 : FVec F S128x256 .f32) (v56 : FVec F S128x256 .f32) (v65 : FVec F S128x256 .f32) (v72 : FVec F S128x256 .f32) (v82 : IVec S256x128 1) (v129 : FVec F S256x128 .f32) (v130 : FVec F S256x128 .f32) (v131 : FVec F S256x128 .f32) (v132 : Vec F S1x128 .f32) (v174 : FVec F S512x1 .f32) (v175 : IVec S8x128 32) (v176 : FVec F S1x128 .f32) (c0_i32_46 : BitVec 32) (c2_i32_47 : BitVec 32) (init : FVec F S1x256 .f32 × FVec F S1x128 .f32 × FVec F S1x128 .f32 × FVec F S1x128 .f32 × FVec F S1x128 .f32 × FVec F S1x128 .f32 × FVec F S1x128 .f32)
    (X_arg5 : BufTy.Contents (Elt F) arg5.view.ty) (X_arg6 : BufTy.Contents (Elt F) arg6.view.ty) (X_arg7 : BufTy.Contents (Elt F) arg7.view.ty) (X_arg13 : BufTy.Contents (Elt F) arg13.view.ty) (X_arg16 : BufTy.Contents (Elt F) arg16.view.ty) (X_arg17 : BufTy.Contents (Elt F) arg17.view.ty) (X_arg27 : BufTy.Contents (Elt F) arg27.view.ty) (X_arg28 : BufTy.Contents (Elt F) arg28.view.ty) (X_arg29 : BufTy.Contents (Elt F) arg29.view.ty) (X_arg30 : BufTy.Contents (Elt F) arg30.view.ty) (X_arg31 : BufTy.Contents (Elt F) arg31.view.ty) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v0 v1 v4 v51 v54 v55 v56 v65 v72 v82 v129 v130 v131 v132 v174 v175 v176 c0_i32_46 c2_i32_47 init where
  inv := fun _ _ => TripAny (F := F) c arg5 arg6 arg7 arg13 arg16 arg17 arg27 arg28 arg29 arg30 arg31 arg18 arg19 arg20 arg23 arg26 arg32 arg33 X_arg5 X_arg6 X_arg7 X_arg13 X_arg16 X_arg17 X_arg27 X_arg28 X_arg29 X_arg30 X_arg31
  step := fun k acc => trip_any (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v0 v1 v4 v51 v54 v55 v56 v65 v72 v82 v129 v130 v131 v132 v174 v175 v176 c0_i32_46 c2_i32_47 k acc X_arg5 X_arg6 X_arg7 X_arg13 X_arg16 X_arg17 X_arg27 X_arg28 X_arg29 X_arg30 X_arg31

end Cert.KernelIdeal.Mix

end
-- ==== Proof.MixGate.lean ====
/-
  Hand-written. What the backward mixers call's first counted loop (`k0_t1_loop`) leaves in the gate's cotangent: two trips
  of eight stores of 128 rows each, every row the same function of that row of the gate, of the normalised retention output
  and of the cotangent, and of the norm's gain.
-/
module

public import proofs.«01_k».proof.Proof.Gen.KernelIdeal.Loops
public import proofs.«01_k».proof.Proof.Gen.KernelIdeal.Frame
public import Idealize.ShloMosaic.Lib.Pipeline.ValueKit
public import Idealize.ShloMosaic.Lib.WritesUnit
public import Idealize.ShloMosaic.Lib.Pointwise

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Rows `128 n` to `128 n + 127` of a buffer of 2048 rows. -/
def slab {α : Type} (A : S2048x128.Idx → α) (n : Fin 16) : S128x128.Idx → α :=
  fun z => A (ix2 ⟨128 * n.val + (z 0).val, by have h1 : (z 0).val < 128 := (z 0).isLt; have h2 := n.isLt; omega⟩ (z 1))

/-- The block of 128 rows that an index of a buffer of 2048 rows lies in. -/
def blockOf (y : S2048x128.Idx) : Fin 16 := ⟨(y 0).val / 128, by have h : (y 0).val < 2048 := (y 0).isLt; omega⟩

/-- The gate's cotangent, block of rows by block of rows, from the gain, the normalised output, the gate and the cotangent. -/
def dgBlk (gain : Vec F S1x128 .f32) (x : Vec F S2048x128 .f32) (g r : Vec F S2048x128 .bf16) : Vec F S2048x128 .bf16 :=
  fun y => k0_pay17 gain (slab x (blockOf y)) (slab g (blockOf y)) (slab r (blockOf y))
    (ix2 ⟨(y 0).val % 128, Nat.mod_lt _ (by decide)⟩ (y 1))

/-- The rows the first loop reads and stores: of the trip and the chunk's place in it. -/
theorem off4_eq : ∀ (k : Fin k0_t1_loop.trips) (r : Fin 8),
    k0_off4 k (BitVec.ofNat 32 r.val) = ![1024 * k.val + 128 * r.val, 0] := by decide +kernel

theorem trips_t1 : k0_t1_loop.trips = 2 := by decide +kernel

/-- Chunk `r` of trip `k` among the blocks of 128 rows. -/
def chunk (k : Fin k0_t1_loop.trips) (r : Fin 8) : Fin 16 :=
  ⟨8 * k.val + r.val, by have h1 : k.val < 2 := trips_t1 ▸ k.isLt; have h2 := r.isLt; omega⟩

/-- What chunk `r` of trip `k` stores, and where. -/
abbrev piece (arg8 : Memref sig .tc .vmem S2048x128 .bf16) (arg9 : Memref sig .tc .vmem S2048x128 .f32) (arg11 : Memref sig .tc .vmem S2048x128 .bf16)
    (v132 : Vec F S1x128 .f32) (X_arg8 : BufTy.Contents (Elt F) arg8.view.ty) (X_arg9 : BufTy.Contents (Elt F) arg9.view.ty)
    (X_arg11 : BufTy.Contents (Elt F) arg11.view.ty) (k : Fin k0_t1_loop.trips) (r : Fin 8) : View.Piece (Elt F) S2048x128 .bf16 :=
  ⟨Rect.unit (s := S2048x128) (k0_off4 k (BitVec.ofNat 32 r.val)) S128x128.size (k0_off4_inb k r),
    k0_pay17 v132 (View.readAt (Elt F) arg9.view (Rect.unit (s := S2048x128) (k0_off4 k (BitVec.ofNat 32 r.val)) S128x128.size (k0_off4_inb k r)).toLoadRect X_arg9)
      (View.readAt (Elt F) arg8.view (Rect.unit (s := S2048x128) (k0_off4 k (BitVec.ofNat 32 r.val)) S128x128.size (k0_off4_inb k r)).toLoadRect X_arg8)
      (View.readAt (Elt F) arg11.view (Rect.unit (s := S2048x128) (k0_off4 k (BitVec.ofNat 32 r.val)) S128x128.size (k0_off4_inb k r)).toLoadRect X_arg11)⟩

/-- Row `z 0` of a load of 128 rows that begins at row `o` is row `o + z 0`. -/
theorem readAt_rows {e : EltTy} (v : View sig .tc .vmem S2048x128 e) (X : BufTy.Contents (Elt F) v.ty) {off : Fin 2 → ℕ} {o : ℕ}
    (inb : ∀ a : Fin 2, off a + S128x128.size a ≤ S2048x128.size a) (h : off = ![o, 0]) (z : S128x128.Idx) (y : S2048x128.Idx)
    (h0 : (y 0).val = o + (z 0).val) (h1 : (y 1).val = (z 1).val) :
    View.readAt (Elt F) v (Rect.unit (s := S2048x128) off S128x128.size inb).toLoadRect X z = v.read (Elt F) X y := by
  subst h
  exact View.ld_unit_apply_of (Val := Elt F) (e := e) (v.read (Elt F) X) ![o, 0] S128x128.size inb z y
    (Fin.forall_fin_two.2 ⟨h0, h1.trans (Nat.zero_add (z 1).val).symm⟩)

/-- A chunk's load is a block of 128 rows. -/
theorem readAt_slab {e : EltTy} (v : View sig .tc .vmem S2048x128 e) (X : BufTy.Contents (Elt F) v.ty) (k : Fin k0_t1_loop.trips) (r : Fin 8) :
    View.readAt (Elt F) v (Rect.unit (s := S2048x128) (k0_off4 k (BitVec.ofNat 32 r.val)) S128x128.size (k0_off4_inb k r)).toLoadRect X
      = slab (v.read (Elt F) X) (chunk k r) := by
  funext z
  exact readAt_rows v X (k0_off4_inb k r) (off4_eq k r) z _
    (show 128 * (8 * k.val + r.val) + (z 0).val = (1024 * k.val + 128 * r.val) + (z 0).val by omega) rfl

/-- A row of the newest chunk's block reads that chunk; another row is left as it was. -/
theorem read_piece (arg8 : Memref sig .tc .vmem S2048x128 .bf16) (arg9 : Memref sig .tc .vmem S2048x128 .f32) (arg11 arg21 : Memref sig .tc .vmem S2048x128 .bf16)
    (v132 : Vec F S1x128 .f32) (X_arg8 : BufTy.Contents (Elt F) arg8.view.ty) (X_arg9 : BufTy.Contents (Elt F) arg9.view.ty)
    (X_arg11 : BufTy.Contents (Elt F) arg11.view.ty) (G : BufTy.Contents (Elt F) arg21.view.ty) (k : Fin k0_t1_loop.trips) (r : Fin 8)
    (L : List (View.Piece (Elt F) S2048x128 .bf16)) (y : S2048x128.Idx) :
    arg21.view.read (Elt F) (arg21.view.writes (Elt F) G (piece arg8 arg9 arg11 v132 X_arg8 X_arg9 X_arg11 k r :: L)) y
      = if (blockOf y).val = 8 * k.val + r.val then
          dgBlk v132 (arg9.view.read (Elt F) X_arg9) (arg8.view.read (Elt F) X_arg8) (arg11.view.read (Elt F) X_arg11) y
        else arg21.view.read (Elt F) (arg21.view.writes (Elt F) G L) y := by
  by_cases h : (blockOf y).val = 8 * k.val + r.val
  · have hb : blockOf y = chunk k r := Fin.ext h
    have hd : (y 0).val / 128 = 8 * k.val + r.val := h
    rw [if_pos h]
    refine (View.read_writes_cons_rows_of_mem (Val := Elt F) (d := S2048x128.size) (o := 1024 * k.val + 128 * r.val) arg21.view G _ _ L y
      (ix2 ⟨(y 0).val % 128, Nat.mod_lt _ (by decide)⟩ (y 1)) (off4_eq k r)
      (show (y 0).val = (1024 * k.val + 128 * r.val) + (y 0).val % 128 by omega) rfl).trans ?_
    rw [readAt_slab, readAt_slab, readAt_slab, ← hb]
    rfl
  · have hd : ¬(y 0).val / 128 = 8 * k.val + r.val := h
    rw [if_neg h]
    exact View.read_writes_cons_rows_of_not_mem (Val := Elt F) (d := S2048x128.size) (o := 1024 * k.val + 128 * r.val) (W := 128) arg21.view G _ _ L y
      (off4_eq k r) rfl (by omega)

/-- A row that some chunk of a list stores reads its closed form. -/
theorem read_pieces (arg8 : Memref sig .tc .vmem S2048x128 .bf16) (arg9 : Memref sig .tc .vmem S2048x128 .f32) (arg11 arg21 : Memref sig .tc .vmem S2048x128 .bf16)
    (v132 : Vec F S1x128 .f32) (X_arg8 : BufTy.Contents (Elt F) arg8.view.ty) (X_arg9 : BufTy.Contents (Elt F) arg9.view.ty)
    (X_arg11 : BufTy.Contents (Elt F) arg11.view.ty) (G : BufTy.Contents (Elt F) arg21.view.ty) (y : S2048x128.Idx) :
    ∀ ks : List (Fin k0_t1_loop.trips × Fin 8), (∃ p ∈ ks, (blockOf y).val = 8 * p.1.val + p.2.val) →
    arg21.view.read (Elt F) (arg21.view.writes (Elt F) G (ks.map fun p => piece arg8 arg9 arg11 v132 X_arg8 X_arg9 X_arg11 p.1 p.2)) y
      = dgBlk v132 (arg9.view.read (Elt F) X_arg9) (arg8.view.read (Elt F) X_arg8) (arg11.view.read (Elt F) X_arg11) y
  | [], h => by obtain ⟨p, hp, _⟩ := h; exact absurd hp List.not_mem_nil
  | q :: ks, h => by
    rw [List.map_cons, read_piece]
    by_cases hq : (blockOf y).val = 8 * q.1.val + q.2.val
    · exact if_pos hq
    · rw [if_neg hq]
      obtain ⟨p, hp, he⟩ := h
      refine read_pieces arg8 arg9 arg11 arg21 v132 X_arg8 X_arg9 X_arg11 G y ks ⟨p, ?_, he⟩
      rcases List.mem_cons.1 hp with rfl | h'
      · exact absurd he hq
      · exact h'

/-- The chunks of the loop, the last one first. -/
def chunks : List (Fin k0_t1_loop.trips × Fin 8) :=
  [(⟨1, by decide +kernel⟩, 7), (⟨1, by decide +kernel⟩, 6), (⟨1, by decide +kernel⟩, 5), (⟨1, by decide +kernel⟩, 4),
   (⟨1, by decide +kernel⟩, 3), (⟨1, by decide +kernel⟩, 2), (⟨1, by decide +kernel⟩, 1), (⟨1, by decide +kernel⟩, 0),
   (⟨0, by decide +kernel⟩, 7), (⟨0, by decide +kernel⟩, 6), (⟨0, by decide +kernel⟩, 5), (⟨0, by decide +kernel⟩, 4),
   (⟨0, by decide +kernel⟩, 3), (⟨0, by decide +kernel⟩, 2), (⟨0, by decide +kernel⟩, 1), (⟨0, by decide +kernel⟩, 0)]

/-- They are all the blocks of 128 rows. -/
theorem chunks_all : ∀ n : Fin 16, ∃ p ∈ chunks, n.val = 8 * p.1.val + p.2.val := by decide +kernel

set_option maxHeartbeats 4000000 in
/-- The eight stores of one trip into the gate's cotangent. -/
theorem trip_pieces (𝒱 : Variants) (c : Dev nD) (bd : Option 𝒱.V) (i : grid0.Coords) (arg2 : Memref sig .tc .smem S8 .f32) (harg2 : arg2.IsWhole) (arg3 : Memref sig .tc .smem S8 .f32) (harg3 : arg3.IsWhole) (arg4 : Memref sig .tc .smem S8 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1024x256 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S1024x256 .bf16) (harg16 : arg16.IsWhole) (arg17 : Memref sig .tc .vmem S16x256x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S16x128 .f32) (harg22 : arg22.IsWhole) (arg23 : Memref sig .tc .vmem S1024x256 .bf16) (harg23 : arg23.IsWhole) (arg24 : Memref sig .tc .vmem S2048x128 .bf16) (harg24 : arg24.IsWhole) (arg25 : Memref sig .tc .vmem S2048x128 .bf16) (harg25 : arg25.IsWhole) (arg26 : Memref sig .tc .vmem S8x128 .f32) (harg26 : arg26.IsWhole) (arg27 : Memref sig .tc .vmem S16x256x128 .f32) (harg27 : arg27.IsWhole) (arg28 : Memref sig .tc .vmem S2048x128 .bf16) (harg28 : arg28.IsWhole) (arg29 : Memref sig .tc .vmem S2304x128 .bf16) (harg29 : arg29.IsWhole) (arg30 : Memref sig .tc .vmem S2304x128 .bf16) (harg30 : arg30.IsWhole) (arg31 : Memref sig .tc .vmem S3x512x384 .f32) (harg31 : arg31.IsWhole) (arg32 : Memref sig .tc .vmem S2304x128 .f32) (harg32 : arg32.IsWhole) (arg33 : Memref sig .tc .vmem S2304x128 .f32) (harg33 : arg33.IsWhole) (v0 : BitVec 32) (v1 : BitVec 32) (v4 : IVec S1x128 1) (v51 : FVec F S1x128 .f32) (v54 : FVec F S1x128 .f32) (v55 : FVec F S128x256 .f32) (v56 : FVec F S128x256 .f32) (v65 : FVec F S128x256 .f32) (v72 : FVec F S128x256 .f32) (v82 : IVec S256x128 1) (v129 : FVec F S256x128 .f32) (v130 : FVec F S256x128 .f32) (v131 : FVec F S256x128 .f32) (v132 : Vec F S1x128 .f32) (v174 : FVec F S512x1 .f32) (v175 : IVec S8x128 32) (v176 : FVec F S1x128 .f32) (c0_i32_46 : BitVec 32) (c2_i32_47 : BitVec 32) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (k : Fin k0_t1_loop.trips) (acc : FVec F S1x128 .f32) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v0 v1 v4 v51 v54 v55 v56 v65 v72 v82 v129 v130 v131 v132 v174 v175 v176 c0_i32_46 c2_i32_47 X_arg5 X_arg8 X_arg9 X_arg10 X_arg11 k).2.1 acc
    = [piece arg8 arg9 arg11 v132 X_arg8 X_arg9 X_arg11 k 7, piece arg8 arg9 arg11 v132 X_arg8 X_arg9 X_arg11 k 6, piece arg8 arg9 arg11 v132 X_arg8 X_arg9 X_arg11 k 5, piece arg8 arg9 arg11 v132 X_arg8 X_arg9 X_arg11 k 4,
       piece arg8 arg9 arg11 v132 X_arg8 X_arg9 X_arg11 k 3, piece arg8 arg9 arg11 v132 X_arg8 X_arg9 X_arg11 k 2, piece arg8 arg9 arg11 v132 X_arg8 X_arg9 X_arg11 k 1, piece arg8 arg9 arg11 v132 X_arg8 X_arg9 X_arg11 k 0] := by
  unfold trip_k0_t1
  rfl

set_option maxHeartbeats 4000000 in
/-- After the loop the gate's cotangent is its closed form, whatever the buffer held before. -/
theorem read_t1 (𝒱 : Variants) (c : Dev nD) (bd : Option 𝒱.V) (i : grid0.Coords) (arg2 : Memref sig .tc .smem S8 .f32) (harg2 : arg2.IsWhole) (arg3 : Memref sig .tc .smem S8 .f32) (harg3 : arg3.IsWhole) (arg4 : Memref sig .tc .smem S8 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1024x256 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S1024x256 .bf16) (harg16 : arg16.IsWhole) (arg17 : Memref sig .tc .vmem S16x256x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S16x128 .f32) (harg22 : arg22.IsWhole) (arg23 : Memref sig .tc .vmem S1024x256 .bf16) (harg23 : arg23.IsWhole) (arg24 : Memref sig .tc .vmem S2048x128 .bf16) (harg24 : arg24.IsWhole) (arg25 : Memref sig .tc .vmem S2048x128 .bf16) (harg25 : arg25.IsWhole) (arg26 : Memref sig .tc .vmem S8x128 .f32) (harg26 : arg26.IsWhole) (arg27 : Memref sig .tc .vmem S16x256x128 .f32) (harg27 : arg27.IsWhole) (arg28 : Memref sig .tc .vmem S2048x128 .bf16) (harg28 : arg28.IsWhole) (arg29 : Memref sig .tc .vmem S2304x128 .bf16) (harg29 : arg29.IsWhole) (arg30 : Memref sig .tc .vmem S2304x128 .bf16) (harg30 : arg30.IsWhole) (arg31 : Memref sig .tc .vmem S3x512x384 .f32) (harg31 : arg31.IsWhole) (arg32 : Memref sig .tc .vmem S2304x128 .f32) (harg32 : arg32.IsWhole) (arg33 : Memref sig .tc .vmem S2304x128 .f32) (harg33 : arg33.IsWhole) (v0 : BitVec 32) (v1 : BitVec 32) (v4 : IVec S1x128 1) (v51 : FVec F S1x128 .f32) (v54 : FVec F S1x128 .f32) (v55 : FVec F S128x256 .f32) (v56 : FVec F S128x256 .f32) (v65 : FVec F S128x256 .f32) (v72 : FVec F S128x256 .f32) (v82 : IVec S256x128 1) (v129 : FVec F S256x128 .f32) (v130 : FVec F S256x128 .f32) (v131 : FVec F S256x128 .f32) (v132 : Vec F S1x128 .f32) (v174 : FVec F S512x1 .f32) (v175 : IVec S8x128 32) (v176 : FVec F S1x128 .f32) (c0_i32_46 : BitVec 32) (c2_i32_47 : BitVec 32) (X_arg5 : BufTy.Contents (Elt F) arg5.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (init : FVec F S1x128 .f32) (G : BufTy.Contents (Elt F) arg21.view.ty) :
    arg21.view.read (Elt F) (arg21.view.writes (Elt F) G (st_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 v0 v1 v4 v51 v54 v55 v56 v65 v72 v82 v129 v130 v131 v132 v174 v175 v176 c0_i32_46 c2_i32_47 X_arg5 X_arg8 X_arg9 X_arg10 X_arg11 init  k0_t1_loop.trips).2.1)
    = dgBlk v132 (arg9.view.read (Elt F) X_arg9) (arg8.view.read (Elt F) X_arg8) (arg11.view.read (Elt F) X_arg11) := by
  funext y
  rw [show k0_t1_loop.trips = (⟨1, by decide +kernel⟩ : Fin k0_t1_loop.trips).val + 1 from trips_t1, st_k0_t1_succ,
    show (⟨1, by decide +kernel⟩ : Fin k0_t1_loop.trips).val = (⟨0, by decide +kernel⟩ : Fin k0_t1_loop.trips).val + 1 from rfl, st_k0_t1_succ]
  dsimp only
  rw [trip_pieces, trip_pieces]
  exact read_pieces arg8 arg9 arg11 arg21 v132 X_arg8 X_arg9 X_arg11 G y chunks (chunks_all (blockOf y))

attribute [irreducible] dgBlk

end Cert.KernelIdeal.Mix

end
-- ==== Proof.MixBody.lean ====
/-
  Hand-written. One grid point of the backward mixers call, run once: its three conditionals taken by cases, the norm loop and the
  two scans by their generated invariants, the main loop by the invariant of MixLoop.lean. Of what
  it leaves, the gate's cotangent is named (MixGate.lean); the other results and the scratch are not.
-/
module

public import proofs.«01_k».proof.Proof.MixLoop
public import proofs.«01_k».proof.Proof.MixGate
public import Idealize.ShloMosaic.Lib.VecWindow
public import proofs.«01_k».proof.Proof.Gen.KernelIdeal.Skeleton

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What one grid point holds: its sixteen operands at their contents, its results and its scratch at some contents. -/
abbrev BodyAny (c : Dev nD) (arg2 : Memref sig .tc .smem S8 .f32) (arg3 : Memref sig .tc .smem S8 .f32) (arg4 : Memref sig .tc .smem S8 .f32) (arg5 : Memref sig .tc .vmem S2048x128 .bf16) (arg6 : Memref sig .tc .vmem S2048x128 .bf16) (arg7 : Memref sig .tc .vmem S2048x128 .bf16) (arg8 : Memref sig .tc .vmem S2048x128 .bf16) (arg9 : Memref sig .tc .vmem S2048x128 .f32) (arg10 : Memref sig .tc .vmem S2048x128 .f32) (arg11 : Memref sig .tc .vmem S2048x128 .bf16) (arg12 : Memref sig .tc .vmem S1x128 .f32) (arg13 : Memref sig .tc .vmem S1024x256 .bf16) (arg14 : Memref sig .tc .vmem S2048x128 .bf16) (arg15 : Memref sig .tc .vmem S2048x128 .bf16) (arg16 : Memref sig .tc .vmem S1024x256 .bf16) (arg17 : Memref sig .tc .vmem S16x256x128 .f32) (arg18 : Memref sig .tc .vmem S2048x128 .bf16) (arg19 : Memref sig .tc .vmem S2048x128 .bf16) (arg20 : Memref sig .tc .vmem S2048x128 .bf16) (arg21 : Memref sig .tc .vmem S2048x128 .bf16) (arg22 : Memref sig .tc .vmem S16x128 .f32) (arg23 : Memref sig .tc .vmem S1024x256 .bf16) (arg24 : Memref sig .tc .vmem S2048x128 .bf16) (arg25 : Memref sig .tc .vmem S2048x128 .bf16) (arg26 : Memref sig .tc .vmem S8x128 .f32) (arg27 : Memref sig .tc .vmem S16x256x128 .f32) (arg28 : Memref sig .tc .vmem S2048x128 .bf16) (arg29 : Memref sig .tc .vmem S2304x128 .bf16) (arg30 : Memref sig .tc .vmem S2304x128 .bf16) (arg31 : Memref sig .tc .vmem S3x512x384 .f32) (arg32 : Memref sig .tc .vmem S2304x128 .f32) (arg33 : Memref sig .tc .vmem S2304x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)) ∗ (∃ f : BufTy.Contents (Elt F) arg22.view.ty, (arg22.view.loc (c : Thread nD τ) ↦[arg22.view.set]{fullShare} f)) ∗ (∃ f : BufTy.Contents (Elt F) arg23.view.ty, (arg23.view.loc (c : Thread nD τ) ↦[arg23.view.set]{fullShare} f)) ∗ (∃ f : BufTy.Contents (Elt F) arg24.view.ty, (arg24.view.loc (c : Thread nD τ) ↦[arg24.view.set]{fullShare} f)) ∗ (∃ f : BufTy.Contents (Elt F) arg25.view.ty, (arg25.view.loc (c : Thread nD τ) ↦[arg25.view.set]{fullShare} f)) ∗ (∃ f : BufTy.Contents (Elt F) arg26.view.ty, (arg26.view.loc (c : Thread nD τ) ↦[arg26.view.set]{fullShare} f)) ∗ (∃ f : BufTy.Contents (Elt F) arg27.view.ty, (arg27.view.loc (c : Thread nD τ) ↦[arg27.view.set]{fullShare} f)) ∗ (∃ f : BufTy.Contents (Elt F) arg28.view.ty, (arg28.view.loc (c : Thread nD τ) ↦[arg28.view.set]{fullShare} f)) ∗ (∃ f : BufTy.Contents (Elt F) arg29.view.ty, (arg29.view.loc (c : Thread nD τ) ↦[arg29.view.set]{fullShare} f)) ∗ (∃ f : BufTy.Contents (Elt F) arg30.view.ty, (arg30.view.loc (c : Thread nD τ) ↦[arg30.view.set]{fullShare} f)) ∗ (∃ f : BufTy.Contents (Elt F) arg31.view.ty, (arg31.view.loc (c : Thread nD τ) ↦[arg31.view.set]{fullShare} f)) ∗ (∃ f : BufTy.Contents (Elt F) arg32.view.ty, (arg32.view.loc (c : Thread nD τ) ↦[arg32.view.set]{fullShare} f)) ∗ (∃ f : BufTy.Contents (Elt F) arg33.view.ty, (arg33.view.loc (c : Thread nD τ) ↦[arg33.view.set]{fullShare} f)))

/-- What one grid point leaves: the same, and the gate's cotangent is its closed form in the point's blocks. -/
abbrev BodyNamed (c : Dev nD) (arg2 : Memref sig .tc .smem S8 .f32) (arg3 : Memref sig .tc .smem S8 .f32) (arg4 : Memref sig .tc .smem S8 .f32) (arg5 : Memref sig .tc .vmem S2048x128 .bf16) (arg6 : Memref sig .tc .vmem S2048x128 .bf16) (arg7 : Memref sig .tc .vmem S2048x128 .bf16) (arg8 : Memref sig .tc .vmem S2048x128 .bf16) (arg9 : Memref sig .tc .vmem S2048x128 .f32) (arg10 : Memref sig .tc .vmem S2048x128 .f32) (arg11 : Memref sig .tc .vmem S2048x128 .bf16) (arg12 : Memref sig .tc .vmem S1x128 .f32) (arg13 : Memref sig .tc .vmem S1024x256 .bf16) (arg14 : Memref sig .tc .vmem S2048x128 .bf16) (arg15 : Memref sig .tc .vmem S2048x128 .bf16) (arg16 : Memref sig .tc .vmem S1024x256 .bf16) (arg17 : Memref sig .tc .vmem S16x256x128 .f32) (arg18 : Memref sig .tc .vmem S2048x128 .bf16) (arg19 : Memref sig .tc .vmem S2048x128 .bf16) (arg20 : Memref sig .tc .vmem S2048x128 .bf16) (arg21 : Memref sig .tc .vmem S2048x128 .bf16) (arg22 : Memref sig .tc .vmem S16x128 .f32) (arg23 : Memref sig .tc .vmem S1024x256 .bf16) (arg24 : Memref sig .tc .vmem S2048x128 .bf16) (arg25 : Memref sig .tc .vmem S2048x128 .bf16) (arg26 : Memref sig .tc .vmem S8x128 .f32) (arg27 : Memref sig .tc .vmem S16x256x128 .f32) (arg28 : Memref sig .tc .vmem S2048x128 .bf16) (arg29 : Memref sig .tc .vmem S2304x128 .bf16) (arg30 : Memref sig .tc .vmem S2304x128 .bf16) (arg31 : Memref sig .tc .vmem S3x512x384 .f32) (arg32 : Memref sig .tc .vmem S2304x128 .f32) (arg33 : Memref sig .tc .vmem S2304x128 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) : sProp 𝕄 :=
  iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (arg16.view.loc (c : Thread nD τ) ↦[arg16.view.set]{fullShare} X_arg16) ∗ (arg17.view.loc (c : Thread nD τ) ↦[arg17.view.set]{fullShare} X_arg17) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f) ∗ ⌜arg21.view.read (Elt F) f = dgBlk (arg12.view.read (Elt F) X_arg12) (arg9.view.read (Elt F) X_arg9) (arg8.view.read (Elt F) X_arg8) (arg11.view.read (Elt F) X_arg11)⌝) ∗ (∃ f : BufTy.Contents (Elt F) arg22.view.ty, (arg22.view.loc (c : Thread nD τ) ↦[arg22.view.set]{fullShare} f)) ∗ (∃ f : BufTy.Contents (Elt F) arg23.view.ty, (arg23.view.loc (c : Thread nD τ) ↦[arg23.view.set]{fullShare} f)) ∗ (∃ f : BufTy.Contents (Elt F) arg24.view.ty, (arg24.view.loc (c : Thread nD τ) ↦[arg24.view.set]{fullShare} f)) ∗ (∃ f : BufTy.Contents (Elt F) arg25.view.ty, (arg25.view.loc (c : Thread nD τ) ↦[arg25.view.set]{fullShare} f)) ∗ (∃ f : BufTy.Contents (Elt F) arg26.view.ty, (arg26.view.loc (c : Thread nD τ) ↦[arg26.view.set]{fullShare} f)) ∗ (∃ f : BufTy.Contents (Elt F) arg27.view.ty, (arg27.view.loc (c : Thread nD τ) ↦[arg27.view.set]{fullShare} f)) ∗ (∃ f : BufTy.Contents (Elt F) arg28.view.ty, (arg28.view.loc (c : Thread nD τ) ↦[arg28.view.set]{fullShare} f)) ∗ (∃ f : BufTy.Contents (Elt F) arg29.view.ty, (arg29.view.loc (c : Thread nD τ) ↦[arg29.view.set]{fullShare} f)) ∗ (∃ f : BufTy.Contents (Elt F) arg30.view.ty, (arg30.view.loc (c : Thread nD τ) ↦[arg30.view.set]{fullShare} f)) ∗ (∃ f : BufTy.Contents (Elt F) arg31.view.ty, (arg31.view.loc (c : Thread nD τ) ↦[arg31.view.set]{fullShare} f)) ∗ (∃ f : BufTy.Contents (Elt F) arg32.view.ty, (arg32.view.loc (c : Thread nD τ) ↦[arg32.view.set]{fullShare} f)) ∗ (∃ f : BufTy.Contents (Elt F) arg33.view.ty, (arg33.view.loc (c : Thread nD τ) ↦[arg33.view.set]{fullShare} f)))

set_option maxHeartbeats 40000000 in
/-- One grid point runs to its return, from some contents of its results and scratch; it leaves the gate's cotangent at its closed form. -/
theorem body_any (c : Dev nD) (i : grid0.Coords) (arg2 : Memref sig .tc .smem S8 .f32) (harg2 : arg2.IsWhole) (arg3 : Memref sig .tc .smem S8 .f32) (harg3 : arg3.IsWhole) (arg4 : Memref sig .tc .smem S8 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S2048x128 .bf16) (harg7 : arg7.IsWhole) (arg8 : Memref sig .tc .vmem S2048x128 .bf16) (harg8 : arg8.IsWhole) (arg9 : Memref sig .tc .vmem S2048x128 .f32) (harg9 : arg9.IsWhole) (arg10 : Memref sig .tc .vmem S2048x128 .f32) (harg10 : arg10.IsWhole) (arg11 : Memref sig .tc .vmem S2048x128 .bf16) (harg11 : arg11.IsWhole) (arg12 : Memref sig .tc .vmem S1x128 .f32) (harg12 : arg12.IsWhole) (arg13 : Memref sig .tc .vmem S1024x256 .bf16) (harg13 : arg13.IsWhole) (arg14 : Memref sig .tc .vmem S2048x128 .bf16) (harg14 : arg14.IsWhole) (arg15 : Memref sig .tc .vmem S2048x128 .bf16) (harg15 : arg15.IsWhole) (arg16 : Memref sig .tc .vmem S1024x256 .bf16) (harg16 : arg16.IsWhole) (arg17 : Memref sig .tc .vmem S16x256x128 .f32) (harg17 : arg17.IsWhole) (arg18 : Memref sig .tc .vmem S2048x128 .bf16) (harg18 : arg18.IsWhole) (arg19 : Memref sig .tc .vmem S2048x128 .bf16) (harg19 : arg19.IsWhole) (arg20 : Memref sig .tc .vmem S2048x128 .bf16) (harg20 : arg20.IsWhole) (arg21 : Memref sig .tc .vmem S2048x128 .bf16) (harg21 : arg21.IsWhole) (arg22 : Memref sig .tc .vmem S16x128 .f32) (harg22 : arg22.IsWhole) (arg23 : Memref sig .tc .vmem S1024x256 .bf16) (harg23 : arg23.IsWhole) (arg24 : Memref sig .tc .vmem S2048x128 .bf16) (harg24 : arg24.IsWhole) (arg25 : Memref sig .tc .vmem S2048x128 .bf16) (harg25 : arg25.IsWhole) (arg26 : Memref sig .tc .vmem S8x128 .f32) (harg26 : arg26.IsWhole) (arg27 : Memref sig .tc .vmem S16x256x128 .f32) (harg27 : arg27.IsWhole) (arg28 : Memref sig .tc .vmem S2048x128 .bf16) (harg28 : arg28.IsWhole) (arg29 : Memref sig .tc .vmem S2304x128 .bf16) (harg29 : arg29.IsWhole) (arg30 : Memref sig .tc .vmem S2304x128 .bf16) (harg30 : arg30.IsWhole) (arg31 : Memref sig .tc .vmem S3x512x384 .f32) (harg31 : arg31.IsWhole) (arg32 : Memref sig .tc .vmem S2304x128 .f32) (harg32 : arg32.IsWhole) (arg33 : Memref sig .tc .vmem S2304x128 .f32) (harg33 : arg33.IsWhole) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty) (X_arg17 : BufTy.Contents (Elt F) arg17.view.ty) (K : PUnit → sProp 𝕄) :
    iprop(BodyAny (F := F) c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 X_arg2 X_arg3 X_arg4 X_arg5 X_arg6 X_arg7 X_arg8 X_arg9 X_arg10 X_arg11 X_arg12 X_arg13 X_arg14 X_arg15 X_arg16 X_arg17
        ∗ (BodyNamed (F := F) c arg2 arg3 arg4 arg5 arg6 arg7 arg8 arg9 arg10 arg11 arg12 arg13 arg14 arg15 arg16 arg17 arg18 arg19 arg20 arg21 arg22 arg23 arg24 arg25 arg26 arg27 arg28 arg29 arg30 arg31 arg32 arg33 X_arg2 X_arg3 X_arg4 X_arg5 X_arg6 X_arg7 X_arg8 X_arg9 X_arg10 X_arg11 X_arg12 X_arg13 X_arg14 X_arg15 X_arg16 X_arg17 -∗ K ⟨⟩))
      ⊢ wp frame (wpE (defs₀ (F := F)) Variants.none (c : Thread nD τ) none) Set.univ (cc0_mixers_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K := by
  simp only [cc0_mixers_bwd_eq_skeleton]; unfold cc0_mixers_bwd_skel
  iintro ⟨⟨HR_arg2, HR_arg3, HR_arg4, HR_arg5, HR_arg6, HR_arg7, HR_arg8, HR_arg9, HR_arg10, HR_arg11, HR_arg12, HR_arg13, HR_arg14, HR_arg15, HR_arg16, HR_arg17, ⟨%f_arg18, HW_arg18⟩, ⟨%f_arg19, HW_arg19⟩, ⟨%f_arg20, HW_arg20⟩, ⟨%f_arg21, HW_arg21⟩, ⟨%f_arg22, HW_arg22⟩, ⟨%f_arg23, HW_arg23⟩, ⟨%f_arg24, HW_arg24⟩, ⟨%f_arg25, HW_arg25⟩, ⟨%f_arg26, HW_arg26⟩, ⟨%f_arg27, HW_arg27⟩, ⟨%f_arg28, HW_arg28⟩, ⟨%f_arg29, HW_arg29⟩, ⟨%f_arg30, HW_arg30⟩, ⟨%f_arg31, HW_arg31⟩, ⟨%f_arg32, HW_arg32⟩, ⟨%f_arg33, HW_arg33⟩⟩, Hk⟩
  by_cases h1 : Scalar.cmpi .ne (Scalar.extui (Scalar.cmpi .eq (Scalar.andi (BitVec.ofNat 32 (i 1).val) 1#32) 0#32) : BitVec 32) 0#32 = 1#1 <;> by_cases h2 : Scalar.cmpi .ne (Scalar.extui (Scalar.cmpi .eq (BitVec.ofNat 32 (i 1).val) 0#32) : BitVec 32) 0#32 = 1#1 <;> by_cases h3 : k0_cond3 i = 1#1 <;>
  ( sl_exec
    sl_step
    iapply Hk
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HR_arg7]; · iexact HR_arg7
    isplitl [HR_arg8]; · iexact HR_arg8
    isplitl [HR_arg9]; · iexact HR_arg9
    isplitl [HR_arg10]; · iexact HR_arg10
    isplitl [HR_arg11]; · iexact HR_arg11
    isplitl [HR_arg12]; · iexact HR_arg12
    isplitl [HR_arg13]; · iexact HR_arg13
    isplitl [HR_arg14]; · iexact HR_arg14
    isplitl [HR_arg15]; · iexact HR_arg15
    isplitl [HR_arg16]; · iexact HR_arg16
    isplitl [HR_arg17]; · iexact HR_arg17
    isplitl [HW_arg18]; · iexists _; iexact HW_arg18
    isplitl [HW_arg19]; · iexists _; iexact HW_arg19
    isplitl [HW_arg20]; · iexists _; iexact HW_arg20
    isplitl [HW_arg21]
    · iexists _; isplitl [HW_arg21]; · iexact HW_arg21
      ipureintro
      exact (read_t1 ..).trans (congrArg (fun g => dgBlk g _ _ _) (View.readAt_full ..))
    isplitl [HW_arg22]; · iexists _; iexact HW_arg22
    isplitl [HW_arg23]; · iexists _; iexact HW_arg23
    isplitl [HW_arg24]; · iexists _; iexact HW_arg24
    isplitl [HW_arg25]; · iexists _; iexact HW_arg25
    isplitl [HW_arg26]; · iexists _; iexact HW_arg26
    isplitl [HW_arg27]; · iexists _; iexact HW_arg27
    isplitl [HW_arg28]; · iexists _; iexact HW_arg28
    isplitl [HW_arg29]; · iexists _; iexact HW_arg29
    isplitl [HW_arg30]; · iexists _; iexact HW_arg30
    isplitl [HW_arg31]; · iexists _; iexact HW_arg31
    isplitl [HW_arg32]; · iexists _; iexact HW_arg32
    iexists _; iexact HW_arg33)

end Cert.KernelIdeal.Mix

end
-- ==== Proof.MixFrame.lean ====
/-
  Hand-written. The frame of the backward mixers call: the operands are read and kept, the gate's cotangent is named
  block by block, the other results are forgotten, the scratch is held at some contents between the grid points. Three operands are windows on one array, so each
  holds a share of it.
-/
module

public import proofs.«01_k».proof.Proof.MixBody
public import proofs.«01_k».proof.Proof.Gen.KernelIdeal.Frame
public import Idealize.ShloMosaic.Lib.Pipeline.Frame

@[expose] public section

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Eight of the nine results are forgotten: nothing here reads what the kernel leaves in them. The gate's cotangent is not. -/
def forgets : Fin 25 → Bool := fun | 0 => false | 1 => false | 2 => false | 3 => false | 4 => false | 5 => false | 6 => false | 7 => false | 8 => false | 9 => false | 10 => false | 11 => false | 12 => false | 13 => false | 14 => false | 15 => false | 19 => false | _ => true

/-- The proof data on core `c`: the arrays as the region finds them; each operand's block left in place, the gate's
    cotangent at its closed form, the other results unnamed; the
    scratch at some contents; each window's share of its array; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨19, _⟩ => dgBlk (iblk m c 10 t) (iblk m c 7 t) (iblk m c 6 t) (iblk m c 9 t)
    | w => Pipeline.Dat.unnamed (cfg := cfg0) w t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d
theorem before_9 (c : Dev nD) (t : Fin cfg0.N) (d) : (dats m 0 c).before 9 t d = iblk m c 9 t :=
  before0_9_of m (dats m 0 c) (A_eq m c 9) (fun _ => rfl) t d
theorem before_10 (c : Dev nD) (t : Fin cfg0.N) (d) : (dats m 0 c).before 10 t d = iblk m c 10 t :=
  before0_10_of m (dats m 0 c) (A_eq m c 10) (fun _ => rfl) t d
theorem before_11 (c : Dev nD) (t : Fin cfg0.N) (d) : (dats m 0 c).before 11 t d = iblk m c 11 t :=
  before0_11_of m (dats m 0 c) (A_eq m c 11) (fun _ => rfl) t d
theorem before_12 (c : Dev nD) (t : Fin cfg0.N) (d) : (dats m 0 c).before 12 t d = iblk m c 12 t :=
  before0_12_of m (dats m 0 c) (A_eq m c 12) (fun _ => rfl) t d
theorem before_13 (c : Dev nD) (t : Fin cfg0.N) (d) : (dats m 0 c).before 13 t d = iblk m c 13 t :=
  before0_13_of m (dats m 0 c) (A_eq m c 13) (fun _ => rfl) t d
theorem before_14 (c : Dev nD) (t : Fin cfg0.N) (d) : (dats m 0 c).before 14 t d = iblk m c 14 t :=
  before0_14_of m (dats m 0 c) (A_eq m c 14) (fun _ => rfl) t d
theorem before_15 (c : Dev nD) (t : Fin cfg0.N) (d) : (dats m 0 c).before 15 t d = iblk m c 15 t :=
  before0_15_of m (dats m 0 c) (A_eq m c 15) (fun _ => rfl) t d

/-- What the body is called with at point `t`: the scratch, nothing owed, each operand's block, the results at anything. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare ((dats m 0 c).before 19 t d)) ∗ (∃ d, owns (c : Thread nD τ) (win0_20.stage (cfg0.slots t 20)) fullShare d) ∗ (∃ d, owns (c : Thread nD τ) (win0_21.stage (cfg0.slots t 21)) fullShare d) ∗ (∃ d, owns (c : Thread nD τ) (win0_22.stage (cfg0.slots t 22)) fullShare d) ∗ (∃ d, owns (c : Thread nD τ) (win0_23.stage (cfg0.slots t 23)) fullShare d) ∗ (∃ d, owns (c : Thread nD τ) (win0_24.stage (cfg0.slots t 24)) fullShare d))
/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ owns (c : Thread nD τ) (win0_14.stage (cfg0.slots t 14)) fullShare (iblk m c 14 t) ∗ owns (c : Thread nD τ) (win0_15.stage (cfg0.slots t 15)) fullShare (iblk m c 15 t) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ owns (c : Thread nD τ) (win0_19.stage (cfg0.slots t 19)) fullShare (dgBlk (iblk m c 10 t) (iblk m c 7 t) (iblk m c 6 t) (iblk m c 9 t)) ∗ (∃ d, owns (c : Thread nD τ) (win0_20.stage (cfg0.slots t 20)) fullShare d) ∗ (∃ d, owns (c : Thread nD τ) (win0_21.stage (cfg0.slots t 21)) fullShare d) ∗ (∃ d, owns (c : Thread nD τ) (win0_22.stage (cfg0.slots t 22)) fullShare d) ∗ (∃ d, owns (c : Thread nD τ) (win0_23.stage (cfg0.slots t 23)) fullShare d) ∗ (∃ d, owns (c : Thread nD τ) (win0_24.stage (cfg0.slots t 24)) fullShare d))

/-- The class invariant: each scratch whole at some contents, and the generator register at some state. -/
theorem PhiA_eq (c : Dev nD) : (Pipeline.ΦA spec0 c : sProp 𝕄)
    = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f) ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f) ∗ (∃ f : Buf (Elt F) ((c : Thread nD τ).loc cc0_scratch6), ((c : Thread nD τ).loc cc0_scratch6) ↦{fullShare} f)) ∗ (∃ r, prngReg c r)) := by
  unfold Pipeline.ΦA; rw [scopedRest0_eq]

/-- A scratch held whole, in the two ways of writing it. -/
theorem scr_0 (c : Dev nD) (f : Buf (Elt F) ((c : Thread nD τ).loc cc0_scratch0)) :
    (((Memref.whole cc0_scratch0 : Memref sig .tc .vmem S16x256x128 .f32).view.loc (c : Thread nD τ) ↦[(Memref.whole cc0_scratch0 : Memref sig .tc .vmem S16x256x128 .f32).view.set]{fullShare} f) : sProp 𝕄)
      = (((c : Thread nD τ).loc cc0_scratch0) ↦{fullShare} f) := by
  have h : (Memref.whole cc0_scratch0 : Memref sig .tc .vmem S16x256x128 .f32).view.set = Finset.univ := View.set_whole _
  rw [h]
/-- A scratch held whole, in the two ways of writing it. -/
theorem scr_1 (c : Dev nD) (f : Buf (Elt F) ((c : Thread nD τ).loc cc0_scratch1)) :
    (((Memref.whole cc0_scratch1 : Memref sig .tc .vmem S2048x128 .bf16).view.loc (c : Thread nD τ) ↦[(Memref.whole cc0_scratch1 : Memref sig .tc .vmem S2048x128 .bf16).view.set]{fullShare} f) : sProp 𝕄)
      = (((c : Thread nD τ).loc cc0_scratch1) ↦{fullShare} f) := by
  have h : (Memref.whole cc0_scratch1 : Memref sig .tc .vmem S2048x128 .bf16).view.set = Finset.univ := View.set_whole _
  rw [h]
/-- A scratch held whole, in the two ways of writing it. -/
theorem scr_2 (c : Dev nD) (f : Buf (Elt F) ((c : Thread nD τ).loc cc0_scratch2)) :
    (((Memref.whole cc0_scratch2 : Memref sig .tc .vmem S2304x128 .bf16).view.loc (c : Thread nD τ) ↦[(Memref.whole cc0_scratch2 : Memref sig .tc .vmem S2304x128 .bf16).view.set]{fullShare} f) : sProp 𝕄)
      = (((c : Thread nD τ).loc cc0_scratch2) ↦{fullShare} f) := by
  have h : (Memref.whole cc0_scratch2 : Memref sig .tc .vmem S2304x128 .bf16).view.set = Finset.univ := View.set_whole _
  rw [h]
/-- A scratch held whole, in the two ways of writing it. -/
theorem scr_3 (c : Dev nD) (f : Buf (Elt F) ((c : Thread nD τ).loc cc0_scratch3)) :
    (((Memref.whole cc0_scratch3 : Memref sig .tc .vmem S2304x128 .bf16).view.loc (c : Thread nD τ) ↦[(Memref.whole cc0_scratch3 : Memref sig .tc .vmem S2304x128 .bf16).view.set]{fullShare} f) : sProp 𝕄)
      = (((c : Thread nD τ).loc cc0_scratch3) ↦{fullShare} f) := by
  have h : (Memref.whole cc0_scratch3 : Memref sig .tc .vmem S2304x128 .bf16).view.set = Finset.univ := View.set_whole _
  rw [h]
/-- A scratch held whole, in the two ways of writing it. -/
theorem scr_4 (c : Dev nD) (f : Buf (Elt F) ((c : Thread nD τ).loc cc0_scratch4)) :
    (((Memref.whole cc0_scratch4 : Memref sig .tc .vmem S3x512x384 .f32).view.loc (c : Thread nD τ) ↦[(Memref.whole cc0_scratch4 : Memref sig .tc .vmem S3x512x384 .f32).view.set]{fullShare} f) : sProp 𝕄)
      = (((c : Thread nD τ).loc cc0_scratch4) ↦{fullShare} f) := by
  have h : (Memref.whole cc0_scratch4 : Memref sig .tc .vmem S3x512x384 .f32).view.set = Finset.univ := View.set_whole _
  rw [h]
/-- A scratch held whole, in the two ways of writing it. -/
theorem scr_5 (c : Dev nD) (f : Buf (Elt F) ((c : Thread nD τ).loc cc0_scratch5)) :
    (((Memref.whole cc0_scratch5 : Memref sig .tc .vmem S2304x128 .f32).view.loc (c : Thread nD τ) ↦[(Memref.whole cc0_scratch5 : Memref sig .tc .vmem S2304x128 .f32).view.set]{fullShare} f) : sProp 𝕄)
      = (((c : Thread nD τ).loc cc0_scratch5) ↦{fullShare} f) := by
  have h : (Memref.whole cc0_scratch5 : Memref sig .tc .vmem S2304x128 .f32).view.set = Finset.univ := View.set_whole _
  rw [h]
/-- A scratch held whole, in the two ways of writing it. -/
theorem scr_6 (c : Dev nD) (f : Buf (Elt F) ((c : Thread nD τ).loc cc0_scratch6)) :
    (((Memref.whole cc0_scratch6 : Memref sig .tc .vmem S2304x128 .f32).view.loc (c : Thread nD τ) ↦[(Memref.whole cc0_scratch6 : Memref sig .tc .vmem S2304x128 .f32).view.set]{fullShare} f) : sProp 𝕄)
      = (((c : Thread nD τ).loc cc0_scratch6) ↦{fullShare} f) := by
  have h : (Memref.whole cc0_scratch6 : Memref sig .tc .vmem S2304x128 .f32).view.set = Finset.univ := View.set_whole _
  rw [h]

set_option maxHeartbeats 4000000 in
/-- The body at the point: the invariant opened, the operands' blocks opened, `body_any`, everything closed again. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, PhiA_eq]
  simp only [before_0, before_1, before_2, before_3, before_4, before_5, before_6, before_7, before_8, before_9, before_10, before_11, before_12, before_13, before_14, before_15]
  unfold owns
  iintro ⟨⟨⟨⟨%s0, HS0⟩, ⟨%s1, HS1⟩, ⟨%s2, HS2⟩, ⟨%s3, HS3⟩, ⟨%s4, HS4⟩, ⟨%s5, HS5⟩, ⟨%s6, HS6⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩, ⟨%d20, %f20, %e20, H20⟩, ⟨%d21, %f21, %e21, H21⟩, ⟨%d22, %f22, %e22, H22⟩, ⟨%d23, %f23, %e23, H23⟩, ⟨%d24, %f24, %e24, H24⟩⟩
  iapply (body_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) f0 f1 f2 f3 f4 f5 f6 f7 f8 f9 f10 f11 f12 f13 f14 f15 _)
  isplitl [H0 H1 H2 H3 H4 H5 H6 H7 H8 H9 H10 H11 H12 H13 H14 H15 H16 H17 H18 H19 H20 H21 H22 H23 H24 HS0 HS1 HS2 HS3 HS4 HS5 HS6]
  · unfold BodyAny
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists f16; iexact H16
    isplitl [H17]; · iexists f17; iexact H17
    isplitl [H18]; · iexists f18; iexact H18
    isplitl [H19]; · iexists f19; iexact H19
    isplitl [H20]; · iexists f20; iexact H20
    isplitl [H21]; · iexists f21; iexact H21
    isplitl [H22]; · iexists f22; iexact H22
    isplitl [H23]; · iexists f23; iexact H23
    isplitl [H24]; · iexists f24; iexact H24
    isplitl [HS0]; · iexists s0; rw [scr_0]; iexact HS0
    isplitl [HS1]; · iexists s1; rw [scr_1]; iexact HS1
    isplitl [HS2]; · iexists s2; rw [scr_2]; iexact HS2
    isplitl [HS3]; · iexists s3; rw [scr_3]; iexact HS3
    isplitl [HS4]; · iexists s4; rw [scr_4]; iexact HS4
    isplitl [HS5]; · iexists s5; rw [scr_5]; iexact HS5
    iexists s6; rw [scr_6]; iexact HS6
  unfold BodyNamed
  iintro ⟨H0, H1, H2, H3, H4, H5, H6, H7, H8, H9, H10, H11, H12, H13, H14, H15, ⟨%g16, H16⟩, ⟨%g17, H17⟩, ⟨%g18, H18⟩, ⟨%g19, H19, %h19⟩, ⟨%g20, H20⟩, ⟨%g21, H21⟩, ⟨%g22, H22⟩, ⟨%g23, H23⟩, ⟨%g24, H24⟩, ⟨%r0, HS0⟩, ⟨%r1, HS1⟩, ⟨%r2, HS2⟩, ⟨%r3, HS3⟩, ⟨%r4, HS4⟩, ⟨%r5, HS5⟩, ⟨%r6, HS6⟩⟩
  isplitl [Hg HS0 HS1 HS2 HS3 HS4 HS5 HS6]
  · isplitr [Hg]; swap; · iexact Hg
    isplitl [HS0]; · iexists r0; rw [← scr_0]; iexact HS0
    isplitl [HS1]; · iexists r1; rw [← scr_1]; iexact HS1
    isplitl [HS2]; · iexists r2; rw [← scr_2]; iexact HS2
    isplitl [HS3]; · iexists r3; rw [← scr_3]; iexact HS3
    isplitl [HS4]; · iexists r4; rw [← scr_4]; iexact HS4
    isplitl [HS5]; · iexists r5; rw [← scr_5]; iexact HS5
    iexists r6; rw [← scr_6]; iexact HS6
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iexists f14; isplitr; · ipureintro; exact e14
    iexact H14
  isplitl [H15]
  · iexists f15; isplitr; · ipureintro; exact e15
    iexact H15
  isplitl [H16]
  · iexists _, g16; isplitr; swap; · iexact H16
    ipureintro; rfl
  isplitl [H17]
  · iexists _, g17; isplitr; swap; · iexact H17
    ipureintro; rfl
  isplitl [H18]
  · iexists _, g18; isplitr; swap; · iexact H18
    ipureintro; rfl
  isplitl [H19]
  · iexists g19; isplitr
    · ipureintro; exact h19.trans (by rw [e10, e7, e6, e9])
    iexact H19
  isplitl [H20]
  · iexists _, g20; isplitr; swap; · iexact H20
    ipureintro; rfl
  isplitl [H21]
  · iexists _, g21; isplitr; swap; · iexact H21
    ipureintro; rfl
  isplitl [H22]
  · iexists _, g22; isplitr; swap; · iexact H22
    ipureintro; rfl
  isplitl [H23]
  · iexists _, g23; isplitr; swap; · iexact H23
    ipureintro; rfl
  iexists _, g24; isplitr; swap; · iexact H24
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body obligation, the results but the gate's cotangent forgotten. -/
theorem body_obligation (c : Dev nD) :
    BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- From any memory with zero counters every weakly fair execution terminates, and every final state has each operand's array as at
    launch and every semaphore counter at zero. -/
theorem run_main :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun c w _ => rfl)
    (howed := fun _ _ => rfl) (V := V m) (hmain := hmain m Variants.none) (hA := A_eq m) (hΦ := fun _ _ => rfl) (hQ' := fun _ h => h)

variable {m ρ}

/-- After the run a window that is an operand's has its array as the region found it. -/
theorem final_in {r : PUnit × MemSt nD τ sig (Elt F)}
    (h : Pipeline.RDat.FramePost (cfgs 0) (fun c => (dats (F := F) m 0 c).toRForget forgets) (V m) r) (c : Dev nD) (w : Fin 25)
    (hw : (cfg0.win w).isOut = false) :
    r.2.mem (((cfgs 0).spec w).arr.view.loc (c.tc : Thread nD τ)) = V m c (Pipeline.arrRef spec0 w) := by
  have h1 := (h c).1 w
  have h2 := congrFun (Pipeline.RDat.ArrAt_in ((dats (F := F) m 0 c).toRForget forgets) w hw (cfgs 0).N) (r.2.mem (((cfgs 0).spec w).arr.view.loc (c.tc : Thread nD τ)))
  exact h2 ▸ h1

/-- The frame at any instance of the floats. -/
theorem frame_any (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) ∧ r.2.sem = fun _ => 0) :=
  (θ_run defs _ _).mono (fun _ h => ⟨fun c => ⟨final_in h.1 c 13 rfl, final_in h.1 c 7 rfl, final_in h.1 c 8 rfl, final_in h.1 c 15 rfl, final_in h.1 c 9 rfl, final_in h.1 c 14 rfl, final_in h.1 c 0 rfl, final_in h.1 c 1 rfl, final_in h.1 c 10 rfl, final_in h.1 c 2 rfl⟩, h.2⟩) (run_main m ρ)

end Cert.KernelIdeal.Mix

end
-- ==== Proof.Place.lean ====
/-
  The device's number: the precondition says that it lies in [0, 8).
-/
module

public import proofs.«01_k».proof.Defs
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The printed predicate `(me >= 0) & (me < 8)` at one word, decoded. -/
theorem place_of_compare (w : BitVec 32) (h : IntOp.andi (IntOp.cmpi .sge w 0#32) (IntOp.cmpi .slt w 8#32) = 1#1) : w.toNat < 8 := by
  have both : ∀ p q : Bool, IntOp.andi (BitVec.ofBool p) (BitVec.ofBool q) = 1#1 → p = true ∧ q = true := by decide
  obtain ⟨h0, h8⟩ := both _ _ h
  simp only [BitVec.sle, BitVec.slt, decide_eq_true_eq, BitVec.toInt, BitVec.toNat_ofNat] at h0 h8
  have := w.isLt
  omega

end Cert.Proof

end
-- ==== Proof.Dh1Value.lean ====
/-
  The backward pass of the first layer norm and of the output projection: what the kernel leaves in its seven result arrays
  is what the reference computes. The kernel takes eight blocks of 512 tokens, adds the four parts of the gradient that
  reach the layer norm, and applies the closed form of the layer norm's derivative; the gain's, the bias's and the
  projection weight's gradients are added up from block to block. The reference is the derivative of the forward lines.
-/
module

public import proofs.«01_k».proof.Proof.Gen.KernelDh1Ideal.Value
public import proofs.«01_k».proof.Proof.Gen.ReferenceDh1Ideal.Read
public import Idealize.ShloMosaic.Lib.Pipeline.ValueKit
public import Idealize.ShloMosaic.Lib.Pointwise
public import Idealize.ShloMosaic.Lib.Pipeline.ReadBack
public import Idealize.ShloMosaic.Lib.WritesUnit

@[expose] public section

set_option maxRecDepth 16384

noncomputable section

namespace Cert.KernelDh1Ideal.Dh1Value

open Idealize.ShloMosaic Idealize.ShloMosaic.TcCoe Idealize.SL.Sem
open Idealize.ShloMosaic.Pipeline (Dat)
open Cert.KernelDh1Ideal Cert.KernelDh1Ideal.Gen

/-- One token's gradient on the layer norm's output: the scaled gradient from above and the three products. -/
def dhRow (z : Fin 1024 → EReal) (dg du : Fin 2816 → EReal) (ds : Fin 1024 → EReal)
    (wg wu : Fin 2816 → Fin 1024 → EReal) (wp : Fin 1024 → Fin 1024 → EReal) (b : Fin 1024) : EReal :=
  Ideal.ofBits FTy.f32 0x3F9837F0#32 * z b + ∑ k : Fin 2816, dg k * wg k b + ∑ k : Fin 2816, du k * wu k b
    + ∑ k : Fin 1024, ds k * wp b k

/-- One token's gradient on the layer norm's input, from the normalised input, the inverse deviation, the gradient on the
output and the gain. -/
def dzRow (xh : Fin 1024 → EReal) (s : EReal) (h g : Fin 1024 → EReal) (b : Fin 1024) : EReal :=
  s * (h b * g b - Ideal.div (∑ k : Fin 1024, h k * g k) (Ideal.ofBits FTy.f32 0x44800000#32)
    - xh b * Ideal.div (∑ k : Fin 1024, h k * g k * xh k) (Ideal.ofBits FTy.f32 0x44800000#32))

variable (m : (ℓ : Loc nD τ sig) → Buf (Elt Ideal) ℓ)

/-- Grid point `t` takes token block `t` of every array of tokens and the whole of the others. -/
theorem idx : ∀ t : Fin cfg0.N, win0_0.index t = ![0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0]
    ∧ win0_11.index t = ![0, 0] ∧ win0_12.index t = ![0, 0] ∧ win0_13.index t = ![0, 0] ∧ win0_14.index t = ![t.val, 0]
    ∧ win0_15.index t = ![t.val, 0] ∧ win0_16.index t = ![t.val, 0] ∧ win0_17.index t = ![t.val, 0]
    ∧ win0_18.index t = ![0, 0] ∧ win0_19.index t = ![0, 0] ∧ win0_20.index t = ![0, 0] :=
  (by decide +kernel : ∀ t : Fin grid0.N, _)

section
variable (x1 : FVec Ideal S512x1024 .f32) (x2 x3 : FVec Ideal S512x2816 .bf16) (x4 : FVec Ideal S512x1024 .bf16)
  (x5 : FVec Ideal S512x1024 .f32) (x6 : FVec Ideal S512x1 .f32) (x9 x10 : FVec Ideal S2816x1024 .bf16)
  (x11 : FVec Ideal S1024x1024 .bf16) (x13 : FVec Ideal S1x1024 .f32)

/-- The body's gradient on the layer norm's output, token by token. -/
theorem pay_dh (a : Fin 512) (b : Fin 1024) : k0_pay7 (F := Ideal) x1 x2 x9 x3 x10 x4 x11 (ix2 a b)
    = dhRow (fun b => x1 (ix2 a b)) (fun k => x2 (ix2 a k)) (fun k => x3 (ix2 a k)) (fun k => x4 (ix2 a k))
      (fun k b => x9 (ix2 k b)) (fun k b => x10 (ix2 k b)) (fun b k => x11 (ix2 b k)) b := by
  pointwise [k0_pay7, dhRow]

/-- The body's gradient on the layer norm's input, token by token. -/
theorem pay_dz (a : Fin 512) (b : Fin 1024) : k0_pay12 (F := Ideal) (k0_pay8 x5) (k0_pay9 x6) (k0_pay10 x1 x2 x9 x3 x10 x4 x11 x13)
      (k0_pay11 x1 x2 x9 x3 x10 x4 x11 x13) (Scalar.ofBits .f32 0x44800000#32) (ix2 a b)
    = dzRow (fun k => x5 (ix2 a k)) (x6 (ix2 a 0)) (fun k => k0_pay7 (F := Ideal) x1 x2 x9 x3 x10 x4 x11 (ix2 a k)) (fun k => x13 (ix2 0 k)) b := by
  generalize hH : k0_pay7 (F := Ideal) x1 x2 x9 x3 x10 x4 x11 = H
  pointwise [k0_pay12, k0_pay8, k0_pay9, k0_pay10, k0_pay11, hH, dzRow]

end

/-- The gradient on the layer norm's output in the block of grid point `t`. -/
def HB (c : Dev nD) (t : Fin cfg0.N) : FVec Ideal S512x1024 .f32 :=
  k0_pay7 (iblk m c 1 t) (iblk m c 2 t) (iblk m c 9 t) (iblk m c 3 t) (iblk m c 10 t) (iblk m c 4 t) (iblk m c 11 t)

/-- The gradient on the layer norm's input in the block of grid point `t`. -/
def DB (c : Dev nD) (t : Fin cfg0.N) : FVec Ideal S512x1024 .f32 :=
  k0_pay12 (k0_pay8 (iblk m c 5 t))
      (k0_pay9 (View.ld (iblk m c 6 t) (Rect.unit ![0, 0] ![512, 1] inb_S512x128_S512x1_0_0)))
      (k0_pay10 (iblk m c 1 t) (iblk m c 2 t) (iblk m c 9 t) (iblk m c 3 t) (iblk m c 10 t) (iblk m c 4 t)
        (iblk m c 11 t) (iblk m c 13 t))
      (k0_pay11 (iblk m c 1 t) (iblk m c 2 t) (iblk m c 9 t) (iblk m c 3 t) (iblk m c 10 t) (iblk m c 4 t)
        (iblk m c 11 t) (iblk m c 13 t))
      (Scalar.ofBits .f32 0x44800000#32)

section
variable {N C : ℕ}

/-- Row `o + x 0` of what a list of stores leaves is row `x 0` of the newest one's, if that one begins at row `o`. -/
theorem canon_in {o n : ℕ} (inb : ∀ a : Fin 2, (![o, 0] : Fin 2 → ℕ) a + (![n, C] : Fin 2 → ℕ) a ≤ (![N, C] : Fin 2 → ℕ) a)
    (P : (Rect.unit (s := ⟨2, ![N, C]⟩) ![o, 0] ![n, C] inb).shape.Idx → Elt Ideal .f32)
    (L : List (View.Piece (Elt Ideal) ⟨2, ![N, C]⟩ .f32)) (y : (⟨2, ![N, C]⟩ : Shape).Idx)
    (x : (⟨2, ![n, C]⟩ : Shape).Idx) (h0 : (y 0).val = o + (x 0).val) (h1 : (y 1).val = (x 1).val) :
    View.canon (⟨Rect.unit (s := ⟨2, ![N, C]⟩) ![o, 0] ![n, C] inb, P⟩ :: L) y = P x := by
  have hy : (Rect.unit (s := ⟨2, ![N, C]⟩) ![o, 0] ![n, C] inb).emb x = y := funext fun a => Fin.ext (by
    show (![o, 0] : Fin 2 → ℕ) a + 1 * (x a).val = (y a).val
    rw [Nat.one_mul]
    revert a
    exact Fin.forall_fin_two.2 ⟨h0.symm, (Nat.zero_add _).trans h1.symm⟩)
  rw [← hy]
  exact View.canon_cons_emb _ P L x

/-- A row outside the newest store's rows is left as the earlier stores left it. -/
theorem canon_out {o n : ℕ} (inb : ∀ a : Fin 2, (![o, 0] : Fin 2 → ℕ) a + (![n, C] : Fin 2 → ℕ) a ≤ (![N, C] : Fin 2 → ℕ) a)
    (P : (Rect.unit (s := ⟨2, ![N, C]⟩) ![o, 0] ![n, C] inb).shape.Idx → Elt Ideal .f32)
    (L : List (View.Piece (Elt Ideal) ⟨2, ![N, C]⟩ .f32)) (y : (⟨2, ![N, C]⟩ : Shape).Idx)
    (h : (y 0).val < o ∨ o + n ≤ (y 0).val) :
    View.canon (⟨Rect.unit (s := ⟨2, ![N, C]⟩) ![o, 0] ![n, C] inb, P⟩ :: L) y = View.canon L y := by
  refine View.canon_cons_of_not_mem _ L ?_
  rw [Rect.mem_set_unit]
  intro hall
  have h2 := hall 0
  simp only [Matrix.cons_val_zero] at h2
  omega

/-- Row `x 0` of a load that begins at row `o` is row `o + x 0`. -/
theorem ld_row {e : EltTy} {o n : ℕ} (A : (⟨2, ![N, C]⟩ : Shape).Idx → Elt Ideal e)
    (inb : ∀ a : Fin 2, (![o, 0] : Fin 2 → ℕ) a + (![n, C] : Fin 2 → ℕ) a ≤ (![N, C] : Fin 2 → ℕ) a)
    (x : (⟨2, ![n, C]⟩ : Shape).Idx) (y : (⟨2, ![N, C]⟩ : Shape).Idx) (h0 : (y 0).val = o + (x 0).val) (h1 : (y 1).val = (x 1).val) :
    View.ld (Val := Elt Ideal) (e' := e) A (Rect.unit (s := ⟨2, ![N, C]⟩) ![o, 0] ![n, C] inb) x = A y :=
  View.ld_unit_apply_of (Val := Elt Ideal) (e := e) A ![o, 0] ![n, C] inb x y
    (Fin.forall_fin_two.2 ⟨h0, h1.trans (Nat.zero_add (x 1).val).symm⟩)

/-- Row `o + x 0` of a buffer written over earlier contents is row `x 0` of the newest store, if that one begins at row `o`. -/
theorem read_in {sig : RefSig} {κ : Kind} {sp : Space} (v : View sig κ sp ⟨2, ![N, C]⟩ .f32) (f : v.ty.Contents (Elt Ideal)) {o n : ℕ}
    (inb : ∀ a : Fin 2, (![o, 0] : Fin 2 → ℕ) a + (![n, C] : Fin 2 → ℕ) a ≤ (![N, C] : Fin 2 → ℕ) a)
    (P : (Rect.unit (s := ⟨2, ![N, C]⟩) ![o, 0] ![n, C] inb).shape.Idx → Elt Ideal .f32)
    (L : List (View.Piece (Elt Ideal) ⟨2, ![N, C]⟩ .f32)) (y : (⟨2, ![N, C]⟩ : Shape).Idx)
    (x : (⟨2, ![n, C]⟩ : Shape).Idx) (h0 : (y 0).val = o + (x 0).val) (h1 : (y 1).val = (x 1).val) :
    v.read (Elt Ideal) (v.writes (Elt Ideal) f (⟨Rect.unit (s := ⟨2, ![N, C]⟩) ![o, 0] ![n, C] inb, P⟩ :: L)) y = P x :=
  View.read_writes_cons_rows_of_mem v f inb P L y x rfl h0 h1

/-- A row outside the newest store's rows is left as it was. -/
theorem read_out {sig : RefSig} {κ : Kind} {sp : Space} (v : View sig κ sp ⟨2, ![N, C]⟩ .f32) (f : v.ty.Contents (Elt Ideal)) {o n : ℕ}
    (inb : ∀ a : Fin 2, (![o, 0] : Fin 2 → ℕ) a + (![n, C] : Fin 2 → ℕ) a ≤ (![N, C] : Fin 2 → ℕ) a)
    (P : (Rect.unit (s := ⟨2, ![N, C]⟩) ![o, 0] ![n, C] inb).shape.Idx → Elt Ideal .f32)
    (L : List (View.Piece (Elt Ideal) ⟨2, ![N, C]⟩ .f32)) (y : (⟨2, ![N, C]⟩ : Shape).Idx)
    (h : (y 0).val < o ∨ o + n ≤ (y 0).val) :
    v.read (Elt Ideal) (v.writes (Elt Ideal) f (⟨Rect.unit (s := ⟨2, ![N, C]⟩) ![o, 0] ![n, C] inb, P⟩ :: L)) y
      = v.read (Elt Ideal) (v.writes (Elt Ideal) f L) y :=
  View.read_writes_cons_rows_of_not_mem v f inb P L y rfl rfl h

end

section
variable (P1 P0 : FVec Ideal S1x1024 .f32) (Z : FVec Ideal S8x1024 .f32) (j : S8x1024.Idx)

/-- The sums' buffer after a fill and the two rows' updates, row 1. -/
theorem sums_1 (L : List (View.Piece (Elt Ideal) S8x1024 .f32)) (h : (j 0).val = 1) :
    View.canon (Val := Elt Ideal) (e := .f32) (s := S8x1024) (⟨Rect.unit ![1, 0] ![1, 1024] inb_S8x1024_S1x1024_1_0, P1⟩ :: L) j = P1 (ix2 0 (j 1)) :=
  canon_in (N := 8) (C := 1024) (o := 1) (n := 1) _ P1 L j (ix2 0 (j 1)) h rfl

/-- The sums' buffer after a fill and the first row's update, row 0. -/
theorem sums_0 (L : List (View.Piece (Elt Ideal) S8x1024 .f32)) (h : (j 0).val = 0) :
    View.canon (Val := Elt Ideal) (e := .f32) (s := S8x1024) (⟨Rect.unit ![0, 0] ![1, 1024] inb_S8x1024_S1x1024_0_0, P0⟩ :: L) j = P0 (ix2 0 (j 1)) :=
  canon_in (N := 8) (C := 1024) (o := 0) (n := 1) _ P0 L j (ix2 0 (j 1)) h rfl

/-- Row 1's update leaves the other rows. -/
theorem sums_not_1 (L : List (View.Piece (Elt Ideal) S8x1024 .f32)) (h : (j 0).val ≠ 1) :
    View.canon (Val := Elt Ideal) (e := .f32) (s := S8x1024) (⟨Rect.unit ![1, 0] ![1, 1024] inb_S8x1024_S1x1024_1_0, P1⟩ :: L) j
    = View.canon (Val := Elt Ideal) (e := .f32) (s := S8x1024) L j :=
  canon_out (N := 8) (C := 1024) (o := 1) (n := 1) _ P1 L j (by omega)

/-- Row 0's update leaves the other rows. -/
theorem sums_not_0 (L : List (View.Piece (Elt Ideal) S8x1024 .f32)) (h : (j 0).val ≠ 0) :
    View.canon (Val := Elt Ideal) (e := .f32) (s := S8x1024) (⟨Rect.unit ![0, 0] ![1, 1024] inb_S8x1024_S1x1024_0_0, P0⟩ :: L) j
    = View.canon (Val := Elt Ideal) (e := .f32) (s := S8x1024) L j :=
  canon_out (N := 8) (C := 1024) (o := 0) (n := 1) _ P0 L j (by omega)

/-- The sums' buffer after the fill. -/
theorem sums_fill : View.canon (Val := Elt Ideal) (e := .f32) (s := S8x1024) [⟨Rect.unit ![0, 0] ![8, 1024] inb_S8x1024_S8x1024_0_0, Z⟩] j = Z j :=
  canon_in (N := 8) (C := 1024) (o := 0) (n := 8) _ Z [] j j (Nat.zero_add _).symm rfl

end

section
variable (P : FVec Ideal S512x1024 .f32) (Z : FVec Ideal S1024x1024 .f32) (j : S1024x1024.Idx)

/-- The weight's accumulator after the lower half's update, lower half. -/
theorem halves_low (L : List (View.Piece (Elt Ideal) S1024x1024 .f32)) (h : ¬(j 0).val < 512) :
    View.canon (Val := Elt Ideal) (e := .f32) (s := S1024x1024) (⟨Rect.unit ![512, 0] ![512, 1024] inb_S1024x1024_S512x1024_512_0, P⟩ :: L) j
    = P (ix2 ⟨(j 0).val - 512, by have : (j 0).val < 1024 := (j 0).isLt; omega⟩ (j 1)) :=
  canon_in (N := 1024) (C := 1024) (o := 512) (n := 512) _ P L j (ix2 ⟨(j 0).val - 512, by have : (j 0).val < 1024 := (j 0).isLt; omega⟩ (j 1))
    (by show _ = 512 + ((j 0).val - 512); omega) rfl

/-- The lower half's update leaves the upper half. -/
theorem halves_not_low (L : List (View.Piece (Elt Ideal) S1024x1024 .f32)) (h : (j 0).val < 512) :
    View.canon (Val := Elt Ideal) (e := .f32) (s := S1024x1024) (⟨Rect.unit ![512, 0] ![512, 1024] inb_S1024x1024_S512x1024_512_0, P⟩ :: L) j
    = View.canon (Val := Elt Ideal) (e := .f32) (s := S1024x1024) L j :=
  canon_out (N := 1024) (C := 1024) (o := 512) (n := 512) _ P L j (.inl h)

/-- The weight's accumulator after the upper half's update, upper half. -/
theorem halves_up (L : List (View.Piece (Elt Ideal) S1024x1024 .f32)) (h : (j 0).val < 512) :
    View.canon (Val := Elt Ideal) (e := .f32) (s := S1024x1024) (⟨Rect.unit ![0, 0] ![512, 1024] inb_S1024x1024_S512x1024_0_0, P⟩ :: L) j
    = P (ix2 ⟨(j 0).val, h⟩ (j 1)) :=
  canon_in (N := 1024) (C := 1024) (o := 0) (n := 512) _ P L j (ix2 ⟨(j 0).val, h⟩ (j 1)) (Nat.zero_add _).symm rfl

/-- The upper half's update leaves the lower half. -/
theorem halves_not_up (L : List (View.Piece (Elt Ideal) S1024x1024 .f32)) (h : ¬(j 0).val < 512) :
    View.canon (Val := Elt Ideal) (e := .f32) (s := S1024x1024) (⟨Rect.unit ![0, 0] ![512, 1024] inb_S1024x1024_S512x1024_0_0, P⟩ :: L) j
    = View.canon (Val := Elt Ideal) (e := .f32) (s := S1024x1024) L j :=
  canon_out (N := 1024) (C := 1024) (o := 0) (n := 512) _ P L j (.inr (by omega))

/-- The weight's accumulator after the fill. -/
theorem halves_fill : View.canon (Val := Elt Ideal) (e := .f32) (s := S1024x1024) [⟨Rect.unit ![0, 0] ![1024, 1024] inb_S1024x1024_S1024x1024_0_0, Z⟩] j = Z j :=
  canon_in (N := 1024) (C := 1024) (o := 0) (n := 1024) _ Z [] j j (Nat.zero_add _).symm rfl

end

/-- What the block of grid point `t` adds to the gain's gradient (row 0) and to the bias's (row 1). -/
def accT (c : Dev nD) (t : Fin cfg0.N) (j : S8x1024.Idx) : EReal :=
  if (j 0).val = 0 then ∑ k : Fin 512, HB m c t (ix2 k (j 1)) * (iblk m c 5 t : FVec Ideal S512x1024 .f32) (ix2 k (j 1))
  else if (j 0).val = 1 then ∑ k : Fin 512, HB m c t (ix2 k (j 1)) else 0

/-- What the block of grid point `t` adds to the projection weight's gradient. -/
def woT (c : Dev nD) (t : Fin cfg0.N) (j : S1024x1024.Idx) : EReal :=
  if h : (j 0).val < 512 then
    ∑ k : Fin 512, (show EReal from (iblk m c 7 t : FVec Ideal S512x512 .bf16) (ix2 k ⟨(j 0).val, h⟩)) * DB m c t (ix2 k (j 1))
  else ∑ k : Fin 512, (show EReal from (iblk m c 8 t : FVec Ideal S512x512 .bf16) (ix2 k ⟨(j 0).val - 512, by have : (j 0).val < 1024 := (j 0).isLt; omega⟩)) * DB m c t (ix2 k (j 1))

section
variable (H X : FVec Ideal S512x1024 .f32) (v : FVec Ideal S1x1024 .f32) (D : FVec Ideal S512x1024 .bf16)
  (R : FVec Ideal S512x512 .bf16) (A : FVec Ideal S512x1024 .f32) (W : FVec Ideal S512x1024 .bf16)

/-- The body's update of the gain's gradient. -/
theorem pay_gain (x : S1x1024.Idx) : k0_pay14 (F := Ideal) H (k0_pay8 X) v x = v x + ∑ k : Fin 512, H (ix2 k (x 1)) * X (ix2 k (x 1)) := by
  obtain ⟨p, b, rfl⟩ : ∃ (p : Fin 1) (b : Fin 1024), x = ix2 p b := ⟨x 0, x 1, by ext k; fin_cases k <;> rfl⟩
  pointwise [k0_pay14, k0_pay8]

/-- The body's update of the bias's gradient. -/
theorem pay_bias (x : S1x1024.Idx) : k0_pay15 (F := Ideal) H v x = v x + ∑ k : Fin 512, H (ix2 k (x 1)) := by
  obtain ⟨p, b, rfl⟩ : ∃ (p : Fin 1) (b : Fin 1024), x = ix2 p b := ⟨x 0, x 1, by ext k; fin_cases k <;> rfl⟩
  pointwise [k0_pay15]

/-- The body's update of the upper half of the projection weight's gradient. -/
theorem pay_upper (x : S512x1024.Idx) : k0_pay2 (F := Ideal) D A R x = A x + ∑ k : Fin 512, R (ix2 k (x 0)) * D (ix2 k (x 1)) := by
  obtain ⟨p, b, rfl⟩ : ∃ (p : Fin 512) (b : Fin 1024), x = ix2 p b := ⟨x 0, x 1, by ext k; fin_cases k <;> rfl⟩
  pointwise [k0_pay2]

/-- The body's update of the lower half of the projection weight's gradient. -/
theorem pay_lower (x : S512x1024.Idx) : k0_pay3 (F := Ideal) D A R x = A x + ∑ k : Fin 512, R (ix2 k (x 0)) * D (ix2 k (x 1)) := by
  obtain ⟨p, b, rfl⟩ : ∃ (p : Fin 512) (b : Fin 1024), x = ix2 p b := ⟨x 0, x 1, by ext k; fin_cases k <;> rfl⟩
  pointwise [k0_pay3]

/-- The body's product with half of the projection's weight. -/
theorem pay_half (a : Fin 512) (b : Fin 512) : k0_pay1 (F := Ideal) D W (ix2 a b) = ∑ k : Fin 1024, D (ix2 a k) * W (ix2 b k) := by
  pointwise [k0_pay1]

end

/-- The fill of the sums' buffer is zero. -/
theorem fill_sums (j : S8x1024.Idx) : k0_pay5 (F := Ideal) j = 0 := by
  obtain ⟨p, b, rfl⟩ : ∃ (p : Fin 8) (b : Fin 1024), j = ix2 p b := ⟨j 0, j 1, by ext k; fin_cases k <;> rfl⟩
  pointwise [k0_pay5]

/-- The fill of the weight's accumulator is zero. -/
theorem fill_halves (j : S1024x1024.Idx) : k0_pay6 (F := Ideal) j = 0 := by
  obtain ⟨p, b, rfl⟩ : ∃ (p : Fin 1024) (b : Fin 1024), j = ix2 p b := ⟨j 0, j 1, by ext k; fin_cases k <;> rfl⟩
  pointwise [k0_pay6]

set_option maxHeartbeats 2000000 in
/-- The first grid point sets the gain's and the bias's sums. -/
theorem acc_A (hH : Hyps m) (c : Dev nD) (t : Fin cfg0.N) (h0 : t.val % 8 = 0) (h1 : ¬t.val % 8 = 7) (j : S8x1024.Idx) :
    (outsAt0 m hH c t.val t.isLt).2.2.2.2.1 j = accT m c t j := by
  rw [outsAt0_A m hH c t h0 h1]
  frame_out
  clear h0 h1
  by_cases e1 : (j 0).val = 1
  · refine (sums_1 _ j _ e1).trans ((pay_bias _ _ _).trans ?_)
    rw [accT, if_neg (by omega), if_pos e1]
    refine (congrArg (· + _) ?_).trans (zero_add _)
    rw [View.readCov_eq_canon']
    exact (sums_not_0 _ _ _ (by show (1 + 1 * 0 : ℕ) ≠ 0; omega)).trans ((sums_fill _ _).trans (fill_sums _))
  refine (sums_not_1 _ j _ e1).trans ?_
  by_cases e0 : (j 0).val = 0
  · refine (sums_0 _ j _ e0).trans ?_
    refine (pay_gain _ _ _ _).trans ?_
    rw [accT, if_pos e0]
    refine (congrArg (· + _) ?_).trans (zero_add _)
    rw [View.readCov_eq_canon']
    exact (sums_fill _ _).trans (fill_sums _)
  rw [accT, if_neg e0, if_neg e1]
  exact (sums_not_0 _ j _ e0).trans ((sums_fill _ _).trans (fill_sums _))

set_option maxHeartbeats 2000000 in
/-- A later grid point before the last adds its block to the gain's and the bias's sums. -/
theorem acc_B (hH : Hyps m) (c : Dev nD) (t : Fin cfg0.N) (h0 : ¬t.val % 8 = 0) (h1 : ¬t.val % 8 = 7) (j : S8x1024.Idx) :
    (outsAt0 m hH c t.val t.isLt).2.2.2.2.1 j = (outsAt0 m hH c (t.val - 1) (by have := t.isLt; omega)).2.2.2.2.1 j + accT m c t j := by
  rw [outsAt0_B m hH c t h0 h1]
  frame_out
  generalize (outsAt0 m hH c (t.val - 1) (by have := t.isLt; omega)).2.2.2.2.1 = acc
  clear h0 h1
  by_cases e1 : (j 0).val = 1
  · refine (read_in (N := 8) (C := 1024) (o := 1) (n := 1) _ _ _ _ _ j (ix2 0 (j 1)) e1 rfl).trans ((pay_bias _ _ _).trans ?_)
    rw [accT, if_neg (by omega), if_pos e1]
    exact congrArg₂ _ (ld_row acc _ _ j e1 rfl) rfl
  refine (read_out (N := 8) (C := 1024) (o := 1) (n := 1) _ _ _ _ _ j (by omega)).trans ?_
  by_cases e0 : (j 0).val = 0
  · refine (read_in (N := 8) (C := 1024) (o := 0) (n := 1) _ _ _ _ _ j (ix2 0 (j 1)) e0 rfl).trans ?_
    refine (pay_gain _ _ _ _).trans ?_
    rw [accT, if_pos e0]
    exact congrArg₂ _ (ld_row acc _ _ j e0 rfl) rfl
  refine (read_out (N := 8) (C := 1024) (o := 0) (n := 1) _ _ _ _ _ j (by omega)).trans ?_
  rw [View.writes_nil, Memref.IsWhole.read_unread, accT, if_neg e0, if_neg e1, add_zero]

set_option maxHeartbeats 2000000 in
/-- The last grid point adds its block to the gain's and the bias's sums. -/
theorem acc_C (hH : Hyps m) (c : Dev nD) (t : Fin cfg0.N) (h0 : ¬t.val % 8 = 0) (h1 : t.val % 8 = 7) (j : S8x1024.Idx) :
    (outsAt0 m hH c t.val t.isLt).2.2.2.2.1 j = (outsAt0 m hH c (t.val - 1) (by have := t.isLt; omega)).2.2.2.2.1 j + accT m c t j := by
  rw [outsAt0_C m hH c t h0 h1]
  frame_out
  generalize (outsAt0 m hH c (t.val - 1) (by have := t.isLt; omega)).2.2.2.2.1 = acc
  clear h0 h1
  by_cases e1 : (j 0).val = 1
  · refine (read_in (N := 8) (C := 1024) (o := 1) (n := 1) _ _ _ _ _ j (ix2 0 (j 1)) e1 rfl).trans ((pay_bias _ _ _).trans ?_)
    rw [accT, if_neg (by omega), if_pos e1]
    exact congrArg₂ _ (ld_row acc _ _ j e1 rfl) rfl
  refine (read_out (N := 8) (C := 1024) (o := 1) (n := 1) _ _ _ _ _ j (by omega)).trans ?_
  by_cases e0 : (j 0).val = 0
  · refine (read_in (N := 8) (C := 1024) (o := 0) (n := 1) _ _ _ _ _ j (ix2 0 (j 1)) e0 rfl).trans ?_
    refine (pay_gain _ _ _ _).trans ?_
    rw [accT, if_pos e0]
    exact congrArg₂ _ (ld_row acc _ _ j e0 rfl) rfl
  refine (read_out (N := 8) (C := 1024) (o := 0) (n := 1) _ _ _ _ _ j (by omega)).trans ?_
  rw [View.writes_nil, Memref.IsWhole.read_unread, accT, if_neg e0, if_neg e1, add_zero]

set_option maxHeartbeats 2000000 in
/-- The first grid point sets the projection weight's gradient. -/
theorem wo_A (hH : Hyps m) (c : Dev nD) (t : Fin cfg0.N) (h0 : t.val % 8 = 0) (h1 : ¬t.val % 8 = 7) (j : S1024x1024.Idx) :
    (outsAt0 m hH c t.val t.isLt).2.2.2.2.2.2.2 j = woT m c t j := by
  rw [outsAt0_A m hH c t h0 h1]
  frame_out
  clear h0 h1
  by_cases e : (j 0).val < 512
  · refine (halves_not_low _ j _ e).trans ((halves_up _ j _ e).trans ((pay_upper _ _ _ _).trans ?_))
    rw [woT, dif_pos e]
    refine (congrArg (· + _) ?_).trans (zero_add _)
    rw [View.readCov_eq_canon']
    exact (halves_fill _ _).trans (fill_halves _)
  · refine (halves_low _ j _ e).trans ((pay_lower _ _ _ _).trans ?_)
    rw [woT, dif_neg e]
    refine (congrArg (· + _) ?_).trans (zero_add _)
    rw [View.readCov_eq_canon']
    exact (halves_not_up _ _ _ (by show ¬(512 + 1 * ((j 0).val - 512) : ℕ) < 512; omega)).trans ((halves_fill _ _).trans (fill_halves _))

set_option maxHeartbeats 2000000 in
/-- A later grid point before the last adds its block to the projection weight's gradient. -/
theorem wo_B (hH : Hyps m) (c : Dev nD) (t : Fin cfg0.N) (h0 : ¬t.val % 8 = 0) (h1 : ¬t.val % 8 = 7) (j : S1024x1024.Idx) :
    (outsAt0 m hH c t.val t.isLt).2.2.2.2.2.2.2 j = (outsAt0 m hH c (t.val - 1) (by have := t.isLt; omega)).2.2.2.2.2.2.2 j + woT m c t j := by
  rw [outsAt0_B m hH c t h0 h1]
  frame_out
  generalize (outsAt0 m hH c (t.val - 1) (by have := t.isLt; omega)).2.2.2.2.2.2.2 = acc
  clear h0 h1
  simp only [read_unread_whole]
  by_cases e : (j 0).val < 512
  · refine (halves_not_low _ j _ e).trans ((halves_up _ j _ e).trans ((pay_upper _ _ _ _).trans ?_))
    rw [woT, dif_pos e]
    exact congrArg₂ _ (ld_row acc _ _ j (Nat.zero_add _).symm rfl) rfl
  · refine (halves_low _ j _ e).trans ((pay_lower _ _ _ _).trans ?_)
    rw [woT, dif_neg e]
    exact congrArg₂ _ (ld_row acc _ _ j (by show _ = 512 + ((j 0).val - 512); omega) rfl) rfl

set_option maxHeartbeats 2000000 in
/-- The last grid point adds its block to the projection weight's gradient. -/
theorem wo_C (hH : Hyps m) (c : Dev nD) (t : Fin cfg0.N) (h0 : ¬t.val % 8 = 0) (h1 : t.val % 8 = 7) (j : S1024x1024.Idx) :
    (outsAt0 m hH c t.val t.isLt).2.2.2.2.2.2.2 j = (outsAt0 m hH c (t.val - 1) (by have := t.isLt; omega)).2.2.2.2.2.2.2 j + woT m c t j := by
  rw [outsAt0_C m hH c t h0 h1]
  frame_out
  generalize (outsAt0 m hH c (t.val - 1) (by have := t.isLt; omega)).2.2.2.2.2.2.2 = acc
  clear h0 h1
  simp only [read_unread_whole]
  by_cases e : (j 0).val < 512
  · refine (halves_not_low _ j _ e).trans ((halves_up _ j _ e).trans ((pay_upper _ _ _ _).trans ?_))
    rw [woT, dif_pos e]
    exact congrArg₂ _ (ld_row acc _ _ j (Nat.zero_add _).symm rfl) rfl
  · refine (halves_low _ j _ e).trans ((pay_lower _ _ _ _).trans ?_)
    rw [woT, dif_neg e]
    exact congrArg₂ _ (ld_row acc _ _ j (by show _ = 512 + ((j 0).val - 512); omega) rfl) rfl

section
variable (v22 : FVec Ideal S512x1024 .f32) (v24 : FVec Ideal S512x1 .f32) (v27 : FVec Ideal S512x1024 .f32) (v29 : FVec Ideal S512x1 .f32)
  (w : Ideal .f32) (W : FVec Ideal S512x1024 .bf16)

/-- The body's product with the upper half of the projection's weight. -/
theorem pay_first (a b : Fin 512) : k0_pay16 (F := Ideal) v22 v24 v27 v29 w W (ix2 a b)
    = ∑ k : Fin 1024, k0_pay12 (F := Ideal) v22 v24 v27 v29 w (ix2 a k) * W (ix2 b k) := by
  have h : k0_pay13 (F := Ideal) v22 v24 v27 v29 w = k0_pay12 (F := Ideal) v22 v24 v27 v29 w := rfl
  unfold k0_pay16
  rw [h]
  generalize k0_pay12 (F := Ideal) v22 v24 v27 v29 w = D
  pointwise []

end

set_option maxHeartbeats 2000000 in
/-- Result 1 in the block of a grid point is the gradient on the layer norm's input. -/
theorem dz1_A (hH : Hyps m) (c : Dev nD) (t : Fin cfg0.N) (h0 : t.val % 8 = 0) (h1 : ¬t.val % 8 = 7) : (outsAt0 m hH c t.val t.isLt).1 = DB m c t := by
  rw [outsAt0_A m hH c t h0 h1]
  frame_out
  rfl

set_option maxHeartbeats 2000000 in
/-- Result 2 in the block of a grid point is the gradient on the layer norm's input. -/
theorem dz2_A (hH : Hyps m) (c : Dev nD) (t : Fin cfg0.N) (h0 : t.val % 8 = 0) (h1 : ¬t.val % 8 = 7) : (outsAt0 m hH c t.val t.isLt).2.1 = DB m c t := by
  rw [outsAt0_A m hH c t h0 h1]
  frame_out
  rfl

set_option maxHeartbeats 2000000 in
/-- Result 3 in the block of a grid point is the product with the upper half of the projection's weight. -/
theorem dr_A (hH : Hyps m) (c : Dev nD) (t : Fin cfg0.N) (h0 : t.val % 8 = 0) (h1 : ¬t.val % 8 = 7) (a b : Fin 512) : (outsAt0 m hH c t.val t.isLt).2.2.1 (ix2 a b)
    = ∑ k : Fin 1024, DB m c t (ix2 a k) * (show EReal from (iblk m c 12 t : FVec Ideal S1024x1024 .bf16) (ix2 ⟨b.val, by omega⟩ k)) := by
  rw [outsAt0_A m hH c t h0 h1]
  frame_out
  clear h0 h1
  refine (pay_first _ _ _ _ _ _ a b).trans (Fin.sum_fin_congr fun k => congrArg₂ _ rfl ?_)
  exact ld_row (e := .bf16) _ _ (ix2 b k) (ix2 ⟨b.val, by omega⟩ k) (Nat.zero_add _).symm rfl

set_option maxHeartbeats 2000000 in
/-- Result 4 in the block of a grid point is the product with the lower half of the projection's weight. -/
theorem da_A (hH : Hyps m) (c : Dev nD) (t : Fin cfg0.N) (h0 : t.val % 8 = 0) (h1 : ¬t.val % 8 = 7) (a b : Fin 512) : (outsAt0 m hH c t.val t.isLt).2.2.2.1 (ix2 a b)
    = ∑ k : Fin 1024, DB m c t (ix2 a k) * (show EReal from (iblk m c 12 t : FVec Ideal S1024x1024 .bf16) (ix2 ⟨512 + b.val, by omega⟩ k)) := by
  rw [outsAt0_A m hH c t h0 h1]
  frame_out
  clear h0 h1
  refine (pay_half _ _ a b).trans (Fin.sum_fin_congr fun k => congrArg₂ _ rfl ?_)
  exact ld_row (e := .bf16) _ _ (ix2 b k) (ix2 ⟨512 + b.val, by omega⟩ k) rfl rfl

set_option maxHeartbeats 2000000 in
/-- Result 1 in the block of a grid point is the gradient on the layer norm's input. -/
theorem dz1_B (hH : Hyps m) (c : Dev nD) (t : Fin cfg0.N) (h0 : ¬t.val % 8 = 0) (h1 : ¬t.val % 8 = 7) : (outsAt0 m hH c t.val t.isLt).1 = DB m c t := by
  rw [outsAt0_B m hH c t h0 h1]
  frame_out
  rfl

set_option maxHeartbeats 2000000 in
/-- Result 2 in the block of a grid point is the gradient on the layer norm's input. -/
theorem dz2_B (hH : Hyps m) (c : Dev nD) (t : Fin cfg0.N) (h0 : ¬t.val % 8 = 0) (h1 : ¬t.val % 8 = 7) : (outsAt0 m hH c t.val t.isLt).2.1 = DB m c t := by
  rw [outsAt0_B m hH c t h0 h1]
  frame_out
  rfl

set_option maxHeartbeats 2000000 in
/-- Result 3 in the block of a grid point is the product with the upper half of the projection's weight. -/
theorem dr_B (hH : Hyps m) (c : Dev nD) (t : Fin cfg0.N) (h0 : ¬t.val % 8 = 0) (h1 : ¬t.val % 8 = 7) (a b : Fin 512) : (outsAt0 m hH c t.val t.isLt).2.2.1 (ix2 a b)
    = ∑ k : Fin 1024, DB m c t (ix2 a k) * (show EReal from (iblk m c 12 t : FVec Ideal S1024x1024 .bf16) (ix2 ⟨b.val, by omega⟩ k)) := by
  rw [outsAt0_B m hH c t h0 h1]
  frame_out
  clear h0 h1
  refine (pay_first _ _ _ _ _ _ a b).trans (Fin.sum_fin_congr fun k => congrArg₂ _ rfl ?_)
  exact ld_row (e := .bf16) _ _ (ix2 b k) (ix2 ⟨b.val, by omega⟩ k) (Nat.zero_add _).symm rfl

set_option maxHeartbeats 2000000 in
/-- Result 4 in the block of a grid point is the product with the lower half of the projection's weight. -/
theorem da_B (hH : Hyps m) (c : Dev nD) (t : Fin cfg0.N) (h0 : ¬t.val % 8 = 0) (h1 : ¬t.val % 8 = 7) (a b : Fin 512) : (outsAt0 m hH c t.val t.isLt).2.2.2.1 (ix2 a b)
    = ∑ k : Fin 1024, DB m c t (ix2 a k) * (show EReal from (iblk m c 12 t : FVec Ideal S1024x1024 .bf16) (ix2 ⟨512 + b.val, by omega⟩ k)) := by
  rw [outsAt0_B m hH c t h0 h1]
  frame_out
  clear h0 h1
  refine (pay_half _ _ a b).trans (Fin.sum_fin_congr fun k => congrArg₂ _ rfl ?_)
  exact ld_row (e := .bf16) _ _ (ix2 b k) (ix2 ⟨512 + b.val, by omega⟩ k) rfl rfl

set_option maxHeartbeats 2000000 in
/-- Result 1 in the block of a grid point is the gradient on the layer norm's input. -/
theorem dz1_C (hH : Hyps m) (c : Dev nD) (t : Fin cfg0.N) (h0 : ¬t.val % 8 = 0) (h1 : t.val % 8 = 7) : (outsAt0 m hH c t.val t.isLt).1 = DB m c t := by
  rw [outsAt0_C m hH c t h0 h1]
  frame_out
  rfl

set_option maxHeartbeats 2000000 in
/-- Result 2 in the block of a grid point is the gradient on the layer norm's input. -/
theorem dz2_C (hH : Hyps m) (c : Dev nD) (t : Fin cfg0.N) (h0 : ¬t.val % 8 = 0) (h1 : t.val % 8 = 7) : (outsAt0 m hH c t.val t.isLt).2.1 = DB m c t := by
  rw [outsAt0_C m hH c t h0 h1]
  frame_out
  rfl

set_option maxHeartbeats 2000000 in
/-- Result 3 in the block of a grid point is the product with the upper half of the projection's weight. -/
theorem dr_C (hH : Hyps m) (c : Dev nD) (t : Fin cfg0.N) (h0 : ¬t.val % 8 = 0) (h1 : t.val % 8 = 7) (a b : Fin 512) : (outsAt0 m hH c t.val t.isLt).2.2.1 (ix2 a b)
    = ∑ k : Fin 1024, DB m c t (ix2 a k) * (show EReal from (iblk m c 12 t : FVec Ideal S1024x1024 .bf16) (ix2 ⟨b.val, by omega⟩ k)) := by
  rw [outsAt0_C m hH c t h0 h1]
  frame_out
  clear h0 h1
  refine (pay_first _ _ _ _ _ _ a b).trans (Fin.sum_fin_congr fun k => congrArg₂ _ rfl ?_)
  exact ld_row (e := .bf16) _ _ (ix2 b k) (ix2 ⟨b.val, by omega⟩ k) (Nat.zero_add _).symm rfl

set_option maxHeartbeats 2000000 in
/-- Result 4 in the block of a grid point is the product with the lower half of the projection's weight. -/
theorem da_C (hH : Hyps m) (c : Dev nD) (t : Fin cfg0.N) (h0 : ¬t.val % 8 = 0) (h1 : t.val % 8 = 7) (a b : Fin 512) : (outsAt0 m hH c t.val t.isLt).2.2.2.1 (ix2 a b)
    = ∑ k : Fin 1024, DB m c t (ix2 a k) * (show EReal from (iblk m c 12 t : FVec Ideal S1024x1024 .bf16) (ix2 ⟨512 + b.val, by omega⟩ k)) := by
  rw [outsAt0_C m hH c t h0 h1]
  frame_out
  clear h0 h1
  refine (pay_half _ _ a b).trans (Fin.sum_fin_congr fun k => congrArg₂ _ rfl ?_)
  exact ld_row (e := .bf16) _ _ (ix2 b k) (ix2 ⟨512 + b.val, by omega⟩ k) rfl rfl

set_option maxHeartbeats 2000000 in
/-- The sixth result at the last grid point is the accumulator. -/
theorem whole (hH : Hyps m) (c : Dev nD) (t : Fin cfg0.N) (h0 : ¬t.val % 8 = 0) (h1 : t.val % 8 = 7)
    (j : S1024x1024.Idx) : (outsAt0 m hH c t.val t.isLt).2.2.2.2.2.1 j = (outsAt0 m hH c t.val t.isLt).2.2.2.2.2.2.2 j := by
  rw [outsAt0_C m hH c t h0 h1]
  frame_out
  rw [View.readCov_eq_canon']
  generalize View.canon (Val := Elt Ideal) (e := .f32) (s := S1024x1024) (_ :: _) = A
  pointwise [k0_pay4]
  blk_ext

/-- The row offset read back: 128 times the device's number. -/
theorem row_offset (w : BitVec 32) (hw : w.toNat < 8) : k0_off1 w = ![w.toNat * 128, 0] := by
  have h : (w * 128#32).toNat = w.toNat * 128 := by
    rw [BitVec.toNat_mul]
    simp only [BitVec.toNat_ofNat, Nat.reducePow, Nat.reduceMod]
    exact Nat.mod_eq_of_lt (by omega)
  funext a
  fin_cases a
  · exact h
  · rfl

/-- The seventh result at the last grid point is the accumulator's rows from 128 times the device's number on. -/
theorem mine (hH : Hyps m) (c : Dev nD) (t : Fin cfg0.N) (h0 : ¬t.val % 8 = 0) (h1 : t.val % 8 = 7)
    (w : BitVec 32) (hm : m ((c : Thread nD τ).loc main_arg0) (ix1 0) = w) (hw : w.toNat < 8)
    (j : S128x1024.Idx) (i : S1024x1024.Idx) (hi0 : (i 0).val = w.toNat * 128 + (j 0).val) (hi1 : (i 1).val = (j 1).val) :
    (outsAt0 m hH c t.val t.isLt).2.2.2.2.2.2.1 j = (outsAt0 m hH c t.val t.isLt).2.2.2.2.2.2.2 i := by
  have hx : iblk m c 0 t (ix1 0) = w := by
    rw [← hm]; blk_ext [iblk, V, idx t]
  clear hm
  rw [outsAt0_C m hH c t h0 h1]
  frame_out
  generalize View.canon (Val := Elt Ideal) (e := .f32) (s := S1024x1024) (_ :: _) = A
  have hr0 : ∀ W : BitVec 32, W = w → (i 0).val = k0_off1 W 0 + (j 0).val := by
    rintro _ rfl; rw [row_offset _ hw]; exact hi0
  have hr1 : ∀ W : BitVec 32, W = w → (i 1).val = k0_off1 W 1 + (j 1).val := by
    rintro _ rfl; rw [row_offset _ hw]; exact hi1.trans (Nat.zero_add _).symm
  have hz : ∀ x : S1.Idx, iblk m c 0 t x = w := fun x => by
    rw [← hx]
    refine congrArg (iblk m c 0 t) (funext fun a => Fin.ext ?_)
    have := (x a).isLt
    fin_cases a
    exact Nat.lt_one_iff.1 this
  refine View.ld_unit_apply_of (Val := Elt Ideal) (e := .f32) A _ _ _ j i (Fin.forall_fin_two.2 ⟨hr0 _ ?_, hr1 _ ?_⟩)
  · rw [Memref.IsWhole.read_unread]; exact hz _
  · rw [Memref.IsWhole.read_unread]; exact hz _

open Cert.ReferenceDh1Ideal.Read (val_main_v30 val_main_v25)

section
variable (X1 : FVec Ideal S4096x1024 .f32) (X2 X3 : FVec Ideal S4096x512 .bf16) (X4 : FVec Ideal S4096x1024 .f32)
  (X5 X6 : FVec Ideal S4096x2816 .bf16) (X7 : FVec Ideal S4096x1024 .bf16) (X8 : FVec Ideal S1024x1024 .f32)
  (X9 X10 : FVec Ideal S1024x2816 .f32) (X11 : FVec Ideal S1024x1024 .f32) (X12 : FVec Ideal S1x1024 .f32)

/-- The gradient on the layer norm's output. -/
def H (a : Fin 4096) (b : Fin 1024) : EReal :=
  dhRow (fun b => X4 (ix2 a b)) (fun k => X5 (ix2 a k)) (fun k => X6 (ix2 a k)) (fun k => X7 (ix2 a k))
    (fun k b => X9 (ix2 b k)) (fun k b => X10 (ix2 b k)) (fun b k => X11 (ix2 b k)) b

/-- The normalised input. -/
def XH (a : Fin 4096) (b : Fin 1024) : EReal := val_main_v30 (F := Ideal) X1 X2 X3 X8 (ix2 a b)

/-- The gradient on the layer norm's input. -/
def D (a : Fin 4096) (b : Fin 1024) : EReal :=
  dzRow (fun k => XH X1 X2 X3 X8 a k) (val_main_v25 (F := Ideal) X1 X2 X3 X8 (ix2 a 0)) (fun k => H X4 X5 X6 X7 X9 X10 X11 a k)
    (fun k => X12 (ix2 0 k)) b

/-- The gradient on the layer norm's input, as an array. -/
def tDz : S4096x1024.Idx → EReal := fun i => D X1 X2 X3 X4 X5 X6 X7 X8 X9 X10 X11 X12 (i 0) (i 1)

/-- The gradient on the retention's output. -/
def tDr : S4096x512.Idx → EReal := fun i => ∑ k : Fin 1024, D X1 X2 X3 X4 X5 X6 X7 X8 X9 X10 X11 X12 (i 0) k
  * X8 (ix2 ⟨(i 1).val, by have : (i 1).val < 512 := (i 1).isLt; omega⟩ k)

/-- The gradient on the attention's output. -/
def tDa : S4096x512.Idx → EReal := fun i => ∑ k : Fin 1024, D X1 X2 X3 X4 X5 X6 X7 X8 X9 X10 X11 X12 (i 0) k
  * X8 (ix2 ⟨512 + (i 1).val, by have : (i 1).val < 512 := (i 1).isLt; omega⟩ k)

/-- The gain's gradient in row 0 and the bias's in row 1. -/
def tAcc : S8x1024.Idx → EReal := fun j =>
  if (j 0).val = 0 then ∑ a : Fin 4096, H X4 X5 X6 X7 X9 X10 X11 a (j 1) * XH X1 X2 X3 X8 a (j 1)
  else if (j 0).val = 1 then ∑ a : Fin 4096, H X4 X5 X6 X7 X9 X10 X11 a (j 1) else 0

/-- The projection weight's gradient. -/
def tWo : S1024x1024.Idx → EReal := fun j =>
  if h : (j 0).val < 512 then ∑ a : Fin 4096, X2 (ix2 a ⟨(j 0).val, h⟩) * D X1 X2 X3 X4 X5 X6 X7 X8 X9 X10 X11 X12 a (j 1)
  else ∑ a : Fin 4096, X3 (ix2 a ⟨(j 0).val - 512, by have : (j 0).val < 1024 := (j 0).isLt; omega⟩) * D X1 X2 X3 X4 X5 X6 X7 X8 X9 X10 X11 X12 a (j 1)

end

/-- `H` of the kernel's arguments on one device. -/
abbrev Hm (c : Dev nD) : Fin 4096 → Fin 1024 → EReal := H (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) (m ((c : Thread nD τ).loc main_arg11))

/-- `XH` of the kernel's arguments on one device. -/
abbrev XHm (c : Dev nD) : Fin 4096 → Fin 1024 → EReal := XH (m ((c : Thread nD τ).loc main_arg1)) (m ((c : Thread nD τ).loc main_arg2)) (m ((c : Thread nD τ).loc main_arg3)) (m ((c : Thread nD τ).loc main_arg8))

/-- `D` of the kernel's arguments on one device. -/
abbrev Dm (c : Dev nD) : Fin 4096 → Fin 1024 → EReal := D (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

set_option maxHeartbeats 2000000 in
/-- The kernel's host code computes the normalised input as the reference does. -/
theorem host_xh (c : Dev nD) : V m c main_v23 = val_main_v30 (F := Ideal) (m ((c : Thread nD τ).loc main_arg1)) (m ((c : Thread nD τ).loc main_arg2)) (m ((c : Thread nD τ).loc main_arg3)) (m ((c : Thread nD τ).loc main_arg8)) := by
  unfold_abbrev_sides
  after_results
  rfl

set_option maxHeartbeats 2000000 in
/-- The kernel's host code repeats the inverse deviation the reference computes. -/
theorem host_rs (c : Dev nD) : V m c main_v24 = broadcastInDim S4096x128 ![0, 1] bcast_S4096x1_S4096x128_0_1 (val_main_v25 (F := Ideal) (m ((c : Thread nD τ).loc main_arg1)) (m ((c : Thread nD τ).loc main_arg2)) (m ((c : Thread nD τ).loc main_arg3)) (m ((c : Thread nD τ).loc main_arg8))) := by
  unfold_abbrev_sides
  after_results
  rfl

/-- The kernel's host code transposes the gate's weight. -/
theorem host_wg (c : Dev nD) (k : Fin 2816) (b : Fin 1024) : V m c main_v26 (ix2 k b) = m ((c : Thread nD τ).loc main_arg9) (ix2 b k) := by
  unfold_abbrev_sides
  after_results
  pointwise []

/-- The kernel's host code transposes the second weight. -/
theorem host_wu (c : Dev nD) (k : Fin 2816) (b : Fin 1024) : V m c main_v28 (ix2 k b) = m ((c : Thread nD τ).loc main_arg10) (ix2 b k) := by
  unfold_abbrev_sides
  after_results
  pointwise []

/-- A block's gate weight is the transposed array. -/
theorem WG_eq (c : Dev nD) (t : Fin cfg0.N) (k : Fin 2816) (b : Fin 1024) :
    iblk m c 9 t (ix2 k b) = m ((c : Thread nD τ).loc main_arg9) (ix2 b k) := by
  refine Eq.trans (b := V m c main_v26 (ix2 k b)) ?_ (host_wg m c k b)
  blk_ext [iblk, idx t]

/-- A block's second weight is the transposed array. -/
theorem WU_eq (c : Dev nD) (t : Fin cfg0.N) (k : Fin 2816) (b : Fin 1024) :
    iblk m c 10 t (ix2 k b) = m ((c : Thread nD τ).loc main_arg10) (ix2 b k) := by
  refine Eq.trans (b := V m c main_v28 (ix2 k b)) ?_ (host_wu m c k b)
  blk_ext [iblk, idx t]

set_option maxHeartbeats 2000000 in
/-- A block's gradient on the layer norm's output is the array's. -/
theorem HB_eq (c : Dev nD) (t : Fin cfg0.N) (a : Fin 512) (b : Fin 1024) (p : Fin 4096) (hp : p.val = t.val * 512 + a.val) :
    HB m c t (ix2 a b) = Hm m c p b := by
  refine (pay_dh _ _ _ _ _ _ _ a b).trans ?_
  unfold Hm H dhRow
  refine congrArg₂ _ (congrArg₂ _ (congrArg₂ _ (congrArg₂ _ rfl ?_) (Fin.sum_fin_congr fun k => congrArg₂ _ ?_ (WG_eq m c t k b)))
    (Fin.sum_fin_congr fun k => congrArg₂ _ ?_ (WU_eq m c t k b))) (Fin.sum_fin_congr fun k => congrArg₂ _ ?_ ?_)
  all_goals blk_ext [iblk, V, idx t, hp]

/-- A block's normalised input is the array's. -/
theorem XB_eq (c : Dev nD) (t : Fin cfg0.N) (a : Fin 512) (b : Fin 1024) (p : Fin 4096) (hp : p.val = t.val * 512 + a.val) :
    (iblk m c 5 t : FVec Ideal S512x1024 .f32) (ix2 a b) = XHm m c p b := by
  refine Eq.trans (b := V m c main_v23 (ix2 p b)) ?_ (congrFun (host_xh m c) _)
  blk_ext [iblk, idx t, hp]

/-- A repeated column's entries. -/
theorem repeated (X : FVec Ideal S4096x1 .f32) (p : Fin 4096) :
    broadcastInDim S4096x128 ![0, 1] bcast_S4096x1_S4096x128_0_1 X (ix2 p 0) = X (ix2 p 0) := by
  pointwise []

/-- The first column of the repeated inverse deviation. -/
theorem host_rs_col (c : Dev nD) (p : Fin 4096) : V m c main_v24 (ix2 p (0 : Fin 128)) = val_main_v25 (F := Ideal) (m ((c : Thread nD τ).loc main_arg1)) (m ((c : Thread nD τ).loc main_arg2)) (m ((c : Thread nD τ).loc main_arg3)) (m ((c : Thread nD τ).loc main_arg8)) (ix2 p 0) :=
  (congrFun (host_rs m c) (ix2 p (0 : Fin 128))).trans (repeated _ p)

/-- A block's inverse deviation is the array's. -/
theorem RB_eq (c : Dev nD) (t : Fin cfg0.N) (a : Fin 512) (p : Fin 4096) (hp : p.val = t.val * 512 + a.val) :
    View.ld (iblk m c 6 t : FVec Ideal S512x128 .f32) (Rect.unit (s := S512x128) ![0, 0] ![512, 1] inb_S512x128_S512x1_0_0) (ix2 a 0)
      = val_main_v25 (F := Ideal) (m ((c : Thread nD τ).loc main_arg1)) (m ((c : Thread nD τ).loc main_arg2)) (m ((c : Thread nD τ).loc main_arg3)) (m ((c : Thread nD τ).loc main_arg8)) (ix2 p 0) := by
  rw [← host_rs_col m c p]
  refine Eq.trans (b := (iblk m c 6 t : FVec Ideal S512x128 .f32) (ix2 a (0 : Fin 128))) ?_ ?_
  · exact View.ld_unit_apply_of (Val := Elt Ideal) (e := .f32) _ ![0, 0] ![512, 1] inb_S512x128_S512x1_0_0 (ix2 a 0) (ix2 a (0 : Fin 128))
      (Fin.forall_fin_two.2 ⟨(Nat.zero_add _).symm, rfl⟩)
  · blk_ext [iblk, idx t, hp]

/-- A block's gradient on the layer norm's input is the array's. -/
theorem DB_eq (c : Dev nD) (t : Fin cfg0.N) (a : Fin 512) (b : Fin 1024) (p : Fin 4096) (hp : p.val = t.val * 512 + a.val) :
    DB m c t (ix2 a b) = Dm m c p b := by
  refine (pay_dz _ _ _ _ _ _ _ _ _ _ a b).trans ?_
  have hh : ∀ k : Fin 1024, k0_pay7 (F := Ideal) (iblk m c 1 t) (iblk m c 2 t) (iblk m c 9 t) (iblk m c 3 t) (iblk m c 10 t) (iblk m c 4 t) (iblk m c 11 t) (ix2 a k)
      = Hm m c p k := fun k => HB_eq m c t a k p hp
  have hg : ∀ k : Fin 1024, (iblk m c 13 t : FVec Ideal S1x1024 .f32) (ix2 0 k) = m ((c : Thread nD τ).loc main_arg12) (ix2 0 k) := fun k => by
    blk_ext [iblk, V, idx t]
  unfold Dm D dzRow
  simp only [hh, hg, XB_eq m c t a _ p hp, RB_eq m c t a p hp]

end Cert.KernelDh1Ideal.Dh1Value
-- ==== Proof.Dh1Final.lean ====
/-
  The backward pass of the first layer norm: the result arrays after the run, and the reference's results.
-/
module

public import proofs.«01_k».proof.Proof.Dh1Value

@[expose] public section

set_option maxRecDepth 16384

noncomputable section

namespace Cert.KernelDh1Ideal.Dh1Value

open Idealize.ShloMosaic Idealize.ShloMosaic.TcCoe Idealize.SL.Sem
open Idealize.ShloMosaic.Pipeline (Dat)
open Cert.KernelDh1Ideal Cert.KernelDh1Ideal.Gen
open Cert.ReferenceDh1Ideal.Read (val_main_v30 val_main_v25)

variable (m : (ℓ : Loc nD τ sig) → Buf (Elt Ideal) ℓ)

theorem lt8 (p : Fin cfg0.N) : p.val < 8 := lt_of_lt_of_eq p.isLt N_0

/-- Result 1 in every block. -/
theorem out1 (hH : Hyps m) (c : Dev nD) (t : Fin cfg0.N) : (outsAt0 m hH c t.val t.isLt).1 = DB m c t := by
  have := lt8 t
  by_cases h0 : t.val % 8 = 0
  · exact dz1_A m hH c t h0 (by omega)
  by_cases h1 : t.val % 8 = 7
  · exact dz1_C m hH c t h0 h1
  · exact dz1_B m hH c t h0 h1

/-- Result 2 in every block. -/
theorem out2 (hH : Hyps m) (c : Dev nD) (t : Fin cfg0.N) : (outsAt0 m hH c t.val t.isLt).2.1 = DB m c t := by
  have := lt8 t
  by_cases h0 : t.val % 8 = 0
  · exact dz2_A m hH c t h0 (by omega)
  by_cases h1 : t.val % 8 = 7
  · exact dz2_C m hH c t h0 h1
  · exact dz2_B m hH c t h0 h1

/-- Result 3 in every block. -/
theorem out3 (hH : Hyps m) (c : Dev nD) (t : Fin cfg0.N) (a b : Fin 512) : (outsAt0 m hH c t.val t.isLt).2.2.1 (ix2 a b)
    = ∑ k : Fin 1024, DB m c t (ix2 a k) * (show EReal from (iblk m c 12 t : FVec Ideal S1024x1024 .bf16) (ix2 ⟨b.val, by omega⟩ k)) := by
  have := lt8 t
  by_cases h0 : t.val % 8 = 0
  · exact dr_A m hH c t h0 (by omega) a b
  by_cases h1 : t.val % 8 = 7
  · exact dr_C m hH c t h0 h1 a b
  · exact dr_B m hH c t h0 h1 a b

/-- Result 4 in every block. -/
theorem out4 (hH : Hyps m) (c : Dev nD) (t : Fin cfg0.N) (a b : Fin 512) : (outsAt0 m hH c t.val t.isLt).2.2.2.1 (ix2 a b)
    = ∑ k : Fin 1024, DB m c t (ix2 a k) * (show EReal from (iblk m c 12 t : FVec Ideal S1024x1024 .bf16) (ix2 ⟨512 + b.val, by omega⟩ k)) := by
  have := lt8 t
  by_cases h0 : t.val % 8 = 0
  · exact da_A m hH c t h0 (by omega) a b
  by_cases h1 : t.val % 8 = 7
  · exact da_C m hH c t h0 h1 a b
  · exact da_B m hH c t h0 h1 a b

/-- A block's projection weight is the array. -/
theorem WO_eq (c : Dev nD) (t : Fin cfg0.N) (b k : Fin 1024) :
    (show EReal from (iblk m c 12 t : FVec Ideal S1024x1024 .bf16) (ix2 b k)) = m ((c : Thread nD τ).loc main_arg8) (ix2 b k) := by
  blk_ext [iblk, V, idx t]

section
variable (X1 : FVec Ideal S4096x1024 .f32) (X2 X3 : FVec Ideal S4096x512 .bf16) (X4 : FVec Ideal S4096x1024 .f32)
  (X5 X6 : FVec Ideal S4096x2816 .bf16) (X7 : FVec Ideal S4096x1024 .bf16) (X8 : FVec Ideal S1024x1024 .f32)
  (X9 X10 : FVec Ideal S1024x2816 .f32) (X11 : FVec Ideal S1024x1024 .f32) (X12 : FVec Ideal S1x1024 .f32)

/-- An entry of the first result by its row and column. -/
theorem tDz_at (p : Fin 4096) (b : Fin 1024) (i : S4096x1024.Idx) (h : ix2 p b = i) :
    D X1 X2 X3 X4 X5 X6 X7 X8 X9 X10 X11 X12 p b = tDz X1 X2 X3 X4 X5 X6 X7 X8 X9 X10 X11 X12 i := by
  subst h; rfl

/-- An entry of the third result by its row and column. -/
theorem tDr_at (i : S4096x512.Idx) (p : Fin 4096) (b : Fin 512) (h : ix2 p b = i) :
    ∑ k : Fin 1024, D X1 X2 X3 X4 X5 X6 X7 X8 X9 X10 X11 X12 p k * X8 (ix2 ⟨b.val, by omega⟩ k) = tDr X1 X2 X3 X4 X5 X6 X7 X8 X9 X10 X11 X12 i := by
  subst h; rfl

/-- An entry of the fourth result by its row and column. -/
theorem tDa_at (i : S4096x512.Idx) (p : Fin 4096) (b : Fin 512) (h : ix2 p b = i) :
    ∑ k : Fin 1024, D X1 X2 X3 X4 X5 X6 X7 X8 X9 X10 X11 X12 p k * X8 (ix2 ⟨512 + b.val, by omega⟩ k) = tDa X1 X2 X3 X4 X5 X6 X7 X8 X9 X10 X11 X12 i := by
  subst h; rfl

end

attribute [local irreducible] D H XH

/-- At the last grid point the sums' buffer holds the sums over all tokens. -/
theorem accumulated (hH : Hyps m) (c : Dev nD) (t : Fin cfg0.N) (ht : t.val % 8 = 7) (j : S8x1024.Idx) :
    (outsAt0 m hH c t.val t.isLt).2.2.2.2.1 j = tAcc (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) j := by
  rw [Pipeline.eq_sum_fin_of_reset_step_apply_of_flush (fun n h => (outsAt0 m hH c n h).2.2.2.2.1) 8 (fun _ => 0)
    (fun t j => accT m c t j)
    (fun p h j => by rw [acc_A m hH c p h (by omega), zero_add])
    (fun p h j => by
      have := lt8 p
      by_cases h7 : p.val % 8 = 7
      · exact acc_C m hH c p h h7 j
      · exact acc_B m hH c p h h7 j) t ht j, zero_add]
  have hp := Pipeline.run_point_lt_of_flush t ht
  have h8 := lt8 t
  unfold tAcc
  split
  · rename_i e
    refine Eq.trans (Fin.sum_fin_congr fun s => by rw [accT, if_pos e]) ?_
    refine Fin.sum_mul_add_congr fun s k hl => ?_
    exact congrArg₂ _ (HB_eq m c ⟨_, hp s⟩ k (j 1) _ (by simp only []; omega)) (XB_eq m c ⟨_, hp s⟩ k (j 1) _ (by simp only []; omega))
  · split
    · rename_i e0 e
      refine Eq.trans (Fin.sum_fin_congr fun s => by rw [accT, if_neg e0, if_pos e]) ?_
      refine Fin.sum_mul_add_congr fun s k hl => ?_
      exact HB_eq m c ⟨_, hp s⟩ k (j 1) _ (by simp only []; omega)
    · rename_i e0 e
      refine Eq.trans (Fin.sum_fin_congr fun s => by rw [accT, if_neg e0, if_neg e]) ?_
      exact Finset.sum_const_zero

/-- At the last grid point the accumulator holds the weight's gradient over all tokens. -/
theorem accumulated_wo (hH : Hyps m) (c : Dev nD) (t : Fin cfg0.N) (ht : t.val % 8 = 7) (j : S1024x1024.Idx) :
    (outsAt0 m hH c t.val t.isLt).2.2.2.2.2.2.2 j = tWo (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) j := by
  rw [Pipeline.eq_sum_fin_of_reset_step_apply_of_flush (fun n h => (outsAt0 m hH c n h).2.2.2.2.2.2.2) 8 (fun _ => 0)
    (fun t j => woT m c t j)
    (fun p h j => by rw [wo_A m hH c p h (by omega), zero_add])
    (fun p h j => by
      have := lt8 p
      by_cases h7 : p.val % 8 = 7
      · exact wo_C m hH c p h h7 j
      · exact wo_B m hH c p h h7 j) t ht j, zero_add]
  have hp := Pipeline.run_point_lt_of_flush t ht
  have h8 := lt8 t
  unfold tWo
  split
  · rename_i e
    refine Eq.trans (Fin.sum_fin_congr fun s => by rw [woT, dif_pos e]) ?_
    refine Fin.sum_mul_add_congr fun s k hl => ?_
    refine congrArg₂ _ ?_ (DB_eq m c ⟨_, hp s⟩ k (j 1) _ (by simp only []; omega))
    blk_ext [iblk, V, idx ⟨_, hp s⟩]
  · rename_i e
    refine Eq.trans (Fin.sum_fin_congr fun s => by rw [woT, dif_neg e]) ?_
    refine Fin.sum_mul_add_congr fun s k hl => ?_
    refine congrArg₂ _ ?_ (DB_eq m c ⟨_, hp s⟩ k (j 1) _ (by simp only []; omega))
    blk_ext [iblk, V, idx ⟨_, hp s⟩]

/-- Result array 1 after the run. -/
theorem final1 (hH : Hyps m) (c : Dev nD) : (dats m hH 0 c).arrAt 14 (cfgs 0).N = tDz (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m hH 0 c).arrAt_eq_of_covers 14 _ (by decide +kernel) fun t _ y => ?_
  blk_simp
  rw [after0_14, out1 m hH c t]
  have hy : (y 0).val < 512 := (y 0).isLt
  have ht := lt8 t
  refine (congrArg (DB m c t) (show y = ix2 (y 0) (y 1) from by ext k; fin_cases k <;> rfl)).trans
    ((DB_eq m c t (y 0) (y 1) ⟨t.val * 512 + (y 0).val, by omega⟩ rfl).trans ?_)
  refine tDz_at _ _ _ _ _ _ _ _ _ _ _ _ _ _ _ ?_
  blk_ext [idx t]

/-- Result array 2 after the run. -/
theorem final2 (hH : Hyps m) (c : Dev nD) : (dats m hH 0 c).arrAt 15 (cfgs 0).N = tDz (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m hH 0 c).arrAt_eq_of_covers 15 _ (by decide +kernel) fun t _ y => ?_
  blk_simp
  rw [after0_15, out2 m hH c t]
  have hy : (y 0).val < 512 := (y 0).isLt
  have ht := lt8 t
  refine (congrArg (DB m c t) (show y = ix2 (y 0) (y 1) from by ext k; fin_cases k <;> rfl)).trans
    ((DB_eq m c t (y 0) (y 1) ⟨t.val * 512 + (y 0).val, by omega⟩ rfl).trans ?_)
  refine tDz_at _ _ _ _ _ _ _ _ _ _ _ _ _ _ _ ?_
  blk_ext [idx t]

/-- Result array 3 after the run. -/
theorem final3 (hH : Hyps m) (c : Dev nD) : (dats m hH 0 c).arrAt 16 (cfgs 0).N = tDr (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m hH 0 c).arrAt_eq_of_covers 16 _ (by decide +kernel) fun t _ y => ?_
  blk_simp
  rw [after0_16]
  have hy : (y 0).val < 512 := (y 0).isLt
  have hy1 : (y 1).val < 512 := (y 1).isLt
  have ht := lt8 t
  refine (congrArg (outsAt0 m hH c t.val t.isLt).2.2.1 (show y = ix2 (y 0) (y 1) from by ext k; fin_cases k <;> rfl)).trans
    ((out3 m hH c t (y 0) (y 1)).trans ?_)
  refine Eq.trans (Fin.sum_fin_congr fun k => congrArg₂ _ (DB_eq m c t (y 0) k ⟨t.val * 512 + (y 0).val, by omega⟩ rfl) (WO_eq m c t _ k)) ?_
  refine tDr_at _ _ _ _ _ _ _ _ _ _ _ _ _ _ (y 1) ?_
  blk_ext [idx t]

/-- Result array 4 after the run. -/
theorem final4 (hH : Hyps m) (c : Dev nD) : (dats m hH 0 c).arrAt 17 (cfgs 0).N = tDa (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m hH 0 c).arrAt_eq_of_covers 17 _ (by decide +kernel) fun t _ y => ?_
  blk_simp
  rw [after0_17]
  have hy : (y 0).val < 512 := (y 0).isLt
  have hy1 : (y 1).val < 512 := (y 1).isLt
  have ht := lt8 t
  refine (congrArg (outsAt0 m hH c t.val t.isLt).2.2.2.1 (show y = ix2 (y 0) (y 1) from by ext k; fin_cases k <;> rfl)).trans
    ((out4 m hH c t (y 0) (y 1)).trans ?_)
  refine Eq.trans (Fin.sum_fin_congr fun k => congrArg₂ _ (DB_eq m c t (y 0) k ⟨t.val * 512 + (y 0).val, by omega⟩ rfl) (WO_eq m c t _ k)) ?_
  refine tDa_at _ _ _ _ _ _ _ _ _ _ _ _ _ _ (y 1) ?_
  blk_ext [idx t]

/-- Result array 5 after the run. -/
theorem final5 (hH : Hyps m) (c : Dev nD) : (dats m hH 0 c).arrAt 18 (cfgs 0).N = tAcc (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m hH 0 c).arrAt_eq_of_covers 18 _ (by decide +kernel) fun t hf y => ?_
  have h7 := (flush0_18 t).mp hf
  blk_simp
  rw [after0_18, accumulated m hH c t h7]
  blk_ext [idx t]

/-- Result array 6 after the run. -/
theorem final6 (hH : Hyps m) (c : Dev nD) : (dats m hH 0 c).arrAt 19 (cfgs 0).N = tWo (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m hH 0 c).arrAt_eq_of_covers 19 _ (by decide +kernel) fun t hf y => ?_
  have h7 := (flush0_19 t).mp hf
  blk_simp
  rw [after0_19, whole m hH c t (by omega) h7, accumulated_wo m hH c t h7]
  blk_ext [idx t]

/-- Result array 7 after the run: the weight's gradient in the rows from 128 times the device's number on. -/
theorem final7 (hH : Hyps m) (c : Dev nD) (w : BitVec 32) (hm : m ((c : Thread nD τ).loc main_arg0) (ix1 0) = w) (hw : w.toNat < 8) :
    (dats m hH 0 c).arrAt 20 (cfgs 0).N = (fun j : S128x1024.Idx => tWo (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      (ix2 ⟨w.toNat * 128 + (j 0).val, by have : (j 0).val < 128 := (j 0).isLt; omega⟩ (j 1))) := by
  refine (dats m hH 0 c).arrAt_eq_of_covers 20 _ (by decide +kernel) fun t hf y => ?_
  have h7 := (flush0_20 t).mp hf
  blk_simp
  have hy : (y 0).val < 128 := (y 0).isLt
  rw [after0_20, mine m hH c t (by omega) h7 w hm hw y (ix2 ⟨w.toNat * 128 + (y 0).val, by omega⟩ (y 1)) rfl rfl,
    accumulated_wo m hH c t h7]
  refine congrArg (tWo _ _ _ _ _ _ _ _ _ _ _ _) ?_
  blk_ext [idx t]

end Cert.KernelDh1Ideal.Dh1Value
-- ==== Proof.Reals.lean ====
/-
  Real numbers among the extended reals: sums, products and the words of the constants the claims meet, and arrays told by
  their rows and columns.
-/
module

public import Idealize.ShloMosaic.Lib.Pointwise

@[expose] public section

noncomputable section

namespace Cert.Real

open Idealize.ShloMosaic Idealize.ShloMosaic.TcCoe

/-! ### Real values -/

/-- An extended real that is a real number. -/
def IsR (x : EReal) : Prop := ∃ r : ℝ, x = (r : EReal)

theorem isR_coe (r : ℝ) : IsR (r : EReal) := ⟨r, rfl⟩

theorem IsR.add {x y : EReal} (hx : IsR x) (hy : IsR y) : IsR (x + y) := by
  obtain ⟨r, rfl⟩ := hx; obtain ⟨q, rfl⟩ := hy; exact ⟨r + q, (EReal.coe_add r q).symm⟩

theorem IsR.mul {x y : EReal} (hx : IsR x) (hy : IsR y) : IsR (x * y) := by
  obtain ⟨r, rfl⟩ := hx; obtain ⟨q, rfl⟩ := hy; exact ⟨r * q, (EReal.coe_mul r q).symm⟩

/-- A sum of real numbers, taken among the extended reals. -/
theorem sum_coe {n : ℕ} (f : Fin n → ℝ) : ∑ k : Fin n, ((f k : ℝ) : EReal) = ((∑ k : Fin n, f k : ℝ) : EReal) := by
  induction n with
  | zero => simp
  | succ n ih => rw [Fin.sum_univ_succ, Fin.sum_univ_succ, ih, EReal.coe_add]

theorem isR_sum {n : ℕ} {f : Fin n → EReal} (h : ∀ k, IsR (f k)) : IsR (∑ k : Fin n, f k) := by
  choose r hr using h
  exact ⟨∑ k, r k, by rw [← sum_coe]; exact Finset.sum_congr rfl fun k _ => hr k⟩

/-- The word of 1024. -/
theorem w1024 : Ideal.ofBits FTy.f32 0x44800000#32 = ((1024 : ℝ) : EReal) := by
  simp [Ideal.ofBits, Ideal.ieee, -EReal.coe_mul]; norm_num

/-- The word of two. -/
theorem w2 : Ideal.ofBits FTy.f32 0x40000000#32 = ((2 : ℝ) : EReal) := by
  simp [Ideal.ofBits, Ideal.ieee, -EReal.coe_mul]; norm_num

/-- The word of minus one half. -/
theorem wHalf : Ideal.ofBits FTy.f32 0xBF000000#32 = ((-(1 / 2) : ℝ) : EReal) := by
  simp [Ideal.ofBits, Ideal.ieee, -EReal.coe_mul]; norm_num

/-- The residual's factor is a real number. -/
theorem wAlpha : IsR (Ideal.ofBits FTy.f32 0x3F9837F0#32) := by
  refine ⟨(9975792 : ℝ) * 2 ^ (-23 : ℤ), ?_⟩
  simp [Ideal.ofBits, Ideal.ieee, -EReal.coe_mul]

/-- The variance's offset is a positive real number. -/
theorem wEps : ∃ e : ℝ, 0 < e ∧ Ideal.ofBits FTy.f32 0x3727C5AC#32 = ((e : ℝ) : EReal) := by
  refine ⟨(10995116 : ℝ) * 2 ^ (-40 : ℤ), by positivity, ?_⟩
  simp [Ideal.ofBits, Ideal.ieee, -EReal.coe_mul]

/-- A value whose absolute value is below infinity is a real number. -/
theorem isR_of_mask (x : Ideal .f32) (h : FloatOps.cmpf .olt (FloatOps.hostAbsf x) (FloatOps.ofBits (F := Ideal) .f32 0x7F800000#32) = 1#1) : IsR x := by
  have htop : Ideal.ofBits .f32 0x7F800000#32 = ⊤ := by simp [Ideal.ofBits, Ideal.ieee]
  replace h : Ideal.cmp .olt (max (x : EReal) (-(x : EReal))) (Ideal.ofBits .f32 0x7F800000#32) = 1#1 := h
  rw [htop] at h
  have h := max_lt_iff.1 ((Ideal.cmp_olt_eq_one _ _).1 h)
  have ht : (x : EReal) ≠ ⊤ := h.1.ne
  have hb : (x : EReal) ≠ ⊥ := fun e => by rw [e] at h; simp at h
  exact ⟨EReal.toReal x, (EReal.coe_toReal ht hb).symm⟩

/-- Two arrays of two axes are equal when they are at every pair of indices. -/
theorem ext2 {n k : ℕ} {α : Type} {f g : (⟨2, ![n, k]⟩ : Shape).Idx → α} (h : ∀ (a : Fin n) (b : Fin k), f (ix2 a b) = g (ix2 a b)) : f = g := by
  funext i
  have : i = ix2 (i 0) (i 1) := funext (Fin.forall_fin_two.2 ⟨rfl, rfl⟩)
  rw [this]; exact h _ _

end Cert.Real

end
-- ==== Proof.Dh1Reference.lean ====
/-
  The backward pass of the first layer norm, the reference's side: the derivative of the forward lines, entry by entry, is
  the closed form of the layer norm's derivative wherever the arguments are finite.
-/
module

public import proofs.«01_k».proof.Proof.Dh1Value
public import proofs.«01_k».proof.Proof.Reals

@[expose] public section

set_option maxRecDepth 16384

noncomputable section

namespace Cert.KernelDh1Ideal.Dh1Value

open Idealize.ShloMosaic Idealize.ShloMosaic.TcCoe Idealize.SL.Sem
open Cert.KernelDh1Ideal Cert.KernelDh1Ideal.Gen
open Cert.ReferenceDh1Ideal.Read
open Cert.Real

/-! ### The layer norm's derivative -/

/-- The derivative of the layer norm over the real numbers: the terms through the mean, the variance and the value itself
    are together the closed form. `z` is the centred input, `s` the reciprocal root of the variance `v`. -/
theorem ln_real (z G : Fin 1024 → ℝ) (s v : ℝ) (hz : ∑ k, z k = 0) (hv : v ≠ 0) (hs : s * s * v = 1) (b : Fin 1024) :
    G b * s + (∑ k, z k * G k) * (-(1 / 2) * (s * (1 / v))) * (1 / 1024) * (2 * z b)
        + (∑ k, -(G k * s) + ∑ k, -((∑ k, z k * G k) * (-(1 / 2) * (s * (1 / v))) * (1 / 1024) * (2 * z k))) * (1 / 1024)
      = s * (G b - (∑ k, G k) * (1 / 1024) - z b * s * ((∑ k, G k * (z k * s)) * (1 / 1024))) := by
  have h1 : (1 / v : ℝ) = s * s := by field_simp; linarith
  have h2 : ∑ k, G k * (z k * s) = (∑ k, z k * G k) * s := by
    rw [Finset.sum_mul]; exact Finset.sum_congr rfl fun k _ => by ring
  have h3 : ∑ k, -(G k * s) = -((∑ k, G k) * s) := by
    rw [Finset.sum_mul, Finset.sum_neg_distrib]
  have h4 : ∑ k, -((∑ k, z k * G k) * (-(1 / 2) * (s * (1 / v))) * (1 / 1024) * (2 * z k)) = 0 := by
    rw [Finset.sum_neg_distrib, ← Finset.mul_sum, ← Finset.mul_sum, hz]; ring
  rw [h2, h3, h4, h1]; ring

/-- The same among the extended reals. -/
theorem ln_ereal (z h g : Fin 1024 → ℝ) (s v : ℝ) (hz : ∑ k, z k = 0) (hv : v ≠ 0) (hs : s * s * v = 1) (b : Fin 1024) :
    (h b : EReal) * g b * s + Ideal.div ((∑ k, (z k : EReal) * (h k * g k)) * (((-(1 / 2) : ℝ) : EReal) * Ideal.div s v)) ((1024 : ℝ) : EReal) * (((2 : ℝ) : EReal) * z b)
        + Ideal.div (∑ k, -((h k : EReal) * g k * s) + ∑ k, -(Ideal.div ((∑ k, (z k : EReal) * (h k * g k)) * (((-(1 / 2) : ℝ) : EReal) * Ideal.div s v)) ((1024 : ℝ) : EReal) * (((2 : ℝ) : EReal) * z k))) ((1024 : ℝ) : EReal)
      = dzRow (fun k => (z k : EReal) * s) s (fun k => h k) (fun k => g k) b := by
  unfold dzRow
  rw [w1024]
  simp only [Ideal.div_coe hv, Ideal.div_coe (show (1024 : ℝ) ≠ 0 by norm_num), ← EReal.coe_mul, sum_coe, ← EReal.coe_neg, ← EReal.coe_add, ← EReal.coe_sub]
  exact congrArg _ (ln_real z (fun k => h k * g k) s v hz hv hs b)

section
variable (X1 : FVec Ideal S4096x1024 .f32) (X2 X3 : FVec Ideal S4096x512 .bf16) (X4 : FVec Ideal S4096x1024 .f32)
  (X5 X6 : FVec Ideal S4096x2816 .bf16) (X7 : FVec Ideal S4096x1024 .bf16) (X8 : FVec Ideal S1024x1024 .f32)
  (X9 X10 : FVec Ideal S1024x2816 .f32) (X11 : FVec Ideal S1024x1024 .f32) (X12 : FVec Ideal S1x1024 .f32)

/-! ### The reference, entry by entry -/

/-- The reference's gradient on the layer norm's output. -/
theorem ref_dh (a : Fin 4096) (b : Fin 1024) : val_main_v50 (F := Ideal) X4 X5 X6 X7 X9 X10 X11 (ix2 a b) = H X4 X5 X6 X7 X9 X10 X11 a b := by
  pointwise [val_main_v50, val_main_v49, val_main_v48, val_main_v47, val_main_v46, val_main_v45, val_main_v44, val_main_v43, val_main_v42, val_main_v41, val_main_v40, val_main_cst_9, H, dhRow]
  ac_rfl

/-- The layer norm's input. -/
theorem ref_v6 (a : Fin 4096) (b : Fin 1024) : val_main_v6 (F := Ideal) X1 X2 X3 X8 (ix2 a b)
    = Ideal.ofBits FTy.f32 0x3F9837F0#32 * X1 (ix2 a b)
      + (∑ k : Fin 512, X2 (ix2 a k) * X8 (ix2 ⟨k.val, by omega⟩ b) + ∑ k : Fin 512, X3 (ix2 a k) * X8 (ix2 ⟨512 + k.val, by omega⟩ b)) := by
  pointwise [val_main_v6, val_main_v5, val_main_v4, val_main_v3, val_main_v2, val_main_v1, val_main_v0, val_main_cst]

/-- The centred input. -/
theorem ref_v22 (a : Fin 4096) (x : Fin 1024 → ℝ) (hx : ∀ k, val_main_v6 (F := Ideal) X1 X2 X3 X8 (ix2 a k) = (x k : EReal)) (b : Fin 1024) :
    val_main_v22 (F := Ideal) X1 X2 X3 X8 (ix2 a b) = ((x b - (∑ k, x k) * (1 / 1024) : ℝ) : EReal) := by
  pointwise [val_main_v22, val_main_v21, val_main_v11, val_main_v10, val_main_v9, val_main_v8, val_main_cst_1, val_main_cst_2]
  simp only [hx, Ideal.ofBits_zero_f32, w1024, zero_add, sum_coe, Ideal.div_coe (show (1024 : ℝ) ≠ 0 by norm_num), ← EReal.coe_mul, ← EReal.coe_sub]

/-- The reference squares the same centred input. -/
theorem ref_v13 (a : Fin 4096) (b : Fin 1024) : val_main_v13 (F := Ideal) X1 X2 X3 X8 (ix2 a b) = val_main_v22 (F := Ideal) X1 X2 X3 X8 (ix2 a b) := by
  pointwise [val_main_v22, val_main_v21, val_main_v13, val_main_v12]

/-- The variance with its offset. -/
theorem ref_v24 (a : Fin 4096) (z : Fin 1024 → ℝ) (hz : ∀ k, val_main_v22 (F := Ideal) X1 X2 X3 X8 (ix2 a k) = (z k : EReal)) (e : ℝ)
    (he : Ideal.ofBits FTy.f32 0x3727C5AC#32 = ((e : ℝ) : EReal)) :
    val_main_v24 (F := Ideal) X1 X2 X3 X8 (ix2 a 0) = (((∑ k, z k * z k) * (1 / 1024) + e : ℝ) : EReal) := by
  pointwise [val_main_v24, val_main_v23, val_main_v20, val_main_v19, val_main_v18, val_main_v17, val_main_v14, val_main_cst_4, val_main_cst_5, val_main_cst_6]
  simp only [ref_v13, hz, Ideal.ofBits_zero_f32, w1024, he, zero_add, ← EReal.coe_mul, sum_coe, Ideal.div_coe (show (1024 : ℝ) ≠ 0 by norm_num), ← EReal.coe_add]

/-- The reference's normalised input. -/
theorem ref_xh (a : Fin 4096) (b : Fin 1024) : XH X1 X2 X3 X8 a b
    = val_main_v22 (F := Ideal) X1 X2 X3 X8 (ix2 a b) * val_main_v25 (F := Ideal) X1 X2 X3 X8 (ix2 a 0) := by
  pointwise [XH, val_main_v30, val_main_v29]

/-- The derivative of the forward lines on the layer norm's input, as it is written. -/
theorem ref_v81 (a : Fin 4096) (b : Fin 1024) : val_main_v81 (F := Ideal) X1 X2 X3 X4 X5 X6 X7 X8 X9 X10 X11 X12 (ix2 a b)
    = H X4 X5 X6 X7 X9 X10 X11 a b * X12 (ix2 0 b) * val_main_v25 (F := Ideal) X1 X2 X3 X8 (ix2 a 0)
      + Ideal.div ((∑ k : Fin 1024, val_main_v22 (F := Ideal) X1 X2 X3 X8 (ix2 a k) * (H X4 X5 X6 X7 X9 X10 X11 a k * X12 (ix2 0 k)))
          * (((-(1 / 2) : ℝ) : EReal) * Ideal.div (val_main_v25 (F := Ideal) X1 X2 X3 X8 (ix2 a 0)) (val_main_v24 (F := Ideal) X1 X2 X3 X8 (ix2 a 0)))) ((1024 : ℝ) : EReal)
        * (((2 : ℝ) : EReal) * val_main_v22 (F := Ideal) X1 X2 X3 X8 (ix2 a b))
      + Ideal.div (∑ k : Fin 1024, -(H X4 X5 X6 X7 X9 X10 X11 a k * X12 (ix2 0 k) * val_main_v25 (F := Ideal) X1 X2 X3 X8 (ix2 a 0))
        + ∑ k : Fin 1024, -(Ideal.div ((∑ k : Fin 1024, val_main_v22 (F := Ideal) X1 X2 X3 X8 (ix2 a k) * (H X4 X5 X6 X7 X9 X10 X11 a k * X12 (ix2 0 k)))
          * (((-(1 / 2) : ℝ) : EReal) * Ideal.div (val_main_v25 (F := Ideal) X1 X2 X3 X8 (ix2 a 0)) (val_main_v24 (F := Ideal) X1 X2 X3 X8 (ix2 a 0)))) ((1024 : ℝ) : EReal)
        * (((2 : ℝ) : EReal) * val_main_v22 (F := Ideal) X1 X2 X3 X8 (ix2 a k)))) ((1024 : ℝ) : EReal) := by
  pointwise [val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v28, val_main_v27, val_main_v26, val_main_v16, val_main_v15, val_main_cst_3, val_main_cst_7, val_main_cst_12, val_main_cst_13, val_main_cst_14, val_main_cst_15, val_main_cst_16, val_main_cst_17, val_main_cst_18]
  simp only [ref_dh, ref_v13, Ideal.ofBits_zero_f32, w1024, w2, wHalf, zero_add, Fin.sum_univ_one, Finset.univ_unique, Finset.sum_singleton, Fin.default_eq_zero]

/-- Where the arguments are finite, the derivative of the forward lines is the closed form. -/
theorem ref_dz (h1 : ∀ i, IsR (X1 i)) (h2 : ∀ i, IsR (X2 i)) (h3 : ∀ i, IsR (X3 i)) (h4 : ∀ i, IsR (X4 i)) (h5 : ∀ i, IsR (X5 i)) (h6 : ∀ i, IsR (X6 i))
    (h7 : ∀ i, IsR (X7 i)) (h8 : ∀ i, IsR (X8 i)) (h9 : ∀ i, IsR (X9 i)) (h10 : ∀ i, IsR (X10 i)) (h11 : ∀ i, IsR (X11 i)) (h12 : ∀ i, IsR (X12 i))
    (a : Fin 4096) (b : Fin 1024) :
    val_main_v81 (F := Ideal) X1 X2 X3 X4 X5 X6 X7 X8 X9 X10 X11 X12 (ix2 a b) = D X1 X2 X3 X4 X5 X6 X7 X8 X9 X10 X11 X12 a b := by
  have hx : ∀ k : Fin 1024, IsR (val_main_v6 (F := Ideal) X1 X2 X3 X8 (ix2 a k)) := fun k => by
    rw [ref_v6]
    exact (wAlpha.mul (h1 _)).add ((isR_sum fun _ => (h2 _).mul (h8 _)).add (isR_sum fun _ => (h3 _).mul (h8 _)))
  have hh : ∀ k : Fin 1024, IsR (H X4 X5 X6 X7 X9 X10 X11 a k) := fun k => by
    rw [← ref_dh]
    pointwise [val_main_v50, val_main_v49, val_main_v48, val_main_v47, val_main_v46, val_main_v45, val_main_v44, val_main_v43, val_main_v42, val_main_v41, val_main_v40, val_main_cst_9]
    exact ((((isR_sum fun _ => (h7 _).mul (h11 _))).add (isR_sum fun _ => (h6 _).mul (h10 _))).add (isR_sum fun _ => (h5 _).mul (h9 _))).add (wAlpha.mul (h4 _))
  have hg : ∀ k : Fin 1024, IsR (X12 (ix2 0 k)) := fun k => h12 _
  choose x hx using hx
  choose h hh using hh
  choose g hg using hg
  obtain ⟨e, he0, he⟩ := wEps
  have hz := ref_v22 X1 X2 X3 X8 a x hx
  have hv := ref_v24 X1 X2 X3 X8 a _ hz e he
  set z : Fin 1024 → ℝ := fun b => x b - (∑ k, x k) * (1 / 1024) with hzdef
  have hz0 : ∑ k, z k = 0 := by
    simp only [hzdef, Finset.sum_sub_distrib, Finset.sum_const, Finset.card_univ, Fintype.card_fin]
    simp only [nsmul_eq_mul]; push_cast; ring
  set v : ℝ := (∑ k, z k * z k) * (1 / 1024) + e with hvdef
  have hv0 : 0 < v := by
    have : 0 ≤ ∑ k, z k * z k := Finset.sum_nonneg fun k _ => mul_self_nonneg _
    positivity
  have hs : val_main_v25 (F := Ideal) X1 X2 X3 X8 (ix2 a 0) = (((√v)⁻¹ : ℝ) : EReal) := by
    pointwise [val_main_v25]
    rw [hv, Ideal.rsqrt_coe, if_neg (not_lt.2 hv0.le), if_neg hv0.ne']
  have hss : (√v)⁻¹ * (√v)⁻¹ * v = 1 := by
    have h0 : √v ≠ 0 := (Real.sqrt_pos.2 hv0).ne'
    have h1 : √v * √v = v := Real.mul_self_sqrt hv0.le
    field_simp
    nlinarith
  rw [ref_v81, D]
  simp only [ref_xh, hh, hg, hz, hs, hv]
  exact ln_ereal z h g _ v hz0 hv0.ne' hss b

end

/-- The start word of the reference's row slice: 128 times the device's number. -/
theorem start_word (w : BitVec 32) (hw : w.toNat < 8) :
    (Scalar.select (IntOp.cmpi .slt (IntOp.muli w 128#32) 0#32) (IntOp.addi (IntOp.muli w 128#32) 1024#32) (IntOp.muli w 128#32)).toInt
      = ((w.toNat * 128 : ℕ) : ℤ) := by
  obtain ⟨n, hn, rfl⟩ : ∃ n, n < 8 ∧ w = BitVec.ofNat 32 n := ⟨w.toNat, hw, (BitVec.ofNat_toNat _ _).symm ▸ (by simp)⟩
  interval_cases n <;> decide

section
variable (X1 : FVec Ideal S4096x1024 .f32) (X2 X3 : FVec Ideal S4096x512 .bf16) (X4 : FVec Ideal S4096x1024 .f32)
  (X5 X6 : FVec Ideal S4096x2816 .bf16) (X7 : FVec Ideal S4096x1024 .bf16) (X8 : FVec Ideal S1024x1024 .f32)
  (X9 X10 : FVec Ideal S1024x2816 .f32) (X11 : FVec Ideal S1024x1024 .f32) (X12 : FVec Ideal S1x1024 .f32)

/-! ### The reference's results -/

/-- The gain's gradient in row 0 and the bias's in row 1, the other rows zero. -/
theorem ref_acc : val_main_v88 (F := Ideal) X1 X2 X3 X4 X5 X6 X7 X8 X9 X10 X11 = tAcc X1 X2 X3 X4 X5 X6 X7 X8 X9 X10 X11 := by
  refine ext2 fun (p : Fin 8) (b : Fin 1024) => ?_
  unfold tAcc
  pointwise [val_main_v88, val_main_v87, val_main_v55, val_main_v54, val_main_v53, val_main_v52, val_main_v51, val_main_cst_10, val_main_cst_11, val_main_cst_19]
  simp only [ref_dh, Ideal.ofBits_zero_f32, zero_add]
  by_cases h0 : p.val = 0
  · rw [dif_pos (show p.val < 1 by omega), if_pos h0]
    exact Finset.sum_congr rfl fun x _ => mul_comm _ _
  by_cases h1 : p.val = 1
  · rw [dif_neg (show ¬ p.val < 1 by omega), dif_pos (show p.val - 1 < 1 by omega), if_neg h0, if_pos h1]
  · rw [dif_neg (show ¬ p.val < 1 by omega), dif_neg (show ¬ p.val - 1 < 1 by omega), if_neg h0, if_neg h1]

/-- The joined activations, in the columns of the retention. -/
theorem ref_ra_low (t : Fin 4096) (a : Fin 1024) (h : a.val < 512) : val_main_v4 (F := Ideal) X2 X3 (ix2 t a) = X2 (ix2 t ⟨a.val, h⟩) := by
  pointwise [val_main_v4, val_main_v0, val_main_v1]
  rw [dif_pos h]

/-- The joined activations, in the columns of the attention. -/
theorem ref_ra_high (t : Fin 4096) (a : Fin 1024) (h : ¬ a.val < 512) : val_main_v4 (F := Ideal) X2 X3 (ix2 t a) = X3 (ix2 t ⟨a.val - 512, by omega⟩) := by
  pointwise [val_main_v4, val_main_v0, val_main_v1]
  rw [dif_neg h]

variable (hD : ∀ (a : Fin 4096) (b : Fin 1024),
  val_main_v81 (F := Ideal) X1 X2 X3 X4 X5 X6 X7 X8 X9 X10 X11 X12 (ix2 a b) = D X1 X2 X3 X4 X5 X6 X7 X8 X9 X10 X11 X12 a b)
include hD

/-- The gradient on the layer norm's input. -/
theorem ref_tDz : val_main_v81 (F := Ideal) X1 X2 X3 X4 X5 X6 X7 X8 X9 X10 X11 X12 = tDz X1 X2 X3 X4 X5 X6 X7 X8 X9 X10 X11 X12 :=
  ext2 fun a b => hD a b

/-- The gradient on the retention's output. -/
theorem ref_tDr : val_main_v99 (F := Ideal) X1 X2 X3 X4 X5 X6 X7 X8 X9 X10 X11 X12 = tDr X1 X2 X3 X4 X5 X6 X7 X8 X9 X10 X11 X12 := by
  refine ext2 fun (a : Fin 4096) (b : Fin 512) => ?_
  unfold tDr
  pointwise [val_main_v99, val_main_v85, val_main_v84]
  simp only [hD]

/-- The gradient on the attention's output. -/
theorem ref_tDa : val_main_v100 (F := Ideal) X1 X2 X3 X4 X5 X6 X7 X8 X9 X10 X11 X12 = tDa X1 X2 X3 X4 X5 X6 X7 X8 X9 X10 X11 X12 := by
  refine ext2 fun (a : Fin 4096) (b : Fin 512) => ?_
  unfold tDa
  pointwise [val_main_v100, val_main_v86, val_main_v84]
  simp only [hD]

/-- The projection weight's gradient. -/
theorem ref_tWo : val_main_v83 (F := Ideal) X1 X2 X3 X4 X5 X6 X7 X8 X9 X10 X11 X12 = tWo X1 X2 X3 X4 X5 X6 X7 X8 X9 X10 X11 X12 := by
  refine ext2 fun (a : Fin 1024) (b : Fin 1024) => ?_
  have e : val_main_v83 (F := Ideal) X1 X2 X3 X4 X5 X6 X7 X8 X9 X10 X11 X12 (ix2 a b)
      = ∑ t : Fin 4096, val_main_v81 (F := Ideal) X1 X2 X3 X4 X5 X6 X7 X8 X9 X10 X11 X12 (ix2 t b) * val_main_v4 (F := Ideal) X2 X3 (ix2 t a) := by
    pointwise [val_main_v83, val_main_v82]
  refine e.trans ?_
  by_cases h : a.val < 512
  · refine Eq.trans ?_ (dif_pos h).symm
    refine Finset.sum_congr rfl fun t _ => ?_
    rw [hD, ref_ra_low _ _ _ _ h]
    exact mul_comm _ _
  · refine Eq.trans ?_ (dif_neg h).symm
    refine Finset.sum_congr rfl fun t _ => ?_
    rw [hD, ref_ra_high _ _ _ _ h]
    exact mul_comm _ _

/-- The rows of the projection weight's gradient that the device keeps. -/
theorem ref_own (M : IVec S1 32) (hw : (M (ix1 0)).toNat < 8) :
    val_main_v97 (F := Ideal) M X1 X2 X3 X4 X5 X6 X7 X8 X9 X10 X11 X12
      = fun j => tWo X1 X2 X3 X4 X5 X6 X7 X8 X9 X10 X11 X12
          (ix2 ⟨(M (ix1 0)).toNat * 128 + (j 0).val, by have : (j 0).val < 128 := (j 0).isLt; omega⟩ (j 1)) := by
  funext j
  rw [← ref_tWo X1 X2 X3 X4 X5 X6 X7 X8 X9 X10 X11 X12 hD]
  have hv : ∀ x, val_main_v89 (F := Ideal) M x = M (ix1 0) := fun x => by
    pointwise [val_main_v89]
  have h0 := Host.clampedStart_of_le (s := Cert.ReferenceDh1Ideal.S1024x1024) (t := Cert.ReferenceDh1Ideal.S128x1024) rfl
    (fun k => (((![val_main_v93 (F := Ideal) M, val_main_v96 (F := Ideal)] : Fin 2 → (⟨Cert.ReferenceDh1Ideal.S_, .i32⟩ : BufTy).Contents (Elt Ideal))) k
      (Shape.Idx.first Cert.ReferenceDh1Ideal.Gen.h_S_)).toInt) 0 ((M (ix1 0)).toNat * 128)
    (by
      show (Scalar.select (IntOp.cmpi .slt (IntOp.muli (val_main_v89 (F := Ideal) M _) 128#32) 0#32)
        (IntOp.addi (IntOp.muli (val_main_v89 (F := Ideal) M _) 128#32) 1024#32)
        (IntOp.muli (val_main_v89 (F := Ideal) M _) 128#32)).toInt = _
      rw [hv]; exact start_word _ hw)
    (by show (M (ix1 0)).toNat * 128 + 128 ≤ 1024; omega)
  have h1 := Host.clampedStart_of_le (s := Cert.ReferenceDh1Ideal.S1024x1024) (t := Cert.ReferenceDh1Ideal.S128x1024) rfl
    (fun k => (((![val_main_v93 (F := Ideal) M, val_main_v96 (F := Ideal)] : Fin 2 → (⟨Cert.ReferenceDh1Ideal.S_, .i32⟩ : BufTy).Contents (Elt Ideal))) k
      (Shape.Idx.first Cert.ReferenceDh1Ideal.Gen.h_S_)).toInt) 1 0 rfl (le_refl _)
  pointwise [val_main_v97]
  exact congrArg (val_main_v83 (F := Ideal) X1 X2 X3 X4 X5 X6 X7 X8 X9 X10 X11 X12)
    (congrArg₂ ix2 (Fin.ext (congrArg (· + (j 0).val) h0)) (Fin.ext ((congrArg (· + (j 1).val) h1).trans (Nat.zero_add _))))

end

end Cert.KernelDh1Ideal.Dh1Value
-- ==== Proof.Dh1Claim.lean ====
/-
  The claims about the backward pass of the first layer norm, for a device number in [0, 8): both kernels run to their end
  and keep their operands, so does the reference, and over the extended reals, for finite arguments, kernel and reference
  leave the same arrays.
-/
module

public import proofs.«01_k».proof.Defs
public import proofs.«01_k».proof.Proof.Place
public import proofs.«01_k».proof.Proof.Gen.Pre_place_dh1
public import proofs.«01_k».proof.Proof.Gen.Pre_finite_dh1
public import proofs.«01_k».proof.Proof.Gen.KernelDh1.Frame
public import proofs.«01_k».proof.Proof.Gen.KernelDh1Ideal.Frame
public import proofs.«01_k».proof.Proof.Gen.ReferenceDh1Ideal.Run
public import proofs.«01_k».proof.Proof.Dh1Final
public import proofs.«01_k».proof.Proof.Dh1Reference
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The side conditions on the device's number that the body assumes. -/
theorem hyps_KernelDh1 (m : (ℓ : Loc Cert.KernelDh1.nD Cert.KernelDh1.τ Cert.KernelDh1.sig) → Buf (Elt Bits) ℓ)
    (h : ∀ (c : Dev Cert.KernelDh1.nD) (y : (⟨1, ![1]⟩ : Shape).Idx), BitVec.toNat (w := 32) (m ((c : Thread Cert.KernelDh1.nD Cert.KernelDh1.τ).loc Cert.KernelDh1.main_arg0) y) < 8) :
    Cert.KernelDh1.Gen.Hyps m := by
  intro c t hc
  have rd : ∀ y, BitVec.toNat (w := 32) (Cert.KernelDh1.Gen.iblk m c 0 t y) < 8 := fun y => by
    unfold Cert.KernelDh1.Gen.iblk; rw [View.read_apply, cast_eq]; exact h c _
  have chk : ∀ w : BitVec 32, w.toNat < 8 → Cert.KernelDh1.k0_chk1 (Cert.KernelDh1.grid0.coords t) w := fun w hw => by
    have hm : (w * 128#32).toNat = w.toNat * 128 := by
      rw [BitVec.toNat_mul]
      simp only [BitVec.toNat_ofNat, Nat.reducePow, Nat.reduceMod]
      exact Nat.mod_eq_of_lt (by omega)
    refine ⟨fun _ => ?_, fun _ => Fin.forall_fin_two.2 ⟨?_, ?_⟩⟩
    · show 8 ∣ (w * 128#32).toNat
      omega
    · show (w * 128#32).toNat + 128 ≤ 1024
      omega
    · show 0 + 1024 ≤ 1024
      omega
  simp only [View.readAt_apply, Memref.IsWhole.read_unread]
  exact chk _ (rd _)

/-- The side conditions on the device's number that the body assumes. -/
theorem hyps_KernelDh1Ideal (m : (ℓ : Loc Cert.KernelDh1Ideal.nD Cert.KernelDh1Ideal.τ Cert.KernelDh1Ideal.sig) → Buf (Elt Ideal) ℓ)
    (h : ∀ (c : Dev Cert.KernelDh1Ideal.nD) (y : (⟨1, ![1]⟩ : Shape).Idx), BitVec.toNat (w := 32) (m ((c : Thread Cert.KernelDh1Ideal.nD Cert.KernelDh1Ideal.τ).loc Cert.KernelDh1Ideal.main_arg0) y) < 8) :
    Cert.KernelDh1Ideal.Gen.Hyps m := by
  intro c t hc
  have rd : ∀ y, BitVec.toNat (w := 32) (Cert.KernelDh1Ideal.Gen.iblk m c 0 t y) < 8 := fun y => by
    unfold Cert.KernelDh1Ideal.Gen.iblk; rw [View.read_apply, cast_eq]; exact h c _
  have chk : ∀ w : BitVec 32, w.toNat < 8 → Cert.KernelDh1Ideal.k0_chk1 (Cert.KernelDh1Ideal.grid0.coords t) w := fun w hw => by
    have hm : (w * 128#32).toNat = w.toNat * 128 := by
      rw [BitVec.toNat_mul]
      simp only [BitVec.toNat_ofNat, Nat.reducePow, Nat.reduceMod]
      exact Nat.mod_eq_of_lt (by omega)
    refine ⟨fun _ => ?_, fun _ => Fin.forall_fin_two.2 ⟨?_, ?_⟩⟩
    · show 8 ∣ (w * 128#32).toNat
      omega
    · show (w * 128#32).toNat + 128 ≤ 1024
      omega
    · show 0 + 1024 ≤ 1024
      omega
  simp only [View.readAt_apply, Memref.IsWhole.read_unread]
  exact chk _ (rd _)

/-- The device's number is below eight. -/
theorem place_KernelDh1 (m : (ℓ : Loc Cert.KernelDh1.nD Cert.KernelDh1.τ Cert.KernelDh1.sig) → Buf (Elt Bits) ℓ) (h : Cert.Pre_KernelDh1 m)
    (c : Dev Cert.KernelDh1.nD) (y : (⟨1, ![1]⟩ : Shape).Idx) :
    BitVec.toNat (w := 32) (m ((c : Thread Cert.KernelDh1.nD Cert.KernelDh1.τ).loc Cert.KernelDh1.main_arg0) y) < 8 :=
  place_of_compare _ (congrFun (h c) y)

/-- The device's number is below eight. -/
theorem place_KernelDh1Ideal (m : (ℓ : Loc Cert.KernelDh1Ideal.nD Cert.KernelDh1Ideal.τ Cert.KernelDh1Ideal.sig) → Buf (Elt Ideal) ℓ) (h : Cert.Pre_KernelDh1Ideal m)
    (c : Dev Cert.KernelDh1Ideal.nD) (y : (⟨1, ![1]⟩ : Shape).Idx) :
    BitVec.toNat (w := 32) (m ((c : Thread Cert.KernelDh1Ideal.nD Cert.KernelDh1Ideal.τ).loc Cert.KernelDh1Ideal.main_arg0) y) < 8 :=
  place_of_compare _ (congrFun (h c) y)

/-- The device's number is below eight. -/
theorem finite_place_KernelDh1Ideal (m : (ℓ : Loc Cert.KernelDh1Ideal.nD Cert.KernelDh1Ideal.τ Cert.KernelDh1Ideal.sig) → Buf (Elt Ideal) ℓ) (h : Cert.Pre_KernelDh1Ideal_finite_dh1 m)
    (c : Dev Cert.KernelDh1Ideal.nD) (y : (⟨1, ![1]⟩ : Shape).Idx) :
    BitVec.toNat (w := 32) (m ((c : Thread Cert.KernelDh1Ideal.nD Cert.KernelDh1Ideal.τ).loc Cert.KernelDh1Ideal.main_arg0) y) < 8 :=
  place_of_compare _ (congrFun (h c).1 y)

open Cert.Real Cert.KernelDh1Ideal.Dh1Value in
/-- The precondition says that every other argument is finite. -/
theorem finite_KernelDh1Ideal (m : (ℓ : Loc Cert.KernelDh1Ideal.nD Cert.KernelDh1Ideal.τ Cert.KernelDh1Ideal.sig) → Buf (Elt Ideal) ℓ)
    (h : Cert.Pre_KernelDh1Ideal_finite_dh1 m) (c : Dev Cert.KernelDh1Ideal.nD) :
    (∀ i, IsR ((m ((c : Thread Cert.KernelDh1Ideal.nD Cert.KernelDh1Ideal.τ).loc Cert.KernelDh1Ideal.main_arg1)) i))
      ∧ (∀ i, IsR ((m ((c : Thread Cert.KernelDh1Ideal.nD Cert.KernelDh1Ideal.τ).loc Cert.KernelDh1Ideal.main_arg2)) i))
      ∧ (∀ i, IsR ((m ((c : Thread Cert.KernelDh1Ideal.nD Cert.KernelDh1Ideal.τ).loc Cert.KernelDh1Ideal.main_arg3)) i))
      ∧ (∀ i, IsR ((m ((c : Thread Cert.KernelDh1Ideal.nD Cert.KernelDh1Ideal.τ).loc Cert.KernelDh1Ideal.main_arg4)) i))
      ∧ (∀ i, IsR ((m ((c : Thread Cert.KernelDh1Ideal.nD Cert.KernelDh1Ideal.τ).loc Cert.KernelDh1Ideal.main_arg5)) i))
      ∧ (∀ i, IsR ((m ((c : Thread Cert.KernelDh1Ideal.nD Cert.KernelDh1Ideal.τ).loc Cert.KernelDh1Ideal.main_arg6)) i))
      ∧ (∀ i, IsR ((m ((c : Thread Cert.KernelDh1Ideal.nD Cert.KernelDh1Ideal.τ).loc Cert.KernelDh1Ideal.main_arg7)) i))
      ∧ (∀ i, IsR ((m ((c : Thread Cert.KernelDh1Ideal.nD Cert.KernelDh1Ideal.τ).loc Cert.KernelDh1Ideal.main_arg8)) i))
      ∧ (∀ i, IsR ((m ((c : Thread Cert.KernelDh1Ideal.nD Cert.KernelDh1Ideal.τ).loc Cert.KernelDh1Ideal.main_arg9)) i))
      ∧ (∀ i, IsR ((m ((c : Thread Cert.KernelDh1Ideal.nD Cert.KernelDh1Ideal.τ).loc Cert.KernelDh1Ideal.main_arg10)) i))
      ∧ (∀ i, IsR ((m ((c : Thread Cert.KernelDh1Ideal.nD Cert.KernelDh1Ideal.τ).loc Cert.KernelDh1Ideal.main_arg11)) i))
      ∧ (∀ i, IsR ((m ((c : Thread Cert.KernelDh1Ideal.nD Cert.KernelDh1Ideal.τ).loc Cert.KernelDh1Ideal.main_arg12)) i)) := by
  obtain ⟨-, q1, q2, q3, q4, q5, q6, q7, q8, q9, q10, q11, q12⟩ := h c
  exact ⟨fun i => isR_of_mask _ (congrFun q1 i), fun i => isR_of_mask _ (congrFun q2 i), fun i => isR_of_mask _ (congrFun q3 i), fun i => isR_of_mask _ (congrFun q4 i), fun i => isR_of_mask _ (congrFun q5 i), fun i => isR_of_mask _ (congrFun q6 i), fun i => isR_of_mask _ (congrFun q7 i), fun i => isR_of_mask _ (congrFun q8 i), fun i => isR_of_mask _ (congrFun q9 i), fun i => isR_of_mask _ (congrFun q10 i), fun i => isR_of_mask _ (congrFun q11 i), fun i => isR_of_mask _ (congrFun q12 i)⟩

/-- The kernel over the bits runs to its end and keeps its operands. -/
theorem frame_KernelDh1 : Cert.quiescent_KernelDh1 :=
  fun m ρ h => Cert.KernelDh1.Gen.frame (F := Bits) m ρ (hyps_KernelDh1 m (place_KernelDh1 m h))

/-- The kernel over the extended reals runs to its end and keeps its operands. -/
theorem frame_KernelDh1Ideal : Cert.quiescent_KernelDh1Ideal :=
  fun m ρ h => Cert.KernelDh1Ideal.Gen.frame (F := Ideal) m ρ (hyps_KernelDh1Ideal m (place_KernelDh1Ideal m h))

/-- So it does for finite arguments. -/
theorem frame_KernelDh1Ideal_pre : Cert.quiescent_KernelDh1Ideal_pre_finite_dh1 :=
  fun m ρ h => Cert.KernelDh1Ideal.Gen.frame (F := Ideal) m ρ (hyps_KernelDh1Ideal m (finite_place_KernelDh1Ideal m h))

/-- The reference runs to its end and keeps its operands. -/
theorem frame_ReferenceDh1Ideal : Cert.quiescent_ReferenceDh1Ideal := by
  intro m g _
  exact (θ_run Cert.ReferenceDh1Ideal.defs _ _).mono (fun r h => ⟨fun c => (h c).2.2.2.2.2.2.2, sem_eq_zero_of_no_sems (by decide) r.2⟩)
    (Cert.ReferenceDh1Ideal.Value.run m g)

/-- So it does for finite arguments. -/
theorem frame_ReferenceDh1Ideal_pre : Cert.quiescent_ReferenceDh1Ideal_pre_finite_dh1 := by
  intro m g _
  exact (θ_run Cert.ReferenceDh1Ideal.defs _ _).mono (fun r h => ⟨fun c => (h c).2.2.2.2.2.2.2, sem_eq_zero_of_no_sems (by decide) r.2⟩)
    (Cert.ReferenceDh1Ideal.Value.run m g)

set_option maxHeartbeats 1600000 in
open Cert.Real Cert.KernelDh1Ideal.Dh1Value in
/-- Kernel and reference leave the same arrays. -/
theorem algebraic_Dh1 : Cert.algebraic_KernelDh1Ideal_ReferenceDh1Ideal_pre_finite_dh1 := by
  intro m g m' g' hpre hagree
  have hH := hyps_KernelDh1Ideal m (finite_place_KernelDh1Ideal m hpre)
  refine ⟨fun c => (Cert.KernelDh1Ideal.Gen.dats m hH 0 c).arrAt 14 (Cert.KernelDh1Ideal.cfgs 0).N,
    fun c => (Cert.KernelDh1Ideal.Gen.dats m hH 0 c).arrAt 15 (Cert.KernelDh1Ideal.cfgs 0).N,
    fun c => (Cert.KernelDh1Ideal.Gen.dats m hH 0 c).arrAt 16 (Cert.KernelDh1Ideal.cfgs 0).N,
    fun c => (Cert.KernelDh1Ideal.Gen.dats m hH 0 c).arrAt 17 (Cert.KernelDh1Ideal.cfgs 0).N,
    fun c => (Cert.KernelDh1Ideal.Gen.dats m hH 0 c).arrAt 18 (Cert.KernelDh1Ideal.cfgs 0).N,
    fun c => (Cert.KernelDh1Ideal.Gen.dats m hH 0 c).arrAt 19 (Cert.KernelDh1Ideal.cfgs 0).N,
    fun c => (Cert.KernelDh1Ideal.Gen.dats m hH 0 c).arrAt 20 (Cert.KernelDh1Ideal.cfgs 0).N, ?_, ?_⟩
  · refine θ_run_mono (θ_run_and (Cert.KernelDh1Ideal.Gen.run_main m g hH) (Cert.KernelDh1Ideal.Gen.unchanged m g hH)) fun r hr c => ?_
    exact ⟨(hr.1 c).1 14, (hr.1 c).1 15, (hr.1 c).1 16, (hr.1 c).1 17, (hr.1 c).1 18, (hr.1 c).1 19, (hr.1 c).1 20, hr.2 c⟩
  · refine (θ_run Cert.ReferenceDh1Ideal.defs _ _).mono (fun r h c => ?_) (Cert.ReferenceDh1Ideal.Value.run m' g')
    obtain ⟨a0, a1, a2, a3, a4, a5, a6, a7, a8, a9, a10, a11, a12⟩ := hagree c
    obtain ⟨h0, h1, h2, h3, h4, h5, h6, hargs⟩ := h c
    obtain ⟨q1, q2, q3, q4, q5, q6, q7, q8, q9, q10, q11, q12⟩ := finite_KernelDh1Ideal m hpre c
    have hD := ref_dz _ _ _ _ _ _ _ _ _ _ _ _ q1 q2 q3 q4 q5 q6 q7 q8 q9 q10 q11 q12
    have hp := finite_place_KernelDh1Ideal m hpre c
    refine ⟨h0.trans ?_, h1.trans ?_, h2.trans ?_, h3.trans ?_, h4.trans ?_, h5.trans ?_, h6.trans ?_, hargs⟩
    · refine (Cert.ReferenceDh1Ideal.Read.val_main_v81_eq _ _ ).trans ?_
      rw [a1, a2, a3, a4, a5, a6, a7, a8, a9, a10, a11, a12]
      exact (ref_tDz _ _ _ _ _ _ _ _ _ _ _ _ hD).trans (final1 m hH c).symm
    · refine (Cert.ReferenceDh1Ideal.Read.val_main_v98_eq _ _ ).trans ?_
      rw [a1, a2, a3, a4, a5, a6, a7, a8, a9, a10, a11, a12]
      exact (ref_tDz _ _ _ _ _ _ _ _ _ _ _ _ hD).trans (final2 m hH c).symm
    · refine (Cert.ReferenceDh1Ideal.Read.val_main_v99_eq _ _ ).trans ?_
      rw [a1, a2, a3, a4, a5, a6, a7, a8, a9, a10, a11, a12]
      exact (ref_tDr _ _ _ _ _ _ _ _ _ _ _ _ hD).trans (final3 m hH c).symm
    · refine (Cert.ReferenceDh1Ideal.Read.val_main_v100_eq _ _ ).trans ?_
      rw [a1, a2, a3, a4, a5, a6, a7, a8, a9, a10, a11, a12]
      exact (ref_tDa _ _ _ _ _ _ _ _ _ _ _ _ hD).trans (final4 m hH c).symm
    · refine (Cert.ReferenceDh1Ideal.Read.val_main_v88_eq _ _ ).trans ?_
      rw [a1, a2, a3, a4, a5, a6, a7, a8, a9, a10, a11]
      exact (ref_acc _ _ _ _ _ _ _ _ _ _ _ ).trans (final5 m hH c).symm
    · refine (Cert.ReferenceDh1Ideal.Read.val_main_v101_eq _ _ ).trans ?_
      rw [a1, a2, a3, a4, a5, a6, a7, a8, a9, a10, a11, a12]
      exact (ref_tWo _ _ _ _ _ _ _ _ _ _ _ _ hD).trans (final6 m hH c).symm
    · refine (Cert.ReferenceDh1Ideal.Read.val_main_v97_eq _ _ ).trans ?_
      rw [a0, a1, a2, a3, a4, a5, a6, a7, a8, a9, a10, a11, a12]
      exact (ref_own _ _ _ _ _ _ _ _ _ _ _ _ hD _ (hp _)).trans (final7 m hH c _ rfl (hp _)).symm

end Cert.Proof

end
-- ==== Proof.DwinValue.lean ====
/-
  The gradient of the input projection's weight: what the kernel leaves in its two result arrays is what the reference
  computes. The kernel adds the products of eight blocks of 512 tokens, 256 rows at a time, into a scratch buffer; the
  reference multiplies all tokens at once.
-/
module

public import proofs.«01_k».proof.Proof.Gen.KernelDwinIdeal.Value
public import proofs.«01_k».proof.Proof.Gen.ReferenceDwinIdeal.Read
public import Idealize.ShloMosaic.Lib.Pipeline.ValueKit
public import Idealize.ShloMosaic.Lib.Pointwise
public import Idealize.ShloMosaic.Lib.Pipeline.ReadBack

@[expose] public section

set_option maxRecDepth 16384

noncomputable section

namespace Cert.KernelDwinIdeal.DwinValue

open Idealize.ShloMosaic Idealize.ShloMosaic.TcCoe Idealize.SL.Sem
open Idealize.ShloMosaic.Pipeline (Dat)
open Cert.KernelDwinIdeal Cert.KernelDwinIdeal.Gen

variable (m : (ℓ : Loc nD τ sig) → Buf (Elt Ideal) ℓ)

/-- Column `r` of row `k` of the seven parts set side by side. -/
def cols {n : ℕ} (X1 X2 X3 X4 X5 : FVec Ideal ⟨2, ![n, 512]⟩ .bf16) (X6 X7 : FVec Ideal ⟨2, ![n, 128]⟩ .bf16)
    (k : Fin n) (r : Fin 2816) : EReal :=
    if h1 : r.val < 512 then X1 (ix2 k ⟨r.val, by have := r.isLt; omega⟩) else
    if h2 : r.val < 1024 then X2 (ix2 k ⟨r.val - 512, by have := r.isLt; omega⟩) else
    if h3 : r.val < 1536 then X3 (ix2 k ⟨r.val - 1024, by have := r.isLt; omega⟩) else
    if h4 : r.val < 2048 then X4 (ix2 k ⟨r.val - 1536, by have := r.isLt; omega⟩) else
    if h5 : r.val < 2560 then X5 (ix2 k ⟨r.val - 2048, by have := r.isLt; omega⟩) else
    if h6 : r.val < 2688 then X6 (ix2 k ⟨r.val - 2560, by have := r.isLt; omega⟩) else
    X7 (ix2 k ⟨r.val - 2688, by have := r.isLt; omega⟩)

/-- The columns of two families of parts agree at two rows at which the parts agree. -/
theorem cols_congr {n n' : ℕ} (X1 X2 X3 X4 X5 : FVec Ideal ⟨2, ![n, 512]⟩ .bf16) (X6 X7 : FVec Ideal ⟨2, ![n, 128]⟩ .bf16)
    (X1' X2' X3' X4' X5' : FVec Ideal ⟨2, ![n', 512]⟩ .bf16) (X6' X7' : FVec Ideal ⟨2, ![n', 128]⟩ .bf16)
    (k : Fin n) (k' : Fin n') (r : Fin 2816) (h1 : ∀ l : Fin 512, X1 (ix2 k l) = X1' (ix2 k' l)) (h2 : ∀ l : Fin 512, X2 (ix2 k l) = X2' (ix2 k' l)) (h3 : ∀ l : Fin 512, X3 (ix2 k l) = X3' (ix2 k' l)) (h4 : ∀ l : Fin 512, X4 (ix2 k l) = X4' (ix2 k' l)) (h5 : ∀ l : Fin 512, X5 (ix2 k l) = X5' (ix2 k' l)) (h6 : ∀ l : Fin 128, X6 (ix2 k l) = X6' (ix2 k' l)) (h7 : ∀ l : Fin 128, X7 (ix2 k l) = X7' (ix2 k' l)) :
    cols X1 X2 X3 X4 X5 X6 X7 k r = cols X1' X2' X3' X4' X5' X6' X7' k' r := by
  simp only [cols, h1, h2, h3, h4, h5, h6, h7]

/-- One block's products at row `j 0` and column `j 1` of the weight's gradient. -/
def part (X1 X2 X3 X4 X5 : FVec Ideal S512x512 .bf16) (X6 X7 : FVec Ideal S512x128 .bf16) (Y : FVec Ideal S512x1024 .bf16)
    (j : S2816x1024.Idx) : EReal :=
  ∑ k : Fin 512, cols X1 X2 X3 X4 X5 X6 X7 k (j 0) * Y (ix2 k (j 1))

section
variable (X1 X2 X3 X4 X5 : FVec Ideal S512x512 .bf16) (X6 X7 : FVec Ideal S512x128 .bf16) (Y : FVec Ideal S512x1024 .bf16)

/-- In the rows from 0 on the block's products are those of part 1. -/
theorem part_at_1 (j : S2816x1024.Idx) (l : Fin 512) (n : Fin 1024) (h0 : (j 0).val = 0 + l.val) (h1 : (j 1).val = n.val) :
    part X1 X2 X3 X4 X5 X6 X7 Y j = ∑ k : Fin 512, X1 (ix2 k l) * Y (ix2 k n) := by
  have hl := l.isLt
  obtain rfl : j 1 = n := Fin.ext h1
  refine Fin.sum_fin_congr fun k => congrArg₂ _ ?_ rfl
  unfold cols
  rw [dif_pos (by omega)]
  exact congrArg (fun i => X1 (ix2 k i)) (Fin.ext (by simp only []; omega))

/-- In the rows from 512 on the block's products are those of part 2. -/
theorem part_at_2 (j : S2816x1024.Idx) (l : Fin 512) (n : Fin 1024) (h0 : (j 0).val = 512 + l.val) (h1 : (j 1).val = n.val) :
    part X1 X2 X3 X4 X5 X6 X7 Y j = ∑ k : Fin 512, X2 (ix2 k l) * Y (ix2 k n) := by
  have hl := l.isLt
  obtain rfl : j 1 = n := Fin.ext h1
  refine Fin.sum_fin_congr fun k => congrArg₂ _ ?_ rfl
  unfold cols
  rw [dif_neg (by omega)]; rw [dif_pos (by omega)]
  exact congrArg (fun i => X2 (ix2 k i)) (Fin.ext (by simp only []; omega))

/-- In the rows from 1024 on the block's products are those of part 3. -/
theorem part_at_3 (j : S2816x1024.Idx) (l : Fin 512) (n : Fin 1024) (h0 : (j 0).val = 1024 + l.val) (h1 : (j 1).val = n.val) :
    part X1 X2 X3 X4 X5 X6 X7 Y j = ∑ k : Fin 512, X3 (ix2 k l) * Y (ix2 k n) := by
  have hl := l.isLt
  obtain rfl : j 1 = n := Fin.ext h1
  refine Fin.sum_fin_congr fun k => congrArg₂ _ ?_ rfl
  unfold cols
  rw [dif_neg (by omega)]; rw [dif_neg (by omega)]; rw [dif_pos (by omega)]
  exact congrArg (fun i => X3 (ix2 k i)) (Fin.ext (by simp only []; omega))

/-- In the rows from 1536 on the block's products are those of part 4. -/
theorem part_at_4 (j : S2816x1024.Idx) (l : Fin 512) (n : Fin 1024) (h0 : (j 0).val = 1536 + l.val) (h1 : (j 1).val = n.val) :
    part X1 X2 X3 X4 X5 X6 X7 Y j = ∑ k : Fin 512, X4 (ix2 k l) * Y (ix2 k n) := by
  have hl := l.isLt
  obtain rfl : j 1 = n := Fin.ext h1
  refine Fin.sum_fin_congr fun k => congrArg₂ _ ?_ rfl
  unfold cols
  rw [dif_neg (by omega)]; rw [dif_neg (by omega)]; rw [dif_neg (by omega)]; rw [dif_pos (by omega)]
  exact congrArg (fun i => X4 (ix2 k i)) (Fin.ext (by simp only []; omega))

/-- In the rows from 2048 on the block's products are those of part 5. -/
theorem part_at_5 (j : S2816x1024.Idx) (l : Fin 512) (n : Fin 1024) (h0 : (j 0).val = 2048 + l.val) (h1 : (j 1).val = n.val) :
    part X1 X2 X3 X4 X5 X6 X7 Y j = ∑ k : Fin 512, X5 (ix2 k l) * Y (ix2 k n) := by
  have hl := l.isLt
  obtain rfl : j 1 = n := Fin.ext h1
  refine Fin.sum_fin_congr fun k => congrArg₂ _ ?_ rfl
  unfold cols
  rw [dif_neg (by omega)]; rw [dif_neg (by omega)]; rw [dif_neg (by omega)]; rw [dif_neg (by omega)]; rw [dif_pos (by omega)]
  exact congrArg (fun i => X5 (ix2 k i)) (Fin.ext (by simp only []; omega))

/-- In the rows from 2560 on the block's products are those of part 6. -/
theorem part_at_6 (j : S2816x1024.Idx) (l : Fin 128) (n : Fin 1024) (h0 : (j 0).val = 2560 + l.val) (h1 : (j 1).val = n.val) :
    part X1 X2 X3 X4 X5 X6 X7 Y j = ∑ k : Fin 512, X6 (ix2 k l) * Y (ix2 k n) := by
  have hl := l.isLt
  obtain rfl : j 1 = n := Fin.ext h1
  refine Fin.sum_fin_congr fun k => congrArg₂ _ ?_ rfl
  unfold cols
  rw [dif_neg (by omega)]; rw [dif_neg (by omega)]; rw [dif_neg (by omega)]; rw [dif_neg (by omega)]; rw [dif_neg (by omega)]; rw [dif_pos (by omega)]
  exact congrArg (fun i => X6 (ix2 k i)) (Fin.ext (by simp only []; omega))

/-- In the rows from 2688 on the block's products are those of part 7. -/
theorem part_at_7 (j : S2816x1024.Idx) (l : Fin 128) (n : Fin 1024) (h0 : (j 0).val = 2688 + l.val) (h1 : (j 1).val = n.val) :
    part X1 X2 X3 X4 X5 X6 X7 Y j = ∑ k : Fin 512, X7 (ix2 k l) * Y (ix2 k n) := by
  have hl := l.isLt
  obtain rfl : j 1 = n := Fin.ext h1
  refine Fin.sum_fin_congr fun k => congrArg₂ _ ?_ rfl
  unfold cols
  rw [dif_neg (by omega)]; rw [dif_neg (by omega)]; rw [dif_neg (by omega)]; rw [dif_neg (by omega)]; rw [dif_neg (by omega)]; rw [dif_neg (by omega)];
  exact congrArg (fun i => X7 (ix2 k i)) (Fin.ext (by simp only []; omega))

end

set_option maxHeartbeats 2000000 in
/-- The first grid point fills the accumulator with its block's products. -/
theorem first (hH : Hyps m) (c : Dev nD) (t : Fin cfg0.N) (h0 : t.val % 8 = 0) (h1 : ¬1 ≤ t.val) (h2 : ¬t.val % 8 = 7)
    (j : S2816x1024.Idx) : (outsAt0 m hH c t.val t.isLt).2.2 j
    = part (iblk m c 1 t) (iblk m c 2 t) (iblk m c 3 t) (iblk m c 4 t) (iblk m c 5 t) (iblk m c 6 t) (iblk m c 7 t) (iblk m c 8 t) j := by
  rw [outsAt0_A m hH c t h0 h1 h2]
  frame_out
  clear h0 h1 h2
  canon_tiles x h using View.cover_of_tiledBy _ ![128, 1024] (by sl_kernel_rfl) _
  · open_payloads; pointwise
    exact (part_at_7 _ _ _ _ _ _ _ _ j ⟨(x 0).val, by omega⟩ (x 1) (by simp only []; omega) h1).symm
  · open_payloads; pointwise
    exact (part_at_6 _ _ _ _ _ _ _ _ j ⟨(x 0).val, by omega⟩ (x 1) (by simp only []; omega) h1).symm
  · open_payloads; pointwise
    exact (part_at_5 _ _ _ _ _ _ _ _ j ⟨256 + (x 0).val, by omega⟩ (x 1) (by simp only []; omega) h1).symm
  · open_payloads; pointwise
    exact (part_at_5 _ _ _ _ _ _ _ _ j ⟨(x 0).val, by omega⟩ (x 1) (by simp only []; omega) h1).symm
  · open_payloads; pointwise
    exact (part_at_4 _ _ _ _ _ _ _ _ j ⟨256 + (x 0).val, by omega⟩ (x 1) (by simp only []; omega) h1).symm
  · open_payloads; pointwise
    exact (part_at_4 _ _ _ _ _ _ _ _ j ⟨(x 0).val, by omega⟩ (x 1) (by simp only []; omega) h1).symm
  · open_payloads; pointwise
    exact (part_at_3 _ _ _ _ _ _ _ _ j ⟨256 + (x 0).val, by omega⟩ (x 1) (by simp only []; omega) h1).symm
  · open_payloads; pointwise
    exact (part_at_3 _ _ _ _ _ _ _ _ j ⟨(x 0).val, by omega⟩ (x 1) (by simp only []; omega) h1).symm
  · open_payloads; pointwise
    exact (part_at_2 _ _ _ _ _ _ _ _ j ⟨256 + (x 0).val, by omega⟩ (x 1) (by simp only []; omega) h1).symm
  · open_payloads; pointwise
    exact (part_at_2 _ _ _ _ _ _ _ _ j ⟨(x 0).val, by omega⟩ (x 1) (by simp only []; omega) h1).symm
  · open_payloads; pointwise
    exact (part_at_1 _ _ _ _ _ _ _ _ j ⟨256 + (x 0).val, by omega⟩ (x 1) (by simp only []; omega) h1).symm
  · open_payloads; pointwise
    exact (part_at_1 _ _ _ _ _ _ _ _ j ⟨(x 0).val, by omega⟩ (x 1) (by simp only []; omega) h1).symm

set_option maxHeartbeats 2000000 in
/-- A later grid point before the last adds its block's products to what the point before left. -/
theorem step (hH : Hyps m) (c : Dev nD) (t : Fin cfg0.N) (h0 : ¬t.val % 8 = 0) (h1 : 1 ≤ t.val) (h2 : ¬t.val % 8 = 7)
    (j : S2816x1024.Idx) : (outsAt0 m hH c t.val t.isLt).2.2 j
    = (outsAt0 m hH c (t.val - 1) (by have := t.isLt; omega)).2.2 j
      + part (iblk m c 1 t) (iblk m c 2 t) (iblk m c 3 t) (iblk m c 4 t) (iblk m c 5 t) (iblk m c 6 t) (iblk m c 7 t) (iblk m c 8 t) j := by
  rw [outsAt0_B m hH c t h0 h1 h2]
  frame_out
  generalize (outsAt0 m hH c (t.val - 1) (by have := t.isLt; omega)).2.2 = acc
  simp only [read_unread_whole]
  clear h0 h1 h2
  canon_tiles x h using View.cover_of_tiledBy _ ![128, 1024] (by sl_kernel_rfl) _
  · open_payloads; pointwise
    refine congrArg₂ _ (by blk_ext) ?_
    exact (part_at_7 _ _ _ _ _ _ _ _ j ⟨(x 0).val, by omega⟩ (x 1) (by simp only []; omega) h1).symm
  · open_payloads; pointwise
    refine congrArg₂ _ (by blk_ext) ?_
    exact (part_at_6 _ _ _ _ _ _ _ _ j ⟨(x 0).val, by omega⟩ (x 1) (by simp only []; omega) h1).symm
  · open_payloads; pointwise
    refine congrArg₂ _ (by blk_ext) ?_
    exact (part_at_5 _ _ _ _ _ _ _ _ j ⟨256 + (x 0).val, by omega⟩ (x 1) (by simp only []; omega) h1).symm
  · open_payloads; pointwise
    refine congrArg₂ _ (by blk_ext) ?_
    exact (part_at_5 _ _ _ _ _ _ _ _ j ⟨(x 0).val, by omega⟩ (x 1) (by simp only []; omega) h1).symm
  · open_payloads; pointwise
    refine congrArg₂ _ (by blk_ext) ?_
    exact (part_at_4 _ _ _ _ _ _ _ _ j ⟨256 + (x 0).val, by omega⟩ (x 1) (by simp only []; omega) h1).symm
  · open_payloads; pointwise
    refine congrArg₂ _ (by blk_ext) ?_
    exact (part_at_4 _ _ _ _ _ _ _ _ j ⟨(x 0).val, by omega⟩ (x 1) (by simp only []; omega) h1).symm
  · open_payloads; pointwise
    refine congrArg₂ _ (by blk_ext) ?_
    exact (part_at_3 _ _ _ _ _ _ _ _ j ⟨256 + (x 0).val, by omega⟩ (x 1) (by simp only []; omega) h1).symm
  · open_payloads; pointwise
    refine congrArg₂ _ (by blk_ext) ?_
    exact (part_at_3 _ _ _ _ _ _ _ _ j ⟨(x 0).val, by omega⟩ (x 1) (by simp only []; omega) h1).symm
  · open_payloads; pointwise
    refine congrArg₂ _ (by blk_ext) ?_
    exact (part_at_2 _ _ _ _ _ _ _ _ j ⟨256 + (x 0).val, by omega⟩ (x 1) (by simp only []; omega) h1).symm
  · open_payloads; pointwise
    refine congrArg₂ _ (by blk_ext) ?_
    exact (part_at_2 _ _ _ _ _ _ _ _ j ⟨(x 0).val, by omega⟩ (x 1) (by simp only []; omega) h1).symm
  · open_payloads; pointwise
    refine congrArg₂ _ (by blk_ext) ?_
    exact (part_at_1 _ _ _ _ _ _ _ _ j ⟨256 + (x 0).val, by omega⟩ (x 1) (by simp only []; omega) h1).symm
  · open_payloads; pointwise
    refine congrArg₂ _ (by blk_ext) ?_
    exact (part_at_1 _ _ _ _ _ _ _ _ j ⟨(x 0).val, by omega⟩ (x 1) (by simp only []; omega) h1).symm

set_option maxHeartbeats 2000000 in
/-- The last grid point too adds its block's products to what the point before left. -/
theorem last (hH : Hyps m) (c : Dev nD) (t : Fin cfg0.N) (h0 : ¬t.val % 8 = 0) (h1 : 1 ≤ t.val) (h2 : t.val % 8 = 7)
    (j : S2816x1024.Idx) : (outsAt0 m hH c t.val t.isLt).2.2 j
    = (outsAt0 m hH c (t.val - 1) (by have := t.isLt; omega)).2.2 j
      + part (iblk m c 1 t) (iblk m c 2 t) (iblk m c 3 t) (iblk m c 4 t) (iblk m c 5 t) (iblk m c 6 t) (iblk m c 7 t) (iblk m c 8 t) j := by
  rw [outsAt0_C m hH c t h0 h1 h2]
  frame_out
  generalize (outsAt0 m hH c (t.val - 1) (by have := t.isLt; omega)).2.2 = acc
  simp only [read_unread_whole]
  clear h0 h1 h2
  canon_tiles x h using View.cover_of_tiledBy _ ![128, 1024] (by sl_kernel_rfl) _
  · open_payloads; pointwise
    refine congrArg₂ _ (by blk_ext) ?_
    exact (part_at_7 _ _ _ _ _ _ _ _ j ⟨(x 0).val, by omega⟩ (x 1) (by simp only []; omega) h1).symm
  · open_payloads; pointwise
    refine congrArg₂ _ (by blk_ext) ?_
    exact (part_at_6 _ _ _ _ _ _ _ _ j ⟨(x 0).val, by omega⟩ (x 1) (by simp only []; omega) h1).symm
  · open_payloads; pointwise
    refine congrArg₂ _ (by blk_ext) ?_
    exact (part_at_5 _ _ _ _ _ _ _ _ j ⟨256 + (x 0).val, by omega⟩ (x 1) (by simp only []; omega) h1).symm
  · open_payloads; pointwise
    refine congrArg₂ _ (by blk_ext) ?_
    exact (part_at_5 _ _ _ _ _ _ _ _ j ⟨(x 0).val, by omega⟩ (x 1) (by simp only []; omega) h1).symm
  · open_payloads; pointwise
    refine congrArg₂ _ (by blk_ext) ?_
    exact (part_at_4 _ _ _ _ _ _ _ _ j ⟨256 + (x 0).val, by omega⟩ (x 1) (by simp only []; omega) h1).symm
  · open_payloads; pointwise
    refine congrArg₂ _ (by blk_ext) ?_
    exact (part_at_4 _ _ _ _ _ _ _ _ j ⟨(x 0).val, by omega⟩ (x 1) (by simp only []; omega) h1).symm
  · open_payloads; pointwise
    refine congrArg₂ _ (by blk_ext) ?_
    exact (part_at_3 _ _ _ _ _ _ _ _ j ⟨256 + (x 0).val, by omega⟩ (x 1) (by simp only []; omega) h1).symm
  · open_payloads; pointwise
    refine congrArg₂ _ (by blk_ext) ?_
    exact (part_at_3 _ _ _ _ _ _ _ _ j ⟨(x 0).val, by omega⟩ (x 1) (by simp only []; omega) h1).symm
  · open_payloads; pointwise
    refine congrArg₂ _ (by blk_ext) ?_
    exact (part_at_2 _ _ _ _ _ _ _ _ j ⟨256 + (x 0).val, by omega⟩ (x 1) (by simp only []; omega) h1).symm
  · open_payloads; pointwise
    refine congrArg₂ _ (by blk_ext) ?_
    exact (part_at_2 _ _ _ _ _ _ _ _ j ⟨(x 0).val, by omega⟩ (x 1) (by simp only []; omega) h1).symm
  · open_payloads; pointwise
    refine congrArg₂ _ (by blk_ext) ?_
    exact (part_at_1 _ _ _ _ _ _ _ _ j ⟨256 + (x 0).val, by omega⟩ (x 1) (by simp only []; omega) h1).symm
  · open_payloads; pointwise
    refine congrArg₂ _ (by blk_ext) ?_
    exact (part_at_1 _ _ _ _ _ _ _ _ j ⟨(x 0).val, by omega⟩ (x 1) (by simp only []; omega) h1).symm

/-- All tokens' products at row `j 0` and column `j 1` of the weight's gradient. -/
def total (X1 X2 X3 X4 X5 : FVec Ideal S4096x512 .bf16) (X6 X7 : FVec Ideal S4096x128 .bf16) (Y : FVec Ideal S4096x1024 .f32) :
    FVec Ideal S2816x1024 .f32 := fun j =>
  ∑ k : Fin 4096, cols X1 X2 X3 X4 X5 X6 X7 k (j 0) * Y (ix2 k (j 1))

/-- Grid point `t` takes token block `t`. -/
theorem idx : ∀ t : Fin cfg0.N, win0_1.index t = ![t.val, 0] ∧ win0_2.index t = ![t.val, 0] ∧ win0_3.index t = ![t.val, 0]
    ∧ win0_4.index t = ![t.val, 0] ∧ win0_5.index t = ![t.val, 0] ∧ win0_6.index t = ![t.val, 0]
    ∧ win0_7.index t = ![t.val, 0] ∧ win0_8.index t = ![t.val, 0] ∧ win0_9.index t = ![0, 0] ∧ win0_10.index t = ![0, 0]
    ∧ win0_0.index t = ![0] :=
  (by decide +kernel : ∀ t : Fin grid0.N, _)

/-- At the last grid point the accumulator holds the sum over all tokens. -/
theorem accumulated (hH : Hyps m) (c : Dev nD) (t : Fin cfg0.N) (ht : t.val % 8 = 7) (j : S2816x1024.Idx) :
    (outsAt0 m hH c t.val t.isLt).2.2 j = total (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8))
      (m ((c : Thread nD τ).loc main_arg1)) j := by
  have hN : ∀ p : Fin cfg0.N, p.val < 8 := fun p => lt_of_lt_of_eq p.isLt N_0
  rw [Pipeline.eq_sum_fin_of_reset_step_apply_of_flush (fun n h => (outsAt0 m hH c n h).2.2) 8 (fun _ => 0)
    (fun t j => part (iblk m c 1 t) (iblk m c 2 t) (iblk m c 3 t) (iblk m c 4 t) (iblk m c 5 t) (iblk m c 6 t) (iblk m c 7 t) (iblk m c 8 t) j)
    (fun p h j => by rw [first m hH c p h (by have := hN p; omega) (by omega), zero_add])
    (fun p h j => by
      have := hN p
      by_cases h7 : p.val % 8 = 7
      · exact last m hH c p h (by omega) h7 j
      · exact step m hH c p h (by omega) h7 j) t ht j, zero_add]
  unfold total part
  refine Fin.sum_mul_add_congr fun s k hl => ?_
  have hp := Pipeline.run_point_lt_of_flush t ht s
  refine congrArg₂ _ (cols_congr _ _ _ _ _ _ _ _ _ _ _ _ _ _ _ _ _ ?_ ?_ ?_ ?_ ?_ ?_ ?_) ?_
  all_goals first
    | (intro l; blk_ext [iblk, V, idx ⟨_, hp⟩])
    | blk_ext [iblk, V, idx ⟨_, hp⟩]

set_option maxHeartbeats 2000000 in
/-- The first result at the last grid point is the accumulator. -/
theorem whole (hH : Hyps m) (c : Dev nD) (t : Fin cfg0.N) (h0 : ¬t.val % 8 = 0) (h1 : 1 ≤ t.val) (h2 : t.val % 8 = 7)
    (j : S2816x1024.Idx) : (outsAt0 m hH c t.val t.isLt).1 j = (outsAt0 m hH c t.val t.isLt).2.2 j := by
  rw [outsAt0_C m hH c t h0 h1 h2]
  frame_out
  rw [View.readCov_eq_canon']
  generalize View.canon (Val := Elt Ideal) (e := .f32) (s := S2816x1024) (_ :: _) = A
  pointwise [k0_pay4]
  blk_ext

/-- The row offset read back: 352 times the device's number. -/
theorem row_offset (w : BitVec 32) (hw : w.toNat < 8) : k0_off1 w = ![w.toNat * 352, 0] := by
  have h : (w * 352#32).toNat = w.toNat * 352 := by
    rw [BitVec.toNat_mul]
    simp only [BitVec.toNat_ofNat, Nat.reducePow, Nat.reduceMod]
    exact Nat.mod_eq_of_lt (by omega)
  funext a
  fin_cases a
  · exact h
  · rfl

/-- The second result at the last grid point is the accumulator's rows from 352 times the device's number on. -/
theorem mine (hH : Hyps m) (c : Dev nD) (t : Fin cfg0.N) (h0 : ¬t.val % 8 = 0) (h1 : 1 ≤ t.val) (h2 : t.val % 8 = 7)
    (w : BitVec 32) (hm : m ((c : Thread nD τ).loc main_arg0) (ix1 0) = w) (hw : w.toNat < 8)
    (j : S352x1024.Idx) (i : S2816x1024.Idx) (hi0 : (i 0).val = w.toNat * 352 + (j 0).val) (hi1 : (i 1).val = (j 1).val) :
    (outsAt0 m hH c t.val t.isLt).2.1 j = (outsAt0 m hH c t.val t.isLt).2.2 i := by
  have hx : iblk m c 0 t (ix1 0) = w := by
    rw [← hm]; blk_ext [iblk, V, idx t]
  clear hm
  rw [outsAt0_C m hH c t h0 h1 h2]
  frame_out
  generalize View.canon (Val := Elt Ideal) (e := .f32) (s := S2816x1024) (_ :: _) = A
  have hr0 : ∀ W : BitVec 32, W = w → (i 0).val = k0_off1 W 0 + (j 0).val := by
    rintro _ rfl; rw [row_offset _ hw]; exact hi0
  have hr1 : ∀ W : BitVec 32, W = w → (i 1).val = k0_off1 W 1 + (j 1).val := by
    rintro _ rfl; rw [row_offset _ hw]; exact hi1.trans (Nat.zero_add _).symm
  have hz : ∀ x : S1.Idx, iblk m c 0 t x = w := fun x => by
    rw [← hx]
    refine congrArg (iblk m c 0 t) (funext fun a => Fin.ext ?_)
    have := (x a).isLt
    fin_cases a
    exact Nat.lt_one_iff.1 this
  refine View.ld_unit_apply_of (Val := Elt Ideal) (e := .f32) A _ _ _ j i (Fin.forall_fin_two.2 ⟨hr0 _ ?_, hr1 _ ?_⟩)
  · rw [Memref.IsWhole.read_unread]; exact hz _
  · rw [Memref.IsWhole.read_unread]; exact hz _

/-- The first result array after the run. -/
theorem final_whole (hH : Hyps m) (c : Dev nD) : (dats m hH 0 c).arrAt 9 (cfgs 0).N
    = (total (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8))
      (m ((c : Thread nD τ).loc main_arg1)) : S2816x1024.Idx → EReal) := by
  refine (dats m hH 0 c).arrAt_eq_of_covers 9 _ (by decide +kernel) fun t hf y => ?_
  have h7 := (flush0_9 t).mp hf
  blk_simp
  rw [after0_9, whole m hH c t (by omega) (by omega) h7, accumulated m hH c t h7]
  blk_ext [idx t]

/-- The second result array after the run, entry by entry. -/
theorem final_mine (hH : Hyps m) (c : Dev nD) (w : BitVec 32) (hm : m ((c : Thread nD τ).loc main_arg0) (ix1 0) = w) (hw : w.toNat < 8) :
    (dats m hH 0 c).arrAt 10 (cfgs 0).N = (fun j : S352x1024.Idx => total (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) (m ((c : Thread nD τ).loc main_arg8))
      (m ((c : Thread nD τ).loc main_arg1)) (ix2 ⟨w.toNat * 352 + (j 0).val, by have : (j 0).val < 352 := (j 0).isLt; omega⟩ (j 1))) := by
  refine (dats m hH 0 c).arrAt_eq_of_covers 10 _ (by decide +kernel) fun t hf y => ?_
  have h7 := (flush0_10 t).mp hf
  blk_simp
  have hy : (y 0).val < 352 := (y 0).isLt
  rw [after0_10, mine m hH c t (by omega) (by omega) h7 w hm hw y (ix2 ⟨w.toNat * 352 + (y 0).val, by omega⟩ (y 1)) rfl rfl,
    accumulated m hH c t h7]
  refine congrArg (total _ _ _ _ _ _ _ _) ?_
  blk_ext [idx t]

section
variable (X1 X2 X3 X4 X5 : FVec Ideal S4096x512 .bf16) (X6 X7 : FVec Ideal S4096x128 .bf16) (Y : FVec Ideal S4096x1024 .f32)

/-- The reference's joined columns are the parts' columns side by side. -/
theorem joined (k : Fin 4096) (r : Fin 2816) :
    Cert.ReferenceDwinIdeal.Read.val_main_v0 (F := Ideal) X1 X2 X3 X4 X5 X6 X7 (ix2 k r) = cols X1 X2 X3 X4 X5 X6 X7 k r := by
  have hr := r.isLt
  pointwise [Cert.ReferenceDwinIdeal.Read.val_main_v0]
  unfold cols
  repeat' split
  all_goals first
    | (exfalso; omega)
    | rfl
    | exact congrArg _ (congrArg (ix2 k) (Fin.ext (by simp only []; omega)))

/-- The reference's first result is the sum over all tokens. -/
theorem reference_whole : Cert.ReferenceDwinIdeal.Read.val_main_v7 (F := Ideal) Y X1 X2 X3 X4 X5 X6 X7
    = total X1 X2 X3 X4 X5 X6 X7 Y := by
  funext j
  obtain ⟨a, b, rfl⟩ : ∃ (a : Fin 2816) (b : Fin 1024), j = ix2 a b := ⟨j 0, j 1, by ext k; fin_cases k <;> rfl⟩
  pointwise [Cert.ReferenceDwinIdeal.Read.val_main_v7, Cert.ReferenceDwinIdeal.Read.val_main_v6, Cert.ReferenceDwinIdeal.Read.val_main_v5, Cert.ReferenceDwinIdeal.Read.val_main_v4, Cert.ReferenceDwinIdeal.Read.val_main_v1, total]
  simp only [joined]

/-- The start word of the reference's row slice: 352 times the device's number. -/
theorem start_word (w : BitVec 32) (hw : w.toNat < 8) :
    (Scalar.select (IntOp.cmpi .slt (IntOp.muli w 352#32) 0#32) (IntOp.addi (IntOp.muli w 352#32) 2816#32) (IntOp.muli w 352#32)).toInt
      = ((w.toNat * 352 : ℕ) : ℤ) := by
  obtain ⟨n, hn, rfl⟩ : ∃ n, n < 8 ∧ w = BitVec.ofNat 32 n := ⟨w.toNat, hw, (BitVec.ofNat_toNat _ _).symm ▸ (by simp)⟩
  interval_cases n <;> decide

/-- The reference's second result is the sum over all tokens in the rows from 352 times the device's number on. -/
theorem reference_mine (M : IVec S1 32) (hw : (M (ix1 0)).toNat < 8) : Cert.ReferenceDwinIdeal.Read.val_main_v16 (F := Ideal) M Y X1 X2 X3 X4 X5 X6 X7
    = fun j => total X1 X2 X3 X4 X5 X6 X7 Y (ix2 ⟨(M (ix1 0)).toNat * 352 + (j 0).val, by have : (j 0).val < 352 := (j 0).isLt; omega⟩ (j 1)) := by
  funext j
  rw [← reference_whole]
  have hv : ∀ x, Cert.ReferenceDwinIdeal.Read.val_main_v8 (F := Ideal) M x = M (ix1 0) := fun x => by
    pointwise [Cert.ReferenceDwinIdeal.Read.val_main_v8]
  have h0 := Host.clampedStart_of_le (s := Cert.ReferenceDwinIdeal.S2816x1024) (t := Cert.ReferenceDwinIdeal.S352x1024) rfl
    (fun k => (((![Cert.ReferenceDwinIdeal.Read.val_main_v12 (F := Ideal) M, Cert.ReferenceDwinIdeal.Read.val_main_v15 (F := Ideal)] : Fin 2 → (⟨Cert.ReferenceDwinIdeal.S_, .i32⟩ : BufTy).Contents (Elt Ideal))) k
      (Shape.Idx.first Cert.ReferenceDwinIdeal.Gen.h_S_)).toInt) 0 ((M (ix1 0)).toNat * 352)
    (by
      show (Scalar.select (IntOp.cmpi .slt (IntOp.muli (Cert.ReferenceDwinIdeal.Read.val_main_v8 (F := Ideal) M _) 352#32) 0#32)
        (IntOp.addi (IntOp.muli (Cert.ReferenceDwinIdeal.Read.val_main_v8 (F := Ideal) M _) 352#32) 2816#32)
        (IntOp.muli (Cert.ReferenceDwinIdeal.Read.val_main_v8 (F := Ideal) M _) 352#32)).toInt = _
      rw [hv]; exact start_word _ hw)
    (by show (M (ix1 0)).toNat * 352 + 352 ≤ 2816; omega)
  have h1 := Host.clampedStart_of_le (s := Cert.ReferenceDwinIdeal.S2816x1024) (t := Cert.ReferenceDwinIdeal.S352x1024) rfl
    (fun k => (((![Cert.ReferenceDwinIdeal.Read.val_main_v12 (F := Ideal) M, Cert.ReferenceDwinIdeal.Read.val_main_v15 (F := Ideal)] : Fin 2 → (⟨Cert.ReferenceDwinIdeal.S_, .i32⟩ : BufTy).Contents (Elt Ideal))) k
      (Shape.Idx.first Cert.ReferenceDwinIdeal.Gen.h_S_)).toInt) 1 0 rfl (le_refl _)
  pointwise [Cert.ReferenceDwinIdeal.Read.val_main_v16]
  exact congrArg (Cert.ReferenceDwinIdeal.Read.val_main_v6 (F := Ideal) Y X1 X2 X3 X4 X5 X6 X7)
    (congrArg₂ ix2 (Fin.ext (congrArg (· + (j 0).val) h0)) (Fin.ext ((congrArg (· + (j 1).val) h1).trans (Nat.zero_add _))))

end

end Cert.KernelDwinIdeal.DwinValue
-- ==== Proof.DwinClaim.lean ====
/-
  The claims about the gradient of the input projection's weight, for a device number in [0, 8): both kernels run to their end and keep
  their operands, so does the reference, and over the extended reals kernel and reference leave the same arrays.
-/
module

public import proofs.«01_k».proof.Defs
public import proofs.«01_k».proof.Proof.Place
public import proofs.«01_k».proof.Proof.Gen.Pre_place_dwin
public import proofs.«01_k».proof.Proof.Gen.KernelDwin.Frame
public import proofs.«01_k».proof.Proof.Gen.KernelDwinIdeal.Frame
public import proofs.«01_k».proof.Proof.Gen.ReferenceDwinIdeal.Run
public import proofs.«01_k».proof.Proof.DwinValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The device's number is below eight. -/
theorem place_KernelDwin (m : (ℓ : Loc Cert.KernelDwin.nD Cert.KernelDwin.τ Cert.KernelDwin.sig) → Buf (Elt Bits) ℓ) (h : Cert.Pre_KernelDwin m)
    (c : Dev Cert.KernelDwin.nD) (y : (⟨1, ![1]⟩ : Shape).Idx) :
    BitVec.toNat (w := 32) (m ((c : Thread Cert.KernelDwin.nD Cert.KernelDwin.τ).loc Cert.KernelDwin.main_arg0) y) < 8 :=
  place_of_compare _ (congrFun (h c) y)

/-- The side conditions on the device's number that the body assumes. -/
theorem hyps_KernelDwin (m : (ℓ : Loc Cert.KernelDwin.nD Cert.KernelDwin.τ Cert.KernelDwin.sig) → Buf (Elt Bits) ℓ) (h : Cert.Pre_KernelDwin m) :
    Cert.KernelDwin.Gen.Hyps m := by
  intro c t hc
  have rd : ∀ y, BitVec.toNat (w := 32) (Cert.KernelDwin.Gen.iblk m c 0 t y) < 8 := fun y => by
    unfold Cert.KernelDwin.Gen.iblk; rw [View.read_apply, cast_eq]; exact place_KernelDwin m h c _
  have chk : ∀ w : BitVec 32, w.toNat < 8 → Cert.KernelDwin.k0_chk1 (Cert.KernelDwin.grid0.coords t) w := fun w hw => by
    have hm : (w * 352#32).toNat = w.toNat * 352 := by
      rw [BitVec.toNat_mul]
      simp only [BitVec.toNat_ofNat, Nat.reducePow, Nat.reduceMod]
      exact Nat.mod_eq_of_lt (by omega)
    refine ⟨fun _ => ?_, fun _ => Fin.forall_fin_two.2 ⟨?_, ?_⟩⟩
    · show 8 ∣ (w * 352#32).toNat
      omega
    · show (w * 352#32).toNat + 352 ≤ 2816
      omega
    · show 0 + 1024 ≤ 1024
      omega
  simp only [View.readAt_apply, Memref.IsWhole.read_unread]
  exact chk _ (rd _)

/-- The device's number is below eight. -/
theorem place_KernelDwinIdeal (m : (ℓ : Loc Cert.KernelDwinIdeal.nD Cert.KernelDwinIdeal.τ Cert.KernelDwinIdeal.sig) → Buf (Elt Ideal) ℓ) (h : Cert.Pre_KernelDwinIdeal m)
    (c : Dev Cert.KernelDwinIdeal.nD) (y : (⟨1, ![1]⟩ : Shape).Idx) :
    BitVec.toNat (w := 32) (m ((c : Thread Cert.KernelDwinIdeal.nD Cert.KernelDwinIdeal.τ).loc Cert.KernelDwinIdeal.main_arg0) y) < 8 :=
  place_of_compare _ (congrFun (h c) y)

/-- The side conditions on the device's number that the body assumes. -/
theorem hyps_KernelDwinIdeal (m : (ℓ : Loc Cert.KernelDwinIdeal.nD Cert.KernelDwinIdeal.τ Cert.KernelDwinIdeal.sig) → Buf (Elt Ideal) ℓ) (h : Cert.Pre_KernelDwinIdeal m) :
    Cert.KernelDwinIdeal.Gen.Hyps m := by
  intro c t hc
  have rd : ∀ y, BitVec.toNat (w := 32) (Cert.KernelDwinIdeal.Gen.iblk m c 0 t y) < 8 := fun y => by
    unfold Cert.KernelDwinIdeal.Gen.iblk; rw [View.read_apply, cast_eq]; exact place_KernelDwinIdeal m h c _
  have chk : ∀ w : BitVec 32, w.toNat < 8 → Cert.KernelDwinIdeal.k0_chk1 (Cert.KernelDwinIdeal.grid0.coords t) w := fun w hw => by
    have hm : (w * 352#32).toNat = w.toNat * 352 := by
      rw [BitVec.toNat_mul]
      simp only [BitVec.toNat_ofNat, Nat.reducePow, Nat.reduceMod]
      exact Nat.mod_eq_of_lt (by omega)
    refine ⟨fun _ => ?_, fun _ => Fin.forall_fin_two.2 ⟨?_, ?_⟩⟩
    · show 8 ∣ (w * 352#32).toNat
      omega
    · show (w * 352#32).toNat + 352 ≤ 2816
      omega
    · show 0 + 1024 ≤ 1024
      omega
  simp only [View.readAt_apply, Memref.IsWhole.read_unread]
  exact chk _ (rd _)

/-- The kernel over the bits runs to its end and keeps its operands. -/
theorem frame_KernelDwin : Cert.quiescent_KernelDwin :=
  fun m ρ h => Cert.KernelDwin.Gen.frame (F := Bits) m ρ (hyps_KernelDwin m h)

/-- The kernel over the extended reals runs to its end and keeps its operands. -/
theorem frame_KernelDwinIdeal : Cert.quiescent_KernelDwinIdeal :=
  fun m ρ h => Cert.KernelDwinIdeal.Gen.frame (F := Ideal) m ρ (hyps_KernelDwinIdeal m h)

/-- The reference runs to its end and keeps its operands. -/
theorem frame_ReferenceDwinIdeal : Cert.quiescent_ReferenceDwinIdeal := by
  intro m g _
  exact (θ_run Cert.ReferenceDwinIdeal.defs _ _).mono (fun r h => ⟨fun c => (h c).2.2, sem_eq_zero_of_no_sems (by decide) r.2⟩)
    (Cert.ReferenceDwinIdeal.Value.run m g)

/-- So it does under the precondition. -/
theorem frame_ReferenceDwinIdeal_pre : Cert.quiescent_ReferenceDwinIdeal_pre_place_dwin := by
  intro m g _
  exact (θ_run Cert.ReferenceDwinIdeal.defs _ _).mono (fun r h => ⟨fun c => (h c).2.2, sem_eq_zero_of_no_sems (by decide) r.2⟩)
    (Cert.ReferenceDwinIdeal.Value.run m g)

set_option maxHeartbeats 1600000 in
/-- Kernel and reference leave the same arrays. -/
theorem algebraic_Dwin : Cert.algebraic_KernelDwinIdeal_ReferenceDwinIdeal := by
  pair_intro
  · run_from Cert.KernelDwinIdeal.Gen.run_main m g (hyps_KernelDwinIdeal m hpre)
  · refine (θ_run Cert.ReferenceDwinIdeal.defs _ _).mono (fun r h c => ?_) (Cert.ReferenceDwinIdeal.Value.run m' g')
    obtain ⟨a0, a1, a2, a3, a4, a5, a6, a7, a8⟩ := hagree c
    obtain ⟨h0, h1, hargs⟩ := h c
    refine ⟨h0.trans ?_, h1.trans ?_, hargs⟩
    · refine (Cert.ReferenceDwinIdeal.Read.val_main_v7_eq _ _ _ _ _ _ _ _ ).trans ?_
      rw [a1, a2, a3, a4, a5, a6, a7, a8, Cert.KernelDwinIdeal.DwinValue.reference_whole]
      exact (Cert.KernelDwinIdeal.DwinValue.final_whole m (hyps_KernelDwinIdeal m hpre) c).symm
    · refine (Cert.ReferenceDwinIdeal.Read.val_main_v16_eq _ _ _ _ _ _ _ _ _ ).trans ?_
      rw [a0, a1, a2, a3, a4, a5, a6, a7, a8]
      rw [Cert.KernelDwinIdeal.DwinValue.reference_mine _ _ _ _ _ _ _ _ _ (place_KernelDwinIdeal m hpre c _)]
      exact (Cert.KernelDwinIdeal.DwinValue.final_mine m (hyps_KernelDwinIdeal m hpre) c _ rfl (place_KernelDwinIdeal m hpre c _)).symm

end Cert.Proof

end
-- ==== Proof.DxValue.lean ====
/-
  The gradient of the step's input through the input projection: what the kernel leaves in its result array is what the
  reference computes. The kernel adds the products of the seven parts of the projection's gradient with their rows of the
  transposed weight one after the other; the reference joins the parts and multiplies once.
-/
module

public import proofs.«01_k».proof.Proof.Gen.KernelDxIdeal.Value
public import proofs.«01_k».proof.Proof.Gen.ReferenceDxIdeal.Read
public import Idealize.ShloMosaic.Lib.Pipeline.ValueKit
public import Idealize.ShloMosaic.Lib.Pointwise

@[expose] public section

set_option maxRecDepth 16384

noncomputable section

namespace Cert.KernelDxIdeal.DxValue

open Idealize.ShloMosaic Idealize.ShloMosaic.TcCoe Idealize.SL.Sem
open Idealize.ShloMosaic.Pipeline (Dat)
open Cert.KernelDxIdeal Cert.KernelDxIdeal.Gen

variable (m : (ℓ : Loc nD τ sig) → Buf (Elt Ideal) ℓ)

/-- Grid point `t` takes token block `t` of every array of tokens and the whole weight, and writes block `t` of the result. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![0, 0] ∧ win0_9.index t = ![t.val, 0] :=
  (by decide +kernel : ∀ t : Fin grid0.N, _)

/-- A sum over the joined columns is the sum of the seven parts' sums. -/
theorem sum_parts (f : Fin 2816 → EReal) : ∑ x, f x
    = ∑ x : Fin 512, f ⟨x.val, by have := x.isLt; omega⟩
      + ∑ x : Fin 512, f ⟨512 + x.val, by have := x.isLt; omega⟩
      + ∑ x : Fin 512, f ⟨1024 + x.val, by have := x.isLt; omega⟩
      + ∑ x : Fin 512, f ⟨1536 + x.val, by have := x.isLt; omega⟩
      + ∑ x : Fin 512, f ⟨2048 + x.val, by have := x.isLt; omega⟩
      + ∑ x : Fin 128, f ⟨2560 + x.val, by have := x.isLt; omega⟩
      + ∑ x : Fin 128, f ⟨2688 + x.val, by have := x.isLt; omega⟩ := by
  rw [Fin.sum_univ_two_halves 512 2304 rfl f, Fin.sum_univ_two_halves 512 1792 rfl (fun j : Fin 2304 => _),
    Fin.sum_univ_two_halves 512 1280 rfl (fun j : Fin 1792 => _), Fin.sum_univ_two_halves 512 768 rfl (fun j : Fin 1280 => _),
    Fin.sum_univ_two_halves 512 256 rfl (fun j : Fin 768 => _), Fin.sum_univ_two_halves 128 128 rfl (fun j : Fin 256 => _)]
  simp only [← add_assoc, Nat.reduceAdd]

variable (X1 X2 X3 X4 X5 : FVec Ideal S4096x512 .bf16) (X6 X7 : FVec Ideal S4096x128 .bf16)

/-- The joined columns from 0 on are part 1. -/
theorem part_1 (a : Fin 4096) (x : Fin 512) : Cert.ReferenceDxIdeal.Read.val_main_v0 (F := Ideal) X1 X2 X3 X4 X5 X6 X7
    (ix2 a ⟨x.val, by have := x.isLt; omega⟩) = X1 (ix2 a x) := by
  have hx := x.isLt
  pointwise [Cert.ReferenceDxIdeal.Read.val_main_v0]
  repeat' split
  all_goals first | omega | exact congrArg (fun k => X1 (ix2 a k)) (Fin.ext (by simp only []; omega))

/-- The joined columns from 512 on are part 2. -/
theorem part_2 (a : Fin 4096) (x : Fin 512) : Cert.ReferenceDxIdeal.Read.val_main_v0 (F := Ideal) X1 X2 X3 X4 X5 X6 X7
    (ix2 a ⟨512 + x.val, by have := x.isLt; omega⟩) = X2 (ix2 a x) := by
  have hx := x.isLt
  pointwise [Cert.ReferenceDxIdeal.Read.val_main_v0]
  repeat' split
  all_goals first | omega | exact congrArg (fun k => X2 (ix2 a k)) (Fin.ext (by simp only []; omega))

/-- The joined columns from 1024 on are part 3. -/
theorem part_3 (a : Fin 4096) (x : Fin 512) : Cert.ReferenceDxIdeal.Read.val_main_v0 (F := Ideal) X1 X2 X3 X4 X5 X6 X7
    (ix2 a ⟨1024 + x.val, by have := x.isLt; omega⟩) = X3 (ix2 a x) := by
  have hx := x.isLt
  pointwise [Cert.ReferenceDxIdeal.Read.val_main_v0]
  repeat' split
  all_goals first | omega | exact congrArg (fun k => X3 (ix2 a k)) (Fin.ext (by simp only []; omega))

/-- The joined columns from 1536 on are part 4. -/
theorem part_4 (a : Fin 4096) (x : Fin 512) : Cert.ReferenceDxIdeal.Read.val_main_v0 (F := Ideal) X1 X2 X3 X4 X5 X6 X7
    (ix2 a ⟨1536 + x.val, by have := x.isLt; omega⟩) = X4 (ix2 a x) := by
  have hx := x.isLt
  pointwise [Cert.ReferenceDxIdeal.Read.val_main_v0]
  repeat' split
  all_goals first | omega | exact congrArg (fun k => X4 (ix2 a k)) (Fin.ext (by simp only []; omega))

/-- The joined columns from 2048 on are part 5. -/
theorem part_5 (a : Fin 4096) (x : Fin 512) : Cert.ReferenceDxIdeal.Read.val_main_v0 (F := Ideal) X1 X2 X3 X4 X5 X6 X7
    (ix2 a ⟨2048 + x.val, by have := x.isLt; omega⟩) = X5 (ix2 a x) := by
  have hx := x.isLt
  pointwise [Cert.ReferenceDxIdeal.Read.val_main_v0]
  repeat' split
  all_goals first | omega | exact congrArg (fun k => X5 (ix2 a k)) (Fin.ext (by simp only []; omega))

/-- The joined columns from 2560 on are part 6. -/
theorem part_6 (a : Fin 4096) (x : Fin 128) : Cert.ReferenceDxIdeal.Read.val_main_v0 (F := Ideal) X1 X2 X3 X4 X5 X6 X7
    (ix2 a ⟨2560 + x.val, by have := x.isLt; omega⟩) = X6 (ix2 a x) := by
  have hx := x.isLt
  pointwise [Cert.ReferenceDxIdeal.Read.val_main_v0]
  repeat' split
  all_goals first | omega | exact congrArg (fun k => X6 (ix2 a k)) (Fin.ext (by simp only []; omega))

/-- The joined columns from 2688 on are part 7. -/
theorem part_7 (a : Fin 4096) (x : Fin 128) : Cert.ReferenceDxIdeal.Read.val_main_v0 (F := Ideal) X1 X2 X3 X4 X5 X6 X7
    (ix2 a ⟨2688 + x.val, by have := x.isLt; omega⟩) = X7 (ix2 a x) := by
  have hx := x.isLt
  pointwise [Cert.ReferenceDxIdeal.Read.val_main_v0]
  repeat' split
  all_goals first | omega | exact congrArg (fun k => X7 (ix2 a k)) (Fin.ext (by simp only []; omega))

/-- The input's gradient, the parts' products one after the other. -/
def total (X0 : FVec Ideal S4096x1024 .f32) (X1 X2 X3 X4 X5 : FVec Ideal S4096x512 .bf16) (X6 X7 : FVec Ideal S4096x128 .bf16)
    (W : FVec Ideal S1024x2816 .f32) : FVec Ideal S4096x1024 .f32 := fun i =>
  Ideal.ofBits FTy.f32 0x3F9837F0#32 * X0 i
    + ∑ x : Fin 512, X1 (ix2 (i 0) x) * W (ix2 (i 1) ⟨x.val, by have := x.isLt; omega⟩)
    + ∑ x : Fin 512, X2 (ix2 (i 0) x) * W (ix2 (i 1) ⟨512 + x.val, by have := x.isLt; omega⟩)
    + ∑ x : Fin 512, X3 (ix2 (i 0) x) * W (ix2 (i 1) ⟨1024 + x.val, by have := x.isLt; omega⟩)
    + ∑ x : Fin 512, X4 (ix2 (i 0) x) * W (ix2 (i 1) ⟨1536 + x.val, by have := x.isLt; omega⟩)
    + ∑ x : Fin 512, X5 (ix2 (i 0) x) * W (ix2 (i 1) ⟨2048 + x.val, by have := x.isLt; omega⟩)
    + ∑ x : Fin 128, X6 (ix2 (i 0) x) * W (ix2 (i 1) ⟨2560 + x.val, by have := x.isLt; omega⟩)
    + ∑ x : Fin 128, X7 (ix2 (i 0) x) * W (ix2 (i 1) ⟨2688 + x.val, by have := x.isLt; omega⟩)

/-- The reference's expression is that sum. -/
theorem reference_total (X0 : FVec Ideal S4096x1024 .f32) (W : FVec Ideal S1024x2816 .f32) :
    Cert.ReferenceDxIdeal.Read.val_main_v9 (F := Ideal) X0 X1 X2 X3 X4 X5 X6 X7 W = total X0 X1 X2 X3 X4 X5 X6 X7 W := by
  funext i
  obtain ⟨a, b, rfl⟩ : ∃ (a : Fin 4096) (b : Fin 1024), i = ix2 a b := ⟨i 0, i 1, by ext k; fin_cases k <;> rfl⟩
  pointwise [Cert.ReferenceDxIdeal.Read.val_main_v9, Cert.ReferenceDxIdeal.Read.val_main_v8, Cert.ReferenceDxIdeal.Read.val_main_v7, Cert.ReferenceDxIdeal.Read.val_main_v6, Cert.ReferenceDxIdeal.Read.val_main_cst_1, Cert.ReferenceDxIdeal.Read.val_main_v1, total]
  rw [sum_parts]
  simp only [part_1, part_2, part_3, part_4, part_5, part_6, part_7]
  rw [add_comm]
  simp only [← add_assoc]

/-- The array of the input's gradient after the run is the reference's expression of the arguments. -/
theorem final (c : Dev nD) : (dats m 0 c).arrAt 9 (cfgs 0).N
    = Cert.ReferenceDxIdeal.Read.val_main_v9 (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8)) := by
  rw [reference_total]
  refine (dats m 0 c).arrAt_eq_of_covers 9 _ (by decide +kernel) fun t _ y => ?_
  blk_simp
  rw [after0_9]; frame_out
  pointwise [k0_pay2, k0_pay1, total]
  blk_point [iblk, V, idx t]

end Cert.KernelDxIdeal.DxValue
-- ==== Proof.DxClaim.lean ====
/-
  The claims about the input's gradient: both kernels run to their end and keep their operands, so does the reference, and
  over the extended reals kernel and reference leave the same arrays.
-/
module

public import proofs.«01_k».proof.Defs
public import proofs.«01_k».proof.Proof.Gen.KernelDx.Frame
public import proofs.«01_k».proof.Proof.Gen.KernelDxIdeal.Frame
public import proofs.«01_k».proof.Proof.Gen.ReferenceDxIdeal.Run
public import proofs.«01_k».proof.Proof.DxValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel over the bits runs to its end and keeps its operands. -/
theorem frame_KernelDx : Cert.quiescent_KernelDx := fun m ρ _ => Cert.KernelDx.Gen.frame (F := Bits) m ρ

/-- The kernel over the extended reals runs to its end and keeps its operands. -/
theorem frame_KernelDxIdeal : Cert.quiescent_KernelDxIdeal := fun m ρ _ => Cert.KernelDxIdeal.Gen.frame (F := Ideal) m ρ

/-- The reference runs to its end and keeps its operands. -/
theorem frame_ReferenceDxIdeal : Cert.quiescent_ReferenceDxIdeal := by
  intro m g _
  exact (θ_run Cert.ReferenceDxIdeal.defs _ _).mono (fun r h => ⟨fun c => (h c).2, sem_eq_zero_of_no_sems (by decide) r.2⟩)
    (Cert.ReferenceDxIdeal.Value.run m g)

set_option maxHeartbeats 1600000 in
/-- Kernel and reference leave the same arrays. -/
theorem algebraic_Dx : Cert.algebraic_KernelDxIdeal_ReferenceDxIdeal := by
  pair_intro
  · run_from Cert.KernelDxIdeal.Gen.run_main m g
  · refine (θ_run Cert.ReferenceDxIdeal.defs _ _).mono (fun r h c => ?_) (Cert.ReferenceDxIdeal.Value.run m' g')
    obtain ⟨a0, a1, a2, a3, a4, a5, a6, a7, a8⟩ := hagree c
    obtain ⟨h0, hargs⟩ := h c
    refine ⟨h0.trans ?_, hargs⟩
    refine (Cert.ReferenceDxIdeal.Read.val_main_v9_eq _ _ _ _ _ _ _ _ _ ).trans ?_
    rw [a0, a1, a2, a3, a4, a5, a6, a7, a8]
    exact (Cert.KernelDxIdeal.DxValue.final m c).symm

end Cert.Proof

end
-- ==== Proof.InprojValue.lean ====
/-
  The forward input projection: what the kernel leaves in its two result arrays is what the reference computes. The kernel
  takes 512 tokens at a grid point and multiplies them by the transposed weight; the reference multiplies all tokens by the
  weight.
-/
module

public import proofs.«01_k».proof.Proof.Gen.KernelInprojIdeal.Value
public import proofs.«01_k».proof.Proof.Gen.ReferenceInprojIdeal.Run
public import Idealize.ShloMosaic.Lib.Pipeline.ValueKit
public import Idealize.ShloMosaic.Lib.Pointwise

@[expose] public section

set_option maxRecDepth 16384

noncomputable section

namespace Cert.KernelInprojIdeal.InprojValue

open Idealize.ShloMosaic Idealize.ShloMosaic.TcCoe Idealize.SL.Sem
open Idealize.ShloMosaic.Pipeline (Dat)
open Cert.KernelInprojIdeal Cert.KernelInprojIdeal.Gen

variable (m : (ℓ : Loc nD τ sig) → Buf (Elt Ideal) ℓ)

/-- The projected tokens by the reference's operations. -/
abbrev projected (X : FVec Ideal S4096x1024 .f32) (W : FVec Ideal S1024x2816 .f32) : FVec Ideal S4096x2816 .bf16 :=
  truncf .bf16 (Host.dotGeneral Cert.ReferenceInprojIdeal.dot_S4096x1024_S1024x2816_S4096x2816_1_0_0_1_n_n none X W)
    Cert.ReferenceInprojIdeal.Gen.bitsLt_bf16_f32

/-- The rounded tokens by the reference's operation. -/
abbrev rounded (X : FVec Ideal S4096x1024 .f32) : FVec Ideal S4096x1024 .bf16 :=
  truncf .bf16 X Cert.ReferenceInprojIdeal.Gen.bitsLt_bf16_f32

/-- Grid point `t` takes token block `t` and the whole weight, and writes block `t` of each result. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The array of projected tokens after the run. -/
theorem final_projected (c : Dev nD) : (dats m 0 c).arrAt 2 (cfgs 0).N
    = projected (m ((c : Thread nD τ).loc main_arg0)) (m ((c : Thread nD τ).loc main_arg1)) := by
  refine (dats m 0 c).arrAt_eq_of_covers 2 _ (by decide +kernel) fun t _ y => ?_
  blk_simp
  rw [after0_2]; frame_out
  pointwise [k0_pay2, k0_pay1, projected]
  blk_point [iblk, V, idx t]

/-- The array of rounded tokens after the run. -/
theorem final_rounded (c : Dev nD) : (dats m 0 c).arrAt 3 (cfgs 0).N
    = rounded (m ((c : Thread nD τ).loc main_arg0)) := by
  refine (dats m 0 c).arrAt_eq_of_covers 3 _ (by decide +kernel) fun t _ y => ?_
  blk_simp
  rw [after0_3]; frame_out
  pointwise [k0_pay1, rounded]
  blk_point [iblk, V, idx t]

end Cert.KernelInprojIdeal.InprojValue

end
-- ==== Proof.InprojClaim.lean ====
/-
  The claims about the input projection: both kernels run to their end and keep their operands, so does the reference, and
  over the extended reals kernel and reference leave the same arrays.
-/
module

public import proofs.«01_k».proof.Defs
public import proofs.«01_k».proof.Proof.Gen.KernelInproj.Frame
public import proofs.«01_k».proof.Proof.Gen.KernelInprojIdeal.Frame
public import proofs.«01_k».proof.Proof.Gen.ReferenceInprojIdeal.Run
public import proofs.«01_k».proof.Proof.InprojValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The kernel over the bits runs to its end and keeps its operands. -/
theorem frame_KernelInproj : Cert.quiescent_KernelInproj := fun m ρ _ => Cert.KernelInproj.Gen.frame (F := Bits) m ρ

/-- The kernel over the extended reals runs to its end and keeps its operands. -/
theorem frame_KernelInprojIdeal : Cert.quiescent_KernelInprojIdeal := fun m ρ _ => Cert.KernelInprojIdeal.Gen.frame (F := Ideal) m ρ

/-- The reference runs to its end and keeps its operands. -/
theorem frame_ReferenceInprojIdeal : Cert.quiescent_ReferenceInprojIdeal := by
  intro m g _
  exact (θ_run Cert.ReferenceInprojIdeal.defs _ _).mono (fun r h => ⟨fun c => (h c).2.2, sem_eq_zero_of_no_sems (by decide) r.2⟩)
    (Cert.ReferenceInprojIdeal.Value.run m g)

set_option maxHeartbeats 1600000 in
/-- Kernel and reference leave the same arrays. -/
theorem algebraic_Inproj : Cert.algebraic_KernelInprojIdeal_ReferenceInprojIdeal := by
  pair_intro
  · run_from Cert.KernelInprojIdeal.Gen.run_main m g
  · refine (θ_run Cert.ReferenceInprojIdeal.defs _ _).mono (fun r h c => ?_) (Cert.ReferenceInprojIdeal.Value.run m' g')
    obtain ⟨a0, a1⟩ := hagree c
    obtain ⟨h0, h1, hargs⟩ := h c
    refine ⟨h0.trans ?_, h1.trans ?_, hargs⟩
    · rw [a0, a1]; exact (Cert.KernelInprojIdeal.InprojValue.final_projected m c).symm
    · rw [a0]; exact (Cert.KernelInprojIdeal.InprojValue.final_rounded m c).symm

end Cert.Proof

end
-- ==== Proof.LossRun.lean ====
/-
  The run of the reference of the last feed-forward product with its layer norm and loss: the array it leaves, as a function of
  its arguments. The operations are read in three stretches, so that the layer norm's input is named once.
-/
module

public import proofs.«01_k».proof.Proof.Gen.ReferenceLossIdeal
public import Idealize.ShloMosaic.Lib.StableHlo.Run

@[expose] public section

noncomputable section

namespace Cert.ReferenceLossIdeal.LossRun

open Cert.ReferenceLossIdeal Cert.ReferenceLossIdeal.Gen Idealize.ShloMosaic Idealize.ShloMosaic.TcCoe Idealize.SL.Sem Idealize.ShloMosaic.StableHlo

variable {F : FTy → Type} [FloatOps F]

/-! ### The values -/

/-- The second layer norm's input. -/
def zVal (x1 : (⟨S4096x2816, .bf16⟩ : BufTy).Contents (Elt F)) (x4 : (⟨S4096x1024, .f32⟩ : BufTy).Contents (Elt F)) (x5 : (⟨S4096x256, .f32⟩ : BufTy).Contents (Elt F)) (x7 : (⟨S2816x1024, .f32⟩ : BufTy).Contents (Elt F)) (x8 : (⟨S256x1024, .f32⟩ : BufTy).Contents (Elt F)) (x9 : (⟨S1024x1024, .f32⟩ : BufTy).Contents (Elt F)) (x10 : (⟨S1x1024, .f32⟩ : BufTy).Contents (Elt F)) (x11 : (⟨S1x1024, .f32⟩ : BufTy).Contents (Elt F)) : (⟨S4096x1024, .f32⟩ : BufTy).Contents (Elt F) :=
  have v0 : (⟨S4096x1024, .f32⟩ : BufTy).Contents (Elt F) := broadcastInDim S4096x1024 ![0, 1] bcast_S1x1024_S4096x1024_0_1 x10
  have v1 : (⟨S4096x1024, .f32⟩ : BufTy).Contents (Elt F) := mulf x4 v0
  have v2 : (⟨S4096x1024, .f32⟩ : BufTy).Contents (Elt F) := broadcastInDim S4096x1024 ![0, 1] bcast_S1x1024_S4096x1024_0_1 x11
  have v3 : (⟨S4096x1024, .f32⟩ : BufTy).Contents (Elt F) := addf v1 v2
  have v4 : (⟨S4096x2816, .f32⟩ : BufTy).Contents (Elt F) := extf .f32 x1 bitsLt_bf16_f32
  have v5 : (⟨S4096x1024, .f32⟩ : BufTy).Contents (Elt F) := Host.dotGeneral dot_S4096x2816_S2816x1024_S4096x1024_1_0_0_1_n_n none v4 x7
  have cst : (⟨S_, .f32⟩ : BufTy).Contents (Elt F) := constant S_ .f32 0x3F9837F0#32
  have v6 : (⟨S4096x1024, .f32⟩ : BufTy).Contents (Elt F) := broadcastInDim S4096x1024 ![] bcast_S_S4096x1024 cst
  have v7 : (⟨S4096x1024, .f32⟩ : BufTy).Contents (Elt F) := mulf v6 v3
  have v8 : (⟨S4096x1024, .f32⟩ : BufTy).Contents (Elt F) := addf v7 v5
  have v9 : (⟨S4096x1024, .f32⟩ : BufTy).Contents (Elt F) := Host.dotGeneral dot_S4096x1024_S1024x1024_S4096x1024_1_0_0_1_n_n none v3 x9
  have v10 : (⟨S4096x1024, .f32⟩ : BufTy).Contents (Elt F) := Host.negf v9
  have v11 : (⟨S4096x1024, .f32⟩ : BufTy).Contents (Elt F) := Host.exp v10
  have cst_0 : (⟨S_, .f32⟩ : BufTy).Contents (Elt F) := constant S_ .f32 0x3F800000#32
  have v12 : (⟨S4096x1024, .f32⟩ : BufTy).Contents (Elt F) := broadcastInDim S4096x1024 ![] bcast_S_S4096x1024 cst_0
  have v13 : (⟨S4096x1024, .f32⟩ : BufTy).Contents (Elt F) := addf v12 v11
  have cst_1 : (⟨S_, .f32⟩ : BufTy).Contents (Elt F) := constant S_ .f32 0x3F800000#32
  have v14 : (⟨S4096x1024, .f32⟩ : BufTy).Contents (Elt F) := broadcastInDim S4096x1024 ![] bcast_S_S4096x1024 cst_1
  have v15 : (⟨S4096x1024, .f32⟩ : BufTy).Contents (Elt F) := Host.divf v14 v13
  have v16 : (⟨S4096x1024, .f32⟩ : BufTy).Contents (Elt F) := Host.dotGeneral dot_S4096x256_S256x1024_S4096x1024_1_0_0_1_n_n none x5 x8
  have v17 : (⟨S4096x1024, .f32⟩ : BufTy).Contents (Elt F) := mulf v15 v16
  have v18 : (⟨S4096x1024, .f32⟩ : BufTy).Contents (Elt F) := addf v8 v17
  v18

/-- The centred input that the variance squares. -/
def sqVal (v18 : (⟨S4096x1024, .f32⟩ : BufTy).Contents (Elt F)) : (⟨S4096x1024, .f32⟩ : BufTy).Contents (Elt F) :=
  have cst_2 : (⟨S_, .f32⟩ : BufTy).Contents (Elt F) := constant S_ .f32 0x00000000#32
  have v19 : (⟨S4096, .f32⟩ : BufTy).Contents (Elt F) := Host.reduceAdd v18 cst_2 reducesTo_S4096x1024_S4096_d1 h_S_
  have v20 : (⟨S4096x1, .f32⟩ : BufTy).Contents (Elt F) := broadcastInDim S4096x1 ![0] bcast_S4096_S4096x1_0 v19
  have cst_3 : (⟨S_, .f32⟩ : BufTy).Contents (Elt F) := constant S_ .f32 0x44800000#32
  have v21 : (⟨S4096x1, .f32⟩ : BufTy).Contents (Elt F) := broadcastInDim S4096x1 ![] bcast_S_S4096x1 cst_3
  have v22 : (⟨S4096x1, .f32⟩ : BufTy).Contents (Elt F) := Host.divf v20 v21
  have v23 : (⟨S4096x1024, .f32⟩ : BufTy).Contents (Elt F) := broadcastInDim S4096x1024 ![0, 1] bcast_S4096x1_S4096x1024_0_1 v22
  have v24 : (⟨S4096x1024, .f32⟩ : BufTy).Contents (Elt F) := subf v18 v23
  v24

/-- The centred input that is normalised. -/
def cVal (v18 : (⟨S4096x1024, .f32⟩ : BufTy).Contents (Elt F)) : (⟨S4096x1024, .f32⟩ : BufTy).Contents (Elt F) :=
  have cst_2 : (⟨S_, .f32⟩ : BufTy).Contents (Elt F) := constant S_ .f32 0x00000000#32
  have v19 : (⟨S4096, .f32⟩ : BufTy).Contents (Elt F) := Host.reduceAdd v18 cst_2 reducesTo_S4096x1024_S4096_d1 h_S_
  have v20 : (⟨S4096x1, .f32⟩ : BufTy).Contents (Elt F) := broadcastInDim S4096x1 ![0] bcast_S4096_S4096x1_0 v19
  have cst_3 : (⟨S_, .f32⟩ : BufTy).Contents (Elt F) := constant S_ .f32 0x44800000#32
  have v21 : (⟨S4096x1, .f32⟩ : BufTy).Contents (Elt F) := broadcastInDim S4096x1 ![] bcast_S_S4096x1 cst_3
  have v22 : (⟨S4096x1, .f32⟩ : BufTy).Contents (Elt F) := Host.divf v20 v21
  have v32 : (⟨S4096x1024, .f32⟩ : BufTy).Contents (Elt F) := broadcastInDim S4096x1024 ![0, 1] bcast_S4096x1_S4096x1024_0_1 v22
  have v33 : (⟨S4096x1024, .f32⟩ : BufTy).Contents (Elt F) := subf v18 v32
  v33

/-- Twice the centred input. -/
def twoVal (v24 : (⟨S4096x1024, .f32⟩ : BufTy).Contents (Elt F)) : (⟨S4096x1024, .f32⟩ : BufTy).Contents (Elt F) :=
  have cst_4 : (⟨S_, .f32⟩ : BufTy).Contents (Elt F) := constant S_ .f32 0x40000000#32
  have v26 : (⟨S4096x1024, .f32⟩ : BufTy).Contents (Elt F) := broadcastInDim S4096x1024 ![] bcast_S_S4096x1024 cst_4
  have v27 : (⟨S4096x1024, .f32⟩ : BufTy).Contents (Elt F) := mulf v26 v24
  v27

/-- The variance with its offset. -/
def varVal (v24 : (⟨S4096x1024, .f32⟩ : BufTy).Contents (Elt F)) : (⟨S4096x1, .f32⟩ : BufTy).Contents (Elt F) :=
  have v25 : (⟨S4096x1024, .f32⟩ : BufTy).Contents (Elt F) := mulf v24 v24
  have cst_5 : (⟨S_, .f32⟩ : BufTy).Contents (Elt F) := constant S_ .f32 0x00000000#32
  have v28 : (⟨S4096, .f32⟩ : BufTy).Contents (Elt F) := Host.reduceAdd v25 cst_5 reducesTo_S4096x1024_S4096_d1 h_S_
  have v29 : (⟨S4096x1, .f32⟩ : BufTy).Contents (Elt F) := broadcastInDim S4096x1 ![0] bcast_S4096_S4096x1_0 v28
  have cst_6 : (⟨S_, .f32⟩ : BufTy).Contents (Elt F) := constant S_ .f32 0x44800000#32
  have v30 : (⟨S4096x1, .f32⟩ : BufTy).Contents (Elt F) := broadcastInDim S4096x1 ![] bcast_S_S4096x1 cst_6
  have v31 : (⟨S4096x1, .f32⟩ : BufTy).Contents (Elt F) := Host.divf v29 v30
  have cst_7 : (⟨S_, .f32⟩ : BufTy).Contents (Elt F) := constant S_ .f32 0x3727C5AC#32
  have v34 : (⟨S4096x1, .f32⟩ : BufTy).Contents (Elt F) := broadcastInDim S4096x1 ![] bcast_S_S4096x1 cst_7
  have v35 : (⟨S4096x1, .f32⟩ : BufTy).Contents (Elt F) := addf v31 v34
  v35

/-- The inverse deviation. -/
def rsVal (v35 : (⟨S4096x1, .f32⟩ : BufTy).Contents (Elt F)) : (⟨S4096x1, .f32⟩ : BufTy).Contents (Elt F) :=
  have v36 : (⟨S4096x1, .f32⟩ : BufTy).Contents (Elt F) := Host.rsqrt v35
  v36

/-- The derivative of the inverse deviation in the variance. -/
def dvVal (v35 : (⟨S4096x1, .f32⟩ : BufTy).Contents (Elt F)) (v36 : (⟨S4096x1, .f32⟩ : BufTy).Contents (Elt F)) : (⟨S4096x1, .f32⟩ : BufTy).Contents (Elt F) :=
  have v37 : (⟨S4096x1, .f32⟩ : BufTy).Contents (Elt F) := Host.divf v36 v35
  have cst_8 : (⟨S_, .f32⟩ : BufTy).Contents (Elt F) := constant S_ .f32 0xBF000000#32
  have v38 : (⟨S4096x1, .f32⟩ : BufTy).Contents (Elt F) := broadcastInDim S4096x1 ![] bcast_S_S4096x1 cst_8
  have v39 : (⟨S4096x1, .f32⟩ : BufTy).Contents (Elt F) := mulf v38 v37
  v39

/-- The loss's gradient on the layer norm's output. -/
def eVal (v33 : (⟨S4096x1024, .f32⟩ : BufTy).Contents (Elt F)) (v36 : (⟨S4096x1, .f32⟩ : BufTy).Contents (Elt F)) (x6 : (⟨S4096x1024, .f32⟩ : BufTy).Contents (Elt F)) (x12 : (⟨S1x1024, .f32⟩ : BufTy).Contents (Elt F)) (x13 : (⟨S1x1024, .f32⟩ : BufTy).Contents (Elt F)) : (⟨S4096x1024, .f32⟩ : BufTy).Contents (Elt F) :=
  have v40 : (⟨S4096x1024, .f32⟩ : BufTy).Contents (Elt F) := broadcastInDim S4096x1024 ![0, 1] bcast_S4096x1_S4096x1024_0_1 v36
  have v41 : (⟨S4096x1024, .f32⟩ : BufTy).Contents (Elt F) := mulf v33 v40
  have v42 : (⟨S4096x1024, .f32⟩ : BufTy).Contents (Elt F) := broadcastInDim S4096x1024 ![0, 1] bcast_S1x1024_S4096x1024_0_1 x12
  have v43 : (⟨S4096x1024, .f32⟩ : BufTy).Contents (Elt F) := mulf v41 v42
  have v44 : (⟨S4096x1024, .f32⟩ : BufTy).Contents (Elt F) := broadcastInDim S4096x1024 ![0, 1] bcast_S1x1024_S4096x1024_0_1 x13
  have v45 : (⟨S4096x1024, .f32⟩ : BufTy).Contents (Elt F) := addf v43 v44
  have v46 : (⟨S4096x1024, .f32⟩ : BufTy).Contents (Elt F) := subf v45 x6
  have cst_9 : (⟨S_, .f32⟩ : BufTy).Contents (Elt F) := constant S_ .f32 0x40000000#32
  have v48 : (⟨S4096x1024, .f32⟩ : BufTy).Contents (Elt F) := broadcastInDim S4096x1024 ![] bcast_S_S4096x1024 cst_9
  have v49 : (⟨S4096x1024, .f32⟩ : BufTy).Contents (Elt F) := mulf v48 v46
  have cst_10 : (⟨S_, .f32⟩ : BufTy).Contents (Elt F) := constant S_ .f32 0x3A000000#32
  have v50 : (⟨S4096x1024, .f32⟩ : BufTy).Contents (Elt F) := broadcastInDim S4096x1024 ![] bcast_S_S4096x1024 cst_10
  have v51 : (⟨S4096x1024, .f32⟩ : BufTy).Contents (Elt F) := mulf v50 v49
  v51

/-- The layer norm's derivative. -/
def dzVal (v27 : (⟨S4096x1024, .f32⟩ : BufTy).Contents (Elt F)) (v33 : (⟨S4096x1024, .f32⟩ : BufTy).Contents (Elt F)) (v36 : (⟨S4096x1, .f32⟩ : BufTy).Contents (Elt F)) (v39 : (⟨S4096x1, .f32⟩ : BufTy).Contents (Elt F)) (v51 : (⟨S4096x1024, .f32⟩ : BufTy).Contents (Elt F)) (x12 : (⟨S1x1024, .f32⟩ : BufTy).Contents (Elt F)) : (⟨S4096x1024, .f32⟩ : BufTy).Contents (Elt F) :=
  have v52 : (⟨S4096x1024, .f32⟩ : BufTy).Contents (Elt F) := broadcastInDim S4096x1024 ![0, 1] bcast_S1x1024_S4096x1024_0_1 x12
  have v53 : (⟨S4096x1024, .f32⟩ : BufTy).Contents (Elt F) := mulf v51 v52
  have v54 : (⟨S4096x1024, .f32⟩ : BufTy).Contents (Elt F) := mulf v33 v53
  have cst_11 : (⟨S_, .f32⟩ : BufTy).Contents (Elt F) := constant S_ .f32 0x00000000#32
  have v55 : (⟨S4096, .f32⟩ : BufTy).Contents (Elt F) := Host.reduceAdd v54 cst_11 reducesTo_S4096x1024_S4096_d1 h_S_
  have v56 : (⟨S4096x1, .f32⟩ : BufTy).Contents (Elt F) := shapeCast _ v55 shapeCasts_S4096_S4096x1
  have v57 : (⟨S4096x1024, .f32⟩ : BufTy).Contents (Elt F) := broadcastInDim S4096x1024 ![0, 1] bcast_S4096x1_S4096x1024_0_1 v36
  have v58 : (⟨S4096x1024, .f32⟩ : BufTy).Contents (Elt F) := mulf v53 v57
  have v59 : (⟨S4096x1, .f32⟩ : BufTy).Contents (Elt F) := mulf v56 v39
  have v60 : (⟨S4096x1024, .f32⟩ : BufTy).Contents (Elt F) := Host.negf v58
  have cst_12 : (⟨S_, .f32⟩ : BufTy).Contents (Elt F) := constant S_ .f32 0x00000000#32
  have v61 : (⟨S4096, .f32⟩ : BufTy).Contents (Elt F) := Host.reduceAdd v60 cst_12 reducesTo_S4096x1024_S4096_d1 h_S_
  have v62 : (⟨S4096x1, .f32⟩ : BufTy).Contents (Elt F) := shapeCast _ v61 shapeCasts_S4096_S4096x1
  have cst_13 : (⟨S_, .f32⟩ : BufTy).Contents (Elt F) := constant S_ .f32 0x44800000#32
  have v63 : (⟨S4096x1, .f32⟩ : BufTy).Contents (Elt F) := broadcastInDim S4096x1 ![] bcast_S_S4096x1 cst_13
  have v64 : (⟨S4096x1, .f32⟩ : BufTy).Contents (Elt F) := Host.divf v59 v63
  have cst_14 : (⟨S_, .f32⟩ : BufTy).Contents (Elt F) := constant S_ .f32 0x00000000#32
  have v65 : (⟨S4096, .f32⟩ : BufTy).Contents (Elt F) := Host.reduceAdd v64 cst_14 reducesTo_S4096x1_S4096_d1 h_S_
  have v66 : (⟨S4096x1024, .f32⟩ : BufTy).Contents (Elt F) := broadcastInDim S4096x1024 ![0] bcast_S4096_S4096x1024_0 v65
  have v67 : (⟨S4096x1024, .f32⟩ : BufTy).Contents (Elt F) := mulf v66 v27
  have v68 : (⟨S4096x1024, .f32⟩ : BufTy).Contents (Elt F) := Host.negf v67
  have cst_15 : (⟨S_, .f32⟩ : BufTy).Contents (Elt F) := constant S_ .f32 0x00000000#32
  have v69 : (⟨S4096, .f32⟩ : BufTy).Contents (Elt F) := Host.reduceAdd v68 cst_15 reducesTo_S4096x1024_S4096_d1 h_S_
  have v70 : (⟨S4096x1, .f32⟩ : BufTy).Contents (Elt F) := shapeCast _ v69 shapeCasts_S4096_S4096x1
  have v71 : (⟨S4096x1024, .f32⟩ : BufTy).Contents (Elt F) := addf v58 v67
  have v72 : (⟨S4096x1, .f32⟩ : BufTy).Contents (Elt F) := addf v62 v70
  have cst_16 : (⟨S_, .f32⟩ : BufTy).Contents (Elt F) := constant S_ .f32 0x44800000#32
  have v73 : (⟨S4096x1, .f32⟩ : BufTy).Contents (Elt F) := broadcastInDim S4096x1 ![] bcast_S_S4096x1 cst_16
  have v74 : (⟨S4096x1, .f32⟩ : BufTy).Contents (Elt F) := Host.divf v72 v73
  have cst_17 : (⟨S_, .f32⟩ : BufTy).Contents (Elt F) := constant S_ .f32 0x00000000#32
  have v75 : (⟨S4096, .f32⟩ : BufTy).Contents (Elt F) := Host.reduceAdd v74 cst_17 reducesTo_S4096x1_S4096_d1 h_S_
  have v76 : (⟨S4096x1024, .f32⟩ : BufTy).Contents (Elt F) := broadcastInDim S4096x1024 ![0] bcast_S4096_S4096x1024_0 v75
  have v77 : (⟨S4096x1024, .f32⟩ : BufTy).Contents (Elt F) := addf v71 v76
  v77

/-- The whole. -/
def outVal (x1 : (⟨S4096x2816, .bf16⟩ : BufTy).Contents (Elt F)) (x4 : (⟨S4096x1024, .f32⟩ : BufTy).Contents (Elt F)) (x5 : (⟨S4096x256, .f32⟩ : BufTy).Contents (Elt F)) (x6 : (⟨S4096x1024, .f32⟩ : BufTy).Contents (Elt F)) (x7 : (⟨S2816x1024, .f32⟩ : BufTy).Contents (Elt F)) (x8 : (⟨S256x1024, .f32⟩ : BufTy).Contents (Elt F)) (x9 : (⟨S1024x1024, .f32⟩ : BufTy).Contents (Elt F)) (x10 : (⟨S1x1024, .f32⟩ : BufTy).Contents (Elt F)) (x11 : (⟨S1x1024, .f32⟩ : BufTy).Contents (Elt F)) (x12 : (⟨S1x1024, .f32⟩ : BufTy).Contents (Elt F)) (x13 : (⟨S1x1024, .f32⟩ : BufTy).Contents (Elt F)) : (⟨S4096x1024, .f32⟩ : BufTy).Contents (Elt F) :=
  dzVal (twoVal (sqVal (zVal x1 x4 x5 x7 x8 x9 x10 x11))) (cVal (zVal x1 x4 x5 x7 x8 x9 x10 x11)) (rsVal (varVal (sqVal (zVal x1 x4 x5 x7 x8 x9 x10 x11)))) (dvVal (varVal (sqVal (zVal x1 x4 x5 x7 x8 x9 x10 x11))) (rsVal (varVal (sqVal (zVal x1 x4 x5 x7 x8 x9 x10 x11)))))
    (eVal (cVal (zVal x1 x4 x5 x7 x8 x9 x10 x11)) (rsVal (varVal (sqVal (zVal x1 x4 x5 x7 x8 x9 x10 x11)))) x6 x12 x13) x12

/-! ### The operations -/

/-- The operations up to the layer norm's input. -/
abbrev ops1 : List (HloOp τ sig (Elt F)) :=
  [ unary main_arg10 main_v0 (broadcastInDim S4096x1024 ![0, 1] bcast_S1x1024_S4096x1024_0_1 : (⟨S1x1024, .f32⟩ : BufTy).Contents (Elt F) → (⟨S4096x1024, .f32⟩ : BufTy).Contents (Elt F)),
    binary main_arg4 main_v0 main_v1 (mulf : (⟨S4096x1024, .f32⟩ : BufTy).Contents (Elt F) → (⟨S4096x1024, .f32⟩ : BufTy).Contents (Elt F) → (⟨S4096x1024, .f32⟩ : BufTy).Contents (Elt F)),
    unary main_arg11 main_v2 (broadcastInDim S4096x1024 ![0, 1] bcast_S1x1024_S4096x1024_0_1 : (⟨S1x1024, .f32⟩ : BufTy).Contents (Elt F) → (⟨S4096x1024, .f32⟩ : BufTy).Contents (Elt F)),
    binary main_v1 main_v2 main_v3 (addf : (⟨S4096x1024, .f32⟩ : BufTy).Contents (Elt F) → (⟨S4096x1024, .f32⟩ : BufTy).Contents (Elt F) → (⟨S4096x1024, .f32⟩ : BufTy).Contents (Elt F)),
    unary main_arg1 main_v4 ((extf .f32 · bitsLt_bf16_f32) : (⟨S4096x2816, .bf16⟩ : BufTy).Contents (Elt F) → (⟨S4096x2816, .f32⟩ : BufTy).Contents (Elt F)),
    binary main_v4 main_arg7 main_v5 ((fun l r => Host.dotGeneral dot_S4096x2816_S2816x1024_S4096x1024_1_0_0_1_n_n none l r) : (⟨S4096x2816, .f32⟩ : BufTy).Contents (Elt F) → (⟨S2816x1024, .f32⟩ : BufTy).Contents (Elt F) → (⟨S4096x1024, .f32⟩ : BufTy).Contents (Elt F)),
    nullary main_cst (constant S_ .f32 0x3F9837F0#32),
    unary main_cst main_v6 (broadcastInDim S4096x1024 ![] bcast_S_S4096x1024 : (⟨S_, .f32⟩ : BufTy).Contents (Elt F) → (⟨S4096x1024, .f32⟩ : BufTy).Contents (Elt F)),
    binary main_v6 main_v3 main_v7 (mulf : (⟨S4096x1024, .f32⟩ : BufTy).Contents (Elt F) → (⟨S4096x1024, .f32⟩ : BufTy).Contents (Elt F) → (⟨S4096x1024, .f32⟩ : BufTy).Contents (Elt F)),
    binary main_v7 main_v5 main_v8 (addf : (⟨S4096x1024, .f32⟩ : BufTy).Contents (Elt F) → (⟨S4096x1024, .f32⟩ : BufTy).Contents (Elt F) → (⟨S4096x1024, .f32⟩ : BufTy).Contents (Elt F)),
    binary main_v3 main_arg9 main_v9 ((fun l r => Host.dotGeneral dot_S4096x1024_S1024x1024_S4096x1024_1_0_0_1_n_n none l r) : (⟨S4096x1024, .f32⟩ : BufTy).Contents (Elt F) → (⟨S1024x1024, .f32⟩ : BufTy).Contents (Elt F) → (⟨S4096x1024, .f32⟩ : BufTy).Contents (Elt F)),
    unary main_v9 main_v10 (Host.negf : (⟨S4096x1024, .f32⟩ : BufTy).Contents (Elt F) → (⟨S4096x1024, .f32⟩ : BufTy).Contents (Elt F)),
    unary main_v10 main_v11 (Host.exp : (⟨S4096x1024, .f32⟩ : BufTy).Contents (Elt F) → (⟨S4096x1024, .f32⟩ : BufTy).Contents (Elt F)),
    nullary main_cst_0 (constant S_ .f32 0x3F800000#32),
    unary main_cst_0 main_v12 (broadcastInDim S4096x1024 ![] bcast_S_S4096x1024 : (⟨S_, .f32⟩ : BufTy).Contents (Elt F) → (⟨S4096x1024, .f32⟩ : BufTy).Contents (Elt F)),
    binary main_v12 main_v11 main_v13 (addf : (⟨S4096x1024, .f32⟩ : BufTy).Contents (Elt F) → (⟨S4096x1024, .f32⟩ : BufTy).Contents (Elt F) → (⟨S4096x1024, .f32⟩ : BufTy).Contents (Elt F)),
    nullary main_cst_1 (constant S_ .f32 0x3F800000#32),
    unary main_cst_1 main_v14 (broadcastInDim S4096x1024 ![] bcast_S_S4096x1024 : (⟨S_, .f32⟩ : BufTy).Contents (Elt F) → (⟨S4096x1024, .f32⟩ : BufTy).Contents (Elt F)),
    binary main_v14 main_v13 main_v15 (Host.divf : (⟨S4096x1024, .f32⟩ : BufTy).Contents (Elt F) → (⟨S4096x1024, .f32⟩ : BufTy).Contents (Elt F) → (⟨S4096x1024, .f32⟩ : BufTy).Contents (Elt F)),
    binary main_arg5 main_arg8 main_v16 ((fun l r => Host.dotGeneral dot_S4096x256_S256x1024_S4096x1024_1_0_0_1_n_n none l r) : (⟨S4096x256, .f32⟩ : BufTy).Contents (Elt F) → (⟨S256x1024, .f32⟩ : BufTy).Contents (Elt F) → (⟨S4096x1024, .f32⟩ : BufTy).Contents (Elt F)),
    binary main_v15 main_v16 main_v17 (mulf : (⟨S4096x1024, .f32⟩ : BufTy).Contents (Elt F) → (⟨S4096x1024, .f32⟩ : BufTy).Contents (Elt F) → (⟨S4096x1024, .f32⟩ : BufTy).Contents (Elt F)),
    binary main_v8 main_v17 main_v18 (addf : (⟨S4096x1024, .f32⟩ : BufTy).Contents (Elt F) → (⟨S4096x1024, .f32⟩ : BufTy).Contents (Elt F) → (⟨S4096x1024, .f32⟩ : BufTy).Contents (Elt F)) ]

set_option maxRecDepth 8192 in
/-- Each touches arrays of the device only. -/
theorem ops1_sub : (ops1 : List (HloOp τ sig (Elt F))).Forall fun op => op.bufs ⊆ tcRefs τ sig :=
  ⟨unary_bufs_sub .., binary_bufs_sub .., unary_bufs_sub .., binary_bufs_sub .., unary_bufs_sub .., binary_bufs_sub .., nullary_bufs_sub .., unary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub ..⟩

/-- Each determines its result. -/
theorem ops1_fresh : ∀ op ∈ (ops1 : List (HloOp τ sig (Elt F))), op.fresh = ∅ := by
  intro _ h; (repeat (cases h with | head => rfl | tail _ h => ?_)); exact nomatch h

/-- The operations up to the gradient on its output. -/
abbrev ops2 : List (HloOp τ sig (Elt F)) :=
  [ nullary main_cst_2 (constant S_ .f32 0x00000000#32),
    binary main_v18 main_cst_2 main_v19 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v19 main_v20 (broadcastInDim S4096x1 ![0] bcast_S4096_S4096x1_0 : (⟨S4096, .f32⟩ : BufTy).Contents (Elt F) → (⟨S4096x1, .f32⟩ : BufTy).Contents (Elt F)),
    nullary main_cst_3 (constant S_ .f32 0x44800000#32),
    unary main_cst_3 main_v21 (broadcastInDim S4096x1 ![] bcast_S_S4096x1 : (⟨S_, .f32⟩ : BufTy).Contents (Elt F) → (⟨S4096x1, .f32⟩ : BufTy).Contents (Elt F)),
    binary main_v20 main_v21 main_v22 (Host.divf : (⟨S4096x1, .f32⟩ : BufTy).Contents (Elt F) → (⟨S4096x1, .f32⟩ : BufTy).Contents (Elt F) → (⟨S4096x1, .f32⟩ : BufTy).Contents (Elt F)),
    unary main_v22 main_v23 (broadcastInDim S4096x1024 ![0, 1] bcast_S4096x1_S4096x1024_0_1 : (⟨S4096x1, .f32⟩ : BufTy).Contents (Elt F) → (⟨S4096x1024, .f32⟩ : BufTy).Contents (Elt F)),
    binary main_v18 main_v23 main_v24 (subf : (⟨S4096x1024, .f32⟩ : BufTy).Contents (Elt F) → (⟨S4096x1024, .f32⟩ : BufTy).Contents (Elt F) → (⟨S4096x1024, .f32⟩ : BufTy).Contents (Elt F)),
    binary main_v24 main_v24 main_v25 (mulf : (⟨S4096x1024, .f32⟩ : BufTy).Contents (Elt F) → (⟨S4096x1024, .f32⟩ : BufTy).Contents (Elt F) → (⟨S4096x1024, .f32⟩ : BufTy).Contents (Elt F)),
    nullary main_cst_4 (constant S_ .f32 0x40000000#32),
    unary main_cst_4 main_v26 (broadcastInDim S4096x1024 ![] bcast_S_S4096x1024 : (⟨S_, .f32⟩ : BufTy).Contents (Elt F) → (⟨S4096x1024, .f32⟩ : BufTy).Contents (Elt F)),
    binary main_v26 main_v24 main_v27 (mulf : (⟨S4096x1024, .f32⟩ : BufTy).Contents (Elt F) → (⟨S4096x1024, .f32⟩ : BufTy).Contents (Elt F) → (⟨S4096x1024, .f32⟩ : BufTy).Contents (Elt F)),
    nullary main_cst_5 (constant S_ .f32 0x00000000#32),
    binary main_v25 main_cst_5 main_v28 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    unary main_v28 main_v29 (broadcastInDim S4096x1 ![0] bcast_S4096_S4096x1_0 : (⟨S4096, .f32⟩ : BufTy).Contents (Elt F) → (⟨S4096x1, .f32⟩ : BufTy).Contents (Elt F)),
    nullary main_cst_6 (constant S_ .f32 0x44800000#32),
    unary main_cst_6 main_v30 (broadcastInDim S4096x1 ![] bcast_S_S4096x1 : (⟨S_, .f32⟩ : BufTy).Contents (Elt F) → (⟨S4096x1, .f32⟩ : BufTy).Contents (Elt F)),
    binary main_v29 main_v30 main_v31 (Host.divf : (⟨S4096x1, .f32⟩ : BufTy).Contents (Elt F) → (⟨S4096x1, .f32⟩ : BufTy).Contents (Elt F) → (⟨S4096x1, .f32⟩ : BufTy).Contents (Elt F)),
    unary main_v22 main_v32 (broadcastInDim S4096x1024 ![0, 1] bcast_S4096x1_S4096x1024_0_1 : (⟨S4096x1, .f32⟩ : BufTy).Contents (Elt F) → (⟨S4096x1024, .f32⟩ : BufTy).Contents (Elt F)),
    binary main_v18 main_v32 main_v33 (subf : (⟨S4096x1024, .f32⟩ : BufTy).Contents (Elt F) → (⟨S4096x1024, .f32⟩ : BufTy).Contents (Elt F) → (⟨S4096x1024, .f32⟩ : BufTy).Contents (Elt F)),
    nullary main_cst_7 (constant S_ .f32 0x3727C5AC#32),
    unary main_cst_7 main_v34 (broadcastInDim S4096x1 ![] bcast_S_S4096x1 : (⟨S_, .f32⟩ : BufTy).Contents (Elt F) → (⟨S4096x1, .f32⟩ : BufTy).Contents (Elt F)),
    binary main_v31 main_v34 main_v35 (addf : (⟨S4096x1, .f32⟩ : BufTy).Contents (Elt F) → (⟨S4096x1, .f32⟩ : BufTy).Contents (Elt F) → (⟨S4096x1, .f32⟩ : BufTy).Contents (Elt F)),
    unary main_v35 main_v36 (Host.rsqrt : (⟨S4096x1, .f32⟩ : BufTy).Contents (Elt F) → (⟨S4096x1, .f32⟩ : BufTy).Contents (Elt F)),
    binary main_v36 main_v35 main_v37 (Host.divf : (⟨S4096x1, .f32⟩ : BufTy).Contents (Elt F) → (⟨S4096x1, .f32⟩ : BufTy).Contents (Elt F) → (⟨S4096x1, .f32⟩ : BufTy).Contents (Elt F)),
    nullary main_cst_8 (constant S_ .f32 0xBF000000#32),
    unary main_cst_8 main_v38 (broadcastInDim S4096x1 ![] bcast_S_S4096x1 : (⟨S_, .f32⟩ : BufTy).Contents (Elt F) → (⟨S4096x1, .f32⟩ : BufTy).Contents (Elt F)),
    binary main_v38 main_v37 main_v39 (mulf : (⟨S4096x1, .f32⟩ : BufTy).Contents (Elt F) → (⟨S4096x1, .f32⟩ : BufTy).Contents (Elt F) → (⟨S4096x1, .f32⟩ : BufTy).Contents (Elt F)),
    unary main_v36 main_v40 (broadcastInDim S4096x1024 ![0, 1] bcast_S4096x1_S4096x1024_0_1 : (⟨S4096x1, .f32⟩ : BufTy).Contents (Elt F) → (⟨S4096x1024, .f32⟩ : BufTy).Contents (Elt F)),
    binary main_v33 main_v40 main_v41 (mulf : (⟨S4096x1024, .f32⟩ : BufTy).Contents (Elt F) → (⟨S4096x1024, .f32⟩ : BufTy).Contents (Elt F) → (⟨S4096x1024, .f32⟩ : BufTy).Contents (Elt F)),
    unary main_arg12 main_v42 (broadcastInDim S4096x1024 ![0, 1] bcast_S1x1024_S4096x1024_0_1 : (⟨S1x1024, .f32⟩ : BufTy).Contents (Elt F) → (⟨S4096x1024, .f32⟩ : BufTy).Contents (Elt F)),
    binary main_v41 main_v42 main_v43 (mulf : (⟨S4096x1024, .f32⟩ : BufTy).Contents (Elt F) → (⟨S4096x1024, .f32⟩ : BufTy).Contents (Elt F) → (⟨S4096x1024, .f32⟩ : BufTy).Contents (Elt F)),
    unary main_arg13 main_v44 (broadcastInDim S4096x1024 ![0, 1] bcast_S1x1024_S4096x1024_0_1 : (⟨S1x1024, .f32⟩ : BufTy).Contents (Elt F) → (⟨S4096x1024, .f32⟩ : BufTy).Contents (Elt F)),
    binary main_v43 main_v44 main_v45 (addf : (⟨S4096x1024, .f32⟩ : BufTy).Contents (Elt F) → (⟨S4096x1024, .f32⟩ : BufTy).Contents (Elt F) → (⟨S4096x1024, .f32⟩ : BufTy).Contents (Elt F)),
    binary main_v45 main_arg6 main_v46 (subf : (⟨S4096x1024, .f32⟩ : BufTy).Contents (Elt F) → (⟨S4096x1024, .f32⟩ : BufTy).Contents (Elt F) → (⟨S4096x1024, .f32⟩ : BufTy).Contents (Elt F)),
    binary main_v46 main_v46 main_v47 (mulf : (⟨S4096x1024, .f32⟩ : BufTy).Contents (Elt F) → (⟨S4096x1024, .f32⟩ : BufTy).Contents (Elt F) → (⟨S4096x1024, .f32⟩ : BufTy).Contents (Elt F)),
    nullary main_cst_9 (constant S_ .f32 0x40000000#32),
    unary main_cst_9 main_v48 (broadcastInDim S4096x1024 ![] bcast_S_S4096x1024 : (⟨S_, .f32⟩ : BufTy).Contents (Elt F) → (⟨S4096x1024, .f32⟩ : BufTy).Contents (Elt F)),
    binary main_v48 main_v46 main_v49 (mulf : (⟨S4096x1024, .f32⟩ : BufTy).Contents (Elt F) → (⟨S4096x1024, .f32⟩ : BufTy).Contents (Elt F) → (⟨S4096x1024, .f32⟩ : BufTy).Contents (Elt F)),
    nullary main_cst_10 (constant S_ .f32 0x3A000000#32),
    unary main_cst_10 main_v50 (broadcastInDim S4096x1024 ![] bcast_S_S4096x1024 : (⟨S_, .f32⟩ : BufTy).Contents (Elt F) → (⟨S4096x1024, .f32⟩ : BufTy).Contents (Elt F)),
    binary main_v50 main_v49 main_v51 (mulf : (⟨S4096x1024, .f32⟩ : BufTy).Contents (Elt F) → (⟨S4096x1024, .f32⟩ : BufTy).Contents (Elt F) → (⟨S4096x1024, .f32⟩ : BufTy).Contents (Elt F)) ]

set_option maxRecDepth 8192 in
/-- Each touches arrays of the device only. -/
theorem ops2_sub : (ops2 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., unary_bufs_sub .., binary_bufs_sub .., unary_bufs_sub .., binary_bufs_sub .., binary_bufs_sub .., binary_bufs_sub .., nullary_bufs_sub .., unary_bufs_sub .., binary_bufs_sub .., nullary_bufs_sub .., unary_bufs_sub .., binary_bufs_sub ..⟩

/-- Each determines its result. -/
theorem ops2_fresh : ∀ op ∈ (ops2 : List (HloOp τ sig (Elt F))), op.fresh = ∅ := by
  intro _ h; (repeat (cases h with | head => rfl | tail _ h => ?_)); exact nomatch h

/-- The operations up to the gradient on its input. -/
abbrev ops3 : List (HloOp τ sig (Elt F)) :=
  [ unary main_arg12 main_v52 (broadcastInDim S4096x1024 ![0, 1] bcast_S1x1024_S4096x1024_0_1 : (⟨S1x1024, .f32⟩ : BufTy).Contents (Elt F) → (⟨S4096x1024, .f32⟩ : BufTy).Contents (Elt F)),
    binary main_v51 main_v52 main_v53 (mulf : (⟨S4096x1024, .f32⟩ : BufTy).Contents (Elt F) → (⟨S4096x1024, .f32⟩ : BufTy).Contents (Elt F) → (⟨S4096x1024, .f32⟩ : BufTy).Contents (Elt F)),
    binary main_v33 main_v53 main_v54 (mulf : (⟨S4096x1024, .f32⟩ : BufTy).Contents (Elt F) → (⟨S4096x1024, .f32⟩ : BufTy).Contents (Elt F) → (⟨S4096x1024, .f32⟩ : BufTy).Contents (Elt F)),
    nullary main_cst_11 (constant S_ .f32 0x00000000#32),
    binary main_v54 main_cst_11 main_v55 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    reshape main_v55 main_v56 (rfl : (.f32 : EltTy) = .f32) shapeCasts_S4096_S4096x1,
    unary main_v36 main_v57 (broadcastInDim S4096x1024 ![0, 1] bcast_S4096x1_S4096x1024_0_1 : (⟨S4096x1, .f32⟩ : BufTy).Contents (Elt F) → (⟨S4096x1024, .f32⟩ : BufTy).Contents (Elt F)),
    binary main_v53 main_v57 main_v58 (mulf : (⟨S4096x1024, .f32⟩ : BufTy).Contents (Elt F) → (⟨S4096x1024, .f32⟩ : BufTy).Contents (Elt F) → (⟨S4096x1024, .f32⟩ : BufTy).Contents (Elt F)),
    binary main_v56 main_v39 main_v59 (mulf : (⟨S4096x1, .f32⟩ : BufTy).Contents (Elt F) → (⟨S4096x1, .f32⟩ : BufTy).Contents (Elt F) → (⟨S4096x1, .f32⟩ : BufTy).Contents (Elt F)),
    unary main_v58 main_v60 (Host.negf : (⟨S4096x1024, .f32⟩ : BufTy).Contents (Elt F) → (⟨S4096x1024, .f32⟩ : BufTy).Contents (Elt F)),
    nullary main_cst_12 (constant S_ .f32 0x00000000#32),
    binary main_v60 main_cst_12 main_v61 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    reshape main_v61 main_v62 (rfl : (.f32 : EltTy) = .f32) shapeCasts_S4096_S4096x1,
    nullary main_cst_13 (constant S_ .f32 0x44800000#32),
    unary main_cst_13 main_v63 (broadcastInDim S4096x1 ![] bcast_S_S4096x1 : (⟨S_, .f32⟩ : BufTy).Contents (Elt F) → (⟨S4096x1, .f32⟩ : BufTy).Contents (Elt F)),
    binary main_v59 main_v63 main_v64 (Host.divf : (⟨S4096x1, .f32⟩ : BufTy).Contents (Elt F) → (⟨S4096x1, .f32⟩ : BufTy).Contents (Elt F) → (⟨S4096x1, .f32⟩ : BufTy).Contents (Elt F)),
    nullary main_cst_14 (constant S_ .f32 0x00000000#32),
    binary main_v64 main_cst_14 main_v65 ((fun x v => Host.reduceAdd x v reducesTo_S4096x1_S4096_d1 h_S_) : (⟨S4096x1, .f32⟩ : BufTy).Contents (Elt F) → (⟨S_, .f32⟩ : BufTy).Contents (Elt F) → (⟨S4096, .f32⟩ : BufTy).Contents (Elt F)),
    unary main_v65 main_v66 (broadcastInDim S4096x1024 ![0] bcast_S4096_S4096x1024_0 : (⟨S4096, .f32⟩ : BufTy).Contents (Elt F) → (⟨S4096x1024, .f32⟩ : BufTy).Contents (Elt F)),
    binary main_v66 main_v27 main_v67 (mulf : (⟨S4096x1024, .f32⟩ : BufTy).Contents (Elt F) → (⟨S4096x1024, .f32⟩ : BufTy).Contents (Elt F) → (⟨S4096x1024, .f32⟩ : BufTy).Contents (Elt F)),
    unary main_v67 main_v68 (Host.negf : (⟨S4096x1024, .f32⟩ : BufTy).Contents (Elt F) → (⟨S4096x1024, .f32⟩ : BufTy).Contents (Elt F)),
    nullary main_cst_15 (constant S_ .f32 0x00000000#32),
    binary main_v68 main_cst_15 main_v69 ((fun x v => Host.reduceAdd x v reducesTo_S4096x1024_S4096_d1 h_S_) : (⟨S4096x1024, .f32⟩ : BufTy).Contents (Elt F) → (⟨S_, .f32⟩ : BufTy).Contents (Elt F) → (⟨S4096, .f32⟩ : BufTy).Contents (Elt F)),
    reshape main_v69 main_v70 (rfl : (.f32 : EltTy) = .f32) shapeCasts_S4096_S4096x1,
    binary main_v58 main_v67 main_v71 (addf : (⟨S4096x1024, .f32⟩ : BufTy).Contents (Elt F) → (⟨S4096x1024, .f32⟩ : BufTy).Contents (Elt F) → (⟨S4096x1024, .f32⟩ : BufTy).Contents (Elt F)),
    binary main_v62 main_v70 main_v72 (addf : (⟨S4096x1, .f32⟩ : BufTy).Contents (Elt F) → (⟨S4096x1, .f32⟩ : BufTy).Contents (Elt F) → (⟨S4096x1, .f32⟩ : BufTy).Contents (Elt F)),
    nullary main_cst_16 (constant S_ .f32 0x44800000#32),
    unary main_cst_16 main_v73 (broadcastInDim S4096x1 ![] bcast_S_S4096x1 : (⟨S_, .f32⟩ : BufTy).Contents (Elt F) → (⟨S4096x1, .f32⟩ : BufTy).Contents (Elt F)),
    binary main_v72 main_v73 main_v74 (Host.divf : (⟨S4096x1, .f32⟩ : BufTy).Contents (Elt F) → (⟨S4096x1, .f32⟩ : BufTy).Contents (Elt F) → (⟨S4096x1, .f32⟩ : BufTy).Contents (Elt F)),
    nullary main_cst_17 (constant S_ .f32 0x00000000#32),
    binary main_v74 main_cst_17 main_v75 ((fun x v => Host.reduceAdd x v reducesTo_S4096x1_S4096_d1 h_S_) : (⟨S4096x1, .f32⟩ : BufTy).Contents (Elt F) → (⟨S_, .f32⟩ : BufTy).Contents (Elt F) → (⟨S4096, .f32⟩ : BufTy).Contents (Elt F)),
    unary main_v75 main_v76 (broadcastInDim S4096x1024 ![0] bcast_S4096_S4096x1024_0 : (⟨S4096, .f32⟩ : BufTy).Contents (Elt F) → (⟨S4096x1024, .f32⟩ : BufTy).Contents (Elt F)),
    binary main_v71 main_v76 main_v77 (addf : (⟨S4096x1024, .f32⟩ : BufTy).Contents (Elt F) → (⟨S4096x1024, .f32⟩ : BufTy).Contents (Elt F) → (⟨S4096x1024, .f32⟩ : BufTy).Contents (Elt F)) ]

set_option maxRecDepth 8192 in
/-- Each touches arrays of the device only. -/
theorem ops3_sub : (ops3 : List (HloOp τ sig (Elt F))).Forall fun op => op.bufs ⊆ tcRefs τ sig :=
  ⟨unary_bufs_sub .., binary_bufs_sub .., binary_bufs_sub .., nullary_bufs_sub .., binary_bufs_sub .., reshape_bufs_sub .., unary_bufs_sub .., binary_bufs_sub .., binary_bufs_sub .., unary_bufs_sub .., nullary_bufs_sub .., binary_bufs_sub .., reshape_bufs_sub .., nullary_bufs_sub .., unary_bufs_sub .., binary_bufs_sub .., nullary_bufs_sub .., binary_bufs_sub .., unary_bufs_sub .., binary_bufs_sub .., unary_bufs_sub .., nullary_bufs_sub .., binary_bufs_sub .., reshape_bufs_sub .., binary_bufs_sub .., binary_bufs_sub .., nullary_bufs_sub .., unary_bufs_sub .., binary_bufs_sub .., nullary_bufs_sub .., binary_bufs_sub .., unary_bufs_sub .., binary_bufs_sub ..⟩

/-- Each determines its result. -/
theorem ops3_fresh : ∀ op ∈ (ops3 : List (HloOp τ sig (Elt F))), op.fresh = ∅ := by
  intro _ h; (repeat (cases h with | head => rfl | tail _ h => ?_)); exact nomatch h

/-- All of them, in order. -/
abbrev ops : List (HloOp τ sig (Elt F)) := ops1 ++ (ops2 ++ ops3)

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_append.2 ⟨ops1_sub, List.forall_append.2 ⟨ops2_sub, ops3_sub⟩⟩

theorem ops_fresh : ∀ op ∈ (ops : List (HloOp τ sig (Elt F))), op.fresh = ∅ := fun op h =>
  (List.mem_append.1 h).elim (ops1_fresh op) fun h => (List.mem_append.1 h).elim (ops2_fresh op) (ops3_fresh op)

/-- Operations run one list after the other. -/
theorem after_app (l k : List (HloOp τ sig (Elt F))) (V : Valuation τ sig (Elt F)) : after (l ++ k) V = after k (after l V) := by
  induction l generalizing V with
  | nil => rfl
  | cons op l ih => exact ih _

/-! ### What they leave -/

/-- The first operations leave the layer norm's input. -/
theorem at_z (V : Valuation τ sig (Elt F)) : after ops1 V (Proc.devRef .tc main_v18) = zVal (V (Proc.devRef .tc main_arg1)) (V (Proc.devRef .tc main_arg4)) (V (Proc.devRef .tc main_arg5)) (V (Proc.devRef .tc main_arg7)) (V (Proc.devRef .tc main_arg8)) (V (Proc.devRef .tc main_arg9)) (V (Proc.devRef .tc main_arg10)) (V (Proc.devRef .tc main_arg11)) := by
  after_results_simp <;> rfl

/-- The next leave twice the centred input, -/
theorem at_two (V : Valuation τ sig (Elt F)) : after ops2 V (Proc.devRef .tc main_v27) = twoVal (sqVal (V (Proc.devRef .tc main_v18))) := by
  after_results_simp <;> rfl

/-- the centred input, -/
theorem at_c (V : Valuation τ sig (Elt F)) : after ops2 V (Proc.devRef .tc main_v33) = cVal (V (Proc.devRef .tc main_v18)) := by
  after_results_simp <;> rfl

/-- the inverse deviation, -/
theorem at_rs (V : Valuation τ sig (Elt F)) : after ops2 V (Proc.devRef .tc main_v36) = rsVal (varVal (sqVal (V (Proc.devRef .tc main_v18)))) := by
  after_results_simp <;> rfl

/-- its derivative, -/
theorem at_dv (V : Valuation τ sig (Elt F)) : after ops2 V (Proc.devRef .tc main_v39) = dvVal (varVal (sqVal (V (Proc.devRef .tc main_v18)))) (rsVal (varVal (sqVal (V (Proc.devRef .tc main_v18))))) := by
  after_results_simp <;> rfl

/-- and the loss's gradient on the layer norm's output. -/
theorem at_e (V : Valuation τ sig (Elt F)) : after ops2 V (Proc.devRef .tc main_v51) = eVal (cVal (V (Proc.devRef .tc main_v18))) (rsVal (varVal (sqVal (V (Proc.devRef .tc main_v18))))) (V (Proc.devRef .tc main_arg6)) (V (Proc.devRef .tc main_arg12)) (V (Proc.devRef .tc main_arg13)) := by
  after_results_simp <;> rfl

/-- The last leave the gradient on the layer norm's input. -/
theorem at_dz (V : Valuation τ sig (Elt F)) : after ops3 V (Proc.devRef .tc main_v77) = dzVal (V (Proc.devRef .tc main_v27)) (V (Proc.devRef .tc main_v33)) (V (Proc.devRef .tc main_v36)) (V (Proc.devRef .tc main_v39)) (V (Proc.devRef .tc main_v51)) (V (Proc.devRef .tc main_arg12)) := by
  after_results_simp <;> rfl

/-! ### The arguments are kept -/

theorem keep1_0 (V : Valuation τ sig (Elt F)) : after ops1 V (Proc.devRef .tc main_arg0) = V (Proc.devRef .tc main_arg0) := by
  after_results_simp
theorem keep1_1 (V : Valuation τ sig (Elt F)) : after ops1 V (Proc.devRef .tc main_arg1) = V (Proc.devRef .tc main_arg1) := by
  after_results_simp
theorem keep1_2 (V : Valuation τ sig (Elt F)) : after ops1 V (Proc.devRef .tc main_arg2) = V (Proc.devRef .tc main_arg2) := by
  after_results_simp
theorem keep1_3 (V : Valuation τ sig (Elt F)) : after ops1 V (Proc.devRef .tc main_arg3) = V (Proc.devRef .tc main_arg3) := by
  after_results_simp
theorem keep1_4 (V : Valuation τ sig (Elt F)) : after ops1 V (Proc.devRef .tc main_arg4) = V (Proc.devRef .tc main_arg4) := by
  after_results_simp
theorem keep1_5 (V : Valuation τ sig (Elt F)) : after ops1 V (Proc.devRef .tc main_arg5) = V (Proc.devRef .tc main_arg5) := by
  after_results_simp
theorem keep1_6 (V : Valuation τ sig (Elt F)) : after ops1 V (Proc.devRef .tc main_arg6) = V (Proc.devRef .tc main_arg6) := by
  after_results_simp
theorem keep1_7 (V : Valuation τ sig (Elt F)) : after ops1 V (Proc.devRef .tc main_arg7) = V (Proc.devRef .tc main_arg7) := by
  after_results_simp
theorem keep1_8 (V : Valuation τ sig (Elt F)) : after ops1 V (Proc.devRef .tc main_arg8) = V (Proc.devRef .tc main_arg8) := by
  after_results_simp
theorem keep1_9 (V : Valuation τ sig (Elt F)) : after ops1 V (Proc.devRef .tc main_arg9) = V (Proc.devRef .tc main_arg9) := by
  after_results_simp
theorem keep1_10 (V : Valuation τ sig (Elt F)) : after ops1 V (Proc.devRef .tc main_arg10) = V (Proc.devRef .tc main_arg10) := by
  after_results_simp
theorem keep1_11 (V : Valuation τ sig (Elt F)) : after ops1 V (Proc.devRef .tc main_arg11) = V (Proc.devRef .tc main_arg11) := by
  after_results_simp
theorem keep1_12 (V : Valuation τ sig (Elt F)) : after ops1 V (Proc.devRef .tc main_arg12) = V (Proc.devRef .tc main_arg12) := by
  after_results_simp
theorem keep1_13 (V : Valuation τ sig (Elt F)) : after ops1 V (Proc.devRef .tc main_arg13) = V (Proc.devRef .tc main_arg13) := by
  after_results_simp

theorem keep2_0 (V : Valuation τ sig (Elt F)) : after ops2 V (Proc.devRef .tc main_arg0) = V (Proc.devRef .tc main_arg0) := by
  after_results_simp
theorem keep2_1 (V : Valuation τ sig (Elt F)) : after ops2 V (Proc.devRef .tc main_arg1) = V (Proc.devRef .tc main_arg1) := by
  after_results_simp
theorem keep2_2 (V : Valuation τ sig (Elt F)) : after ops2 V (Proc.devRef .tc main_arg2) = V (Proc.devRef .tc main_arg2) := by
  after_results_simp
theorem keep2_3 (V : Valuation τ sig (Elt F)) : after ops2 V (Proc.devRef .tc main_arg3) = V (Proc.devRef .tc main_arg3) := by
  after_results_simp
theorem keep2_4 (V : Valuation τ sig (Elt F)) : after ops2 V (Proc.devRef .tc main_arg4) = V (Proc.devRef .tc main_arg4) := by
  after_results_simp
theorem keep2_5 (V : Valuation τ sig (Elt F)) : after ops2 V (Proc.devRef .tc main_arg5) = V (Proc.devRef .tc main_arg5) := by
  after_results_simp
theorem keep2_6 (V : Valuation τ sig (Elt F)) : after ops2 V (Proc.devRef .tc main_arg6) = V (Proc.devRef .tc main_arg6) := by
  after_results_simp
theorem keep2_7 (V : Valuation τ sig (Elt F)) : after ops2 V (Proc.devRef .tc main_arg7) = V (Proc.devRef .tc main_arg7) := by
  after_results_simp
theorem keep2_8 (V : Valuation τ sig (Elt F)) : after ops2 V (Proc.devRef .tc main_arg8) = V (Proc.devRef .tc main_arg8) := by
  after_results_simp
theorem keep2_9 (V : Valuation τ sig (Elt F)) : after ops2 V (Proc.devRef .tc main_arg9) = V (Proc.devRef .tc main_arg9) := by
  after_results_simp
theorem keep2_10 (V : Valuation τ sig (Elt F)) : after ops2 V (Proc.devRef .tc main_arg10) = V (Proc.devRef .tc main_arg10) := by
  after_results_simp
theorem keep2_11 (V : Valuation τ sig (Elt F)) : after ops2 V (Proc.devRef .tc main_arg11) = V (Proc.devRef .tc main_arg11) := by
  after_results_simp
theorem keep2_12 (V : Valuation τ sig (Elt F)) : after ops2 V (Proc.devRef .tc main_arg12) = V (Proc.devRef .tc main_arg12) := by
  after_results_simp
theorem keep2_13 (V : Valuation τ sig (Elt F)) : after ops2 V (Proc.devRef .tc main_arg13) = V (Proc.devRef .tc main_arg13) := by
  after_results_simp

theorem keep3_0 (V : Valuation τ sig (Elt F)) : after ops3 V (Proc.devRef .tc main_arg0) = V (Proc.devRef .tc main_arg0) := by
  after_results_simp
theorem keep3_1 (V : Valuation τ sig (Elt F)) : after ops3 V (Proc.devRef .tc main_arg1) = V (Proc.devRef .tc main_arg1) := by
  after_results_simp
theorem keep3_2 (V : Valuation τ sig (Elt F)) : after ops3 V (Proc.devRef .tc main_arg2) = V (Proc.devRef .tc main_arg2) := by
  after_results_simp
theorem keep3_3 (V : Valuation τ sig (Elt F)) : after ops3 V (Proc.devRef .tc main_arg3) = V (Proc.devRef .tc main_arg3) := by
  after_results_simp
theorem keep3_4 (V : Valuation τ sig (Elt F)) : after ops3 V (Proc.devRef .tc main_arg4) = V (Proc.devRef .tc main_arg4) := by
  after_results_simp
theorem keep3_5 (V : Valuation τ sig (Elt F)) : after ops3 V (Proc.devRef .tc main_arg5) = V (Proc.devRef .tc main_arg5) := by
  after_results_simp
theorem keep3_6 (V : Valuation τ sig (Elt F)) : after ops3 V (Proc.devRef .tc main_arg6) = V (Proc.devRef .tc main_arg6) := by
  after_results_simp
theorem keep3_7 (V : Valuation τ sig (Elt F)) : after ops3 V (Proc.devRef .tc main_arg7) = V (Proc.devRef .tc main_arg7) := by
  after_results_simp
theorem keep3_8 (V : Valuation τ sig (Elt F)) : after ops3 V (Proc.devRef .tc main_arg8) = V (Proc.devRef .tc main_arg8) := by
  after_results_simp
theorem keep3_9 (V : Valuation τ sig (Elt F)) : after ops3 V (Proc.devRef .tc main_arg9) = V (Proc.devRef .tc main_arg9) := by
  after_results_simp
theorem keep3_10 (V : Valuation τ sig (Elt F)) : after ops3 V (Proc.devRef .tc main_arg10) = V (Proc.devRef .tc main_arg10) := by
  after_results_simp
theorem keep3_11 (V : Valuation τ sig (Elt F)) : after ops3 V (Proc.devRef .tc main_arg11) = V (Proc.devRef .tc main_arg11) := by
  after_results_simp
theorem keep3_12 (V : Valuation τ sig (Elt F)) : after ops3 V (Proc.devRef .tc main_arg12) = V (Proc.devRef .tc main_arg12) := by
  after_results_simp
theorem keep3_13 (V : Valuation τ sig (Elt F)) : after ops3 V (Proc.devRef .tc main_arg13) = V (Proc.devRef .tc main_arg13) := by
  after_results_simp

set_option maxHeartbeats 4000000 in
/-- Every weakly fair execution of the reference terminates with its result at the composed value and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = outVal (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v77).trans (by
      rw [after_app, after_app, at_dz, at_two, at_c, at_rs, at_dv, at_e, keep2_12, at_z, keep1_6, keep1_12, keep1_13]; rfl),
      (h c main_arg0).trans (by rw [after_app, after_app, keep3_0, keep2_0, keep1_0]),
      (h c main_arg1).trans (by rw [after_app, after_app, keep3_1, keep2_1, keep1_1]),
      (h c main_arg2).trans (by rw [after_app, after_app, keep3_2, keep2_2, keep1_2]),
      (h c main_arg3).trans (by rw [after_app, after_app, keep3_3, keep2_3, keep1_3]),
      (h c main_arg4).trans (by rw [after_app, after_app, keep3_4, keep2_4, keep1_4]),
      (h c main_arg5).trans (by rw [after_app, after_app, keep3_5, keep2_5, keep1_5]),
      (h c main_arg6).trans (by rw [after_app, after_app, keep3_6, keep2_6, keep1_6]),
      (h c main_arg7).trans (by rw [after_app, after_app, keep3_7, keep2_7, keep1_7]),
      (h c main_arg8).trans (by rw [after_app, after_app, keep3_8, keep2_8, keep1_8]),
      (h c main_arg9).trans (by rw [after_app, after_app, keep3_9, keep2_9, keep1_9]),
      (h c main_arg10).trans (by rw [after_app, after_app, keep3_10, keep2_10, keep1_10]),
      (h c main_arg11).trans (by rw [after_app, after_app, keep3_11, keep2_11, keep1_11]),
      (h c main_arg12).trans (by rw [after_app, after_app, keep3_12, keep2_12, keep1_12]),
      (h c main_arg13).trans (by rw [after_app, after_app, keep3_13, keep2_13, keep1_13])⟩)
    (run_seq scopedRefs_eq scopedSems_eq defs main (fun _ => ops) main_eq (fun _ => ops_sub) m ρ (fun _ => ops_fresh))

end Cert.ReferenceLossIdeal.LossRun

end
-- ==== Proof.LossBody.lean ====
/-
  One grid point of the call that ends the forward pass and starts the backward one, run once: its two conditionals
  taken by cases. Of what it leaves, the gradient of the second layer norm's input is named; the other results and the scratch
  are not.
-/
module

public import Idealize.ShloMosaic.Lib.VecWindow
public import proofs.«01_k».proof.Proof.Gen.KernelLossIdeal.Frame.Runs

@[expose] public section

set_option maxRecDepth 16384

noncomputable section

namespace Cert.KernelLossIdeal.Loss

open Cert.KernelLossIdeal Cert.KernelLossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The second layer norm's input at one block of tokens: the residual, the gated projection of the tokens' own embedding and
    the feed-forward block's last product. -/
def z2Blk (xh : Vec F S256x1024 .f32) (g1 b1 : Vec F S1x1024 .f32) (p : Vec F S256x256 .f32) (hb : Vec F S256x1024 .bf16)
    (wpg : Vec F S1024x1024 .bf16) (wpe : Vec F S1024x256 .bf16) (act : Vec F S256x2816 .bf16) (wd : Vec F S2816x1024 .bf16) :
    FVec F S256x1024 .f32 :=
  k0_pay12 xh g1 b1 p hb wpg wpe act wd

/-- The gradient of the second layer norm's input at one block of tokens. -/
def dzBlk (xh : Vec F S256x1024 .f32) (g1 b1 : Vec F S1x1024 .f32) (p : Vec F S256x256 .f32) (hb : Vec F S256x1024 .bf16)
    (wpg : Vec F S1024x1024 .bf16) (wpe : Vec F S1024x256 .bf16) (act : Vec F S256x2816 .bf16) (wd : Vec F S2816x1024 .bf16)
    (g2 b2 : Vec F S1x1024 .f32) (tgt : Vec F S256x1024 .f32) : FVec F S256x1024 .f32 :=
  k0_pay21 (k0_pay14 (z2Blk xh g1 b1 p hb wpg wpe act wd)) (k0_pay19 (z2Blk xh g1 b1 p hb wpg wpe act wd) g2 b2 tgt g2)
    (k0_pay20 (z2Blk xh g1 b1 p hb wpg wpe act wd) g2 b2 tgt g2)

/-- A load of a whole operand is the operand. -/
theorem dz_reads (arg7 : Memref sig .tc .vmem S256x1024 .f32) (arg12 : Memref sig .tc .vmem S1x1024 .f32) (arg13 : Memref sig .tc .vmem S1x1024 .f32) (arg6 : Memref sig .tc .vmem S256x256 .f32) (arg5 : Memref sig .tc .vmem S256x1024 .bf16) (arg10 : Memref sig .tc .vmem S1024x1024 .bf16) (arg11 : Memref sig .tc .vmem S1024x256 .bf16) (arg2 : Memref sig .tc .vmem S256x2816 .bf16) (arg9 : Memref sig .tc .vmem S2816x1024 .bf16) (arg14 : Memref sig .tc .vmem S1x1024 .f32) (arg15 : Memref sig .tc .vmem S1x1024 .f32) (arg8 : Memref sig .tc .vmem S256x1024 .f32) (X_arg7 : BufTy.Contents (Elt F) arg7.view.ty) (X_arg12 : BufTy.Contents (Elt F) arg12.view.ty) (X_arg13 : BufTy.Contents (Elt F) arg13.view.ty) (X_arg6 : BufTy.Contents (Elt F) arg6.view.ty) (X_arg5 : BufTy.Contents (Elt F) arg5.view.ty) (X_arg10 : BufTy.Contents (Elt F) arg10.view.ty) (X_arg11 : BufTy.Contents (Elt F) arg11.view.ty) (X_arg2 : BufTy.Contents (Elt F) arg2.view.ty) (X_arg9 : BufTy.Contents (Elt F) arg9.view.ty) (X_arg14 : BufTy.Contents (Elt F) arg14.view.ty) (X_arg15 : BufTy.Contents (Elt F) arg15.view.ty) (X_arg8 : BufTy.Contents (Elt F) arg8.view.ty) :
    dzBlk (arg7.view.readAt (Elt F) (Rect.unit (s := S256x1024) ![0, 0] S256x1024.size inb_S256x1024_S256x1024_0_0).toLoadRect X_arg7) (arg12.view.readAt (Elt F) (Rect.unit (s := S1x1024) ![0, 0] S1x1024.size inb_S1x1024_S1x1024_0_0).toLoadRect X_arg12) (arg13.view.readAt (Elt F) (Rect.unit (s := S1x1024) ![0, 0] S1x1024.size inb_S1x1024_S1x1024_0_0).toLoadRect X_arg13) (arg6.view.readAt (Elt F) (Rect.unit (s := S256x256) ![0, 0] S256x256.size inb_S256x256_S256x256_0_0).toLoadRect X_arg6) (arg5.view.readAt (Elt F) (Rect.unit (s := S256x1024) ![0, 0] S256x1024.size inb_S256x1024_S256x1024_0_0).toLoadRect X_arg5) (arg10.view.readAt (Elt F) (Rect.unit (s := S1024x1024) ![0, 0] S1024x1024.size inb_S1024x1024_S1024x1024_0_0).toLoadRect X_arg10) (arg11.view.readAt (Elt F) (Rect.unit (s := S1024x256) ![0, 0] S1024x256.size inb_S1024x256_S1024x256_0_0).toLoadRect X_arg11) (arg2.view.readAt (Elt F) (Rect.unit (s := S256x2816) ![0, 0] S256x2816.size inb_S256x2816_S256x2816_0_0).toLoadRect X_arg2) (arg9.view.readAt (Elt F) (Rect.unit (s := S2816x1024) ![0, 0] S2816x1024.size inb_S2816x1024_S2816x1024_0_0).toLoadRect X_arg9) (arg14.view.readAt (Elt F) (Rect.unit (s := S1x1024) ![0, 0] S1x1024.size inb_S1x1024_S1x1024_0_0).toLoadRect X_arg14) (arg15.view.readAt (Elt F) (Rect.unit (s := S1x1024) ![0, 0] S1x1024.size inb_S1x1024_S1x1024_0_0).toLoadRect X_arg15) (arg8.view.readAt (Elt F) (Rect.unit (s := S256x1024) ![0, 0] S256x1024.size inb_S256x1024_S256x1024_0_0).toLoadRect X_arg8)
      = dzBlk (arg7.view.read (Elt F) X_arg7) (arg12.view.read (Elt F) X_arg12) (arg13.view.read (Elt F) X_arg13) (arg6.view.read (Elt F) X_arg6) (arg5.view.read (Elt F) X_arg5) (arg10.view.read (Elt F) X_arg10) (arg11.view.read (Elt F) X_arg11) (arg2.view.read (Elt F) X_arg2) (arg9.view.read (Elt F) X_arg9) (arg14.view.read (Elt F) X_arg14) (arg15.view.read (Elt F) X_arg15) (arg8.view.read (Elt F) X_arg8) := by
  rw [View.readAt_full arg7.view X_arg7 inb_S256x1024_S256x1024_0_0, View.readAt_full arg12.view X_arg12 inb_S1x1024_S1x1024_0_0, View.readAt_full arg13.view X_arg13 inb_S1x1024_S1x1024_0_0, View.readAt_full arg6.view X_arg6 inb_S256x256_S256x256_0_0, View.readAt_full arg5.view X_arg5 inb_S256x1024_S256x1024_0_0, View.readAt_full arg10.view X_arg10 inb_S1024x1024_S1024x1024_0_0, View.readAt_full arg11.view X_arg11 inb_S1024x256_S1024x256_0_0, View.readAt_full arg2.view X_arg2 inb_S256x2816_S256x2816_0_0, View.readAt_full arg9.view X_arg9 inb_S2816x1024_S2816x1024_0_0, View.readAt_full arg14.view X_arg14 inb_S1x1024_S1x1024_0_0, View.readAt_full arg15.view X_arg15 inb_S1x1024_S1x1024_0_0, View.readAt_full arg8.view X_arg8 inb_S256x1024_S256x1024_0_0]

/-- What one grid point holds: its operands at their contents, its results and its scratch at some contents. -/
abbrev BodyAny (c : Dev nD) (arg1 : Memref sig .tc .smem S1 .i32) (arg2 : Memref sig .tc .vmem S256x2816 .bf16) (arg3 : Memref sig .tc .vmem S256x2816 .bf16) (arg4 : Memref sig .tc .vmem S256x2816 .bf16) (arg5 : Memref sig .tc .vmem S256x1024 .bf16) (arg6 : Memref sig .tc .vmem S256x256 .f32) (arg7 : Memref sig .tc .vmem S256x1024 .f32) (arg8 : Memref sig .tc .vmem S256x1024 .f32) (arg9 : Memref sig .tc .vmem S2816x1024 .bf16) (arg10 : Memref sig .tc .vmem S1024x1024 .bf16) (arg11 : Memref sig .tc .vmem S1024x256 .bf16) (arg12 : Memref sig .tc .vmem S1x1024 .f32) (arg13 : Memref sig .tc .vmem S1x1024 .f32) (arg14 : Memref sig .tc .vmem S1x1024 .f32) (arg15 : Memref sig .tc .vmem S1x1024 .f32) (arg16 : Memref sig .tc .vmem S256x1024 .f32) (arg17 : Memref sig .tc .vmem S256x1024 .bf16) (arg18 : Memref sig .tc .vmem S256x1024 .bf16) (arg19 : Memref sig .tc .vmem S256x2816 .bf16) (arg20 : Memref sig .tc .vmem S256x2816 .bf16) (arg21 : Memref sig .tc .vmem S8x1024 .f32) (arg22 : Memref sig .tc .vmem S1024x256 .bf16) (arg23 : Memref sig .tc .vmem S128x256 .f32) (arg24 : Memref sig .tc .vmem S1024x1024 .bf16) (arg25 : Memref sig .tc .vmem S128x1024 .f32) (arg26 : Memref sig .tc .vmem S1024x256 .f32) (arg27 : Memref sig .tc .vmem S1024x1024 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) : sProp 𝕄 :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f : BufTy.Contents (Elt F) arg16.view.ty, (arg16.view.loc (c : Thread nD τ) ↦[arg16.view.set]{fullShare} f)) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)) ∗ (∃ f : BufTy.Contents (Elt F) arg22.view.ty, (arg22.view.loc (c : Thread nD τ) ↦[arg22.view.set]{fullShare} f)) ∗ (∃ f : BufTy.Contents (Elt F) arg23.view.ty, (arg23.view.loc (c : Thread nD τ) ↦[arg23.view.set]{fullShare} f)) ∗ (∃ f : BufTy.Contents (Elt F) arg24.view.ty, (arg24.view.loc (c : Thread nD τ) ↦[arg24.view.set]{fullShare} f)) ∗ (∃ f : BufTy.Contents (Elt F) arg25.view.ty, (arg25.view.loc (c : Thread nD τ) ↦[arg25.view.set]{fullShare} f)) ∗ (∃ f : BufTy.Contents (Elt F) arg26.view.ty, (arg26.view.loc (c : Thread nD τ) ↦[arg26.view.set]{fullShare} f)) ∗ (∃ f : BufTy.Contents (Elt F) arg27.view.ty, (arg27.view.loc (c : Thread nD τ) ↦[arg27.view.set]{fullShare} f)))

/-- What one grid point leaves: the same, and the gradient of the second layer norm's input is its closed form in the
    point's blocks. -/
abbrev BodyNamed (c : Dev nD) (arg1 : Memref sig .tc .smem S1 .i32) (arg2 : Memref sig .tc .vmem S256x2816 .bf16) (arg3 : Memref sig .tc .vmem S256x2816 .bf16) (arg4 : Memref sig .tc .vmem S256x2816 .bf16) (arg5 : Memref sig .tc .vmem S256x1024 .bf16) (arg6 : Memref sig .tc .vmem S256x256 .f32) (arg7 : Memref sig .tc .vmem S256x1024 .f32) (arg8 : Memref sig .tc .vmem S256x1024 .f32) (arg9 : Memref sig .tc .vmem S2816x1024 .bf16) (arg10 : Memref sig .tc .vmem S1024x1024 .bf16) (arg11 : Memref sig .tc .vmem S1024x256 .bf16) (arg12 : Memref sig .tc .vmem S1x1024 .f32) (arg13 : Memref sig .tc .vmem S1x1024 .f32) (arg14 : Memref sig .tc .vmem S1x1024 .f32) (arg15 : Memref sig .tc .vmem S1x1024 .f32) (arg16 : Memref sig .tc .vmem S256x1024 .f32) (arg17 : Memref sig .tc .vmem S256x1024 .bf16) (arg18 : Memref sig .tc .vmem S256x1024 .bf16) (arg19 : Memref sig .tc .vmem S256x2816 .bf16) (arg20 : Memref sig .tc .vmem S256x2816 .bf16) (arg21 : Memref sig .tc .vmem S8x1024 .f32) (arg22 : Memref sig .tc .vmem S1024x256 .bf16) (arg23 : Memref sig .tc .vmem S128x256 .f32) (arg24 : Memref sig .tc .vmem S1024x1024 .bf16) (arg25 : Memref sig .tc .vmem S128x1024 .f32) (arg26 : Memref sig .tc .vmem S1024x256 .f32) (arg27 : Memref sig .tc .vmem S1024x1024 .f32) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) : sProp 𝕄 :=
  iprop((arg1.view.loc (c : Thread nD τ) ↦[arg1.view.set]{fullShare} X_arg1) ∗ (arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12) ∗ (arg13.view.loc (c : Thread nD τ) ↦[arg13.view.set]{fullShare} X_arg13) ∗ (arg14.view.loc (c : Thread nD τ) ↦[arg14.view.set]{fullShare} X_arg14) ∗ (arg15.view.loc (c : Thread nD τ) ↦[arg15.view.set]{fullShare} X_arg15) ∗ (∃ f : BufTy.Contents (Elt F) arg16.view.ty, (arg16.view.loc (c : Thread nD τ) ↦[arg16.view.set]{fullShare} f) ∗ ⌜arg16.view.read (Elt F) f = dzBlk (arg7.view.read (Elt F) X_arg7) (arg12.view.read (Elt F) X_arg12) (arg13.view.read (Elt F) X_arg13) (arg6.view.read (Elt F) X_arg6) (arg5.view.read (Elt F) X_arg5) (arg10.view.read (Elt F) X_arg10) (arg11.view.read (Elt F) X_arg11) (arg2.view.read (Elt F) X_arg2) (arg9.view.read (Elt F) X_arg9) (arg14.view.read (Elt F) X_arg14) (arg15.view.read (Elt F) X_arg15) (arg8.view.read (Elt F) X_arg8)⌝) ∗ (∃ f : BufTy.Contents (Elt F) arg17.view.ty, (arg17.view.loc (c : Thread nD τ) ↦[arg17.view.set]{fullShare} f)) ∗ (∃ f : BufTy.Contents (Elt F) arg18.view.ty, (arg18.view.loc (c : Thread nD τ) ↦[arg18.view.set]{fullShare} f)) ∗ (∃ f : BufTy.Contents (Elt F) arg19.view.ty, (arg19.view.loc (c : Thread nD τ) ↦[arg19.view.set]{fullShare} f)) ∗ (∃ f : BufTy.Contents (Elt F) arg20.view.ty, (arg20.view.loc (c : Thread nD τ) ↦[arg20.view.set]{fullShare} f)) ∗ (∃ f : BufTy.Contents (Elt F) arg21.view.ty, (arg21.view.loc (c : Thread nD τ) ↦[arg21.view.set]{fullShare} f)) ∗ (∃ f : BufTy.Contents (Elt F) arg22.view.ty, (arg22.view.loc (c : Thread nD τ) ↦[arg22.view.set]{fullShare} f)) ∗ (∃ f : BufTy.Contents (Elt F) arg23.view.ty, (arg23.view.loc (c : Thread nD τ) ↦[arg23.view.set]{fullShare} f)) ∗ (∃ f : BufTy.Contents (Elt F) arg24.view.ty, (arg24.view.loc (c : Thread nD τ) ↦[arg24.view.set]{fullShare} f)) ∗ (∃ f : BufTy.Contents (Elt F) arg25.view.ty, (arg25.view.loc (c : Thread nD τ) ↦[arg25.view.set]{fullShare} f)) ∗ (∃ f : BufTy.Contents (Elt F) arg26.view.ty, (arg26.view.loc (c : Thread nD τ) ↦[arg26.view.set]{fullShare} f)) ∗ (∃ f : BufTy.Contents (Elt F) arg27.view.ty, (arg27.view.loc (c : Thread nD τ) ↦[arg27.view.set]{fullShare} f)))

set_option maxHeartbeats 40000000 in
/-- One grid point runs to its return, from some contents of its results and scratch; it leaves the gradient of the second
    layer norm's input at its closed form. -/
theorem body_any (c : Dev nD) (i : grid0.Coords) (arg1 : Memref sig .tc .smem S1 .i32) (harg1 : arg1.IsWhole) (arg2 : Memref sig .tc .vmem S256x2816 .bf16) (harg2 : arg2.IsWhole) (arg3 : Memref sig .tc .vmem S256x2816 .bf16) (harg3 : arg3.IsWhole) (arg4 : Memref sig .tc .vmem S256x2816 .bf16) (harg4 : arg4.IsWhole) (arg5 : Memref sig .tc .vmem S256x1024 .bf16) (harg5 : arg5.IsWhole) (arg6 : Memref sig .tc .vmem S256x256 .f32) (harg6 : arg6.IsWhole) (arg7 : Memref sig .tc .vmem S256x1024 .f32) (harg7 : arg7.IsWhole) (arg8 : Memref sig .tc .vmem S256x1024 .f32) (harg8 : arg8.IsWhole) (arg9 : Memref sig .tc .vmem S2816x1024 .bf16) (harg9 : arg9.IsWhole) (arg10 : Memref sig .tc .vmem S1024x1024 .bf16) (harg10 : arg10.IsWhole) (arg11 : Memref sig .tc .vmem S1024x256 .bf16) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S256x1024 .f32) (harg16 : arg16.IsWhole) (arg17 : Memref sig .tc .vmem S256x1024 .bf16) (harg17 : arg17.IsWhole) (arg18 : Memref sig .tc .vmem S256x1024 .bf16) (harg18 : arg18.IsWhole) (arg19 : Memref sig .tc .vmem S256x2816 .bf16) (harg19 : arg19.IsWhole) (arg20 : Memref sig .tc .vmem S256x2816 .bf16) (harg20 : arg20.IsWhole) (arg21 : Memref sig .tc .vmem S8x1024 .f32) (harg21 : arg21.IsWhole) (arg22 : Memref sig .tc .vmem S1024x256 .bf16) (harg22 : arg22.IsWhole) (arg23 : Memref sig .tc .vmem S128x256 .f32) (harg23 : arg23.IsWhole) (arg24 : Memref sig .tc .vmem S1024x1024 .bf16) (harg24 : arg24.IsWhole) (arg25 : Memref sig .tc .vmem S128x1024 .f32) (harg25 : arg25.IsWhole) (arg26 : Memref sig .tc .vmem S1024x256 .f32) (harg26 : arg26.IsWhole) (arg27 : Memref sig .tc .vmem S1024x1024 .f32) (harg27 : arg27.IsWhole) (X_arg1 : BufTy.Contents (Elt F) arg1.view.ty) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty)
    (k0_hw1 : cond0_1 i → k0_chk1 i (arg1.view.readAt (Elt F) (Rect.unit (s := S1) ![0] S1.size inb_S1_S1_0).toLoadRect X_arg1 (Shape.Idx.first (numel1_S1.symm ▸ Nat.one_pos))))
    (K : PUnit → sProp 𝕄) :
    iprop(BodyAny (F := F) c arg1 arg2 arg3 arg4 arg5 arg6 arg7 arg8 arg9 arg10 arg11 arg12 arg13 arg14 arg15 arg16 arg17 arg18 arg19 arg20 arg21 arg22 arg23 arg24 arg25 arg26 arg27 X_arg1 X_arg2 X_arg3 X_arg4 X_arg5 X_arg6 X_arg7 X_arg8 X_arg9 X_arg10 X_arg11 X_arg12 X_arg13 X_arg14 X_arg15
        ∗ (BodyNamed (F := F) c arg1 arg2 arg3 arg4 arg5 arg6 arg7 arg8 arg9 arg10 arg11 arg12 arg13 arg14 arg15 arg16 arg17 arg18 arg19 arg20 arg21 arg22 arg23 arg24 arg25 arg26 arg27 X_arg1 X_arg2 X_arg3 X_arg4 X_arg5 X_arg6 X_arg7 X_arg8 X_arg9 X_arg10 X_arg11 X_arg12 X_arg13 X_arg14 X_arg15 -∗ K ⟨⟩))
      ⊢ wp frame (wpE (defs₀ (F := F)) Variants.none (c : Thread nD τ) none) Set.univ (cc0_ffn_down_ln2_loss (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0_ffn_down_ln2_loss_eq_skeleton]; unfold cc0_ffn_down_ln2_loss_skel
  simp only [k0_part1_eq_skeleton, k0_part2_eq_skeleton, k0_part3_eq_skeleton, k0_part4_eq_skeleton]
  iintro ⟨⟨HR_arg1, HR_arg2, HR_arg3, HR_arg4, HR_arg5, HR_arg6, HR_arg7, HR_arg8, HR_arg9, HR_arg10, HR_arg11, HR_arg12, HR_arg13, HR_arg14, HR_arg15, ⟨%f_arg16, HW_arg16⟩, ⟨%f_arg17, HW_arg17⟩, ⟨%f_arg18, HW_arg18⟩, ⟨%f_arg19, HW_arg19⟩, ⟨%f_arg20, HW_arg20⟩, ⟨%f_arg21, HW_arg21⟩, ⟨%f_arg22, HW_arg22⟩, ⟨%f_arg23, HW_arg23⟩, ⟨%f_arg24, HW_arg24⟩, ⟨%f_arg25, HW_arg25⟩, ⟨%f_arg26, HW_arg26⟩, ⟨%f_arg27, HW_arg27⟩⟩, Hk⟩
  by_cases hc0 : cond0_0 i <;> by_cases hc1 : cond0_1 i <;>
  ( sl_exec (disch := first | sl_exact hc0 | sl_exact hc1 | sl_exact k0_hw1 hc1)
    sl_step
    iapply Hk
    isplitl [HR_arg1]; · iexact HR_arg1
    isplitl [HR_arg2]; · iexact HR_arg2
    isplitl [HR_arg3]; · iexact HR_arg3
    isplitl [HR_arg4]; · iexact HR_arg4
    isplitl [HR_arg5]; · iexact HR_arg5
    isplitl [HR_arg6]; · iexact HR_arg6
    isplitl [HR_arg7]; · iexact HR_arg7
    isplitl [HR_arg8]; · iexact HR_arg8
    isplitl [HR_arg9]; · iexact HR_arg9
    isplitl [HR_arg10]; · iexact HR_arg10
    isplitl [HR_arg11]; · iexact HR_arg11
    isplitl [HR_arg12]; · iexact HR_arg12
    isplitl [HR_arg13]; · iexact HR_arg13
    isplitl [HR_arg14]; · iexact HR_arg14
    isplitl [HR_arg15]; · iexact HR_arg15
    isplitl [HW_arg16]
    · iexists _; isplitl [HW_arg16]; · iexact HW_arg16
      ipureintro
      exact (View.read_writes_full ..).trans (dz_reads arg7 arg12 arg13 arg6 arg5 arg10 arg11 arg2 arg9 arg14 arg15 arg8 X_arg7 X_arg12 X_arg13 X_arg6 X_arg5 X_arg10 X_arg11 X_arg2 X_arg9 X_arg14 X_arg15 X_arg8)
    isplitl [HW_arg17]; · iexists _; iexact HW_arg17
    isplitl [HW_arg18]; · iexists _; iexact HW_arg18
    isplitl [HW_arg19]; · iexists _; iexact HW_arg19
    isplitl [HW_arg20]; · iexists _; iexact HW_arg20
    isplitl [HW_arg21]; · iexists _; iexact HW_arg21
    isplitl [HW_arg22]; · iexists _; iexact HW_arg22
    isplitl [HW_arg23]; · iexists _; iexact HW_arg23
    isplitl [HW_arg24]; · iexists _; iexact HW_arg24
    isplitl [HW_arg25]; · iexists _; iexact HW_arg25
    isplitl [HW_arg26]; · iexists _; iexact HW_arg26
    iexists _; iexact HW_arg27)

end Cert.KernelLossIdeal.Loss

end
-- ==== Proof.LossFrame.lean ====
/-
  The frame of the call that ends the forward pass and starts the backward one: the operands are read and kept, the
  gradient of the second layer norm's input is named block by block, the other results are forgotten, the scratch is held at some
  contents between the grid points.
-/
module

public import proofs.«01_k».proof.Proof.LossBody
public import Idealize.ShloMosaic.Lib.Pipeline.Frame

@[expose] public section

set_option maxRecDepth 16384

noncomputable section

namespace Cert.KernelLossIdeal.Loss

open Cert.KernelLossIdeal Cert.KernelLossIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- Nine of the ten results are forgotten: nothing here reads what the kernel leaves in them. The gradient of the second layer
    norm's input is not. -/
def forgets : Fin 25 → Bool := fun | 0 => false | 1 => false | 2 => false | 3 => false | 4 => false | 5 => false | 6 => false | 7 => false | 8 => false | 9 => false | 10 => false | 11 => false | 12 => false | 13 => false | 14 => false | 15 => false | _ => true

/-- The proof data on core `c`: the arrays as the region finds them; each operand's block left in place, the gradient of the
    second layer norm's input at its closed form, the other results unnamed; the scratch at some contents; each window's
    array held whole; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => dzBlk (iblk m c 6 t) (iblk m c 11 t) (iblk m c 12 t) (iblk m c 5 t) (iblk m c 4 t) (iblk m c 9 t) (iblk m c 10 t) (iblk m c 1 t) (iblk m c 8 t) (iblk m c 13 t) (iblk m c 14 t) (iblk m c 7 t)
    | w => Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]
theorem before_0 (c : Dev nD) (t : Fin cfg0.N) (d) : (dats m 0 c).before 0 t d = iblk m c 0 t :=
  before0_0_of m (dats m 0 c) (A_eq m c 0) (fun _ => rfl) t d
theorem before_1 (c : Dev nD) (t : Fin cfg0.N) (d) : (dats m 0 c).before 1 t d = iblk m c 1 t :=
  before0_1_of m (dats m 0 c) (A_eq m c 1) (fun _ => rfl) t d
theorem before_2 (c : Dev nD) (t : Fin cfg0.N) (d) : (dats m 0 c).before 2 t d = iblk m c 2 t :=
  before0_2_of m (dats m 0 c) (A_eq m c 2) (fun _ => rfl) t d
theorem before_3 (c : Dev nD) (t : Fin cfg0.N) (d) : (dats m 0 c).before 3 t d = iblk m c 3 t :=
  before0_3_of m (dats m 0 c) (A_eq m c 3) (fun _ => rfl) t d
theorem before_4 (c : Dev nD) (t : Fin cfg0.N) (d) : (dats m 0 c).before 4 t d = iblk m c 4 t :=
  before0_4_of m (dats m 0 c) (A_eq m c 4) (fun _ => rfl) t d
theorem before_5 (c : Dev nD) (t : Fin cfg0.N) (d) : (dats m 0 c).before 5 t d = iblk m c 5 t :=
  before0_5_of m (dats m 0 c) (A_eq m c 5) (fun _ => rfl) t d
theorem before_6 (c : Dev nD) (t : Fin cfg0.N) (d) : (dats m 0 c).before 6 t d = iblk m c 6 t :=
  before0_6_of m (dats m 0 c) (A_eq m c 6) (fun _ => rfl) t d
theorem before_7 (c : Dev nD) (t : Fin cfg0.N) (d) : (dats m 0 c).before 7 t d = iblk m c 7 t :=
  before0_7_of m (dats m 0 c) (A_eq m c 7) (fun _ => rfl) t d
theorem before_8 (c : Dev nD) (t : Fin cfg0.N) (d) : (dats m 0 c).before 8 t d = iblk m c 8 t :=
  before0_8_of m (dats m 0 c) (A_eq m c 8) (fun _ => rfl) t d
theorem before_9 (c : Dev nD) (t : Fin cfg0.N) (d) : (dats m 0 c).before 9 t d = iblk m c 9 t :=
  before0_9_of m (dats m 0 c) (A_eq m c 9) (fun _ => rfl) t d
theorem before_10 (c : Dev nD) (t : Fin cfg0.N) (d) : (dats m 0 c).before 10 t d = iblk m c 10 t :=
  before0_10_of m (dats m 0 c) (A_eq m c 10) (fun _ => rfl) t d
theorem before_11 (c : Dev nD) (t : Fin cfg0.N) (d) : (dats m 0 c).before 11 t d = iblk m c 11 t :=
  before0_11_of m (dats m 0 c) (A_eq m c 11) (fun _ => rfl) t d
theorem before_12 (c : Dev nD) (t : Fin cfg0.N) (d) : (dats m 0 c).before 12 t d = iblk m c 12 t :=
  before0_12_of m (dats m 0 c) (A_eq m c 12) (fun _ => rfl) t d
theorem before_13 (c : Dev nD) (t : Fin cfg0.N) (d) : (dats m 0 c).before 13 t d = iblk m c 13 t :=
  before0_13_of m (dats m 0 c) (A_eq m c 13) (fun _ => rfl) t d
theorem before_14 (c : Dev nD) (t : Fin cfg0.N) (d) : (dats m 0 c).before 14 t d = iblk m c 14 t :=
  before0_14_of m (dats m 0 c) (A_eq m c 14) (fun _ => rfl) t d

/-- What the body is called with at point `t`: the scratch, nothing owed, each operand's block, the results at anything. -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)) ∗ (∃ d, owns (c : Thread nD τ) (win0_11.stage (cfg0.slots t 11)) fullShare ((dats m 0 c).before 11 t d)) ∗ (∃ d, owns (c : Thread nD τ) (win0_12.stage (cfg0.slots t 12)) fullShare ((dats m 0 c).before 12 t d)) ∗ (∃ d, owns (c : Thread nD τ) (win0_13.stage (cfg0.slots t 13)) fullShare ((dats m 0 c).before 13 t d)) ∗ (∃ d, owns (c : Thread nD τ) (win0_14.stage (cfg0.slots t 14)) fullShare ((dats m 0 c).before 14 t d)) ∗ (∃ d, owns (c : Thread nD τ) (win0_15.stage (cfg0.slots t 15)) fullShare ((dats m 0 c).before 15 t d)) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare d) ∗ (∃ d, owns (c : Thread nD τ) (win0_20.stage (cfg0.slots t 20)) fullShare d) ∗ (∃ d, owns (c : Thread nD τ) (win0_21.stage (cfg0.slots t 21)) fullShare d) ∗ (∃ d, owns (c : Thread nD τ) (win0_22.stage (cfg0.slots t 22)) fullShare d) ∗ (∃ d, owns (c : Thread nD τ) (win0_23.stage (cfg0.slots t 23)) fullShare d) ∗ (∃ d, owns (c : Thread nD τ) (win0_24.stage (cfg0.slots t 24)) fullShare d))
/-- What it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (iblk m c 9 t) ∗ owns (c : Thread nD τ) (win0_10.stage (cfg0.slots t 10)) fullShare (iblk m c 10 t) ∗ owns (c : Thread nD τ) (win0_11.stage (cfg0.slots t 11)) fullShare (iblk m c 11 t) ∗ owns (c : Thread nD τ) (win0_12.stage (cfg0.slots t 12)) fullShare (iblk m c 12 t) ∗ owns (c : Thread nD τ) (win0_13.stage (cfg0.slots t 13)) fullShare (iblk m c 13 t) ∗ owns (c : Thread nD τ) (win0_14.stage (cfg0.slots t 14)) fullShare (iblk m c 14 t) ∗ owns (c : Thread nD τ) (win0_15.stage (cfg0.slots t 15)) fullShare (dzBlk (iblk m c 6 t) (iblk m c 11 t) (iblk m c 12 t) (iblk m c 5 t) (iblk m c 4 t) (iblk m c 9 t) (iblk m c 10 t) (iblk m c 1 t) (iblk m c 8 t) (iblk m c 13 t) (iblk m c 14 t) (iblk m c 7 t)) ∗ (∃ d, owns (c : Thread nD τ) (win0_16.stage (cfg0.slots t 16)) fullShare d) ∗ (∃ d, owns (c : Thread nD τ) (win0_17.stage (cfg0.slots t 17)) fullShare d) ∗ (∃ d, owns (c : Thread nD τ) (win0_18.stage (cfg0.slots t 18)) fullShare d) ∗ (∃ d, owns (c : Thread nD τ) (win0_19.stage (cfg0.slots t 19)) fullShare d) ∗ (∃ d, owns (c : Thread nD τ) (win0_20.stage (cfg0.slots t 20)) fullShare d) ∗ (∃ d, owns (c : Thread nD τ) (win0_21.stage (cfg0.slots t 21)) fullShare d) ∗ (∃ d, owns (c : Thread nD τ) (win0_22.stage (cfg0.slots t 22)) fullShare d) ∗ (∃ d, owns (c : Thread nD τ) (win0_23.stage (cfg0.slots t 23)) fullShare d) ∗ (∃ d, owns (c : Thread nD τ) (win0_24.stage (cfg0.slots t 24)) fullShare d))

/-- The class invariant: each scratch whole at some contents, and the generator register at some state. -/
theorem PhiA_eq (c : Dev nD) : (Pipeline.ΦA spec0 c : sProp 𝕄)
    = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)) ∗ (∃ r, prngReg c r)) := by
  unfold Pipeline.ΦA; rw [scopedRest0_eq]

/-- A scratch held whole, in the two ways of writing it. -/
theorem scr_0 (c : Dev nD) (f : Buf (Elt F) ((c : Thread nD τ).loc cc0_scratch0)) :
    (((Memref.whole cc0_scratch0 : Memref sig .tc .vmem S1024x256 .f32).view.loc (c : Thread nD τ) ↦[(Memref.whole cc0_scratch0 : Memref sig .tc .vmem S1024x256 .f32).view.set]{fullShare} f) : sProp 𝕄)
      = (((c : Thread nD τ).loc cc0_scratch0) ↦{fullShare} f) := by
  have h : (Memref.whole cc0_scratch0 : Memref sig .tc .vmem S1024x256 .f32).view.set = Finset.univ := View.set_whole _
  rw [h]
/-- A scratch held whole, in the two ways of writing it. -/
theorem scr_1 (c : Dev nD) (f : Buf (Elt F) ((c : Thread nD τ).loc cc0_scratch1)) :
    (((Memref.whole cc0_scratch1 : Memref sig .tc .vmem S1024x1024 .f32).view.loc (c : Thread nD τ) ↦[(Memref.whole cc0_scratch1 : Memref sig .tc .vmem S1024x1024 .f32).view.set]{fullShare} f) : sProp 𝕄)
      = (((c : Thread nD τ).loc cc0_scratch1) ↦{fullShare} f) := by
  have h : (Memref.whole cc0_scratch1 : Memref sig .tc .vmem S1024x1024 .f32).view.set = Finset.univ := View.set_whole _
  rw [h]

set_option maxHeartbeats 4000000 in
/-- The body at the point: the invariant opened, the operands' blocks opened, `body_any`, everything closed again. -/
theorem sound_body (hH : Hyps m) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl,
    show (dats m 0 c).Φ t.castSucc = Pipeline.ΦA spec0 c from rfl, PhiA_eq]
  simp only [before_0, before_1, before_2, before_3, before_4, before_5, before_6, before_7, before_8, before_9, before_10, before_11, before_12, before_13, before_14]
  unfold owns
  iintro ⟨⟨⟨⟨%s0, HS0⟩, ⟨%s1, HS1⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩, ⟨%d14, %f14, %e14, H14⟩, ⟨%d15, %f15, %e15, H15⟩, ⟨%d16, %f16, %e16, H16⟩, ⟨%d17, %f17, %e17, H17⟩, ⟨%d18, %f18, %e18, H18⟩, ⟨%d19, %f19, %e19, H19⟩, ⟨%d20, %f20, %e20, H20⟩, ⟨%d21, %f21, %e21, H21⟩, ⟨%d22, %f22, %e22, H22⟩, ⟨%d23, %f23, %e23, H23⟩, ⟨%d24, %f24, %e24, H24⟩⟩
  have hw := hH.c0 c t
  rw [← (hs0_0 t).eq_unread e0] at hw
  iapply (body_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (Memref.whole cc0_scratch0) (Memref.isWhole_whole _) (Memref.whole cc0_scratch1) (Memref.isWhole_whole _) f0 f1 f2 f3 f4 f5 f6 f7 f8 f9 f10 f11 f12 f13 f14 hw _)
  isplitl [H0 H1 H2 H3 H4 H5 H6 H7 H8 H9 H10 H11 H12 H13 H14 H15 H16 H17 H18 H19 H20 H21 H22 H23 H24 HS0 HS1]
  · unfold BodyAny
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists f15; iexact H15
    isplitl [H16]; · iexists f16; iexact H16
    isplitl [H17]; · iexists f17; iexact H17
    isplitl [H18]; · iexists f18; iexact H18
    isplitl [H19]; · iexists f19; iexact H19
    isplitl [H20]; · iexists f20; iexact H20
    isplitl [H21]; · iexists f21; iexact H21
    isplitl [H22]; · iexists f22; iexact H22
    isplitl [H23]; · iexists f23; iexact H23
    isplitl [H24]; · iexists f24; iexact H24
    isplitl [HS0]; · iexists s0; rw [scr_0]; iexact HS0
    iexists s1; rw [scr_1]; iexact HS1
  unfold BodyNamed
  iintro ⟨H0, H1, H2, H3, H4, H5, H6, H7, H8, H9, H10, H11, H12, H13, H14, ⟨%g15, H15, %h15⟩, ⟨%g16, H16⟩, ⟨%g17, H17⟩, ⟨%g18, H18⟩, ⟨%g19, H19⟩, ⟨%g20, H20⟩, ⟨%g21, H21⟩, ⟨%g22, H22⟩, ⟨%g23, H23⟩, ⟨%g24, H24⟩, ⟨%r0, HS0⟩, ⟨%r1, HS1⟩⟩
  isplitl [Hg HS0 HS1]
  · isplitr [Hg]; swap; · iexact Hg
    isplitl [HS0]; · iexists r0; rw [← scr_0]; iexact HS0
    iexists r1; rw [← scr_1]; iexact HS1
  isplitl [HO]; · iexact HO
  isplitl [H0]
  · iexists f0; isplitr; · ipureintro; exact e0
    iexact H0
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists f4; isplitr; · ipureintro; exact e4
    iexact H4
  isplitl [H5]
  · iexists f5; isplitr; · ipureintro; exact e5
    iexact H5
  isplitl [H6]
  · iexists f6; isplitr; · ipureintro; exact e6
    iexact H6
  isplitl [H7]
  · iexists f7; isplitr; · ipureintro; exact e7
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; exact e11
    iexact H11
  isplitl [H12]
  · iexists f12; isplitr; · ipureintro; exact e12
    iexact H12
  isplitl [H13]
  · iexists f13; isplitr; · ipureintro; exact e13
    iexact H13
  isplitl [H14]
  · iexists f14; isplitr; · ipureintro; exact e14
    iexact H14
  isplitl [H15]
  · iexists g15; isplitr
    · ipureintro; exact h15.trans (by rw [e6, e11, e12, e5, e4, e9, e10, e1, e8, e13, e14, e7])
    iexact H15
  isplitl [H16]
  · iexists _, g16; isplitr; swap; · iexact H16
    ipureintro; rfl
  isplitl [H17]
  · iexists _, g17; isplitr; swap; · iexact H17
    ipureintro; rfl
  isplitl [H18]
  · iexists _, g18; isplitr; swap; · iexact H18
    ipureintro; rfl
  isplitl [H19]
  · iexists _, g19; isplitr; swap; · iexact H19
    ipureintro; rfl
  isplitl [H20]
  · iexists _, g20; isplitr; swap; · iexact H20
    ipureintro; rfl
  isplitl [H21]
  · iexists _, g21; isplitr; swap; · iexact H21
    ipureintro; rfl
  isplitl [H22]
  · iexists _, g22; isplitr; swap; · iexact H22
    ipureintro; rfl
  isplitl [H23]
  · iexists _, g23; isplitr; swap; · iexact H23
    ipureintro; rfl
  iexists _, g24; isplitr; swap; · iexact H24
  ipureintro; rfl

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

set_option maxHeartbeats 4000000 in
/-- The body obligation, nine of the results forgotten. -/
theorem body_obligation (hH : Hyps m) (c : Dev nD) :
    BodyObligation (dats (F := F) m 0 c) (defs₀ (F := F)) Variants.none () Set.univ forgets := fun t => by
  rw [bigSep_W0, bigSep_W0, defs₀_row]
  exact triple_restated (sound_body m hH c t) rfl .rfl fun _ => .rfl

set_option backward.isDefEq.respectTransparency.types false in
/-- From any memory with zero counters every weakly fair execution terminates, and every final state has each operand's array as at
    launch and every semaphore counter at zero. -/
theorem run_main (hH : Hyps m) :
    θ_run defs (onTc (τ := τ) (main (F := F))) (s₀ m ρ)
      (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m hH c).loose) (hshare := fun c => (dats m 0 c).share_full fun _ => rfl)
    (howed := fun _ _ => rfl) (V := V m) (hmain := hmain m Variants.none) (hA := A_eq m) (hΦ := fun _ _ => rfl) (hQ' := fun _ h => h)

variable {m ρ}

/-- After the run a window that is an operand's has its array as the region found it. -/
theorem final_in {r : PUnit × MemSt nD τ sig (Elt F)}
    (h : Pipeline.RDat.FramePost (cfgs 0) (fun c => (dats (F := F) m 0 c).toRForget forgets) (V m) r) (c : Dev nD) (w : Fin 25)
    (hw : (cfg0.win w).isOut = false) :
    r.2.mem (((cfgs 0).spec w).arr.view.loc (c.tc : Thread nD τ)) = V m c (Pipeline.arrRef spec0 w) := by
  have h1 := (h c).1 w
  have h2 := congrFun (Pipeline.RDat.ArrAt_in ((dats (F := F) m 0 c).toRForget forgets) w hw (cfgs 0).N) (r.2.mem (((cfgs 0).spec w).arr.view.loc (c.tc : Thread nD τ)))
  exact h2 ▸ h1

/-- The frame at any instance of the floats. -/
theorem frame_any (m : (ℓ : Loc nD τ sig) → Buf (Elt F) ℓ) (hH : Hyps m) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) :=
  (θ_run defs _ _).mono (fun _ h => ⟨fun c => ⟨(final_in h.1 c 0 rfl).trans (V_main_arg0 m c), (final_in h.1 c 1 rfl).trans (V_main_arg1 m c), (final_in h.1 c 2 rfl).trans (V_main_arg2 m c), (final_in h.1 c 3 rfl).trans (V_main_arg3 m c), (final_in h.1 c 6 rfl).trans (V_main_arg4 m c), (final_in h.1 c 5 rfl).trans (V_main_arg5 m c), (final_in h.1 c 7 rfl).trans (V_main_arg6 m c), ((h.1 c).2 main_arg7 (Pipeline.mem_restRefs_of main_arg7 (by decide) (by decide))).trans (V_main_arg7 m c), ((h.1 c).2 main_arg8 (Pipeline.mem_restRefs_of main_arg8 (by decide) (by decide))).trans (V_main_arg8 m c), ((h.1 c).2 main_arg9 (Pipeline.mem_restRefs_of main_arg9 (by decide) (by decide))).trans (V_main_arg9 m c), (final_in h.1 c 11 rfl).trans (V_main_arg10 m c), (final_in h.1 c 12 rfl).trans (V_main_arg11 m c), (final_in h.1 c 13 rfl).trans (V_main_arg12 m c), (final_in h.1 c 14 rfl).trans (V_main_arg13 m c)⟩, h.2⟩) (run_main m ρ hH)

end Cert.KernelLossIdeal.Loss

end
-- ==== Proof.UpKernel.lean ====
/-
  The forward output projection, the first layer norm and the first half of the feed-forward block, the kernel's side: what the
  kernel leaves in its six result arrays, token by token. A grid point takes 256 tokens and every weight whole; the projection is
  two products, one for the retention's half of the rows and one for the attention's.
-/
module

public import proofs.«01_k».proof.Proof.Gen.KernelUpIdeal.Value
public import proofs.«01_k».proof.Proof.Reals
public import Idealize.ShloMosaic.Lib.Pipeline.ValueKit
public import Idealize.ShloMosaic.Lib.Pointwise

@[expose] public section

set_option maxRecDepth 16384

noncomputable section

namespace Cert.KernelUpIdeal.UpValue

open Idealize.ShloMosaic Idealize.ShloMosaic.TcCoe Idealize.SL.Sem
open Idealize.ShloMosaic.Pipeline (Dat)
open Cert.KernelUpIdeal Cert.KernelUpIdeal.Gen
open Cert.Real

/-! ### One token -/

/-- The layer norm's input: the scaled residual and the two products. -/
def zRow (r a : Fin 512 → EReal) (x : Fin 1024 → EReal) (wl wh : Fin 512 → Fin 1024 → EReal) (b : Fin 1024) : EReal :=
  Ideal.ofBits FTy.f32 0x3F9837F0#32 * x b + (∑ k : Fin 512, r k * wl k b + ∑ k : Fin 512, a k * wh k b)

/-- The centred input. -/
def cRow (z : Fin 1024 → EReal) (b : Fin 1024) : EReal := z b - Ideal.div (∑ k : Fin 1024, z k) (Ideal.ofBits FTy.f32 0x44800000#32)

/-- The inverse deviation. -/
def rsRow (c : Fin 1024 → EReal) : EReal :=
  Ideal.rsqrt (Ideal.div (∑ k : Fin 1024, c k * c k) (Ideal.ofBits FTy.f32 0x44800000#32) + Ideal.ofBits FTy.f32 0x3727C5AC#32)

/-- The normalised input. -/
def xhRow (z : Fin 1024 → EReal) (b : Fin 1024) : EReal := cRow z b * rsRow (cRow z)

/-- The layer norm's output. -/
def hRow (xh g s : Fin 1024 → EReal) (b : Fin 1024) : EReal := xh b * g b + s b

/-- A product of the layer norm's output with a weight. -/
def pRow (h : Fin 1024 → EReal) (w : Fin 1024 → Fin 2816 → EReal) (j : Fin 2816) : EReal := ∑ k : Fin 1024, h k * w k j

/-- The gate's value at `g`. -/
def siluAt (g : EReal) : EReal := g * Ideal.logistic g

/-- The derivative of the gated product in the gate's argument. -/
def dgAt (g u : EReal) : EReal :=
  u * (Ideal.logistic g * (Ideal.ofBits FTy.f32 0x3F800000#32 + g * (Ideal.ofBits FTy.f32 0x3F800000#32 - Ideal.logistic g)))

/-! ### One block -/

section
variable (x0 x1 : FVec Ideal S256x512 .bf16) (x2 : FVec Ideal S256x1024 .f32) (wl wh : FVec Ideal S512x1024 .bf16)
  (v : FVec Ideal S256x1024 .f32) (x6 x7 : FVec Ideal S1x1024 .f32) (x4 x5 : FVec Ideal S2816x1024 .bf16)

/-- The body's centred input. -/
theorem pay_c (a : Fin 256) (b : Fin 1024) : k0_pay9 (F := Ideal) x0 wl x1 wh x2 (ix2 a b)
    = cRow (zRow (fun k => x0 (ix2 a k)) (fun k => x1 (ix2 a k)) (fun k => x2 (ix2 a k)) (fun k b => wl (ix2 k b)) (fun k b => wh (ix2 k b))) b := by
  pointwise [k0_pay9, cRow, zRow]

/-- The body's inverse deviation. -/
theorem pay_rs (a : Fin 256) : k0_pay10 (F := Ideal) x0 wl x1 wh x2 (ix2 a 0)
    = rsRow (fun b => k0_pay9 (F := Ideal) x0 wl x1 wh x2 (ix2 a b)) := by
  generalize hC : k0_pay9 (F := Ideal) x0 wl x1 wh x2 = C
  pointwise [k0_pay10, hC, rsRow]

/-- The body's normalised input. -/
theorem pay_xh (a : Fin 256) (b : Fin 1024) : k0_pay11 (F := Ideal) x0 wl x1 wh x2 (ix2 a b)
    = k0_pay9 (F := Ideal) x0 wl x1 wh x2 (ix2 a b) * k0_pay10 (F := Ideal) x0 wl x1 wh x2 (ix2 a 0) := by
  generalize hC : k0_pay9 (F := Ideal) x0 wl x1 wh x2 = C
  generalize hD : k0_pay10 (F := Ideal) x0 wl x1 wh x2 = D
  pointwise [k0_pay11, hC, hD]

/-- The body's inverse deviation, repeated. -/
theorem pay_rep (a : Fin 256) (b : Fin 128) : k0_pay12 (F := Ideal) x0 wl x1 wh x2 (ix2 a b) = k0_pay10 (F := Ideal) x0 wl x1 wh x2 (ix2 a 0) := by
  generalize hD : k0_pay10 (F := Ideal) x0 wl x1 wh x2 = D
  pointwise [k0_pay12, hD]

/-- The body's output of the layer norm. -/
theorem pay_h (a : Fin 256) (b : Fin 1024) : k0_pay1 (F := Ideal) v x6 x7 (ix2 a b)
    = hRow (fun k => v (ix2 a k)) (fun k => x6 (ix2 0 k)) (fun k => x7 (ix2 0 k)) b := by
  pointwise [k0_pay1, hRow]

/-- The body's first product. -/
theorem pay_g (a : Fin 256) (j : Fin 2816) : k0_pay2 (F := Ideal) v x6 x7 x4 (ix2 a j)
    = pRow (fun k => k0_pay1 (F := Ideal) v x6 x7 (ix2 a k)) (fun k j => x4 (ix2 j k)) j := by
  generalize hC : k0_pay1 (F := Ideal) v x6 x7 = C
  pointwise [k0_pay2, hC, pRow]

/-- The body's second product. -/
theorem pay_u (a : Fin 256) (j : Fin 2816) : k0_pay3 (F := Ideal) v x6 x7 x5 (ix2 a j)
    = pRow (fun k => k0_pay1 (F := Ideal) v x6 x7 (ix2 a k)) (fun k j => x5 (ix2 j k)) j := by
  generalize hC : k0_pay1 (F := Ideal) v x6 x7 = C
  pointwise [k0_pay3, hC, pRow]

/-- The body's derivative in the gate's argument. -/
theorem pay_dg (a : Fin 256) (j : Fin 2816) : k0_pay6 (F := Ideal) v x6 x7 x4 x5 (ix2 a j)
    = dgAt (k0_pay2 (F := Ideal) v x6 x7 x4 (ix2 a j)) (k0_pay3 (F := Ideal) v x6 x7 x5 (ix2 a j)) := by
  generalize hC : k0_pay2 (F := Ideal) v x6 x7 x4 = C
  generalize hD : k0_pay3 (F := Ideal) v x6 x7 x5 = D
  pointwise [k0_pay6, k0_pay4, hC, hD, dgAt]

/-- The body's derivative in the second product. -/
theorem pay_du (a : Fin 256) (j : Fin 2816) : k0_pay7 (F := Ideal) v x6 x7 x4 (ix2 a j)
    = siluAt (k0_pay2 (F := Ideal) v x6 x7 x4 (ix2 a j)) := by
  generalize hC : k0_pay2 (F := Ideal) v x6 x7 x4 = C
  pointwise [k0_pay7, k0_pay5, k0_pay4, hC, siluAt]

/-- The body's gated product. -/
theorem pay_act (a : Fin 256) (j : Fin 2816) : k0_pay8 (F := Ideal) v x6 x7 x4 x5 (ix2 a j)
    = siluAt (k0_pay2 (F := Ideal) v x6 x7 x4 (ix2 a j)) * k0_pay3 (F := Ideal) v x6 x7 x5 (ix2 a j) := by
  generalize hC : k0_pay2 (F := Ideal) v x6 x7 x4 = C
  generalize hD : k0_pay3 (F := Ideal) v x6 x7 x5 = D
  pointwise [k0_pay8, k0_pay5, k0_pay4, hC, hD, siluAt]

end

/-! ### All tokens -/

section
variable (X0 X1 : FVec Ideal S4096x512 .bf16) (X2 : FVec Ideal S4096x1024 .f32) (X3 : FVec Ideal S1024x1024 .f32)
  (X4 X5 : FVec Ideal S1024x2816 .f32) (X6 X7 : FVec Ideal S1x1024 .f32)

/-- The layer norm's input at one token. -/
def Z (a : Fin 4096) : Fin 1024 → EReal :=
  zRow (fun k => X0 (ix2 a k)) (fun k => X1 (ix2 a k)) (fun k => X2 (ix2 a k)) (fun k b => X3 (ix2 ⟨k.val, by omega⟩ b))
    (fun k b => X3 (ix2 ⟨512 + k.val, by omega⟩ b))

/-- The layer norm's output at one token. -/
def Hn (a : Fin 4096) : Fin 1024 → EReal := hRow (xhRow (Z X0 X1 X2 X3 a)) (fun k => X6 (ix2 0 k)) (fun k => X7 (ix2 0 k))

/-- A product at one token. -/
def G (a : Fin 4096) : Fin 2816 → EReal := pRow (Hn X0 X1 X2 X3 X6 X7 a) (fun k j => X4 (ix2 k j))

/-- The normalised input. -/
def tXh : S4096x1024.Idx → EReal := fun i => xhRow (Z X0 X1 X2 X3 (i 0)) (i 1)

/-- The inverse deviation, repeated. -/
def tRs : S4096x128.Idx → EReal := fun i => rsRow (cRow (Z X0 X1 X2 X3 (i 0)))

/-- The layer norm's output. -/
def tH : S4096x1024.Idx → EReal := fun i => Hn X0 X1 X2 X3 X6 X7 (i 0) (i 1)

/-- The derivative in the gate's argument. -/
def tDg : S4096x2816.Idx → EReal := fun i => dgAt (G X0 X1 X2 X3 X4 X6 X7 (i 0) (i 1)) (G X0 X1 X2 X3 X5 X6 X7 (i 0) (i 1))

/-- The derivative in the second product. -/
def tDu : S4096x2816.Idx → EReal := fun i => siluAt (G X0 X1 X2 X3 X4 X6 X7 (i 0) (i 1))

/-- The gated product. -/
def tAct : S4096x2816.Idx → EReal := fun i => siluAt (G X0 X1 X2 X3 X4 X6 X7 (i 0) (i 1)) * G X0 X1 X2 X3 X5 X6 X7 (i 0) (i 1)

end

/-! ### The blocks are rows of the arrays -/

variable (m : (ℓ : Loc nD τ sig) → Buf (Elt Ideal) ℓ)

/-- Grid point `t` takes block `t` of every array of tokens and the whole of the others. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0] ∧ win0_7.index t = ![0, 0]
    ∧ win0_8.index t = ![t.val, 0] ∧ win0_9.index t = ![t.val, 0] ∧ win0_10.index t = ![t.val, 0] ∧ win0_11.index t = ![t.val, 0]
    ∧ win0_12.index t = ![t.val, 0] ∧ win0_13.index t = ![t.val, 0] :=
  (by decide +kernel : ∀ t : Fin grid0.N, _)

theorem lt16 (p : Fin cfg0.N) : p.val < 16 := lt_of_lt_of_eq p.isLt N_0

/-- The kernel's host code rounds the projection's weight, which over the extended reals leaves it as it is. -/
theorem host_wo (c : Dev nD) (k b : Fin 1024) : V m c main_v0 (ix2 k b) = m ((c : Thread nD τ).loc main_arg3) (ix2 k b) := by
  unfold_abbrev_sides
  after_results
  pointwise []

/-- The kernel's host code transposes the gate's weight. -/
theorem host_wg (c : Dev nD) (k : Fin 2816) (b : Fin 1024) : V m c main_v2 (ix2 k b) = m ((c : Thread nD τ).loc main_arg4) (ix2 b k) := by
  unfold_abbrev_sides
  after_results
  pointwise []

/-- The kernel's host code transposes the second weight. -/
theorem host_wu (c : Dev nD) (k : Fin 2816) (b : Fin 1024) : V m c main_v4 (ix2 k b) = m ((c : Thread nD τ).loc main_arg5) (ix2 b k) := by
  unfold_abbrev_sides
  after_results
  pointwise []

/-- A block's gate weight is the transposed array. -/
theorem WG_eq (c : Dev nD) (t : Fin cfg0.N) (k : Fin 2816) (b : Fin 1024) :
    iblk m c 4 t (ix2 k b) = m ((c : Thread nD τ).loc main_arg4) (ix2 b k) := by
  refine Eq.trans (b := V m c main_v2 (ix2 k b)) ?_ (host_wg m c k b)
  blk_ext [iblk, idx t]

/-- A block's second weight is the transposed array. -/
theorem WU_eq (c : Dev nD) (t : Fin cfg0.N) (k : Fin 2816) (b : Fin 1024) :
    iblk m c 5 t (ix2 k b) = m ((c : Thread nD τ).loc main_arg5) (ix2 b k) := by
  refine Eq.trans (b := V m c main_v4 (ix2 k b)) ?_ (host_wu m c k b)
  blk_ext [iblk, idx t]

/-- A block's projection weight is the array. -/
theorem WO_eq (c : Dev nD) (t : Fin cfg0.N) (k b : Fin 1024) :
    iblk m c 3 t (ix2 k b) = m ((c : Thread nD τ).loc main_arg3) (ix2 k b) := by
  refine Eq.trans (b := V m c main_v0 (ix2 k b)) ?_ (host_wo m c k b)
  blk_ext [iblk, idx t]

/-- The upper half of a block's projection weight. -/
theorem WL_eq (c : Dev nD) (t : Fin cfg0.N) (k : Fin 512) (b : Fin 1024) :
    View.ld (iblk m c 3 t) r0_1 (ix2 k b) = m ((c : Thread nD τ).loc main_arg3) (ix2 ⟨k.val, by omega⟩ b) := by
  refine Eq.trans (b := iblk m c 3 t (ix2 (⟨k.val, by omega⟩ : Fin 1024) b)) ?_ (WO_eq m c t _ b)
  exact View.ld_unit_apply_of (Val := Elt Ideal) (e := .bf16) (iblk m c 3 t) ![0, 0] ![512, 1024] inb_S1024x1024_S512x1024_0_0 (ix2 k b) (ix2 (⟨k.val, by omega⟩ : Fin 1024) b) (Fin.forall_fin_two.2 ⟨(Nat.zero_add _).symm, (Nat.zero_add _).symm⟩)

/-- The lower half. -/
theorem WH_eq (c : Dev nD) (t : Fin cfg0.N) (k : Fin 512) (b : Fin 1024) :
    View.ld (iblk m c 3 t) r0_2 (ix2 k b) = m ((c : Thread nD τ).loc main_arg3) (ix2 ⟨512 + k.val, by omega⟩ b) := by
  refine Eq.trans (b := iblk m c 3 t (ix2 (⟨512 + k.val, by omega⟩ : Fin 1024) b)) ?_ (WO_eq m c t _ b)
  exact View.ld_unit_apply_of (Val := Elt Ideal) (e := .bf16) (iblk m c 3 t) ![512, 0] ![512, 1024] inb_S1024x1024_S512x1024_512_0 (ix2 k b) (ix2 (⟨512 + k.val, by omega⟩ : Fin 1024) b) (Fin.forall_fin_two.2 ⟨rfl, (Nat.zero_add _).symm⟩)

/-- The layer norm's input at one token of one device. -/
abbrev Zm (c : Dev nD) : Fin 4096 → Fin 1024 → EReal := Z (m ((c : Thread nD τ).loc main_arg0)) (m ((c : Thread nD τ).loc main_arg1)) (m ((c : Thread nD τ).loc main_arg2)) (m ((c : Thread nD τ).loc main_arg3))

/-- The normalised input in the block of grid point `t`. -/
abbrev XB (c : Dev nD) (t : Fin cfg0.N) : FVec Ideal S256x1024 .f32 :=
  k0_pay13 (iblk m c 0 t) (iblk m c 1 t) (iblk m c 2 t) (iblk m c 3 t) (iblk m c 4 t) (iblk m c 5 t) (iblk m c 6 t) (iblk m c 7 t)

/-- A load of a whole buffer is the buffer. -/
theorem ld_all {e : EltTy} {n k : ℕ} (inb : ∀ a : Fin 2, (![0, 0] : Fin 2 → ℕ) a + (![n, k] : Fin 2 → ℕ) a ≤ (![n, k] : Fin 2 → ℕ) a)
    (A : (⟨2, ![n, k]⟩ : Shape).Idx → Elt Ideal e) :
    View.ld (Val := Elt Ideal) (e' := e) A (Rect.unit (s := ⟨2, ![n, k]⟩) ![0, 0] ![n, k] inb) = A :=
  View.ld_unit_zero (S := ⟨2, ![n, k]⟩) (Val := Elt Ideal) (e := e) (by ext a; fin_cases a <;> rfl) inb A

/-- The block's normalised input as the body's value of the blocks. -/
theorem XB_def (c : Dev nD) (t : Fin cfg0.N) : XB m c t
    = k0_pay11 (iblk m c 0 t) (View.ld (iblk m c 3 t) r0_1) (iblk m c 1 t) (View.ld (iblk m c 3 t) r0_2) (iblk m c 2 t) := by
  unfold XB k0_pay13
  exact congr (congrFun (congr (congrFun (congrArg k0_pay11 (ld_all _ _)) _) (ld_all _ _)) _) (ld_all _ _)

/-- A block's centred input is the array's. -/
theorem CB_eq (c : Dev nD) (t : Fin cfg0.N) (a : Fin 256) (b : Fin 1024) (p : Fin 4096) (hp : p.val = t.val * 256 + a.val) :
    k0_pay9 (F := Ideal) (iblk m c 0 t) (View.ld (iblk m c 3 t) r0_1) (iblk m c 1 t) (View.ld (iblk m c 3 t) r0_2) (iblk m c 2 t) (ix2 a b)
      = cRow (Zm m c p) b := by
  refine (pay_c _ _ _ _ _ a b).trans (congrFun (congrArg cRow (funext fun b => ?_)) b)
  unfold Zm Z zRow
  refine congrArg₂ _ (congrArg₂ _ rfl ?_) (congrArg₂ _ (Fin.sum_fin_congr fun k => congrArg₂ _ ?_ (WL_eq m c t k b)) (Fin.sum_fin_congr fun k => congrArg₂ _ ?_ (WH_eq m c t k b)))
  all_goals blk_ext [iblk, V, idx t, hp]

/-- A block's inverse deviation is the array's. -/
theorem RB_eq (c : Dev nD) (t : Fin cfg0.N) (a : Fin 256) (p : Fin 4096) (hp : p.val = t.val * 256 + a.val) :
    k0_pay10 (F := Ideal) (iblk m c 0 t) (View.ld (iblk m c 3 t) r0_1) (iblk m c 1 t) (View.ld (iblk m c 3 t) r0_2) (iblk m c 2 t) (ix2 a 0)
      = rsRow (cRow (Zm m c p)) :=
  (pay_rs _ _ _ _ _ a).trans (congrArg rsRow (funext fun b => CB_eq m c t a b p hp))

/-- A block's normalised input is the array's. -/
theorem XB_eq (c : Dev nD) (t : Fin cfg0.N) (a : Fin 256) (b : Fin 1024) (p : Fin 4096) (hp : p.val = t.val * 256 + a.val) :
    XB m c t (ix2 a b) = xhRow (Zm m c p) b :=
  (congrFun (XB_def m c t) _).trans <| (pay_xh _ _ _ _ _ a b).trans (congrArg₂ _ (CB_eq m c t a b p hp) (RB_eq m c t a p hp))

/-- The layer norm's output in the block of grid point `t`. -/
abbrev HB (c : Dev nD) (t : Fin cfg0.N) : FVec Ideal S256x1024 .bf16 := k0_pay1 (XB m c t) (iblk m c 6 t) (iblk m c 7 t)

/-- A block's output of the layer norm is the array's. -/
theorem HB_eq (c : Dev nD) (t : Fin cfg0.N) (a : Fin 256) (b : Fin 1024) (p : Fin 4096) (hp : p.val = t.val * 256 + a.val) :
    HB m c t (ix2 a b) = Hn (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) p b := by
  refine (pay_h _ _ _ a b).trans ?_
  unfold Hn hRow
  refine congrArg₂ _ (congrArg₂ _ (XB_eq m c t a b p hp) ?_) ?_
  all_goals blk_ext [iblk, V, idx t]

/-- A block's first product is the array's. -/
theorem GB_eq (c : Dev nD) (t : Fin cfg0.N) (a : Fin 256) (j : Fin 2816) (p : Fin 4096) (hp : p.val = t.val * 256 + a.val) :
    k0_pay2 (F := Ideal) (XB m c t) (iblk m c 6 t) (iblk m c 7 t) (iblk m c 4 t) (ix2 a j) = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) p j := by
  refine (pay_g _ _ _ _ a j).trans ?_
  unfold G pRow
  exact Fin.sum_fin_congr fun k => congrArg₂ _ (HB_eq m c t a k p hp) (WG_eq m c t j k)

/-- A block's second product is the array's. -/
theorem UB_eq (c : Dev nD) (t : Fin cfg0.N) (a : Fin 256) (j : Fin 2816) (p : Fin 4096) (hp : p.val = t.val * 256 + a.val) :
    k0_pay3 (F := Ideal) (XB m c t) (iblk m c 6 t) (iblk m c 7 t) (iblk m c 5 t) (ix2 a j) = G (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) p j := by
  refine (pay_u _ _ _ _ a j).trans ?_
  unfold G pRow
  exact Fin.sum_fin_congr fun k => congrArg₂ _ (HB_eq m c t a k p hp) (WU_eq m c t j k)

/-- An array told by rows and columns, read at an index. -/
theorem at_ix {n k : ℕ} {α : Type} (f : Fin n → Fin k → α) (p : Fin n) (b : Fin k) (i : (⟨2, ![n, k]⟩ : Shape).Idx) (h : ix2 p b = i) :
    f p b = f (i 0) (i 1) := by
  subst h; rfl

attribute [local irreducible] Z Hn G xhRow rsRow cRow siluAt dgAt

/-- The normalised input after the run. -/
theorem final1 (c : Dev nD) : (dats m 0 c).arrAt 8 (cfgs 0).N = tXh (m ((c : Thread nD τ).loc main_arg0)) (m ((c : Thread nD τ).loc main_arg1)) (m ((c : Thread nD τ).loc main_arg2)) (m ((c : Thread nD τ).loc main_arg3)) := by
  refine (dats m 0 c).arrAt_eq_of_covers 8 _ (by decide +kernel) fun t _ y => ?_
  blk_simp
  rw [after0_8]; frame_out
  refine (congrFun (XB_def m c t) y).symm.trans ?_
  have hy : (y 0).val < 256 := (y 0).isLt
  have ht := lt16 t
  refine (congrArg (XB m c t) (show y = ix2 (y 0) (y 1) from by ext k; fin_cases k <;> rfl)).trans
    ((XB_eq m c t (y 0) (y 1) ⟨t.val * 256 + (y 0).val, by omega⟩ rfl).trans ?_)
  refine at_ix (fun p b => xhRow (Zm m c p) b) _ _ _ ?_
  blk_ext [idx t]

/-- The inverse deviation after the run. -/
theorem final2 (c : Dev nD) : (dats m 0 c).arrAt 9 (cfgs 0).N = tRs (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]; frame_out
  have hy : (y 0).val < 256 := (y 0).isLt
  have ht := lt16 t
  refine (congrArg (k0_pay12 (iblk m c 0 t) (View.ld (iblk m c 3 t) r0_1) (iblk m c 1 t) (View.ld (iblk m c 3 t) r0_2) (iblk m c 2 t)) (show y = ix2 (y 0) (y 1) from by ext k; fin_cases k <;> rfl)).trans
    (((pay_rep _ _ _ _ _ (y 0) (y 1)).trans (RB_eq m c t (y 0) ⟨t.val * 256 + (y 0).val, by omega⟩ rfl)).trans ?_)
  refine at_ix (fun p (_ : Fin 128) => rsRow (cRow (Zm m c p))) _ (y 1) _ ?_
  blk_ext [idx t]

/-- The layer norm's output after the run. -/
theorem final3 (c : Dev nD) : (dats m 0 c).arrAt 10 (cfgs 0).N = tH (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) := by
  refine (dats m 0 c).arrAt_eq_of_covers 10 _ (by decide +kernel) fun t _ y => ?_
  blk_simp
  rw [after0_10]; frame_out
  have hy : (y 0).val < 256 := (y 0).isLt
  have ht := lt16 t
  refine (congrArg (HB m c t) (show y = ix2 (y 0) (y 1) from by ext k; fin_cases k <;> rfl)).trans
    ((HB_eq m c t (y 0) (y 1) ⟨t.val * 256 + (y 0).val, by omega⟩ rfl).trans ?_)
  refine at_ix (Hn (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) _ _ _ ?_
  blk_ext [idx t]

/-- The derivative in the gate's argument after the run. -/
theorem final4 (c : Dev nD) : (dats m 0 c).arrAt 11 (cfgs 0).N = tDg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 11 _ (by decide +kernel) fun t _ y => ?_
  blk_simp
  rw [after0_11]; frame_out
  have hy : (y 0).val < 256 := (y 0).isLt
  have ht := lt16 t
  refine (congrArg (k0_pay6 (XB m c t) (iblk m c 6 t) (iblk m c 7 t) (iblk m c 4 t) (iblk m c 5 t)) (show y = ix2 (y 0) (y 1) from by ext k; fin_cases k <;> rfl)).trans
    (((pay_dg _ _ _ _ _ (y 0) (y 1)).trans (congrArg₂ dgAt (GB_eq m c t (y 0) (y 1) ⟨t.val * 256 + (y 0).val, by omega⟩ rfl) (UB_eq m c t (y 0) (y 1) ⟨t.val * 256 + (y 0).val, by omega⟩ rfl))).trans ?_)
  refine at_ix (fun p b => dgAt (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) p b) (G (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) p b)) _ _ _ ?_
  blk_ext [idx t]

/-- The derivative in the second product after the run. -/
theorem final5 (c : Dev nD) : (dats m 0 c).arrAt 12 (cfgs 0).N = tDu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) := by
  refine (dats m 0 c).arrAt_eq_of_covers 12 _ (by decide +kernel) fun t _ y => ?_
  blk_simp
  rw [after0_12]; frame_out
  have hy : (y 0).val < 256 := (y 0).isLt
  have ht := lt16 t
  refine (congrArg (k0_pay7 (XB m c t) (iblk m c 6 t) (iblk m c 7 t) (iblk m c 4 t)) (show y = ix2 (y 0) (y 1) from by ext k; fin_cases k <;> rfl)).trans
    (((pay_du _ _ _ _ (y 0) (y 1)).trans (congrArg siluAt (GB_eq m c t (y 0) (y 1) ⟨t.val * 256 + (y 0).val, by omega⟩ rfl))).trans ?_)
  refine at_ix (fun p b => siluAt (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) p b)) _ _ _ ?_
  blk_ext [idx t]

/-- The gated product after the run. -/
theorem final6 (c : Dev nD) : (dats m 0 c).arrAt 13 (cfgs 0).N = tAct (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 13 _ (by decide +kernel) fun t _ y => ?_
  blk_simp
  rw [after0_13]; frame_out
  have hy : (y 0).val < 256 := (y 0).isLt
  have ht := lt16 t
  refine (congrArg (k0_pay8 (XB m c t) (iblk m c 6 t) (iblk m c 7 t) (iblk m c 4 t) (iblk m c 5 t)) (show y = ix2 (y 0) (y 1) from by ext k; fin_cases k <;> rfl)).trans
    (((pay_act _ _ _ _ _ (y 0) (y 1)).trans (congrArg₂ _ (congrArg siluAt (GB_eq m c t (y 0) (y 1) ⟨t.val * 256 + (y 0).val, by omega⟩ rfl)) (UB_eq m c t (y 0) (y 1) ⟨t.val * 256 + (y 0).val, by omega⟩ rfl))).trans ?_)
  refine at_ix (fun p b => siluAt (G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (m ((c : Thread nD τ).loc main_arg7)) p b) * G (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) p b) _ _ _ ?_
  blk_ext [idx t]

end Cert.KernelUpIdeal.UpValue

end
-- ==== Proof.LossValue.lean ====
/-
  The gradient of the second layer norm's input under the loss, on the kernel's side: what the last feed-forward product with
  its layer norm and loss leaves in that array, row by row.
-/
module

public import proofs.«01_k».proof.Proof.LossFrame
public import proofs.«01_k».proof.Proof.UpKernel
public import proofs.«01_k».proof.Proof.Dh1Value
public import proofs.«01_k».proof.Proof.Reals
public import Idealize.ShloMosaic.Lib.Pipeline.ValueKit
public import Idealize.ShloMosaic.Lib.Pointwise

@[expose] public section

set_option maxRecDepth 16384

noncomputable section

namespace Cert.KernelLossIdeal.Loss

open Idealize.ShloMosaic Idealize.ShloMosaic.TcCoe Idealize.SL.Sem
open Idealize.ShloMosaic.Pipeline (Dat)
open Cert.KernelLossIdeal Cert.KernelLossIdeal.Gen
open Cert.Real
open Cert.KernelUpIdeal.UpValue (cRow rsRow xhRow)
open Cert.KernelDh1Ideal.Dh1Value (dzRow)

/-! ### One token -/

/-- The second layer norm's input: the scaled output of the first layer norm, the gated per-layer embedding, and the
    feed-forward product. -/
def zRow (xh g1 b1 hb : Fin 1024 → EReal) (wpg : Fin 1024 → Fin 1024 → EReal) (p : Fin 256 → EReal) (wpe : Fin 256 → Fin 1024 → EReal)
    (act : Fin 2816 → EReal) (wd : Fin 2816 → Fin 1024 → EReal) (b : Fin 1024) : EReal :=
  Ideal.ofBits FTy.f32 0x3F9837F0#32 * (xh b * g1 b + b1 b) + Ideal.logistic (∑ k : Fin 1024, hb k * wpg k b) * (∑ k : Fin 256, p k * wpe k b)
    + ∑ k : Fin 2816, act k * wd k b

/-- The loss's gradient on the second layer norm's output. -/
def errRow (xh g s t : Fin 1024 → EReal) (b : Fin 1024) : EReal := (xh b * g b + s b - t b) * Ideal.ofBits FTy.f32 0x3A800000#32

/-- The loss's gradient on the second layer norm's input. -/
def lossRow (z g s t : Fin 1024 → EReal) (b : Fin 1024) : EReal := dzRow (xhRow z) (rsRow (cRow z)) (errRow (xhRow z) g s t) g b

/-! ### One block -/

section
variable (z : FVec Ideal S256x1024 .f32) (g s g' : FVec Ideal S1x1024 .f32) (t : FVec Ideal S256x1024 .f32)

/-- The body's input of the layer norm. -/
theorem pay_z (xh : FVec Ideal S256x1024 .f32) (g1 b1 : FVec Ideal S1x1024 .f32) (p : FVec Ideal S256x256 .f32) (hb : FVec Ideal S256x1024 .bf16)
    (wpg : FVec Ideal S1024x1024 .bf16) (wpe : FVec Ideal S1024x256 .bf16) (act : FVec Ideal S256x2816 .bf16) (wd : FVec Ideal S2816x1024 .bf16)
    (a : Fin 256) (b : Fin 1024) : z2Blk (F := Ideal) xh g1 b1 p hb wpg wpe act wd (ix2 a b)
    = zRow (fun k => xh (ix2 a k)) (fun k => g1 (ix2 0 k)) (fun k => b1 (ix2 0 k)) (fun k => hb (ix2 a k)) (fun k b => wpg (ix2 k b))
        (fun k => p (ix2 a k)) (fun k b => wpe (ix2 b k)) (fun k => act (ix2 a k)) (fun k b => wd (ix2 k b)) b := by
  pointwise [z2Blk, k0_pay12, k0_pay10, k0_pay9, k0_pay8, zRow]

/-- The body's centred input. -/
theorem pay_c (a : Fin 256) (b : Fin 1024) : k0_pay13 (F := Ideal) z (ix2 a b) = cRow (fun k => z (ix2 a k)) b := by
  pointwise [k0_pay13, cRow]

/-- The body's inverse deviation. -/
theorem pay_rs (a : Fin 256) : k0_pay14 (F := Ideal) z (ix2 a 0) = rsRow (fun b => k0_pay13 (F := Ideal) z (ix2 a b)) := by
  generalize hC : k0_pay13 (F := Ideal) z = C
  pointwise [k0_pay14, hC, rsRow]

/-- The body's normalised input. -/
theorem pay_xh (a : Fin 256) (b : Fin 1024) : k0_pay15 (F := Ideal) z (ix2 a b)
    = k0_pay13 (F := Ideal) z (ix2 a b) * k0_pay14 (F := Ideal) z (ix2 a 0) := by
  generalize hC : k0_pay13 (F := Ideal) z = C
  generalize hD : k0_pay14 (F := Ideal) z = D
  pointwise [k0_pay15, hC, hD]

/-- The body's gradient on the layer norm's output. -/
theorem pay_e (a : Fin 256) (b : Fin 1024) : k0_pay17 (F := Ideal) z g s t (ix2 a b)
    = errRow (fun k => k0_pay15 (F := Ideal) z (ix2 a k)) (fun k => g (ix2 0 k)) (fun k => s (ix2 0 k)) (fun k => t (ix2 a k)) b := by
  generalize hC : k0_pay15 (F := Ideal) z = C
  pointwise [k0_pay17, k0_pay16, hC, errRow]

/-- That gradient under the gain. -/
theorem pay_eg (a : Fin 256) (b : Fin 1024) : k0_pay18 (F := Ideal) z g s t g' (ix2 a b)
    = k0_pay17 (F := Ideal) z g s t (ix2 a b) * g' (ix2 0 b) := by
  generalize hC : k0_pay17 (F := Ideal) z g s t = C
  pointwise [k0_pay18, hC]

/-- The same without its mean. -/
theorem pay_m (a : Fin 256) (b : Fin 1024) : k0_pay19 (F := Ideal) z g s t g' (ix2 a b)
    = k0_pay18 (F := Ideal) z g s t g' (ix2 a b)
      - Ideal.div (∑ k : Fin 1024, k0_pay18 (F := Ideal) z g s t g' (ix2 a k)) (Ideal.ofBits FTy.f32 0x44800000#32) := by
  generalize hC : k0_pay18 (F := Ideal) z g s t g' = C
  pointwise [k0_pay19, hC]

/-- The term through the variance. -/
theorem pay_v (a : Fin 256) (b : Fin 1024) : k0_pay20 (F := Ideal) z g s t g' (ix2 a b)
    = k0_pay15 (F := Ideal) z (ix2 a b)
      * Ideal.div (∑ k : Fin 1024, k0_pay18 (F := Ideal) z g s t g' (ix2 a k) * k0_pay15 (F := Ideal) z (ix2 a k)) (Ideal.ofBits FTy.f32 0x44800000#32) := by
  generalize hC : k0_pay18 (F := Ideal) z g s t g' = C
  generalize hD : k0_pay15 (F := Ideal) z = D
  pointwise [k0_pay20, hC, hD]

/-- The three together. -/
theorem pay_d (r : FVec Ideal S256x1 .f32) (u w : FVec Ideal S256x1024 .f32) (a : Fin 256) (b : Fin 1024) :
    k0_pay21 (F := Ideal) r u w (ix2 a b) = r (ix2 a 0) * (u (ix2 a b) - w (ix2 a b)) := by
  pointwise [k0_pay21]

/-- The gradient on the layer norm's input. -/
theorem pay_dz (a : Fin 256) (b : Fin 1024) :
    k0_pay21 (F := Ideal) (k0_pay14 z) (k0_pay19 z g s t g) (k0_pay20 z g s t g) (ix2 a b)
      = lossRow (fun k => z (ix2 a k)) (fun k => g (ix2 0 k)) (fun k => s (ix2 0 k)) (fun k => t (ix2 a k)) b := by
  have hx : (fun k => k0_pay15 (F := Ideal) z (ix2 a k)) = xhRow (fun k => z (ix2 a k)) := funext fun k => by
    rw [pay_xh, pay_rs, pay_c, xhRow]
    exact congrArg _ (congrArg rsRow (funext fun b => pay_c z a b))
  have hr : k0_pay14 (F := Ideal) z (ix2 a 0) = rsRow (cRow (fun k => z (ix2 a k))) := by
    rw [pay_rs]
    exact congrArg rsRow (funext fun b => pay_c z a b)
  have hg : ∀ k : Fin 1024, k0_pay18 (F := Ideal) z g s t g (ix2 a k)
      = errRow (xhRow (fun k => z (ix2 a k))) (fun k => g (ix2 0 k)) (fun k => s (ix2 0 k)) (fun k => t (ix2 a k)) k * g (ix2 0 k) := fun k => by
    rw [pay_eg, pay_e, hx]
  have hx' : ∀ k : Fin 1024, k0_pay15 (F := Ideal) z (ix2 a k) = xhRow (fun k => z (ix2 a k)) k := fun k => congrFun hx k
  rw [pay_d, pay_m, pay_v, hr]
  simp only [hg, hx']
  rfl

end

/-! ### The array -/

section
variable (X1 : FVec Ideal S4096x2816 .bf16) (X4 : FVec Ideal S4096x1024 .f32) (X5 : FVec Ideal S4096x256 .f32) (X6 : FVec Ideal S4096x1024 .f32)
  (X7 : FVec Ideal S2816x1024 .f32) (X8 : FVec Ideal S256x1024 .f32) (X9 : FVec Ideal S1024x1024 .f32) (X10 X11 X12 X13 : FVec Ideal S1x1024 .f32)

/-- The first layer norm's output at one token. -/
def Hn (a : Fin 4096) (k : Fin 1024) : EReal := X4 (ix2 a k) * X10 (ix2 0 k) + X11 (ix2 0 k)

/-- The second layer norm's input at one token. -/
def Z (a : Fin 4096) : Fin 1024 → EReal :=
  zRow (fun k => X4 (ix2 a k)) (fun k => X10 (ix2 0 k)) (fun k => X11 (ix2 0 k)) (Hn X4 X10 X11 a)
    (fun k b => X9 (ix2 k b)) (fun k => X5 (ix2 a k)) (fun k b => X8 (ix2 k b)) (fun k => X1 (ix2 a k)) (fun k b => X7 (ix2 k b))

/-- The gradient on it. -/
def tDz : S4096x1024.Idx → EReal := fun i =>
  lossRow (Z X1 X4 X5 X7 X8 X9 X10 X11 (i 0)) (fun k => X12 (ix2 0 k)) (fun k => X13 (ix2 0 k)) (fun k => X6 (ix2 (i 0) k)) (i 1)

end

variable (m : (ℓ : Loc nD τ sig) → Buf (Elt Ideal) ℓ)

/-- Grid point `t` takes block `t` of every array of tokens and the whole of the others. -/
theorem idx : ∀ t : Fin cfg0.N, win0_1.index t = ![t.val, 0] ∧ win0_4.index t = ![t.val, 0] ∧ win0_5.index t = ![t.val, 0]
    ∧ win0_6.index t = ![t.val, 0] ∧ win0_7.index t = ![t.val, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0] ∧ win0_15.index t = ![t.val, 0] :=
  (by decide +kernel : ∀ t : Fin grid0.N, _)

theorem lt16 (p : Fin cfg0.N) : p.val < 16 := lt_of_lt_of_eq p.isLt N_0

/-- The kernel's host code computes the first layer norm's output and rounds it, which over the extended reals leaves it as it is. -/
theorem host_h (c : Dev nD) (a : Fin 4096) (k : Fin 1024) : V m c main_v4 (ix2 a k)
    = Hn (m ((c : Thread nD τ).loc main_arg4)) (m ((c : Thread nD τ).loc main_arg10)) (m ((c : Thread nD τ).loc main_arg11)) a k := by
  unfold_abbrev_sides
  after_results
  pointwise [Hn]

/-- It rounds the feed-forward weight. -/
theorem host_wd (c : Dev nD) (k : Fin 2816) (b : Fin 1024) : V m c main_v5 (ix2 k b) = m ((c : Thread nD τ).loc main_arg7) (ix2 k b) := by
  unfold_abbrev_sides
  after_results
  pointwise []

/-- It rounds the gate's weight. -/
theorem host_wpg (c : Dev nD) (k b : Fin 1024) : V m c main_v6 (ix2 k b) = m ((c : Thread nD τ).loc main_arg9) (ix2 k b) := by
  unfold_abbrev_sides
  after_results
  pointwise []

/-- It transposes the embedding's weight. -/
theorem host_wpe (c : Dev nD) (k : Fin 256) (b : Fin 1024) : V m c main_v8 (ix2 b k) = m ((c : Thread nD τ).loc main_arg8) (ix2 k b) := by
  unfold_abbrev_sides
  after_results
  pointwise []

/-- A block of the first layer norm's output. -/
theorem blk_h (c : Dev nD) (t : Fin cfg0.N) (a : Fin 256) (k : Fin 1024) (p : Fin 4096) (hp : p.val = t.val * 256 + a.val) :
    iblk m c 4 t (ix2 a k) = Hn (m ((c : Thread nD τ).loc main_arg4)) (m ((c : Thread nD τ).loc main_arg10)) (m ((c : Thread nD τ).loc main_arg11)) p k := by
  refine Eq.trans (b := V m c main_v4 (ix2 p k)) ?_ (host_h m c p k)
  blk_ext [iblk, idx t, hp]

/-- A block's feed-forward weight is the array. -/
theorem blk_wd (c : Dev nD) (t : Fin cfg0.N) (k : Fin 2816) (b : Fin 1024) : iblk m c 8 t (ix2 k b) = m ((c : Thread nD τ).loc main_arg7) (ix2 k b) := by
  refine Eq.trans (b := V m c main_v5 (ix2 k b)) ?_ (host_wd m c k b)
  blk_ext [iblk, idx t]

/-- A block's gate weight is the array. -/
theorem blk_wpg (c : Dev nD) (t : Fin cfg0.N) (k b : Fin 1024) : iblk m c 9 t (ix2 k b) = m ((c : Thread nD τ).loc main_arg9) (ix2 k b) := by
  refine Eq.trans (b := V m c main_v6 (ix2 k b)) ?_ (host_wpg m c k b)
  blk_ext [iblk, idx t]

/-- A block's embedding weight is the transposed array. -/
theorem blk_wpe (c : Dev nD) (t : Fin cfg0.N) (k : Fin 256) (b : Fin 1024) : iblk m c 10 t (ix2 b k) = m ((c : Thread nD τ).loc main_arg8) (ix2 k b) := by
  refine Eq.trans (b := V m c main_v8 (ix2 b k)) ?_ (host_wpe m c k b)
  blk_ext [iblk, idx t]

/-- A block's first gain. -/
theorem blk_g1 (c : Dev nD) (t : Fin cfg0.N) (k : Fin 1024) : iblk m c 11 t (ix2 (0 : Fin 1) k) = m ((c : Thread nD τ).loc main_arg10) (ix2 (0 : Fin 1) k) := by
  blk_ext [iblk, V, idx t]

/-- A block's first bias. -/
theorem blk_b1 (c : Dev nD) (t : Fin cfg0.N) (k : Fin 1024) : iblk m c 12 t (ix2 (0 : Fin 1) k) = m ((c : Thread nD τ).loc main_arg11) (ix2 (0 : Fin 1) k) := by
  blk_ext [iblk, V, idx t]

/-- A block's second gain. -/
theorem blk_g2 (c : Dev nD) (t : Fin cfg0.N) (k : Fin 1024) : iblk m c 13 t (ix2 (0 : Fin 1) k) = m ((c : Thread nD τ).loc main_arg12) (ix2 (0 : Fin 1) k) := by
  blk_ext [iblk, V, idx t]

/-- A block's second bias. -/
theorem blk_b2 (c : Dev nD) (t : Fin cfg0.N) (k : Fin 1024) : iblk m c 14 t (ix2 (0 : Fin 1) k) = m ((c : Thread nD τ).loc main_arg13) (ix2 (0 : Fin 1) k) := by
  blk_ext [iblk, V, idx t]

/-- A block of the normalised input. -/
theorem blk_x (c : Dev nD) (t : Fin cfg0.N) (a : Fin 256) (k : Fin 1024) (p : Fin 4096) (hp : p.val = t.val * 256 + a.val) :
    iblk m c 6 t (ix2 a k) = m ((c : Thread nD τ).loc main_arg4) (ix2 p k) := by
  blk_ext [iblk, V, idx t, hp]

/-- A block of the targets. -/
theorem blk_t (c : Dev nD) (t : Fin cfg0.N) (a : Fin 256) (k : Fin 1024) (p : Fin 4096) (hp : p.val = t.val * 256 + a.val) :
    iblk m c 7 t (ix2 a k) = m ((c : Thread nD τ).loc main_arg6) (ix2 p k) := by
  blk_ext [iblk, V, idx t, hp]

/-- A block of the embeddings. -/
theorem blk_p (c : Dev nD) (t : Fin cfg0.N) (a : Fin 256) (k : Fin 256) (p : Fin 4096) (hp : p.val = t.val * 256 + a.val) :
    iblk m c 5 t (ix2 a k) = m ((c : Thread nD τ).loc main_arg5) (ix2 p k) := by
  blk_ext [iblk, V, idx t, hp]

/-- A block of the gated products. -/
theorem blk_a (c : Dev nD) (t : Fin cfg0.N) (a : Fin 256) (k : Fin 2816) (p : Fin 4096) (hp : p.val = t.val * 256 + a.val) :
    iblk m c 1 t (ix2 a k) = m ((c : Thread nD τ).loc main_arg1) (ix2 p k) := by
  blk_ext [iblk, V, idx t, hp]

/-- The array after the run, as a function of the arguments. -/
abbrev fDz (c : Dev nD) : S4096x1024.Idx → EReal :=
  tDz (m ((c : Thread nD τ).loc main_arg1)) (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9)) (m ((c : Thread nD τ).loc main_arg10))
    (m ((c : Thread nD τ).loc main_arg11)) (m ((c : Thread nD τ).loc main_arg12)) (m ((c : Thread nD τ).loc main_arg13))

/-- The gradient at the block of grid point `t`. -/
abbrev DB (c : Dev nD) (t : Fin cfg0.N) : FVec Ideal S256x1024 .f32 :=
  dzBlk (F := Ideal) (iblk m c 6 t) (iblk m c 11 t) (iblk m c 12 t) (iblk m c 5 t) (iblk m c 4 t) (iblk m c 9 t) (iblk m c 10 t) (iblk m c 1 t)
    (iblk m c 8 t) (iblk m c 13 t) (iblk m c 14 t) (iblk m c 7 t)

/-- A block of the gradient is the array's. -/
theorem block_at (c : Dev nD) (t : Fin cfg0.N) (a : Fin 256) (b : Fin 1024) (p : Fin 4096) (hp : p.val = t.val * 256 + a.val) :
    DB m c t (ix2 a b) = fDz m c (ix2 p b) := by
  unfold DB dzBlk
  refine (pay_dz _ _ _ _ a b).trans ?_
  unfold fDz tDz
  have hz : (fun k : Fin 1024 => z2Blk (F := Ideal) (iblk m c 6 t) (iblk m c 11 t) (iblk m c 12 t) (iblk m c 5 t) (iblk m c 4 t) (iblk m c 9 t) (iblk m c 10 t) (iblk m c 1 t)
      (iblk m c 8 t) (ix2 a k)) = Z (m ((c : Thread nD τ).loc main_arg1)) (m ((c : Thread nD τ).loc main_arg4)) (m ((c : Thread nD τ).loc main_arg5))
        (m ((c : Thread nD τ).loc main_arg7)) (m ((c : Thread nD τ).loc main_arg8)) (m ((c : Thread nD τ).loc main_arg9)) (m ((c : Thread nD τ).loc main_arg10))
        (m ((c : Thread nD τ).loc main_arg11)) p := funext fun k => by
    refine (pay_z _ _ _ _ _ _ _ _ _ a k).trans ?_
    unfold Z zRow
    simp only [blk_x m c t a _ p hp, blk_g1, blk_b1, blk_h m c t a _ p hp, blk_wpg, blk_p m c t a _ p hp, blk_wpe, blk_a m c t a _ p hp, blk_wd]
  rw [hz]
  simp only [blk_g2, blk_b2, blk_t m c t a _ p hp]
  rfl

/-- The gradient after the run. -/
theorem final_dz (c : Dev nD) : (dats m 0 c).arrAt 15 (cfgs 0).N = fDz m c := by
  refine (dats m 0 c).arrAt_eq_of_covers 15 _ (by decide +kernel) fun t _ y => ?_
  blk_simp
  have hy : (y 0).val < 256 := (y 0).isLt
  have ht := lt16 t
  refine Eq.trans (b := DB m c t y) rfl ?_
  refine (congrArg (DB m c t) (show y = ix2 (y 0) (y 1) from by ext k; fin_cases k <;> rfl)).trans
    ((block_at m c t (y 0) (y 1) ⟨t.val * 256 + (y 0).val, by omega⟩ rfl).trans ?_)
  refine congrArg _ ?_
  blk_ext [idx t]

end Cert.KernelLossIdeal.Loss

end
-- ==== Proof.LossReference.lean ====
/-
  The gradient of the second layer norm's input under the loss, on the reference's side: the derivative of the forward lines,
  entry by entry, is the closed form of the layer norm's derivative wherever the arguments are finite.
-/
module

public import proofs.«01_k».proof.Proof.LossRun
public import proofs.«01_k».proof.Proof.LossValue
public import proofs.«01_k».proof.Proof.Dh1Reference
public import proofs.«01_k».proof.Proof.Reals

@[expose] public section

set_option maxRecDepth 16384

noncomputable section

namespace Cert.KernelLossIdeal.Loss

open Idealize.ShloMosaic Idealize.ShloMosaic.TcCoe Idealize.SL.Sem
open Cert.KernelLossIdeal Cert.KernelLossIdeal.Gen
open Cert.ReferenceLossIdeal.LossRun
open Cert.Real
open Cert.KernelUpIdeal.UpValue (cRow rsRow xhRow)
open Cert.KernelDh1Ideal.Dh1Value (dzRow ln_ereal)

/-- The word of the reciprocal of the row's length. -/
theorem wInv1024 : Ideal.ofBits FTy.f32 0x3A800000#32 = ((1 / 1024 : ℝ) : EReal) := by
  simp [Ideal.ofBits, Ideal.ieee, -EReal.coe_mul]; norm_num

/-- The word of half of it. -/
theorem wInv2048 : Ideal.ofBits FTy.f32 0x3A000000#32 = ((1 / 2048 : ℝ) : EReal) := by
  simp [Ideal.ofBits, Ideal.ieee, -EReal.coe_mul]; norm_num

/-- A logistic value of a real number is real. -/
theorem isR_logistic {x : EReal} (hx : IsR x) : IsR (Ideal.logistic x) := by
  obtain ⟨r, rfl⟩ := hx
  rw [Ideal.logistic_coe]
  exact ⟨_, rfl⟩

section
variable (X1 : FVec Ideal S4096x2816 .bf16) (X4 : FVec Ideal S4096x1024 .f32) (X5 : FVec Ideal S4096x256 .f32) (X6 : FVec Ideal S4096x1024 .f32)
  (X7 : FVec Ideal S2816x1024 .f32) (X8 : FVec Ideal S256x1024 .f32) (X9 : FVec Ideal S1024x1024 .f32) (X10 X11 X12 X13 : FVec Ideal S1x1024 .f32)

/-- The layer norm's input. -/
theorem ref_z (a : Fin 4096) (b : Fin 1024) : zVal (F := Ideal) X1 X4 X5 X7 X8 X9 X10 X11 (ix2 a b) = Z X1 X4 X5 X7 X8 X9 X10 X11 a b := by
  unfold Z zRow
  rw [add_right_comm]
  pointwise [zVal, Hn, Ideal.logistic]

end

section
variable (z w t : FVec Ideal S4096x1024 .f32) (v r d : FVec Ideal Cert.ReferenceLossIdeal.S4096x1 .f32) (g s : FVec Ideal S1x1024 .f32)

/-- The centred input that the variance squares. -/
theorem ref_sq (a : Fin 4096) (b : Fin 1024) : sqVal (F := Ideal) z (ix2 a b) = cRow (fun k => z (ix2 a k)) b := by
  pointwise [sqVal, cRow]

/-- The centred input that is normalised. -/
theorem ref_c (a : Fin 4096) (b : Fin 1024) : cVal (F := Ideal) z (ix2 a b) = cRow (fun k => z (ix2 a k)) b := by
  pointwise [cVal, cRow]

/-- Twice the centred input. -/
theorem ref_two (a : Fin 4096) (b : Fin 1024) : twoVal (F := Ideal) z (ix2 a b) = ((2 : ℝ) : EReal) * z (ix2 a b) := by
  rw [← w2]
  pointwise [twoVal]

/-- The variance with its offset. -/
theorem ref_var (a : Fin 4096) : varVal (F := Ideal) z (ix2 a 0)
    = Ideal.div (∑ k : Fin 1024, z (ix2 a k) * z (ix2 a k)) (Ideal.ofBits FTy.f32 0x44800000#32) + Ideal.ofBits FTy.f32 0x3727C5AC#32 := by
  pointwise [varVal]

/-- The inverse deviation. -/
theorem ref_rs (a : Fin 4096) : rsVal (F := Ideal) v (ix2 a 0) = Ideal.rsqrt (v (ix2 a 0)) := by
  pointwise [rsVal]

/-- The derivative of the inverse deviation. -/
theorem ref_dv (a : Fin 4096) : dvVal (F := Ideal) v r (ix2 a 0) = ((-(1 / 2) : ℝ) : EReal) * Ideal.div (r (ix2 a 0)) (v (ix2 a 0)) := by
  rw [← wHalf]
  pointwise [dvVal]

/-- The loss's gradient on the layer norm's output, as it is written. -/
theorem ref_e (a : Fin 4096) (b : Fin 1024) : eVal (F := Ideal) z r t g s (ix2 a b)
    = Ideal.ofBits FTy.f32 0x3A000000#32 * (Ideal.ofBits FTy.f32 0x40000000#32 * (z (ix2 a b) * r (ix2 a 0) * g (ix2 0 b) + s (ix2 0 b) - t (ix2 a b))) := by
  pointwise [eVal]

/-- The layer norm's derivative, as it is written. -/
theorem ref_d (a : Fin 4096) (b : Fin 1024) : dzVal (F := Ideal) w z r d t g (ix2 a b)
    = t (ix2 a b) * g (ix2 0 b) * r (ix2 a 0)
      + Ideal.div ((∑ k : Fin 1024, z (ix2 a k) * (t (ix2 a k) * g (ix2 0 k))) * d (ix2 a 0)) ((1024 : ℝ) : EReal) * w (ix2 a b)
      + Ideal.div (∑ k : Fin 1024, -(t (ix2 a k) * g (ix2 0 k) * r (ix2 a 0))
        + ∑ k : Fin 1024, -(Ideal.div ((∑ k : Fin 1024, z (ix2 a k) * (t (ix2 a k) * g (ix2 0 k))) * d (ix2 a 0)) ((1024 : ℝ) : EReal) * w (ix2 a k))) ((1024 : ℝ) : EReal) := by
  rw [← w1024]
  pointwise [dzVal]
  simp only [Ideal.ofBits_zero_f32, zero_add, Fin.sum_univ_one, Finset.univ_unique, Finset.sum_singleton, Fin.default_eq_zero]

end

section
variable (X1 : FVec Ideal S4096x2816 .bf16) (X4 : FVec Ideal S4096x1024 .f32) (X5 : FVec Ideal S4096x256 .f32) (X6 : FVec Ideal S4096x1024 .f32)
  (X7 : FVec Ideal S2816x1024 .f32) (X8 : FVec Ideal S256x1024 .f32) (X9 : FVec Ideal S1024x1024 .f32) (X10 X11 X12 X13 : FVec Ideal S1x1024 .f32)

/-- Where the arguments are finite, the derivative of the forward lines is the closed form. -/
theorem ref_dz (h1 : ∀ i, IsR (X1 i)) (h4 : ∀ i, IsR (X4 i)) (h5 : ∀ i, IsR (X5 i)) (h6 : ∀ i, IsR (X6 i)) (h7 : ∀ i, IsR (X7 i)) (h8 : ∀ i, IsR (X8 i))
    (h9 : ∀ i, IsR (X9 i)) (h10 : ∀ i, IsR (X10 i)) (h11 : ∀ i, IsR (X11 i)) (h12 : ∀ i, IsR (X12 i)) (h13 : ∀ i, IsR (X13 i)) :
    outVal (F := Ideal) X1 X4 X5 X6 X7 X8 X9 X10 X11 X12 X13 = tDz X1 X4 X5 X6 X7 X8 X9 X10 X11 X12 X13 := by
  refine ext2 fun (a : Fin 4096) (b : Fin 1024) => ?_
  have hx : ∀ k : Fin 1024, IsR (Z X1 X4 X5 X7 X8 X9 X10 X11 a k) := fun k =>
    ((wAlpha.mul (((h4 _).mul (h10 _)).add (h11 _))).add
      ((isR_logistic (isR_sum fun _ => (((h4 _).mul (h10 _)).add (h11 _)).mul (h9 _))).mul (isR_sum fun _ => (h5 _).mul (h8 _)))).add
      (isR_sum fun _ => (h1 _).mul (h7 _))
  have hg : ∀ k : Fin 1024, IsR (X12 (ix2 0 k)) := fun k => h12 _
  have hq : ∀ k : Fin 1024, IsR (X13 (ix2 0 k)) := fun k => h13 _
  have ht : ∀ k : Fin 1024, IsR (X6 (ix2 a k)) := fun k => h6 _
  choose x hx using hx
  choose g hg using hg
  choose q hq using hq
  choose t ht using ht
  obtain ⟨e, he0, he⟩ := wEps
  have hc : ∀ b, cRow (Z X1 X4 X5 X7 X8 X9 X10 X11 a) b = ((x b - (∑ k, x k) * (1 / 1024) : ℝ) : EReal) := fun b => by
    unfold cRow
    simp only [hx, w1024, sum_coe, Ideal.div_coe (show (1024 : ℝ) ≠ 0 by norm_num), ← EReal.coe_mul, ← EReal.coe_sub]
  set z : Fin 1024 → ℝ := fun b => x b - (∑ k, x k) * (1 / 1024) with hzdef
  have hz0 : ∑ k, z k = 0 := by
    simp only [hzdef, Finset.sum_sub_distrib, Finset.sum_const, Finset.card_univ, Fintype.card_fin]
    simp only [nsmul_eq_mul]; push_cast; ring
  generalize hW : zVal (F := Ideal) X1 X4 X5 X7 X8 X9 X10 X11 = W
  have hWz : (fun k => W (ix2 a k)) = Z X1 X4 X5 X7 X8 X9 X10 X11 a := funext fun k => hW ▸ ref_z ..
  have hz : ∀ k, cVal (F := Ideal) W (ix2 a k) = (z k : EReal) := fun k => by rw [ref_c, hWz]; exact hc k
  have hz' : ∀ k, sqVal (F := Ideal) W (ix2 a k) = (z k : EReal) := fun k => by rw [ref_sq, hWz]; exact hc k
  have hv : varVal (F := Ideal) (sqVal W) (ix2 a 0) = (((∑ k, z k * z k) * (1 / 1024) + e : ℝ) : EReal) := by
    rw [ref_var]
    simp only [hz', w1024, he, ← EReal.coe_mul, sum_coe, Ideal.div_coe (show (1024 : ℝ) ≠ 0 by norm_num), ← EReal.coe_add]
  set v : ℝ := (∑ k, z k * z k) * (1 / 1024) + e with hvdef
  have hv0 : 0 < v := by
    have : 0 ≤ ∑ k, z k * z k := Finset.sum_nonneg fun k _ => mul_self_nonneg _
    positivity
  have hs : rsVal (F := Ideal) (varVal (sqVal W)) (ix2 a 0) = (((√v)⁻¹ : ℝ) : EReal) := by
    rw [ref_rs, hv, Ideal.rsqrt_coe, if_neg (not_lt.2 hv0.le), if_neg hv0.ne']
  have hss : (√v)⁻¹ * (√v)⁻¹ * v = 1 := by
    have h0 : √v ≠ 0 := (Real.sqrt_pos.2 hv0).ne'
    have h1 : √v * √v = v := Real.mul_self_sqrt hv0.le
    field_simp
    nlinarith
  generalize (√v)⁻¹ = s at hs hss
  have hrs : rsRow (cRow (Z X1 X4 X5 X7 X8 X9 X10 X11 a)) = (s : EReal) := by
    rw [← hs, ref_rs, ref_var]
    unfold rsRow
    simp only [hz', hc]
    rfl
  have hxh : xhRow (Z X1 X4 X5 X7 X8 X9 X10 X11 a) = fun k => (z k : EReal) * s := funext fun k => by
    unfold xhRow
    rw [hrs, hc]
  have hE : ∀ k : Fin 1024, eVal (F := Ideal) (cVal W) (rsVal (varVal (sqVal W))) X6 X12 X13 (ix2 a k) = (((z k * s * g k + q k - t k) * (1 / 1024) : ℝ) : EReal) := fun k => by
    rw [ref_e]
    simp only [hz, hs, hg, hq, ht, w2, wInv2048, ← EReal.coe_mul, ← EReal.coe_add, ← EReal.coe_sub]
    exact congrArg _ (by ring)
  have hE' : errRow (fun k => (z k : EReal) * s) (fun k => X12 (ix2 0 k)) (fun k => X13 (ix2 0 k)) (fun k => X6 (ix2 a k))
      = fun k => (((z k * s * g k + q k - t k) * (1 / 1024) : ℝ) : EReal) := funext fun k => by
    unfold errRow
    simp only [hg, hq, ht, wInv1024, ← EReal.coe_mul, ← EReal.coe_add, ← EReal.coe_sub]
  unfold outVal
  rw [hW, ref_d]
  simp only [ref_two, ref_dv, hE, hg, hz, hz', hs, hv]
  refine (ln_ereal z (fun k => (z k * s * g k + q k - t k) * (1 / 1024)) g s v hz0 hv0.ne' hss b).trans ?_
  show _ = lossRow (Z X1 X4 X5 X7 X8 X9 X10 X11 a) (fun k => X12 (ix2 0 k)) (fun k => X13 (ix2 0 k)) (fun k => X6 (ix2 a k)) b
  unfold lossRow
  rw [hxh, hrs, hE']
  simp only [hg]

end

end Cert.KernelLossIdeal.Loss

end
-- ==== Proof.LossClaim.lean ====
/-
  The claims about the last feed-forward product with its layer norm and loss, for a device number in [0, 8): both kernels run
  to their end and keep their operands, so does the reference, and over the extended reals, for finite arguments, kernel and
  reference leave the same gradient of the second layer norm's input.
-/
module

public import proofs.«01_k».proof.Defs
public import proofs.«01_k».proof.Proof.Place
public import proofs.«01_k».proof.Proof.Gen.Pre_place_loss
public import proofs.«01_k».proof.Proof.Gen.Pre_finite_loss
public import proofs.«01_k».proof.Proof.LossFrameBits
public import proofs.«01_k».proof.Proof.LossReference
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The side conditions on the device's number that the body assumes. -/
theorem hyps_KernelLoss (m : (ℓ : Loc Cert.KernelLoss.nD Cert.KernelLoss.τ Cert.KernelLoss.sig) → Buf (Elt Bits) ℓ)
    (h : ∀ (c : Dev Cert.KernelLoss.nD) (y : (⟨1, ![1]⟩ : Shape).Idx), BitVec.toNat (w := 32) (m ((c : Thread Cert.KernelLoss.nD Cert.KernelLoss.τ).loc Cert.KernelLoss.main_arg0) y) < 8) :
    Cert.KernelLoss.Gen.Hyps m := by
  intro c t hc
  have rd : ∀ y, BitVec.toNat (w := 32) (Cert.KernelLoss.Gen.iblk m c 0 t y) < 8 := fun y => by
    unfold Cert.KernelLoss.Gen.iblk; rw [View.read_apply, cast_eq]; exact h c _
  have chk : ∀ w : BitVec 32, w.toNat < 8 → Cert.KernelLoss.k0_chk1 (Cert.KernelLoss.grid0.coords t) w := fun w hw => by
    have hm : (w * 128#32).toNat = w.toNat * 128 := by
      rw [BitVec.toNat_mul]
      simp only [BitVec.toNat_ofNat, Nat.reducePow, Nat.reduceMod]
      exact Nat.mod_eq_of_lt (by omega)
    refine ⟨fun _ => ?_, fun _ => Fin.forall_fin_two.2 ⟨?_, ?_⟩, fun _ => Fin.forall_fin_two.2 ⟨?_, ?_⟩⟩
    · show 8 ∣ (w * 128#32).toNat
      omega
    · show (w * 128#32).toNat + 128 ≤ 1024
      omega
    · show 0 + 256 ≤ 256
      omega
    · show (w * 128#32).toNat + 128 ≤ 1024
      omega
    · show 0 + 1024 ≤ 1024
      omega
  simp only [View.readAt_apply, Memref.IsWhole.read_unread]
  exact chk _ (rd _)

/-- The side conditions on the device's number that the body assumes. -/
theorem hyps_KernelLossIdeal (m : (ℓ : Loc Cert.KernelLossIdeal.nD Cert.KernelLossIdeal.τ Cert.KernelLossIdeal.sig) → Buf (Elt Ideal) ℓ)
    (h : ∀ (c : Dev Cert.KernelLossIdeal.nD) (y : (⟨1, ![1]⟩ : Shape).Idx), BitVec.toNat (w := 32) (m ((c : Thread Cert.KernelLossIdeal.nD Cert.KernelLossIdeal.τ).loc Cert.KernelLossIdeal.main_arg0) y) < 8) :
    Cert.KernelLossIdeal.Gen.Hyps m := by
  intro c t hc
  have rd : ∀ y, BitVec.toNat (w := 32) (Cert.KernelLossIdeal.Gen.iblk m c 0 t y) < 8 := fun y => by
    unfold Cert.KernelLossIdeal.Gen.iblk; rw [View.read_apply, cast_eq]; exact h c _
  have chk : ∀ w : BitVec 32, w.toNat < 8 → Cert.KernelLossIdeal.k0_chk1 (Cert.KernelLossIdeal.grid0.coords t) w := fun w hw => by
    have hm : (w * 128#32).toNat = w.toNat * 128 := by
      rw [BitVec.toNat_mul]
      simp only [BitVec.toNat_ofNat, Nat.reducePow, Nat.reduceMod]
      exact Nat.mod_eq_of_lt (by omega)
    refine ⟨fun _ => ?_, fun _ => Fin.forall_fin_two.2 ⟨?_, ?_⟩, fun _ => Fin.forall_fin_two.2 ⟨?_, ?_⟩⟩
    · show 8 ∣ (w * 128#32).toNat
      omega
    · show (w * 128#32).toNat + 128 ≤ 1024
      omega
    · show 0 + 256 ≤ 256
      omega
    · show (w * 128#32).toNat + 128 ≤ 1024
      omega
    · show 0 + 1024 ≤ 1024
      omega
  simp only [View.readAt_apply, Memref.IsWhole.read_unread]
  exact chk _ (rd _)

/-- The device's number is below eight. -/
theorem place_KernelLoss (m : (ℓ : Loc Cert.KernelLoss.nD Cert.KernelLoss.τ Cert.KernelLoss.sig) → Buf (Elt Bits) ℓ) (h : Cert.Pre_KernelLoss m)
    (c : Dev Cert.KernelLoss.nD) (y : (⟨1, ![1]⟩ : Shape).Idx) :
    BitVec.toNat (w := 32) (m ((c : Thread Cert.KernelLoss.nD Cert.KernelLoss.τ).loc Cert.KernelLoss.main_arg0) y) < 8 :=
  place_of_compare _ (congrFun (h c) y)

/-- The device's number is below eight. -/
theorem place_KernelLossIdeal (m : (ℓ : Loc Cert.KernelLossIdeal.nD Cert.KernelLossIdeal.τ Cert.KernelLossIdeal.sig) → Buf (Elt Ideal) ℓ) (h : Cert.Pre_KernelLossIdeal m)
    (c : Dev Cert.KernelLossIdeal.nD) (y : (⟨1, ![1]⟩ : Shape).Idx) :
    BitVec.toNat (w := 32) (m ((c : Thread Cert.KernelLossIdeal.nD Cert.KernelLossIdeal.τ).loc Cert.KernelLossIdeal.main_arg0) y) < 8 :=
  place_of_compare _ (congrFun (h c) y)

/-- The device's number is below eight. -/
theorem finite_place_KernelLossIdeal (m : (ℓ : Loc Cert.KernelLossIdeal.nD Cert.KernelLossIdeal.τ Cert.KernelLossIdeal.sig) → Buf (Elt Ideal) ℓ) (h : Cert.Pre_KernelLossIdeal_finite_loss m)
    (c : Dev Cert.KernelLossIdeal.nD) (y : (⟨1, ![1]⟩ : Shape).Idx) :
    BitVec.toNat (w := 32) (m ((c : Thread Cert.KernelLossIdeal.nD Cert.KernelLossIdeal.τ).loc Cert.KernelLossIdeal.main_arg0) y) < 8 :=
  place_of_compare _ (congrFun (h c).1 y)

open Cert.Real in
/-- The precondition says that every other argument is finite. -/
theorem finite_KernelLossIdeal (m : (ℓ : Loc Cert.KernelLossIdeal.nD Cert.KernelLossIdeal.τ Cert.KernelLossIdeal.sig) → Buf (Elt Ideal) ℓ)
    (h : Cert.Pre_KernelLossIdeal_finite_loss m) (c : Dev Cert.KernelLossIdeal.nD) :
    (∀ i, IsR ((m ((c : Thread Cert.KernelLossIdeal.nD Cert.KernelLossIdeal.τ).loc Cert.KernelLossIdeal.main_arg1)) i))
      ∧ (∀ i, IsR ((m ((c : Thread Cert.KernelLossIdeal.nD Cert.KernelLossIdeal.τ).loc Cert.KernelLossIdeal.main_arg2)) i))
      ∧ (∀ i, IsR ((m ((c : Thread Cert.KernelLossIdeal.nD Cert.KernelLossIdeal.τ).loc Cert.KernelLossIdeal.main_arg3)) i))
      ∧ (∀ i, IsR ((m ((c : Thread Cert.KernelLossIdeal.nD Cert.KernelLossIdeal.τ).loc Cert.KernelLossIdeal.main_arg4)) i))
      ∧ (∀ i, IsR ((m ((c : Thread Cert.KernelLossIdeal.nD Cert.KernelLossIdeal.τ).loc Cert.KernelLossIdeal.main_arg5)) i))
      ∧ (∀ i, IsR ((m ((c : Thread Cert.KernelLossIdeal.nD Cert.KernelLossIdeal.τ).loc Cert.KernelLossIdeal.main_arg6)) i))
      ∧ (∀ i, IsR ((m ((c : Thread Cert.KernelLossIdeal.nD Cert.KernelLossIdeal.τ).loc Cert.KernelLossIdeal.main_arg7)) i))
      ∧ (∀ i, IsR ((m ((c : Thread Cert.KernelLossIdeal.nD Cert.KernelLossIdeal.τ).loc Cert.KernelLossIdeal.main_arg8)) i))
      ∧ (∀ i, IsR ((m ((c : Thread Cert.KernelLossIdeal.nD Cert.KernelLossIdeal.τ).loc Cert.KernelLossIdeal.main_arg9)) i))
      ∧ (∀ i, IsR ((m ((c : Thread Cert.KernelLossIdeal.nD Cert.KernelLossIdeal.τ).loc Cert.KernelLossIdeal.main_arg10)) i))
      ∧ (∀ i, IsR ((m ((c : Thread Cert.KernelLossIdeal.nD Cert.KernelLossIdeal.τ).loc Cert.KernelLossIdeal.main_arg11)) i))
      ∧ (∀ i, IsR ((m ((c : Thread Cert.KernelLossIdeal.nD Cert.KernelLossIdeal.τ).loc Cert.KernelLossIdeal.main_arg12)) i))
      ∧ (∀ i, IsR ((m ((c : Thread Cert.KernelLossIdeal.nD Cert.KernelLossIdeal.τ).loc Cert.KernelLossIdeal.main_arg13)) i)) := by
  obtain ⟨-, q1, q2, q3, q4, q5, q6, q7, q8, q9, q10, q11, q12, q13⟩ := h c
  exact ⟨fun i => isR_of_mask _ (congrFun q1 i), fun i => isR_of_mask _ (congrFun q2 i), fun i => isR_of_mask _ (congrFun q3 i), fun i => isR_of_mask _ (congrFun q4 i), fun i => isR_of_mask _ (congrFun q5 i), fun i => isR_of_mask _ (congrFun q6 i), fun i => isR_of_mask _ (congrFun q7 i), fun i => isR_of_mask _ (congrFun q8 i), fun i => isR_of_mask _ (congrFun q9 i), fun i => isR_of_mask _ (congrFun q10 i), fun i => isR_of_mask _ (congrFun q11 i), fun i => isR_of_mask _ (congrFun q12 i), fun i => isR_of_mask _ (congrFun q13 i)⟩

/-- The kernel over the bits runs to its end and keeps its operands. -/
theorem frame_KernelLoss : Cert.quiescent_KernelLoss :=
  fun m ρ h => Cert.KernelLoss.Loss.frame_any (F := Bits) m (hyps_KernelLoss m (place_KernelLoss m h)) ρ

/-- The kernel over the extended reals runs to its end and keeps its operands. -/
theorem frame_KernelLossIdeal : Cert.quiescent_KernelLossIdeal :=
  fun m ρ h => Cert.KernelLossIdeal.Loss.frame_any (F := Ideal) m (hyps_KernelLossIdeal m (place_KernelLossIdeal m h)) ρ

/-- So it does for finite arguments. -/
theorem frame_KernelLossIdeal_pre : Cert.quiescent_KernelLossIdeal_pre_finite_loss :=
  fun m ρ h => Cert.KernelLossIdeal.Loss.frame_any (F := Ideal) m (hyps_KernelLossIdeal m (finite_place_KernelLossIdeal m h)) ρ

/-- The reference runs to its end and keeps its operands. -/
theorem frame_ReferenceLossIdeal : Cert.quiescent_ReferenceLossIdeal := by
  intro m g _
  exact (θ_run Cert.ReferenceLossIdeal.defs _ _).mono (fun r h => ⟨fun c => (h c).2, sem_eq_zero_of_no_sems (by decide) r.2⟩)
    (Cert.ReferenceLossIdeal.LossRun.run m g)

/-- So it does for finite arguments. -/
theorem frame_ReferenceLossIdeal_pre : Cert.quiescent_ReferenceLossIdeal_pre_finite_loss := by
  intro m g _
  exact (θ_run Cert.ReferenceLossIdeal.defs _ _).mono (fun r h => ⟨fun c => (h c).2, sem_eq_zero_of_no_sems (by decide) r.2⟩)
    (Cert.ReferenceLossIdeal.LossRun.run m g)

set_option maxHeartbeats 1600000 in
open Cert.KernelLossIdeal.Loss in
/-- Kernel and reference leave the same gradient of the second layer norm's input. -/
theorem algebraic_Loss : Cert.algebraic_KernelLossIdeal_ReferenceLossIdeal_pre_finite_loss := by
  intro m g m' g' hpre hagree
  have hH := hyps_KernelLossIdeal m (finite_place_KernelLossIdeal m hpre)
  refine ⟨fun c => (dats (F := Ideal) m 0 c).arrAt 15 (Cert.KernelLossIdeal.cfgs 0).N, ?_, ?_⟩
  · refine θ_run_mono (θ_run_and (run_main (F := Ideal) m g hH) (frame_any (F := Ideal) m hH g)) fun r hr c => ?_
    exact ⟨((dats (F := Ideal) m 0 c).toRForget_arrAt_iff (fgt := forgets) (w := 15) rfl _ _).1 ((hr.1.1 c).1 15), hr.2.1 c⟩
  · refine (θ_run Cert.ReferenceLossIdeal.defs _ _).mono (fun r h c => ?_) (Cert.ReferenceLossIdeal.LossRun.run m' g')
    obtain ⟨a0, a1, a2, a3, a4, a5, a6, a7, a8, a9, a10, a11, a12, a13⟩ := hagree c
    obtain ⟨h0, hargs⟩ := h c
    obtain ⟨q1, q2, q3, q4, q5, q6, q7, q8, q9, q10, q11, q12, q13⟩ := finite_KernelLossIdeal m hpre c
    refine ⟨h0.trans ?_, hargs⟩
    rw [a1, a4, a5, a6, a7, a8, a9, a10, a11, a12, a13]
    exact (ref_dz _ _ _ _ _ _ _ _ _ _ _ q1 q4 q5 q6 q7 q8 q9 q10 q11 q12 q13).trans (final_dz m c).symm

end Cert.Proof

end
-- ==== Proof.UpValue.lean ====
/-
  The forward output projection, the first layer norm and the first half of the feed-forward block, the reference's side: each
  of its six arrays, token by token. The derivative of the gated product in the gate's argument is taken by the reference as the
  derivative of a product; that it is the kernel's closed form needs finite arguments.
-/
module

public import proofs.«01_k».proof.Proof.Gen.ReferenceUpIdeal.Read
public import proofs.«01_k».proof.Proof.UpKernel

@[expose] public section

set_option maxRecDepth 16384

noncomputable section

namespace Cert.KernelUpIdeal.UpValue

open Idealize.ShloMosaic Idealize.ShloMosaic.TcCoe Idealize.SL.Sem
open Cert.KernelUpIdeal Cert.KernelUpIdeal.Gen
open Cert.ReferenceUpIdeal.Read
open Cert.Real

/-! ### Finite values -/

theorem IsR.sub {x y : EReal} (hx : IsR x) (hy : IsR y) : IsR (x - y) := by
  obtain ⟨r, rfl⟩ := hx; obtain ⟨q, rfl⟩ := hy; exact ⟨r - q, (EReal.coe_sub r q).symm⟩

/-- The centred input is finite where the input is. -/
theorem isR_c {z : Fin 1024 → EReal} (hz : ∀ k, IsR (z k)) (b : Fin 1024) : IsR (cRow z b) := by
  unfold cRow
  rw [w1024, Ideal.div_coe (show (1024 : ℝ) ≠ 0 by norm_num)]
  exact IsR.sub (hz b) ((isR_sum hz).mul (isR_coe _))

/-- The inverse deviation is finite where the centred input is. -/
theorem isR_rs {c : Fin 1024 → EReal} (hc : ∀ k, IsR (c k)) : IsR (rsRow c) := by
  choose r hr using hc
  obtain ⟨e, he0, he⟩ := wEps
  have hv : (0 : ℝ) < (∑ k, r k * r k) * (1 / 1024) + e := by
    have : 0 ≤ ∑ k, r k * r k := Finset.sum_nonneg fun k _ => mul_self_nonneg _
    positivity
  unfold rsRow
  simp only [hr, w1024, he, Ideal.div_coe (show (1024 : ℝ) ≠ 0 by norm_num), ← EReal.coe_mul, sum_coe, ← EReal.coe_add]
  rw [Ideal.rsqrt_coe, if_neg (not_lt.2 hv.le), if_neg hv.ne']
  exact isR_coe _

/-- For finite arguments the derivative of the product is the closed form. -/
theorem dg_real {g u : EReal} (hg : IsR g) (hu : IsR u) :
    u * Ideal.logistic g + g * u * (Ideal.logistic g * (1 - Ideal.logistic g)) = dgAt g u := by
  obtain ⟨g, rfl⟩ := hg
  obtain ⟨u, rfl⟩ := hu
  unfold dgAt
  rw [Ideal.ofBits_one_f32, Ideal.logistic_coe, ← EReal.coe_one]
  simp only [← EReal.coe_mul, ← EReal.coe_add, ← EReal.coe_sub]
  exact congrArg _ (by ring)

section
variable (X0 X1 : FVec Ideal S4096x512 .bf16) (X2 : FVec Ideal S4096x1024 .f32) (X3 : FVec Ideal S1024x1024 .f32)
  (X4 X5 : FVec Ideal S1024x2816 .f32) (X6 X7 : FVec Ideal S1x1024 .f32)

/-- The layer norm's input is finite where the arguments are. -/
theorem isR_z (h0 : ∀ i, IsR (X0 i)) (h1 : ∀ i, IsR (X1 i)) (h2 : ∀ i, IsR (X2 i)) (h3 : ∀ i, IsR (X3 i)) (a : Fin 4096) (b : Fin 1024) :
    IsR (Z X0 X1 X2 X3 a b) := by
  unfold Z zRow
  exact (wAlpha.mul (h2 _)).add ((isR_sum fun _ => (h0 _).mul (h3 _)).add (isR_sum fun _ => (h1 _).mul (h3 _)))

/-- So is its output. -/
theorem isR_h (h0 : ∀ i, IsR (X0 i)) (h1 : ∀ i, IsR (X1 i)) (h2 : ∀ i, IsR (X2 i)) (h3 : ∀ i, IsR (X3 i)) (h6 : ∀ i, IsR (X6 i)) (h7 : ∀ i, IsR (X7 i))
    (a : Fin 4096) (b : Fin 1024) : IsR (Hn X0 X1 X2 X3 X6 X7 a b) := by
  unfold Hn hRow xhRow
  have hc : ∀ k, IsR (cRow (Z X0 X1 X2 X3 a) k) := isR_c (isR_z X0 X1 X2 X3 h0 h1 h2 h3 a)
  exact ((IsR.mul (IsR.mul (hc b) (isR_rs hc)) (h6 _))).add (h7 _)

/-- So is a product. -/
theorem isR_g (h0 : ∀ i, IsR (X0 i)) (h1 : ∀ i, IsR (X1 i)) (h2 : ∀ i, IsR (X2 i)) (h3 : ∀ i, IsR (X3 i)) (h4 : ∀ i, IsR (X4 i)) (h6 : ∀ i, IsR (X6 i)) (h7 : ∀ i, IsR (X7 i))
    (a : Fin 4096) (j : Fin 2816) : IsR (G X0 X1 X2 X3 X4 X6 X7 a j) := by
  unfold G pRow
  exact isR_sum fun k => (isR_h X0 X1 X2 X3 X6 X7 h0 h1 h2 h3 h6 h7 a k).mul (h4 _)

/-! ### The reference, entry by entry -/

/-- The layer norm's input. -/
theorem ref_z (a : Fin 4096) (b : Fin 1024) : val_main_v5 (F := Ideal) X0 X1 X2 X3 (ix2 a b) = Z X0 X1 X2 X3 a b := by
  pointwise [val_main_v5, val_main_v4, val_main_v3, val_main_v2, val_main_v1, val_main_v0, val_main_cst, Z, zRow]

/-- The centred input, from which the variance is taken. -/
theorem ref_c (a : Fin 4096) (b : Fin 1024) : val_main_v11 (F := Ideal) X0 X1 X2 X3 (ix2 a b) = cRow (Z X0 X1 X2 X3 a) b := by
  pointwise [val_main_v11, val_main_v10, val_main_v9, val_main_v8, val_main_v7, val_main_v6, val_main_cst_0, val_main_cst_1, cRow]
  simp only [ref_z]

/-- The inverse deviation. -/
theorem ref_v19 (a : Fin 4096) : val_main_v19 (F := Ideal) X0 X1 X2 X3 (ix2 a 0) = rsRow (cRow (Z X0 X1 X2 X3 a)) := by
  pointwise [val_main_v19, val_main_v18, val_main_v17, val_main_v16, val_main_v15, val_main_v14, val_main_v13, val_main_v12, val_main_cst_2, val_main_cst_3, val_main_cst_4, rsRow]
  simp only [ref_c, Ideal.ofBits_zero_f32, zero_add]

/-- The normalised input. -/
theorem ref_xh_at (a : Fin 4096) (b : Fin 1024) : val_main_v23 (F := Ideal) X0 X1 X2 X3 (ix2 a b) = xhRow (Z X0 X1 X2 X3 a) b := by
  have h : val_main_v21 (F := Ideal) X0 X1 X2 X3 = val_main_v11 (F := Ideal) X0 X1 X2 X3 := rfl
  pointwise [val_main_v23, h, val_main_v22, xhRow]
  simp only [ref_c, ref_v19]

/-- The layer norm's output. -/
theorem ref_h_at (a : Fin 4096) (b : Fin 1024) : val_main_v27 (F := Ideal) X0 X1 X2 X3 X6 X7 (ix2 a b) = Hn X0 X1 X2 X3 X6 X7 a b := by
  pointwise [val_main_v27, val_main_v26, val_main_v25, val_main_v24, Hn, hRow]
  simp only [ref_xh_at]

/-- The gate's product. -/
theorem ref_g_at (a : Fin 4096) (j : Fin 2816) : val_main_v28 (F := Ideal) X0 X1 X2 X3 X4 X6 X7 (ix2 a j) = G X0 X1 X2 X3 X4 X6 X7 a j := by
  pointwise [val_main_v28, G, pRow]
  simp only [ref_h_at]

/-- The second product. -/
theorem ref_u_at (a : Fin 4096) (j : Fin 2816) : val_main_v29 (F := Ideal) X0 X1 X2 X3 X5 X6 X7 (ix2 a j) = G X0 X1 X2 X3 X5 X6 X7 a j := by
  pointwise [val_main_v29, G, pRow]
  simp only [ref_h_at]

/-- The gate's logistic value. -/
theorem ref_sg_at (a : Fin 4096) (j : Fin 2816) : val_main_v30_2 (F := Ideal) X0 X1 X2 X3 X4 X6 X7 (ix2 a j) = Ideal.logistic (G X0 X1 X2 X3 X4 X6 X7 a j) := by
  rw [← ref_g_at]
  pointwise [val_main_v30_2, val_main_call0_v4, val_main_call0_v3, val_main_call0_v2, val_main_call0_v1, val_main_call0_v0, val_main_call0_cst, val_main_call0_cst_0, Ideal.logistic]

/-! ### The arrays -/

/-- The normalised input. -/
theorem ref_xh : val_main_v23 (F := Ideal) X0 X1 X2 X3 = tXh X0 X1 X2 X3 :=
  ext2 fun (a : Fin 4096) (b : Fin 1024) => ref_xh_at X0 X1 X2 X3 a b

/-- The inverse deviation, repeated. -/
theorem ref_rs : val_main_v36 (F := Ideal) X0 X1 X2 X3 = tRs X0 X1 X2 X3 := by
  refine ext2 fun (a : Fin 4096) (b : Fin 128) => ?_
  refine Eq.trans ?_ (ref_v19 X0 X1 X2 X3 a)
  pointwise [val_main_v36]

/-- The layer norm's output. -/
theorem ref_h : val_main_v37 (F := Ideal) X0 X1 X2 X3 X6 X7 = tH X0 X1 X2 X3 X6 X7 :=
  ext2 fun (a : Fin 4096) (b : Fin 1024) => ref_h_at X0 X1 X2 X3 X6 X7 a b

/-- The derivative in the gate's argument. -/
theorem ref_dg (h0 : ∀ i, IsR (X0 i)) (h1 : ∀ i, IsR (X1 i)) (h2 : ∀ i, IsR (X2 i)) (h3 : ∀ i, IsR (X3 i)) (h4 : ∀ i, IsR (X4 i)) (h5 : ∀ i, IsR (X5 i)) (h6 : ∀ i, IsR (X6 i)) (h7 : ∀ i, IsR (X7 i)) :
    val_main_v38 (F := Ideal) X0 X1 X2 X3 X4 X5 X6 X7 = tDg X0 X1 X2 X3 X4 X5 X6 X7 := by
  refine ext2 fun (a : Fin 4096) (j : Fin 2816) => ?_
  refine Eq.trans ?_ (dg_real (isR_g X0 X1 X2 X3 X4 X6 X7 h0 h1 h2 h3 h4 h6 h7 a j) (isR_g X0 X1 X2 X3 X5 X6 X7 h0 h1 h2 h3 h5 h6 h7 a j) |>.trans
    (show dgAt (G X0 X1 X2 X3 X4 X6 X7 a j) (G X0 X1 X2 X3 X5 X6 X7 a j) = _ from rfl))
  rw [← ref_sg_at, ← ref_g_at X0 X1 X2 X3 X4 X6 X7 a j, ← ref_u_at X0 X1 X2 X3 X5 X6 X7 a j]
  pointwise [val_main_v38, val_main_v35, val_main_call1_v2, val_main_call1_v1, val_main_call1_v0, val_main_v34, val_main_v32, val_main_cst_5, val_main_v30_1, val_main_call0_v7, val_main_call0_v6, val_main_call0_cst_1]

/-- The derivative in the second product. -/
theorem ref_du : val_main_v39 (F := Ideal) X0 X1 X2 X3 X4 X6 X7 = tDu X0 X1 X2 X3 X4 X6 X7 := by
  refine ext2 fun (a : Fin 4096) (j : Fin 2816) => ?_
  refine Eq.trans ?_ (show G X0 X1 X2 X3 X4 X6 X7 a j * Ideal.logistic (G X0 X1 X2 X3 X4 X6 X7 a j) = _ from rfl)
  rw [← ref_sg_at, ← ref_g_at]
  pointwise [val_main_v39, val_main_v33, val_main_v32, val_main_cst_5, val_main_v30_0]

/-- The gated product. -/
theorem ref_act : val_main_v40 (F := Ideal) X0 X1 X2 X3 X4 X5 X6 X7 = tAct X0 X1 X2 X3 X4 X5 X6 X7 := by
  refine ext2 fun (a : Fin 4096) (j : Fin 2816) => ?_
  refine Eq.trans ?_ (show G X0 X1 X2 X3 X4 X6 X7 a j * Ideal.logistic (G X0 X1 X2 X3 X4 X6 X7 a j) * G X0 X1 X2 X3 X5 X6 X7 a j = _ from rfl)
  rw [← ref_sg_at, ← ref_g_at, ← ref_u_at]
  pointwise [val_main_v40, val_main_v31, val_main_v30_0]

end

end Cert.KernelUpIdeal.UpValue

end
-- ==== Proof.UpClaim.lean ====
/-
  The claims about the forward output projection, the first layer norm and the first half of the feed-forward block: both kernels
  run to their end and keep their operands, so does the reference, and over the extended reals, for finite arguments, kernel
  and reference leave the same arrays.
-/
module

public import proofs.«01_k».proof.Defs
public import proofs.«01_k».proof.Proof.Gen.Pre_finite_up
public import proofs.«01_k».proof.Proof.Gen.KernelUp.Frame
public import proofs.«01_k».proof.Proof.Gen.KernelUpIdeal.Frame
public import proofs.«01_k».proof.Proof.Gen.ReferenceUpIdeal.Run
public import proofs.«01_k».proof.Proof.UpValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

open Cert.Real in
/-- The precondition says that every argument is finite. -/
theorem finite_KernelUpIdeal (m : (ℓ : Loc Cert.KernelUpIdeal.nD Cert.KernelUpIdeal.τ Cert.KernelUpIdeal.sig) → Buf (Elt Ideal) ℓ)
    (h : Cert.Pre_KernelUpIdeal_finite_up m) (c : Dev Cert.KernelUpIdeal.nD) :
    (∀ i, IsR ((m ((c : Thread Cert.KernelUpIdeal.nD Cert.KernelUpIdeal.τ).loc Cert.KernelUpIdeal.main_arg0)) i))
      ∧ (∀ i, IsR ((m ((c : Thread Cert.KernelUpIdeal.nD Cert.KernelUpIdeal.τ).loc Cert.KernelUpIdeal.main_arg1)) i))
      ∧ (∀ i, IsR ((m ((c : Thread Cert.KernelUpIdeal.nD Cert.KernelUpIdeal.τ).loc Cert.KernelUpIdeal.main_arg2)) i))
      ∧ (∀ i, IsR ((m ((c : Thread Cert.KernelUpIdeal.nD Cert.KernelUpIdeal.τ).loc Cert.KernelUpIdeal.main_arg3)) i))
      ∧ (∀ i, IsR ((m ((c : Thread Cert.KernelUpIdeal.nD Cert.KernelUpIdeal.τ).loc Cert.KernelUpIdeal.main_arg4)) i))
      ∧ (∀ i, IsR ((m ((c : Thread Cert.KernelUpIdeal.nD Cert.KernelUpIdeal.τ).loc Cert.KernelUpIdeal.main_arg5)) i))
      ∧ (∀ i, IsR ((m ((c : Thread Cert.KernelUpIdeal.nD Cert.KernelUpIdeal.τ).loc Cert.KernelUpIdeal.main_arg6)) i))
      ∧ (∀ i, IsR ((m ((c : Thread Cert.KernelUpIdeal.nD Cert.KernelUpIdeal.τ).loc Cert.KernelUpIdeal.main_arg7)) i)) := by
  obtain ⟨q0, q1, q2, q3, q4, q5, q6, q7⟩ := h c
  exact ⟨fun i => isR_of_mask _ (congrFun q0 i), fun i => isR_of_mask _ (congrFun q1 i), fun i => isR_of_mask _ (congrFun q2 i), fun i => isR_of_mask _ (congrFun q3 i), fun i => isR_of_mask _ (congrFun q4 i), fun i => isR_of_mask _ (congrFun q5 i), fun i => isR_of_mask _ (congrFun q6 i), fun i => isR_of_mask _ (congrFun q7 i)⟩

/-- The kernel over the bits runs to its end and keeps its operands. -/
theorem frame_KernelUp : Cert.quiescent_KernelUp := fun m ρ _ => Cert.KernelUp.Gen.frame (F := Bits) m ρ

/-- The kernel over the extended reals runs to its end and keeps its operands. -/
theorem frame_KernelUpIdeal : Cert.quiescent_KernelUpIdeal := fun m ρ _ => Cert.KernelUpIdeal.Gen.frame (F := Ideal) m ρ

/-- So it does for finite arguments. -/
theorem frame_KernelUpIdeal_pre : Cert.quiescent_KernelUpIdeal_pre_finite_up := fun m ρ _ => Cert.KernelUpIdeal.Gen.frame (F := Ideal) m ρ

/-- The reference runs to its end and keeps its operands. -/
theorem frame_ReferenceUpIdeal : Cert.quiescent_ReferenceUpIdeal := by
  intro m g _
  exact (θ_run Cert.ReferenceUpIdeal.defs _ _).mono (fun r h => ⟨fun c => (h c).2.2.2.2.2.2, sem_eq_zero_of_no_sems (by decide) r.2⟩)
    (Cert.ReferenceUpIdeal.Value.run m g)

/-- So it does for finite arguments. -/
theorem frame_ReferenceUpIdeal_pre : Cert.quiescent_ReferenceUpIdeal_pre_finite_up := by
  intro m g _
  exact (θ_run Cert.ReferenceUpIdeal.defs _ _).mono (fun r h => ⟨fun c => (h c).2.2.2.2.2.2, sem_eq_zero_of_no_sems (by decide) r.2⟩)
    (Cert.ReferenceUpIdeal.Value.run m g)

set_option maxHeartbeats 1600000 in
open Cert.KernelUpIdeal.UpValue in
/-- Kernel and reference leave the same arrays. -/
theorem algebraic_Up : Cert.algebraic_KernelUpIdeal_ReferenceUpIdeal_pre_finite_up := by
  intro m g m' g' hpre hagree
  refine ⟨fun c => (Cert.KernelUpIdeal.Gen.dats m 0 c).arrAt 8 (Cert.KernelUpIdeal.cfgs 0).N,
    fun c => (Cert.KernelUpIdeal.Gen.dats m 0 c).arrAt 9 (Cert.KernelUpIdeal.cfgs 0).N,
    fun c => (Cert.KernelUpIdeal.Gen.dats m 0 c).arrAt 10 (Cert.KernelUpIdeal.cfgs 0).N,
    fun c => (Cert.KernelUpIdeal.Gen.dats m 0 c).arrAt 11 (Cert.KernelUpIdeal.cfgs 0).N,
    fun c => (Cert.KernelUpIdeal.Gen.dats m 0 c).arrAt 12 (Cert.KernelUpIdeal.cfgs 0).N,
    fun c => (Cert.KernelUpIdeal.Gen.dats m 0 c).arrAt 13 (Cert.KernelUpIdeal.cfgs 0).N, ?_, ?_⟩
  · refine θ_run_mono (θ_run_and (Cert.KernelUpIdeal.Gen.run_main m g) (Cert.KernelUpIdeal.Gen.unchanged m g)) fun r hr c => ?_
    exact ⟨(hr.1 c).1 8, (hr.1 c).1 9, (hr.1 c).1 10, (hr.1 c).1 11, (hr.1 c).1 12, (hr.1 c).1 13, hr.2 c⟩
  · refine (θ_run Cert.ReferenceUpIdeal.defs _ _).mono (fun r h c => ?_) (Cert.ReferenceUpIdeal.Value.run m' g')
    obtain ⟨a0, a1, a2, a3, a4, a5, a6, a7⟩ := hagree c
    obtain ⟨h0, h1, h2, h3, h4, h5, hargs⟩ := h c
    obtain ⟨q0, q1, q2, q3, q4, q5, q6, q7⟩ := finite_KernelUpIdeal m hpre c
    refine ⟨h0.trans ?_, h1.trans ?_, h2.trans ?_, h3.trans ?_, h4.trans ?_, h5.trans ?_, hargs⟩
    · refine (Cert.ReferenceUpIdeal.Read.val_main_v23_eq _ _).trans ?_
      rw [a0, a1, a2, a3]
      exact (ref_xh _ _ _ _).trans (final1 m c).symm
    · refine (Cert.ReferenceUpIdeal.Read.val_main_v36_eq _ _ _ _).trans ?_
      rw [a0, a1, a2, a3]
      exact (ref_rs _ _ _ _).trans (final2 m c).symm
    · refine (Cert.ReferenceUpIdeal.Read.val_main_v37_eq _ _).trans ?_
      rw [a0, a1, a2, a3, a6, a7]
      exact (ref_h _ _ _ _ _ _).trans (final3 m c).symm
    · refine (Cert.ReferenceUpIdeal.Read.val_main_v38_eq _ _).trans ?_
      rw [a0, a1, a2, a3, a4, a5, a6, a7]
      exact (ref_dg _ _ _ _ _ _ _ _ q0 q1 q2 q3 q4 q5 q6 q7).trans (final4 m c).symm
    · refine (Cert.ReferenceUpIdeal.Read.val_main_v39_eq _ _).trans ?_
      rw [a0, a1, a2, a3, a4, a6, a7]
      exact (ref_du _ _ _ _ _ _ _).trans (final5 m c).symm
    · refine (Cert.ReferenceUpIdeal.Read.val_main_v40_eq _ _).trans ?_
      rw [a0, a1, a2, a3, a4, a5, a6, a7]
      exact (ref_act _ _ _ _ _ _ _ _).trans (final6 m c).symm

end Cert.Proof

end
-- ==== Proof.MixValue.lean ====
/-
  The gate's cotangent of the backward mixers call, row by row: what the kernel leaves in its array after the run, and what the
  reference computes. The reference differentiates the product of the gate and its logistic as a product; that this is the
  kernel's closed form needs a finite cotangent of that product, and nothing of the gate itself.
-/
module

public import proofs.«01_k».proof.Proof.Gen.ReferenceIdeal.Read
public import proofs.«01_k».proof.Proof.MixFrame
public import proofs.«01_k».proof.Proof.Reals
public import Idealize.ShloMosaic.Lib.Pipeline.ValueKit
public import Idealize.ShloMosaic.Lib.Pointwise

@[expose] public section

set_option maxRecDepth 16384

noncomputable section

namespace Cert.KernelIdeal.Mix

open Idealize.ShloMosaic Idealize.ShloMosaic.TcCoe Idealize.SL.Sem
open Idealize.ShloMosaic.Pipeline (Dat)
open Cert.KernelIdeal Cert.KernelIdeal.Gen
open Cert.ReferenceIdeal.Read
open Cert.Real

/-- The gate's cotangent at one place: of the normalised output, the gain, the cotangent of the gated output, and the gate. -/
def gateAt (x n r g : EReal) : EReal :=
  r * x * n * (Ideal.logistic g * (Ideal.ofBits .f32 0x3F800000#32 + g * (Ideal.ofBits .f32 0x3F800000#32 - Ideal.logistic g)))

/-- The gate's cotangent, an array: the gate is columns 1536 to 2047 of the projected tokens. -/
def tGate (U : S4096x2816.Idx → EReal) (X : S4096x512.Idx → EReal) (R : S4096x512.Idx → EReal) (N : S1x512.Idx → EReal) : S4096x512.Idx → EReal :=
  fun i => gateAt (X i) (N (ix2 0 (i 1))) (R i) (U (ix2 (i 0) ⟨1536 + (i 1).val, by have h : (i 1).val < 512 := (i 1).isLt; omega⟩))

/-! ### The kernel -/

section
variable (gain : FVec Ideal S1x128 .f32)

/-- What the body stores of a block of 128 rows. -/
theorem pay_gate (x : FVec Ideal S128x128 .f32) (g r : FVec Ideal S128x128 .bf16) (a b : Fin 128) :
    k0_pay17 (F := Ideal) gain x g r (ix2 a b) = gateAt (x (ix2 a b)) (gain (ix2 0 b)) (r (ix2 a b)) (g (ix2 a b)) := by
  pointwise [k0_pay17, k0_pay16, k0_pay14, k0_pay13, gateAt]

/-- What the body leaves of a window of 2048 rows. -/
theorem dgBlk_at (x : FVec Ideal S2048x128 .f32) (g r : FVec Ideal S2048x128 .bf16) (a : Fin 2048) (b : Fin 128) :
    dgBlk (F := Ideal) gain x g r (ix2 a b) = gateAt (x (ix2 a b)) (gain (ix2 0 b)) (r (ix2 a b)) (g (ix2 a b)) := by
  have ha : ∀ h, (⟨128 * (a.val / 128) + a.val % 128, h⟩ : Fin 2048) = a := fun h => Fin.ext (Nat.div_add_mod _ _)
  unfold dgBlk
  refine (pay_gate gain _ _ _ _ _).trans ?_
  unfold slab blockOf
  have e1 := congrArg (fun p => x (ix2 p b)) (ha (by have := a.isLt; omega))
  have e2 := congrArg (fun p => r (ix2 p b)) (ha (by have := a.isLt; omega))
  have e3 := congrArg (fun p => g (ix2 p b)) (ha (by have := a.isLt; omega))
  exact (congrFun (congrFun (congrFun (congrArg gateAt e1) (gain (ix2 0 b))) _) _).trans
    ((congrFun (congrArg (gateAt (x (ix2 a b)) (gain (ix2 0 b))) e2) _).trans (congrArg (gateAt (x (ix2 a b)) (gain (ix2 0 b)) (r (ix2 a b))) e3))
end

variable (m : (ℓ : Loc nD τ sig) → Buf (Elt Ideal) ℓ)

/-- Grid point `t` takes batch `t / 4` of the tokens and the lanes of head pair `t % 4`; the gate's are four blocks of 128 after
    the twelfth. -/
theorem idx : ∀ t : Fin cfg0.N, win0_6.index t = ![t.val / 4, 12 + t.val % 4] ∧ win0_7.index t = ![t.val / 4, t.val % 4]
    ∧ win0_9.index t = ![t.val / 4, t.val % 4] ∧ win0_10.index t = ![0, t.val % 4] ∧ win0_19.index t = ![t.val / 4, t.val % 4] :=
  (by decide +kernel : ∀ t : Fin grid0.N, _)

theorem lt8 (p : Fin cfg0.N) : p.val < 8 := lt_of_lt_of_eq p.isLt N_0

/-- An array told by rows and columns, read at an index. -/
theorem at_ix {n k : ℕ} {α : Type} (f : Fin n → Fin k → α) (p : Fin n) (b : Fin k) (i : (⟨2, ![n, k]⟩ : Shape).Idx) (h : ix2 p b = i) :
    f p b = f (i 0) (i 1) := by
  subst h; rfl

/-- A block of the gate's cotangent is the array's. -/
theorem block_at (c : Dev nD) (t : Fin cfg0.N) (a : Fin 2048) (b : Fin 128) (p : Fin 4096) (q : Fin 512)
    (hp : p.val = t.val / 4 * 2048 + a.val) (hq : q.val = t.val % 4 * 128 + b.val) :
    dgBlk (F := Ideal) (iblk m c 10 t) (iblk m c 7 t) (iblk m c 6 t) (iblk m c 9 t) (ix2 a b)
      = tGate (m ((c : Thread nD τ).loc main_arg0)) (m ((c : Thread nD τ).loc main_arg1)) (m ((c : Thread nD τ).loc main_arg4))
          (m ((c : Thread nD τ).loc main_arg8)) (ix2 p q) := by
  refine (dgBlk_at _ _ _ _ a b).trans ?_
  have e1 : iblk m c 7 t (ix2 a b) = m ((c : Thread nD τ).loc main_arg1) (ix2 p q) := by blk_ext [iblk, V, idx t, hp, hq]
  have e2 : iblk m c 10 t (ix2 (0 : Fin 1) b) = m ((c : Thread nD τ).loc main_arg8) (ix2 (0 : Fin 1) q) := by blk_ext [iblk, V, idx t, hp, hq]
  have e3 : iblk m c 9 t (ix2 a b) = m ((c : Thread nD τ).loc main_arg4) (ix2 p q) := by blk_ext [iblk, V, idx t, hp, hq]
  have e4 : iblk m c 6 t (ix2 a b) = m ((c : Thread nD τ).loc main_arg0) (ix2 p (⟨1536 + q.val, by have := q.isLt; omega⟩ : Fin 2816)) := by
    blk_ext [iblk, V, idx t, hp, hq]
  rw [e1, e2, e3, e4]
  rfl

/-- The gate's cotangent after the run. -/
theorem final_gate (c : Dev nD) : (dats m 0 c).arrAt 19 (cfgs 0).N
    = tGate (m ((c : Thread nD τ).loc main_arg0)) (m ((c : Thread nD τ).loc main_arg1)) (m ((c : Thread nD τ).loc main_arg4))
        (m ((c : Thread nD τ).loc main_arg8)) := by
  refine (dats m 0 c).arrAt_eq_of_covers 19 _ (by decide +kernel) fun t _ y => ?_
  blk_simp
  have hy : (y 0).val < 2048 := (y 0).isLt
  have hz : (y 1).val < 128 := (y 1).isLt
  have ht := lt8 t
  refine Eq.trans (b := dgBlk (F := Ideal) (iblk m c 10 t) (iblk m c 7 t) (iblk m c 6 t) (iblk m c 9 t) y) rfl ?_
  refine (congrArg (dgBlk (F := Ideal) (iblk m c 10 t) (iblk m c 7 t) (iblk m c 6 t) (iblk m c 9 t)) (show y = ix2 (y 0) (y 1) from by ext k; fin_cases k <;> rfl)).trans
    ((block_at m c t (y 0) (y 1) ⟨t.val / 4 * 2048 + (y 0).val, by omega⟩ ⟨t.val % 4 * 128 + (y 1).val, by omega⟩ rfl rfl).trans ?_)
  refine congrArg _ ?_
  blk_ext [idx t]

/-! ### The reference -/

/-- For a finite cotangent of the gated product, the derivative of the product of the gate and its logistic is the closed form,
    whatever the gate. -/
theorem gate_real {ct : EReal} (hc : IsR ct) (g : EReal) :
    ct * Ideal.logistic g + g * ct * (Ideal.logistic g * (1 - Ideal.logistic g))
      = ct * (Ideal.logistic g * (1 + g * (1 - Ideal.logistic g))) := by
  obtain ⟨c, rfl⟩ := hc
  induction g with
  | bot => simp only [Ideal.logistic_bot, mul_zero, zero_mul, add_zero]
  | top =>
    have h : (1 : EReal) - 1 = 0 := by rw [← EReal.coe_one, ← EReal.coe_sub, sub_self, EReal.coe_zero]
    simp only [Ideal.logistic_top, h, mul_zero, mul_one, add_zero]
  | coe g =>
    rw [Ideal.logistic_coe, ← EReal.coe_one]
    simp only [← EReal.coe_mul, ← EReal.coe_add, ← EReal.coe_sub]
    exact congrArg _ (by ring)

section
variable (X0 : FVec Ideal S4096x2816 .bf16) (X1 : FVec Ideal S4096x512 .f32) (X4 : FVec Ideal S4096x512 .bf16) (X8 : FVec Ideal S1x512 .f32)

/-- For a finite normalised output, cotangent and gain the reference's array is the kernel's. -/
theorem ref_gate (h1 : ∀ i, IsR (X1 i)) (h4 : ∀ i, IsR (X4 i)) (h8 : ∀ i, IsR (X8 i)) :
    val_main_v9 (F := Ideal) X0 X1 X4 X8 = tGate X0 X1 X4 X8 := by
  refine ext2 fun (a : Fin 4096) (b : Fin 512) => ?_
  have hc : IsR (X4 (ix2 a b) * X1 (ix2 a b) * X8 (ix2 (0 : Fin 1) b)) := ((h4 _).mul (h1 _)).mul (h8 _)
  refine Eq.trans ?_ ((gate_real hc (X0 (ix2 a ⟨1536 + b.val, by have := b.isLt; omega⟩))).trans ?_)
  · rw [show X4 (ix2 a b) * X1 (ix2 a b) * X8 (ix2 (0 : Fin 1) b) = X1 (ix2 a b) * X8 (ix2 (0 : Fin 1) b) * X4 (ix2 a b) from by rw [mul_assoc, mul_comm],
      ← Ideal.ofBits_one_f32]
    pointwise [val_main_v9, val_main_v8, val_main_call1_v2, val_main_call1_v1, val_main_call1_v0, val_main_v7, val_main_v6, val_main_v4_1,
      val_main_v4_2, val_main_call0_v7, val_main_call0_v6, val_main_call0_cst_1, val_main_call0_v4, val_main_call0_v3, val_main_call0_v2,
      val_main_call0_v1, val_main_call0_v0, val_main_call0_cst, val_main_call0_cst_0, val_main_v3, val_main_v2, val_main_v1, val_main_v0, Ideal.logistic]
  · unfold tGate gateAt
    rw [Ideal.ofBits_one_f32]
    rfl
end

end Cert.KernelIdeal.Mix

end
-- ==== Proof.MixClaim.lean ====
/-
  The claims about the backward mixers call: both kernels run to their end and keep their operands, so does the reference, and
  over the extended reals, for a finite normalised output, cotangent and gain, kernel and reference leave the same gate's
  cotangent.
-/
module

public import proofs.«01_k».proof.Defs
public import proofs.«01_k».proof.Proof.Gen.Pre_finite_gate_inputs
public import proofs.«01_k».proof.Proof.Gen.ReferenceIdeal.Run
public import proofs.«01_k».proof.Proof.MixValue
public import Idealize.ShloMosaic.Adequacy
public import Idealize.ShloMosaic.Init

@[expose] public section

set_option maxRecDepth 16384

noncomputable section

namespace Cert.Proof

open Idealize.ShloMosaic Idealize.ShloMosaic.TcCoe Idealize.SL.Sem

open Cert.Real in
/-- The precondition says that the normalised output, the cotangent and the gain are finite. -/
theorem finite_KernelIdeal (m : (ℓ : Loc Cert.KernelIdeal.nD Cert.KernelIdeal.τ Cert.KernelIdeal.sig) → Buf (Elt Ideal) ℓ)
    (h : Cert.Pre_KernelIdeal_finite_gate_inputs m) (c : Dev Cert.KernelIdeal.nD) :
    (∀ i, IsR (m ((c : Thread Cert.KernelIdeal.nD Cert.KernelIdeal.τ).loc Cert.KernelIdeal.main_arg1) i)) ∧ (∀ i, IsR (m ((c : Thread Cert.KernelIdeal.nD Cert.KernelIdeal.τ).loc Cert.KernelIdeal.main_arg4) i))
      ∧ (∀ i, IsR (m ((c : Thread Cert.KernelIdeal.nD Cert.KernelIdeal.τ).loc Cert.KernelIdeal.main_arg8) i)) := by
  obtain ⟨q1, q4, q8⟩ := h c
  exact ⟨fun i => isR_of_mask _ (congrFun q1 i), fun i => isR_of_mask _ (congrFun q4 i), fun i => isR_of_mask _ (congrFun q8 i)⟩

/-- The kernel over the extended reals, for finite arguments, runs to its end and keeps its operands. -/
theorem frame_KernelIdeal_pre : Cert.quiescent_KernelIdeal_pre_finite_gate_inputs :=
  fun m ρ _ => Cert.KernelIdeal.Mix.frame_any (F := Ideal) m ρ

/-- The reference runs to its end and keeps its operands. -/
theorem frame_ReferenceIdeal : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run m g)

/-- So it does for finite arguments. -/
theorem frame_ReferenceIdeal_pre : Cert.quiescent_ReferenceIdeal_pre_finite_gate_inputs := by
  intro m g _
  exact (θ_run Cert.ReferenceIdeal.defs _ _).mono (fun r h => ⟨fun c => (h c).2, sem_eq_zero_of_no_sems (by decide) r.2⟩)
    (Cert.ReferenceIdeal.Value.run m g)

set_option maxHeartbeats 1600000 in
open Cert.KernelIdeal.Mix in
/-- Kernel and reference leave the same gate's cotangent. -/
theorem algebraic_Mix : Cert.algebraic_KernelIdeal_ReferenceIdeal_pre_finite_gate_inputs := by
  intro m g m' g' hpre hagree
  refine ⟨fun c => (dats (F := Ideal) m 0 c).arrAt 19 (Cert.KernelIdeal.cfgs 0).N, ?_, ?_⟩
  · refine θ_run_mono (θ_run_and (run_main (F := Ideal) m g) (frame_any (F := Ideal) m g)) fun r hr c => ?_
    exact ⟨((dats (F := Ideal) m 0 c).toRForget_arrAt_iff (fgt := forgets) (w := 19) rfl _ _).1 ((hr.1.1 c).1 19), hr.2.1 c⟩
  · refine (θ_run Cert.ReferenceIdeal.defs _ _).mono (fun r h c => ?_) (Cert.ReferenceIdeal.Value.run m' g')
    obtain ⟨a0, a1, a2, a3, a4, a5, a6, a7, a8, a9⟩ := hagree c
    obtain ⟨h0, hargs⟩ := h c
    obtain ⟨q1, q4, q8⟩ := finite_KernelIdeal m hpre c
    refine ⟨h0.trans ?_, hargs⟩
    refine (Cert.ReferenceIdeal.Read.val_main_v9_eq _ _ _ _).trans ?_
    rw [a0, a1, a4, a8]
    exact (ref_gate _ _ _ _ q1 q4 q8).trans (final_gate m c).symm

end Cert.Proof

end
-- ==== Proof.lean ====
/-
  The proof of `Cert.Claim`: the claims of each call, proved in a module of its own, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.KernelDh1
public import proofs.«01_k».proof.Proof.Gen.KernelDh1Ideal
public import proofs.«01_k».proof.Proof.Gen.ReferenceDh1Ideal
public import proofs.«01_k».proof.Proof.Gen.KernelDx
public import proofs.«01_k».proof.Proof.Gen.KernelDxIdeal
public import proofs.«01_k».proof.Proof.Gen.ReferenceDxIdeal
public import proofs.«01_k».proof.Proof.Gen.KernelDwin
public import proofs.«01_k».proof.Proof.Gen.KernelDwinIdeal
public import proofs.«01_k».proof.Proof.Gen.ReferenceDwinIdeal
public import proofs.«01_k».proof.Proof.Gen.KernelLoss
public import proofs.«01_k».proof.Proof.Gen.KernelLossIdeal
public import proofs.«01_k».proof.Proof.Gen.ReferenceLossIdeal
public import proofs.«01_k».proof.Proof.Gen.KernelInproj
public import proofs.«01_k».proof.Proof.Gen.KernelInprojIdeal
public import proofs.«01_k».proof.Proof.Gen.ReferenceInprojIdeal
public import proofs.«01_k».proof.Proof.Gen.KernelUp
public import proofs.«01_k».proof.Proof.Gen.KernelUpIdeal
public import proofs.«01_k».proof.Proof.Gen.ReferenceUpIdeal
public import proofs.«01_k».proof.Proof.Gen.Pre_finite_gate_inputs
public import proofs.«01_k».proof.Proof.Gen.Pre_place_dh1
public import proofs.«01_k».proof.Proof.Gen.Pre_finite_dh1
public import proofs.«01_k».proof.Proof.Gen.Pre_place_dwin
public import proofs.«01_k».proof.Proof.Gen.Pre_place_loss
public import proofs.«01_k».proof.Proof.Gen.Pre_finite_loss
public import proofs.«01_k».proof.Proof.Gen.Pre_finite_up
public import proofs.«01_k».proof.Proof.MixFrame
public import proofs.«01_k».proof.Proof.MixFrameBits
public import proofs.«01_k».proof.Proof.Dh1Claim
public import proofs.«01_k».proof.Proof.DwinClaim
public import proofs.«01_k».proof.Proof.DxClaim
public import proofs.«01_k».proof.Proof.InprojClaim
public import proofs.«01_k».proof.Proof.LossClaim
public import proofs.«01_k».proof.Proof.UpClaim
public import proofs.«01_k».proof.Proof.MixClaim
public import Idealize.ShloMosaic.Adequacy
public import Idealize.ShloMosaic.Init

@[expose] public section

noncomputable section

namespace Cert.Proof

open Idealize.ShloMosaic Idealize.SL.Sem

/-- The frame of the mixers' backward call over the bits. -/
theorem frame_Kernel : Cert.quiescent_Kernel := fun m ρ _ => Cert.Kernel.Mix.frame_any (F := Bits) m ρ

/-- The frame of the mixers' backward call over the extended reals. -/
theorem frame_KernelIdeal : Cert.quiescent_KernelIdeal := fun m ρ _ => Cert.KernelIdeal.Mix.frame_any (F := Ideal) m ρ

/-- All claims together. -/
theorem claim : Cert.Claim :=
  ⟨Cert.Kernel.Gen.facts,
   Cert.KernelIdeal.Gen.facts,
   Cert.ReferenceIdeal.Gen.facts,
   Cert.KernelDh1.Gen.facts,
   Cert.KernelDh1Ideal.Gen.facts,
   Cert.ReferenceDh1Ideal.Gen.facts,
   Cert.KernelDx.Gen.facts,
   Cert.KernelDxIdeal.Gen.facts,
   Cert.ReferenceDxIdeal.Gen.facts,
   Cert.KernelDwin.Gen.facts,
   Cert.KernelDwinIdeal.Gen.facts,
   Cert.ReferenceDwinIdeal.Gen.facts,
   Cert.KernelLoss.Gen.facts,
   Cert.KernelLossIdeal.Gen.facts,
   Cert.ReferenceLossIdeal.Gen.facts,
   Cert.KernelInproj.Gen.facts,
   Cert.KernelInprojIdeal.Gen.facts,
   Cert.ReferenceInprojIdeal.Gen.facts,
   Cert.KernelUp.Gen.facts,
   Cert.KernelUpIdeal.Gen.facts,
   Cert.ReferenceUpIdeal.Gen.facts,
   Cert.Pre_finite_gate_inputs.Gen.facts,
   Cert.Pre_place_dh1.Gen.facts,
   Cert.Pre_finite_dh1.Gen.facts,
   Cert.Pre_place_dwin.Gen.facts,
   Cert.Pre_place_loss.Gen.facts,
   Cert.Pre_finite_loss.Gen.facts,
   Cert.Pre_finite_up.Gen.facts,
   frame_Kernel,
   frame_KernelIdeal,
   frame_KernelIdeal_pre,
   frame_ReferenceIdeal,
   frame_ReferenceIdeal_pre,
   frame_KernelDh1,
   frame_KernelDh1Ideal,
   frame_KernelDh1Ideal_pre,
   frame_ReferenceDh1Ideal,
   frame_ReferenceDh1Ideal_pre,
   frame_KernelDx,
   frame_KernelDxIdeal,
   frame_ReferenceDxIdeal,
   frame_KernelDwin,
   frame_KernelDwinIdeal,
   frame_ReferenceDwinIdeal,
   frame_ReferenceDwinIdeal_pre,
   frame_KernelLoss,
   frame_KernelLossIdeal,
   frame_KernelLossIdeal_pre,
   frame_ReferenceLossIdeal,
   frame_ReferenceLossIdeal_pre,
   frame_KernelInproj,
   frame_KernelInprojIdeal,
   frame_ReferenceInprojIdeal,
   frame_KernelUp,
   frame_KernelUpIdeal,
   frame_KernelUpIdeal_pre,
   frame_ReferenceUpIdeal,
   frame_ReferenceUpIdeal_pre,
   trivial,
   algebraic_Mix,
   trivial,
   algebraic_Dh1,
   trivial,
   algebraic_Dx,
   trivial,
   algebraic_Dwin,
   trivial,
   algebraic_Loss,
   trivial,
   algebraic_Inproj,
   trivial,
   algebraic_Up⟩

end Cert.Proof

end
